-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Ffn0Kernel (m : (ℓ : Loc Cert.Ffn0Kernel.nD Cert.Ffn0Kernel.τ Cert.Ffn0Kernel.sig) → Buf (Elt Bits) ℓ) : Prop :=
  True

def Pre_Ffn0KernelIdeal (m : (ℓ : Loc Cert.Ffn0KernelIdeal.nD Cert.Ffn0KernelIdeal.τ Cert.Ffn0KernelIdeal.sig) → Buf (Elt Ideal) ℓ) : Prop :=
  True

def Pre_Ffn0ReferenceIdeal (m : (ℓ : Loc Cert.Ffn0ReferenceIdeal.nD Cert.Ffn0ReferenceIdeal.τ Cert.Ffn0ReferenceIdeal.sig) → Buf (Elt Ideal) ℓ) : Prop :=
  True

def Pre_QkvKernel (m : (ℓ : Loc Cert.QkvKernel.nD Cert.QkvKernel.τ Cert.QkvKernel.sig) → Buf (Elt Bits) ℓ) : Prop :=
  True

def Pre_QkvKernelIdeal (m : (ℓ : Loc Cert.QkvKernelIdeal.nD Cert.QkvKernelIdeal.τ Cert.QkvKernelIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_QKernel (m : (ℓ : Loc Cert.QKernel.nD Cert.QKernel.τ Cert.QKernel.sig) → Buf (Elt Bits) ℓ) : Prop :=
  True

def Pre_QKernelIdeal (m : (ℓ : Loc Cert.QKernelIdeal.nD Cert.QKernelIdeal.τ Cert.QKernelIdeal.sig) → Buf (Elt Ideal) ℓ) : Prop :=
  True

def Pre_QReferenceIdeal (m : (ℓ : Loc Cert.QReferenceIdeal.nD Cert.QReferenceIdeal.τ Cert.QReferenceIdeal.sig) → Buf (Elt Ideal) ℓ) : Prop :=
  True

def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5)
      ∧ r.2.mem ((c.tc : Thread Cert.FfnKernel.nD Cert.FfnKernel.τ).loc Cert.FfnKernel.main_arg6) = m ((c.tc : Thread Cert.FfnKernel.nD Cert.FfnKernel.τ).loc Cert.FfnKernel.main_arg6))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
      ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6))
      ∧ r.2.sem = fun _ => 0)

def quiescent_Ffn0Kernel [hFfn0Kernel : Cert.Ffn0Kernel.Facts] : Prop :=
  ∀ (m : (ℓ : Loc Cert.Ffn0Kernel.nD Cert.Ffn0Kernel.τ Cert.Ffn0Kernel.sig) → Buf (Elt Bits) ℓ) (g : Dev Cert.Ffn0Kernel.nD → PrngReg), Pre_Ffn0Kernel m →
    θ_run (Cert.Ffn0Kernel.defs (F := Bits)) (onTc (τ := Cert.Ffn0Kernel.τ) (Cert.Ffn0Kernel.main (F := Bits))) ⟨m, fun _ => 0, g⟩ (fun r => (∀ c : Dev Cert.Ffn0Kernel.nD,
      r.2.mem ((c.tc : Thread Cert.Ffn0Kernel.nD Cert.Ffn0Kernel.τ).loc Cert.Ffn0Kernel.main_arg0) = m ((c.tc : Thread Cert.Ffn0Kernel.nD Cert.Ffn0Kernel.τ).loc Cert.Ffn0Kernel.main_arg0)
      ∧ r.2.mem ((c.tc : Thread Cert.Ffn0Kernel.nD Cert.Ffn0Kernel.τ).loc Cert.Ffn0Kernel.main_arg1) = m ((c.tc : Thread Cert.Ffn0Kernel.nD Cert.Ffn0Kernel.τ).loc Cert.Ffn0Kernel.main_arg1)
      ∧ r.2.mem ((c.tc : Thread Cert.Ffn0Kernel.nD Cert.Ffn0Kernel.τ).loc Cert.Ffn0Kernel.main_arg2) = m ((c.tc : Thread Cert.Ffn0Kernel.nD Cert.Ffn0Kernel.τ).loc Cert.Ffn0Kernel.main_arg2)
      ∧ r.2.mem ((c.tc : Thread Cert.Ffn0Kernel.nD Cert.Ffn0Kernel.τ).loc Cert.Ffn0Kernel.main_arg3) = m ((c.tc : Thread Cert.Ffn0Kernel.nD Cert.Ffn0Kernel.τ).loc Cert.Ffn0Kernel.main_arg3)
      ∧ r.2.mem ((c.tc : Thread Cert.Ffn0Kernel.nD Cert.Ffn0Kernel.τ).loc Cert.Ffn0Kernel.main_arg4) = m ((c.tc : Thread Cert.Ffn0Kernel.nD Cert.Ffn0Kernel.τ).loc Cert.Ffn0Kernel.main_arg4)
      ∧ r.2.mem ((c.tc : Thread Cert.Ffn0Kernel.nD Cert.Ffn0Kernel.τ).loc Cert.Ffn0Kernel.main_arg5) = m ((c.tc : Thread Cert.Ffn0Kernel.nD Cert.Ffn0Kernel.τ).loc Cert.Ffn0Kernel.main_arg5)
      ∧ r.2.mem ((c.tc : Thread Cert.Ffn0Kernel.nD Cert.Ffn0Kernel.τ).loc Cert.Ffn0Kernel.main_arg6) = m ((c.tc : Thread Cert.Ffn0Kernel.nD Cert.Ffn0Kernel.τ).loc Cert.Ffn0Kernel.main_arg6))
      ∧ r.2.sem = fun _ => 0)

def quiescent_Ffn0KernelIdeal [hFfn0KernelIdeal : Cert.Ffn0KernelIdeal.Facts] : Prop :=
  ∀ (m : (ℓ : Loc Cert.Ffn0KernelIdeal.nD Cert.Ffn0KernelIdeal.τ Cert.Ffn0KernelIdeal.sig) → Buf (Elt Ideal) ℓ) (g : Dev Cert.Ffn0KernelIdeal.nD → PrngReg), Pre_Ffn0KernelIdeal m →
    θ_run (Cert.Ffn0KernelIdeal.defs (F := Ideal)) (onTc (τ := Cert.Ffn0KernelIdeal.τ) (Cert.Ffn0KernelIdeal.main (F := Ideal))) ⟨m, fun _ => 0, g⟩ (fun r => (∀ c : Dev Cert.Ffn0KernelIdeal.nD,
      r.2.mem ((c.tc : Thread Cert.Ffn0KernelIdeal.nD Cert.Ffn0KernelIdeal.τ).loc Cert.Ffn0KernelIdeal.main_arg0) = m ((c.tc : Thread Cert.Ffn0KernelIdeal.nD Cert.Ffn0KernelIdeal.τ).loc Cert.Ffn0KernelIdeal.main_arg0)
      ∧ r.2.mem ((c.tc : Thread Cert.Ffn0KernelIdeal.nD Cert.Ffn0KernelIdeal.τ).loc Cert.Ffn0KernelIdeal.main_arg1) = m ((c.tc : Thread Cert.Ffn0KernelIdeal.nD Cert.Ffn0KernelIdeal.τ).loc Cert.Ffn0KernelIdeal.main_arg1)
      ∧ r.2.mem ((c.tc : Thread Cert.Ffn0KernelIdeal.nD Cert.Ffn0KernelIdeal.τ).loc Cert.Ffn0KernelIdeal.main_arg2) = m ((c.tc : Thread Cert.Ffn0KernelIdeal.nD Cert.Ffn0KernelIdeal.τ).loc Cert.Ffn0KernelIdeal.main_arg2)
      ∧ r.2.mem ((c.tc : Thread Cert.Ffn0KernelIdeal.nD Cert.Ffn0KernelIdeal.τ).loc Cert.Ffn0KernelIdeal.main_arg3) = m ((c.tc : Thread Cert.Ffn0KernelIdeal.nD Cert.Ffn0KernelIdeal.τ).loc Cert.Ffn0KernelIdeal.main_arg3)
      ∧ r.2.mem ((c.tc : Thread Cert.Ffn0KernelIdeal.nD Cert.Ffn0KernelIdeal.τ).loc Cert.Ffn0KernelIdeal.main_arg4) = m ((c.tc : Thread Cert.Ffn0KernelIdeal.nD Cert.Ffn0KernelIdeal.τ).loc Cert.Ffn0KernelIdeal.main_arg4)
      ∧ r.2.mem ((c.tc : Thread Cert.Ffn0KernelIdeal.nD Cert.Ffn0KernelIdeal.τ).loc Cert.Ffn0KernelIdeal.main_arg5) = m ((c.tc : Thread Cert.Ffn0KernelIdeal.nD Cert.Ffn0KernelIdeal.τ).loc Cert.Ffn0KernelIdeal.main_arg5)
      ∧ r.2.mem ((c.tc : Thread Cert.Ffn0KernelIdeal.nD Cert.Ffn0KernelIdeal.τ).loc Cert.Ffn0KernelIdeal.main_arg6) = m ((c.tc : Thread Cert.Ffn0KernelIdeal.nD Cert.Ffn0KernelIdeal.τ).loc Cert.Ffn0KernelIdeal.main_arg6))
      ∧ r.2.sem = fun _ => 0)

def quiescent_Ffn0ReferenceIdeal [hFfn0ReferenceIdeal : Cert.Ffn0ReferenceIdeal.Facts] : Prop :=
  ∀ (m : (ℓ : Loc Cert.Ffn0ReferenceIdeal.nD Cert.Ffn0ReferenceIdeal.τ Cert.Ffn0ReferenceIdeal.sig) → Buf (Elt Ideal) ℓ) (g : Dev Cert.Ffn0ReferenceIdeal.nD → PrngReg), Pre_Ffn0ReferenceIdeal m →
    θ_run (Cert.Ffn0ReferenceIdeal.defs (F := Ideal)) (onTc (τ := Cert.Ffn0ReferenceIdeal.τ) (Cert.Ffn0ReferenceIdeal.main (F := Ideal))) ⟨m, fun _ => 0, g⟩ (fun r => (∀ c : Dev Cert.Ffn0ReferenceIdeal.nD,
      r.2.mem ((c.tc : Thread Cert.Ffn0ReferenceIdeal.nD Cert.Ffn0ReferenceIdeal.τ).loc Cert.Ffn0ReferenceIdeal.main_arg0) = m ((c.tc : Thread Cert.Ffn0ReferenceIdeal.nD Cert.Ffn0ReferenceIdeal.τ).loc Cert.Ffn0ReferenceIdeal.main_arg0)
      ∧ r.2.mem ((c.tc : Thread Cert.Ffn0ReferenceIdeal.nD Cert.Ffn0ReferenceIdeal.τ).loc Cert.Ffn0ReferenceIdeal.main_arg1) = m ((c.tc : Thread Cert.Ffn0ReferenceIdeal.nD Cert.Ffn0ReferenceIdeal.τ).loc Cert.Ffn0ReferenceIdeal.main_arg1)
      ∧ r.2.mem ((c.tc : Thread Cert.Ffn0ReferenceIdeal.nD Cert.Ffn0ReferenceIdeal.τ).loc Cert.Ffn0ReferenceIdeal.main_arg2) = m ((c.tc : Thread Cert.Ffn0ReferenceIdeal.nD Cert.Ffn0ReferenceIdeal.τ).loc Cert.Ffn0ReferenceIdeal.main_arg2)
      ∧ r.2.mem ((c.tc : Thread Cert.Ffn0ReferenceIdeal.nD Cert.Ffn0ReferenceIdeal.τ).loc Cert.Ffn0ReferenceIdeal.main_arg3) = m ((c.tc : Thread Cert.Ffn0ReferenceIdeal.nD Cert.Ffn0ReferenceIdeal.τ).loc Cert.Ffn0ReferenceIdeal.main_arg3)
      ∧ r.2.mem ((c.tc : Thread Cert.Ffn0ReferenceIdeal.nD Cert.Ffn0ReferenceIdeal.τ).loc Cert.Ffn0ReferenceIdeal.main_arg4) = m ((c.tc : Thread Cert.Ffn0ReferenceIdeal.nD Cert.Ffn0ReferenceIdeal.τ).loc Cert.Ffn0ReferenceIdeal.main_arg4)
      ∧ r.2.mem ((c.tc : Thread Cert.Ffn0ReferenceIdeal.nD Cert.Ffn0ReferenceIdeal.τ).loc Cert.Ffn0ReferenceIdeal.main_arg5) = m ((c.tc : Thread Cert.Ffn0ReferenceIdeal.nD Cert.Ffn0ReferenceIdeal.τ).loc Cert.Ffn0ReferenceIdeal.main_arg5)
      ∧ r.2.mem ((c.tc : Thread Cert.Ffn0ReferenceIdeal.nD Cert.Ffn0ReferenceIdeal.τ).loc Cert.Ffn0ReferenceIdeal.main_arg6) = m ((c.tc : Thread Cert.Ffn0ReferenceIdeal.nD Cert.Ffn0ReferenceIdeal.τ).loc Cert.Ffn0ReferenceIdeal.main_arg6))
      ∧ r.2.sem = fun _ => 0)

def quiescent_QkvKernel [hQkvKernel : Cert.QkvKernel.Facts] : Prop :=
  ∀ (m : (ℓ : Loc Cert.QkvKernel.nD Cert.QkvKernel.τ Cert.QkvKernel.sig) → Buf (Elt Bits) ℓ) (g : Dev Cert.QkvKernel.nD → PrngReg), Pre_QkvKernel m →
    θ_run (Cert.QkvKernel.defs (F := Bits)) (onTc (τ := Cert.QkvKernel.τ) (Cert.QkvKernel.main (F := Bits))) ⟨m, fun _ => 0, g⟩ (fun r => (∀ c : Dev Cert.QkvKernel.nD,
      r.2.mem ((c.tc : Thread Cert.QkvKernel.nD Cert.QkvKernel.τ).loc Cert.QkvKernel.main_arg0) = m ((c.tc : Thread Cert.QkvKernel.nD Cert.QkvKernel.τ).loc Cert.QkvKernel.main_arg0)
      ∧ r.2.mem ((c.tc : Thread Cert.QkvKernel.nD Cert.QkvKernel.τ).loc Cert.QkvKernel.main_arg1) = m ((c.tc : Thread Cert.QkvKernel.nD Cert.QkvKernel.τ).loc Cert.QkvKernel.main_arg1)
      ∧ r.2.mem ((c.tc : Thread Cert.QkvKernel.nD Cert.QkvKernel.τ).loc Cert.QkvKernel.main_arg2) = m ((c.tc : Thread Cert.QkvKernel.nD Cert.QkvKernel.τ).loc Cert.QkvKernel.main_arg2))
      ∧ r.2.sem = fun _ => 0)

def quiescent_QkvKernelIdeal [hQkvKernelIdeal : Cert.QkvKernelIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg), Pre_QkvKernelIdeal m →
    θ_run (Cert.QkvKernelIdeal.defs (F := Ideal)) (onTc (τ := Cert.QkvKernelIdeal.τ) (Cert.QkvKernelIdeal.main (F := Ideal))) ⟨m, fun _ => 0, g⟩ (fun r => (∀ c : Dev Cert.QkvKernelIdeal.nD,
      r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
      ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
      ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1)
      ∧ r.2.mem ((c.tc : Thread Cert.QkvReferenceIdeal.nD Cert.QkvReferenceIdeal.τ).loc Cert.QkvReferenceIdeal.main_arg2) = m ((c.tc : Thread Cert.QkvReferenceIdeal.nD Cert.QkvReferenceIdeal.τ).loc Cert.QkvReferenceIdeal.main_arg2))
      ∧ r.2.sem = fun _ => 0)

def quiescent_QKernel [hQKernel : Cert.QKernel.Facts] : Prop :=
  ∀ (m : (ℓ : Loc Cert.QKernel.nD Cert.QKernel.τ Cert.QKernel.sig) → Buf (Elt Bits) ℓ) (g : Dev Cert.QKernel.nD → PrngReg), Pre_QKernel m →
    θ_run (Cert.QKernel.defs (F := Bits)) (onTc (τ := Cert.QKernel.τ) (Cert.QKernel.main (F := Bits))) ⟨m, fun _ => 0, g⟩ (fun r => (∀ c : Dev Cert.QKernel.nD,
      r.2.mem ((c.tc : Thread Cert.QKernel.nD Cert.QKernel.τ).loc Cert.QKernel.main_arg0) = m ((c.tc : Thread Cert.QKernel.nD Cert.QKernel.τ).loc Cert.QKernel.main_arg0)
      ∧ r.2.mem ((c.tc : Thread Cert.QKernel.nD Cert.QKernel.τ).loc Cert.QKernel.main_arg1) = m ((c.tc : Thread Cert.QKernel.nD Cert.QKernel.τ).loc Cert.QKernel.main_arg1)
      ∧ r.2.mem ((c.tc : Thread Cert.QKernel.nD Cert.QKernel.τ).loc Cert.QKernel.main_arg2) = m ((c.tc : Thread Cert.QKernel.nD Cert.QKernel.τ).loc Cert.QKernel.main_arg2)
      ∧ r.2.mem ((c.tc : Thread Cert.QKernel.nD Cert.QKernel.τ).loc Cert.QKernel.main_arg3) = m ((c.tc : Thread Cert.QKernel.nD Cert.QKernel.τ).loc Cert.QKernel.main_arg3)
      ∧ r.2.mem ((c.tc : Thread Cert.QKernel.nD Cert.QKernel.τ).loc Cert.QKernel.main_arg4) = m ((c.tc : Thread Cert.QKernel.nD Cert.QKernel.τ).loc Cert.QKernel.main_arg4)
      ∧ r.2.mem ((c.tc : Thread Cert.QKernel.nD Cert.QKernel.τ).loc Cert.QKernel.main_arg5) = m ((c.tc : Thread Cert.QKernel.nD Cert.QKernel.τ).loc Cert.QKernel.main_arg5)
      ∧ r.2.mem ((c.tc : Thread Cert.QKernel.nD Cert.QKernel.τ).loc Cert.QKernel.main_arg6) = m ((c.tc : Thread Cert.QKernel.nD Cert.QKernel.τ).loc Cert.QKernel.main_arg6))
      ∧ r.2.sem = fun _ => 0)

def quiescent_QKernelIdeal [hQKernelIdeal : Cert.QKernelIdeal.Facts] : Prop :=
  ∀ (m : (ℓ : Loc Cert.QKernelIdeal.nD Cert.QKernelIdeal.τ Cert.QKernelIdeal.sig) → Buf (Elt Ideal) ℓ) (g : Dev Cert.QKernelIdeal.nD → PrngReg), Pre_QKernelIdeal m →
    θ_run (Cert.QKernelIdeal.defs (F := Ideal)) (onTc (τ := Cert.QKernelIdeal.τ) (Cert.QKernelIdeal.main (F := Ideal))) ⟨m, fun _ => 0, g⟩ (fun r => (∀ c : Dev Cert.QKernelIdeal.nD,
      r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
      ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
      ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
      ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3)
      ∧ r.2.mem ((c.tc : Thread Cert.QKernelIdeal.nD Cert.QKernelIdeal.τ).loc Cert.QKernelIdeal.main_arg4) = m ((c.tc : Thread Cert.QKernelIdeal.nD Cert.QKernelIdeal.τ).loc Cert.QKernelIdeal.main_arg4)
      ∧ r.2.mem ((c.tc : Thread Cert.QKernelIdeal.nD Cert.QKernelIdeal.τ).loc Cert.QKernelIdeal.main_arg5) = m ((c.tc : Thread Cert.QKernelIdeal.nD Cert.QKernelIdeal.τ).loc Cert.QKernelIdeal.main_arg5)
      ∧ r.2.mem ((c.tc : Thread Cert.QKernelIdeal.nD Cert.QKernelIdeal.τ).loc Cert.QKernelIdeal.main_arg6) = m ((c.tc : Thread Cert.QKernelIdeal.nD Cert.QKernelIdeal.τ).loc Cert.QKernelIdeal.main_arg6))
      ∧ r.2.sem = fun _ => 0)

def quiescent_QReferenceIdeal [hQReferenceIdeal : Cert.QReferenceIdeal.Facts] : Prop :=
  ∀ (m : (ℓ : Loc Cert.QReferenceIdeal.nD Cert.QReferenceIdeal.τ Cert.QReferenceIdeal.sig) → Buf (Elt Ideal) ℓ) (g : Dev Cert.QReferenceIdeal.nD → PrngReg), Pre_QReferenceIdeal m →
    θ_run (Cert.QReferenceIdeal.defs (F := Ideal)) (onTc (τ := Cert.QReferenceIdeal.τ) (Cert.QReferenceIdeal.main (F := Ideal))) ⟨m, fun _ => 0, g⟩ (fun r => (∀ c : Dev Cert.QReferenceIdeal.nD,
      r.2.mem ((c.tc : Thread Cert.QReferenceIdeal.nD Cert.QReferenceIdeal.τ).loc Cert.QReferenceIdeal.main_arg0) = m ((c.tc : Thread Cert.QReferenceIdeal.nD Cert.QReferenceIdeal.τ).loc Cert.QReferenceIdeal.main_arg0)
      ∧ r.2.mem ((c.tc : Thread Cert.QReferenceIdeal.nD Cert.QReferenceIdeal.τ).loc Cert.QReferenceIdeal.main_arg1) = m ((c.tc : Thread Cert.QReferenceIdeal.nD Cert.QReferenceIdeal.τ).loc Cert.QReferenceIdeal.main_arg1)
      ∧ r.2.mem ((c.tc : Thread Cert.QReferenceIdeal.nD Cert.QReferenceIdeal.τ).loc Cert.QReferenceIdeal.main_arg2) = m ((c.tc : Thread Cert.QReferenceIdeal.nD Cert.QReferenceIdeal.τ).loc Cert.QReferenceIdeal.main_arg2)
      ∧ r.2.mem ((c.tc : Thread Cert.QReferenceIdeal.nD Cert.QReferenceIdeal.τ).loc Cert.QReferenceIdeal.main_arg3) = m ((c.tc : Thread Cert.QReferenceIdeal.nD Cert.QReferenceIdeal.τ).loc Cert.QReferenceIdeal.main_arg3)
      ∧ r.2.mem ((c.tc : Thread Cert.QReferenceIdeal.nD Cert.QReferenceIdeal.τ).loc Cert.QReferenceIdeal.main_arg4) = m ((c.tc : Thread Cert.QReferenceIdeal.nD Cert.QReferenceIdeal.τ).loc Cert.QReferenceIdeal.main_arg4)
      ∧ r.2.mem ((c.tc : Thread Cert.QReferenceIdeal.nD Cert.QReferenceIdeal.τ).loc Cert.QReferenceIdeal.main_arg5) = m ((c.tc : Thread Cert.QReferenceIdeal.nD Cert.QReferenceIdeal.τ).loc Cert.QReferenceIdeal.main_arg5)
      ∧ r.2.mem ((c.tc : Thread Cert.QReferenceIdeal.nD Cert.QReferenceIdeal.τ).loc Cert.QReferenceIdeal.main_arg6) = m ((c.tc : Thread Cert.QReferenceIdeal.nD Cert.QReferenceIdeal.τ).loc Cert.QReferenceIdeal.main_arg6))
      ∧ r.2.sem = fun _ => 0)

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1)
      ∧ r.2.mem ((c.tc : Thread Cert.KvKernel.nD Cert.KvKernel.τ).loc Cert.KvKernel.main_arg2) = m ((c.tc : Thread Cert.KvKernel.nD Cert.KvKernel.τ).loc Cert.KvKernel.main_arg2)
      ∧ r.2.mem ((c.tc : Thread Cert.KvKernel.nD Cert.KvKernel.τ).loc Cert.KvKernel.main_arg3) = m ((c.tc : Thread Cert.KvKernel.nD Cert.KvKernel.τ).loc Cert.KvKernel.main_arg3)
      ∧ r.2.mem ((c.tc : Thread Cert.KvKernel.nD Cert.KvKernel.τ).loc Cert.KvKernel.main_arg4) = m ((c.tc : Thread Cert.KvKernel.nD Cert.KvKernel.τ).loc Cert.KvKernel.main_arg4)
      ∧ r.2.mem ((c.tc : Thread Cert.KvKernel.nD Cert.KvKernel.τ).loc Cert.KvKernel.main_arg5) = m ((c.tc : Thread Cert.KvKernel.nD Cert.KvKernel.τ).loc Cert.KvKernel.main_arg5)
      ∧ r.2.mem ((c.tc : Thread Cert.KvKernel.nD Cert.KvKernel.τ).loc Cert.KvKernel.main_arg6) = m ((c.tc : Thread Cert.KvKernel.nD Cert.KvKernel.τ).loc Cert.KvKernel.main_arg6))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
      ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
      ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3)
      ∧ r.2.mem ((c.tc : Thread Cert.KvKernelIdeal.nD Cert.KvKernelIdeal.τ).loc Cert.KvKernelIdeal.main_arg4) = m ((c.tc : Thread Cert.KvKernelIdeal.nD Cert.KvKernelIdeal.τ).loc Cert.KvKernelIdeal.main_arg4)
      ∧ r.2.mem ((c.tc : Thread Cert.KvKernelIdeal.nD Cert.KvKernelIdeal.τ).loc Cert.KvKernelIdeal.main_arg5) = m ((c.tc : Thread Cert.KvKernelIdeal.nD Cert.KvKernelIdeal.τ).loc Cert.KvKernelIdeal.main_arg5)
      ∧ r.2.mem ((c.tc : Thread Cert.KvKernelIdeal.nD Cert.KvKernelIdeal.τ).loc Cert.KvKernelIdeal.main_arg6) = m ((c.tc : Thread Cert.KvKernelIdeal.nD Cert.KvKernelIdeal.τ).loc Cert.KvKernelIdeal.main_arg6))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3)
      ∧ r.2.mem ((c.tc : Thread Cert.KvReferenceIdeal.nD Cert.KvReferenceIdeal.τ).loc Cert.KvReferenceIdeal.main_arg4) = m ((c.tc : Thread Cert.KvReferenceIdeal.nD Cert.KvReferenceIdeal.τ).loc Cert.KvReferenceIdeal.main_arg4)
      ∧ r.2.mem ((c.tc : Thread Cert.KvReferenceIdeal.nD Cert.KvReferenceIdeal.τ).loc Cert.KvReferenceIdeal.main_arg5) = m ((c.tc : Thread Cert.KvReferenceIdeal.nD Cert.KvReferenceIdeal.τ).loc Cert.KvReferenceIdeal.main_arg5)
      ∧ r.2.mem ((c.tc : Thread Cert.KvReferenceIdeal.nD Cert.KvReferenceIdeal.τ).loc Cert.KvReferenceIdeal.main_arg6) = m ((c.tc : Thread Cert.KvReferenceIdeal.nD Cert.KvReferenceIdeal.τ).loc Cert.KvReferenceIdeal.main_arg6))
      ∧ r.2.sem = fun _ => 0)

def preserves_Kernel_KernelIdeal : Prop :=
  IdealRules.named_const.Statement Cert.KernelIdeal.κ "neg_inf" .f32 0xF149F2CA#32 ⊥

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)
      ∧ m' ((c.tc : Thread Cert.FfnReferenceIdeal.nD Cert.FfnReferenceIdeal.τ).loc Cert.FfnReferenceIdeal.main_arg6) = m ((c.tc : Thread Cert.FfnKernelIdeal.nD Cert.FfnKernelIdeal.τ).loc Cert.FfnKernelIdeal.main_arg6)) →
    ∃ (v0 : (c : Dev Cert.FfnKernelIdeal.nD) → Buf (Elt Ideal) ((c.tc : Thread Cert.FfnKernelIdeal.nD Cert.FfnKernelIdeal.τ).loc Cert.FfnKernelIdeal.main_v0)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v0) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5)
          ∧ r.2.mem ((c.tc : Thread Cert.FfnKernelIdeal.nD Cert.FfnKernelIdeal.τ).loc Cert.FfnKernelIdeal.main_arg6) = m ((c.tc : Thread Cert.FfnKernelIdeal.nD Cert.FfnKernelIdeal.τ).loc Cert.FfnKernelIdeal.main_arg6))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v103) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6))

def preserves_Ffn0Kernel_Ffn0KernelIdeal : Prop :=
  True

def algebraic_Ffn0KernelIdeal_Ffn0ReferenceIdeal [hFfn0KernelIdeal : Cert.Ffn0KernelIdeal.Facts] [hFfn0ReferenceIdeal : Cert.Ffn0ReferenceIdeal.Facts] : Prop :=
  ∀ (m : (ℓ : Loc Cert.Ffn0KernelIdeal.nD Cert.Ffn0KernelIdeal.τ Cert.Ffn0KernelIdeal.sig) → Buf (Elt Ideal) ℓ) (g : Dev Cert.Ffn0KernelIdeal.nD → PrngReg)
    (m' : (ℓ : Loc Cert.Ffn0ReferenceIdeal.nD Cert.Ffn0ReferenceIdeal.τ Cert.Ffn0ReferenceIdeal.sig) → Buf (Elt Ideal) ℓ) (g' : Dev Cert.Ffn0ReferenceIdeal.nD → PrngReg), Pre_Ffn0KernelIdeal m →
    (∀ c : Dev Cert.Ffn0KernelIdeal.nD,
      m' ((c.tc : Thread Cert.Ffn0ReferenceIdeal.nD Cert.Ffn0ReferenceIdeal.τ).loc Cert.Ffn0ReferenceIdeal.main_arg0) = m ((c.tc : Thread Cert.Ffn0KernelIdeal.nD Cert.Ffn0KernelIdeal.τ).loc Cert.Ffn0KernelIdeal.main_arg0)
      ∧ m' ((c.tc : Thread Cert.Ffn0ReferenceIdeal.nD Cert.Ffn0ReferenceIdeal.τ).loc Cert.Ffn0ReferenceIdeal.main_arg1) = m ((c.tc : Thread Cert.Ffn0KernelIdeal.nD Cert.Ffn0KernelIdeal.τ).loc Cert.Ffn0KernelIdeal.main_arg1)
      ∧ m' ((c.tc : Thread Cert.Ffn0ReferenceIdeal.nD Cert.Ffn0ReferenceIdeal.τ).loc Cert.Ffn0ReferenceIdeal.main_arg2) = m ((c.tc : Thread Cert.Ffn0KernelIdeal.nD Cert.Ffn0KernelIdeal.τ).loc Cert.Ffn0KernelIdeal.main_arg2)
      ∧ m' ((c.tc : Thread Cert.Ffn0ReferenceIdeal.nD Cert.Ffn0ReferenceIdeal.τ).loc Cert.Ffn0ReferenceIdeal.main_arg3) = m ((c.tc : Thread Cert.Ffn0KernelIdeal.nD Cert.Ffn0KernelIdeal.τ).loc Cert.Ffn0KernelIdeal.main_arg3)
      ∧ m' ((c.tc : Thread Cert.Ffn0ReferenceIdeal.nD Cert.Ffn0ReferenceIdeal.τ).loc Cert.Ffn0ReferenceIdeal.main_arg4) = m ((c.tc : Thread Cert.Ffn0KernelIdeal.nD Cert.Ffn0KernelIdeal.τ).loc Cert.Ffn0KernelIdeal.main_arg4)
      ∧ m' ((c.tc : Thread Cert.Ffn0ReferenceIdeal.nD Cert.Ffn0ReferenceIdeal.τ).loc Cert.Ffn0ReferenceIdeal.main_arg5) = m ((c.tc : Thread Cert.Ffn0KernelIdeal.nD Cert.Ffn0KernelIdeal.τ).loc Cert.Ffn0KernelIdeal.main_arg5)
      ∧ m' ((c.tc : Thread Cert.Ffn0ReferenceIdeal.nD Cert.Ffn0ReferenceIdeal.τ).loc Cert.Ffn0ReferenceIdeal.main_arg6) = m ((c.tc : Thread Cert.Ffn0KernelIdeal.nD Cert.Ffn0KernelIdeal.τ).loc Cert.Ffn0KernelIdeal.main_arg6)) →
    ∃ (v0 : (c : Dev Cert.Ffn0KernelIdeal.nD) → Buf (Elt Ideal) ((c.tc : Thread Cert.Ffn0KernelIdeal.nD Cert.Ffn0KernelIdeal.τ).loc Cert.Ffn0KernelIdeal.main_v0)),
      θ_run (Cert.Ffn0KernelIdeal.defs (F := Ideal)) (onTc (τ := Cert.Ffn0KernelIdeal.τ) (Cert.Ffn0KernelIdeal.main (F := Ideal))) ⟨m, fun _ => 0, g⟩ (fun r => ∀ c : Dev Cert.Ffn0KernelIdeal.nD,
          r.2.mem ((c.tc : Thread Cert.Ffn0KernelIdeal.nD Cert.Ffn0KernelIdeal.τ).loc Cert.Ffn0KernelIdeal.main_v0) = v0 c
          ∧ r.2.mem ((c.tc : Thread Cert.Ffn0KernelIdeal.nD Cert.Ffn0KernelIdeal.τ).loc Cert.Ffn0KernelIdeal.main_arg0) = m ((c.tc : Thread Cert.Ffn0KernelIdeal.nD Cert.Ffn0KernelIdeal.τ).loc Cert.Ffn0KernelIdeal.main_arg0)
          ∧ r.2.mem ((c.tc : Thread Cert.Ffn0KernelIdeal.nD Cert.Ffn0KernelIdeal.τ).loc Cert.Ffn0KernelIdeal.main_arg1) = m ((c.tc : Thread Cert.Ffn0KernelIdeal.nD Cert.Ffn0KernelIdeal.τ).loc Cert.Ffn0KernelIdeal.main_arg1)
          ∧ r.2.mem ((c.tc : Thread Cert.Ffn0KernelIdeal.nD Cert.Ffn0KernelIdeal.τ).loc Cert.Ffn0KernelIdeal.main_arg2) = m ((c.tc : Thread Cert.Ffn0KernelIdeal.nD Cert.Ffn0KernelIdeal.τ).loc Cert.Ffn0KernelIdeal.main_arg2)
          ∧ r.2.mem ((c.tc : Thread Cert.Ffn0KernelIdeal.nD Cert.Ffn0KernelIdeal.τ).loc Cert.Ffn0KernelIdeal.main_arg3) = m ((c.tc : Thread Cert.Ffn0KernelIdeal.nD Cert.Ffn0KernelIdeal.τ).loc Cert.Ffn0KernelIdeal.main_arg3)
          ∧ r.2.mem ((c.tc : Thread Cert.Ffn0KernelIdeal.nD Cert.Ffn0KernelIdeal.τ).loc Cert.Ffn0KernelIdeal.main_arg4) = m ((c.tc : Thread Cert.Ffn0KernelIdeal.nD Cert.Ffn0KernelIdeal.τ).loc Cert.Ffn0KernelIdeal.main_arg4)
          ∧ r.2.mem ((c.tc : Thread Cert.Ffn0KernelIdeal.nD Cert.Ffn0KernelIdeal.τ).loc Cert.Ffn0KernelIdeal.main_arg5) = m ((c.tc : Thread Cert.Ffn0KernelIdeal.nD Cert.Ffn0KernelIdeal.τ).loc Cert.Ffn0KernelIdeal.main_arg5)
          ∧ r.2.mem ((c.tc : Thread Cert.Ffn0KernelIdeal.nD Cert.Ffn0KernelIdeal.τ).loc Cert.Ffn0KernelIdeal.main_arg6) = m ((c.tc : Thread Cert.Ffn0KernelIdeal.nD Cert.Ffn0KernelIdeal.τ).loc Cert.Ffn0KernelIdeal.main_arg6))
      ∧ θ_run (Cert.Ffn0ReferenceIdeal.defs (F := Ideal)) (onTc (τ := Cert.Ffn0ReferenceIdeal.τ) (Cert.Ffn0ReferenceIdeal.main (F := Ideal))) ⟨m', fun _ => 0, g'⟩ (fun r => ∀ c : Dev Cert.Ffn0ReferenceIdeal.nD,
          r.2.mem ((c.tc : Thread Cert.Ffn0ReferenceIdeal.nD Cert.Ffn0ReferenceIdeal.τ).loc Cert.Ffn0ReferenceIdeal.main_v88) = v0 c
          ∧ r.2.mem ((c.tc : Thread Cert.Ffn0ReferenceIdeal.nD Cert.Ffn0ReferenceIdeal.τ).loc Cert.Ffn0ReferenceIdeal.main_arg0) = m' ((c.tc : Thread Cert.Ffn0ReferenceIdeal.nD Cert.Ffn0ReferenceIdeal.τ).loc Cert.Ffn0ReferenceIdeal.main_arg0)
          ∧ r.2.mem ((c.tc : Thread Cert.Ffn0ReferenceIdeal.nD Cert.Ffn0ReferenceIdeal.τ).loc Cert.Ffn0ReferenceIdeal.main_arg1) = m' ((c.tc : Thread Cert.Ffn0ReferenceIdeal.nD Cert.Ffn0ReferenceIdeal.τ).loc Cert.Ffn0ReferenceIdeal.main_arg1)
          ∧ r.2.mem ((c.tc : Thread Cert.Ffn0ReferenceIdeal.nD Cert.Ffn0ReferenceIdeal.τ).loc Cert.Ffn0ReferenceIdeal.main_arg2) = m' ((c.tc : Thread Cert.Ffn0ReferenceIdeal.nD Cert.Ffn0ReferenceIdeal.τ).loc Cert.Ffn0ReferenceIdeal.main_arg2)
          ∧ r.2.mem ((c.tc : Thread Cert.Ffn0ReferenceIdeal.nD Cert.Ffn0ReferenceIdeal.τ).loc Cert.Ffn0ReferenceIdeal.main_arg3) = m' ((c.tc : Thread Cert.Ffn0ReferenceIdeal.nD Cert.Ffn0ReferenceIdeal.τ).loc Cert.Ffn0ReferenceIdeal.main_arg3)
          ∧ r.2.mem ((c.tc : Thread Cert.Ffn0ReferenceIdeal.nD Cert.Ffn0ReferenceIdeal.τ).loc Cert.Ffn0ReferenceIdeal.main_arg4) = m' ((c.tc : Thread Cert.Ffn0ReferenceIdeal.nD Cert.Ffn0ReferenceIdeal.τ).loc Cert.Ffn0ReferenceIdeal.main_arg4)
          ∧ r.2.mem ((c.tc : Thread Cert.Ffn0ReferenceIdeal.nD Cert.Ffn0ReferenceIdeal.τ).loc Cert.Ffn0ReferenceIdeal.main_arg5) = m' ((c.tc : Thread Cert.Ffn0ReferenceIdeal.nD Cert.Ffn0ReferenceIdeal.τ).loc Cert.Ffn0ReferenceIdeal.main_arg5)
          ∧ r.2.mem ((c.tc : Thread Cert.Ffn0ReferenceIdeal.nD Cert.Ffn0ReferenceIdeal.τ).loc Cert.Ffn0ReferenceIdeal.main_arg6) = m' ((c.tc : Thread Cert.Ffn0ReferenceIdeal.nD Cert.Ffn0ReferenceIdeal.τ).loc Cert.Ffn0ReferenceIdeal.main_arg6))

def preserves_QkvKernel_QkvKernelIdeal : Prop :=
  True

def algebraic_QkvKernelIdeal_QkvReferenceIdeal [hQkvKernelIdeal : Cert.QkvKernelIdeal.Facts] [hQkvReferenceIdeal : Cert.QkvReferenceIdeal.Facts] : Prop :=
  ∀ (m : (ℓ : Loc Cert.QkvKernelIdeal.nD Cert.QkvKernelIdeal.τ Cert.QkvKernelIdeal.sig) → Buf (Elt Ideal) ℓ) (g : Dev Cert.QkvKernelIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvKernelIdeal m →
    (∀ c : Dev Cert.QkvKernelIdeal.nD,
      m' ((c.tc : Thread Cert.QkvReferenceIdeal.nD Cert.QkvReferenceIdeal.τ).loc Cert.QkvReferenceIdeal.main_arg0) = m ((c.tc : Thread Cert.QkvKernelIdeal.nD Cert.QkvKernelIdeal.τ).loc Cert.QkvKernelIdeal.main_arg0)
      ∧ m' ((c.tc : Thread Cert.QkvReferenceIdeal.nD Cert.QkvReferenceIdeal.τ).loc Cert.QkvReferenceIdeal.main_arg1) = m ((c.tc : Thread Cert.QkvKernelIdeal.nD Cert.QkvKernelIdeal.τ).loc Cert.QkvKernelIdeal.main_arg1)
      ∧ m' ((c.tc : Thread Cert.QkvReferenceIdeal.nD Cert.QkvReferenceIdeal.τ).loc Cert.QkvReferenceIdeal.main_arg2) = m ((c.tc : Thread Cert.QkvKernelIdeal.nD Cert.QkvKernelIdeal.τ).loc Cert.QkvKernelIdeal.main_arg2)) →
    ∃ (v0 : (c : Dev Cert.QkvKernelIdeal.nD) → Buf (Elt Ideal) ((c.tc : Thread Cert.QkvKernelIdeal.nD Cert.QkvKernelIdeal.τ).loc Cert.QkvKernelIdeal.main_v0_0)) (v1 : (c : Dev Cert.QkvKernelIdeal.nD) → Buf (Elt Ideal) ((c.tc : Thread Cert.QkvKernelIdeal.nD Cert.QkvKernelIdeal.τ).loc Cert.QkvKernelIdeal.main_v0_1)) (v2 : (c : Dev Cert.QkvKernelIdeal.nD) → Buf (Elt Ideal) ((c.tc : Thread Cert.QkvKernelIdeal.nD Cert.QkvKernelIdeal.τ).loc Cert.QkvKernelIdeal.main_v0_2)),
      θ_run (Cert.QkvKernelIdeal.defs (F := Ideal)) (onTc (τ := Cert.QkvKernelIdeal.τ) (Cert.QkvKernelIdeal.main (F := Ideal))) ⟨m, fun _ => 0, g⟩ (fun r => ∀ c : Dev Cert.QkvKernelIdeal.nD,
          r.2.mem ((c.tc : Thread Cert.QkvKernelIdeal.nD Cert.QkvKernelIdeal.τ).loc Cert.QkvKernelIdeal.main_v0_0) = v0 c
          ∧ r.2.mem ((c.tc : Thread Cert.QkvKernelIdeal.nD Cert.QkvKernelIdeal.τ).loc Cert.QkvKernelIdeal.main_v0_1) = v1 c
          ∧ r.2.mem ((c.tc : Thread Cert.QkvKernelIdeal.nD Cert.QkvKernelIdeal.τ).loc Cert.QkvKernelIdeal.main_v0_2) = v2 c
          ∧ r.2.mem ((c.tc : Thread Cert.QkvKernelIdeal.nD Cert.QkvKernelIdeal.τ).loc Cert.QkvKernelIdeal.main_arg0) = m ((c.tc : Thread Cert.QkvKernelIdeal.nD Cert.QkvKernelIdeal.τ).loc Cert.QkvKernelIdeal.main_arg0)
          ∧ r.2.mem ((c.tc : Thread Cert.QkvKernelIdeal.nD Cert.QkvKernelIdeal.τ).loc Cert.QkvKernelIdeal.main_arg1) = m ((c.tc : Thread Cert.QkvKernelIdeal.nD Cert.QkvKernelIdeal.τ).loc Cert.QkvKernelIdeal.main_arg1)
          ∧ r.2.mem ((c.tc : Thread Cert.QkvKernelIdeal.nD Cert.QkvKernelIdeal.τ).loc Cert.QkvKernelIdeal.main_arg2) = m ((c.tc : Thread Cert.QkvKernelIdeal.nD Cert.QkvKernelIdeal.τ).loc Cert.QkvKernelIdeal.main_arg2))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v38) = v0 c
          ∧ r.2.mem ((c.tc : Thread Cert.QkvReferenceIdeal.nD Cert.QkvReferenceIdeal.τ).loc Cert.QkvReferenceIdeal.main_v40) = v1 c
          ∧ r.2.mem ((c.tc : Thread Cert.QkvReferenceIdeal.nD Cert.QkvReferenceIdeal.τ).loc Cert.QkvReferenceIdeal.main_v42) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1)
          ∧ r.2.mem ((c.tc : Thread Cert.QkvReferenceIdeal.nD Cert.QkvReferenceIdeal.τ).loc Cert.QkvReferenceIdeal.main_arg2) = m' ((c.tc : Thread Cert.QkvReferenceIdeal.nD Cert.QkvReferenceIdeal.τ).loc Cert.QkvReferenceIdeal.main_arg2))

def preserves_QKernel_QKernelIdeal : Prop :=
  True

def algebraic_QKernelIdeal_QReferenceIdeal [hQKernelIdeal : Cert.QKernelIdeal.Facts] [hQReferenceIdeal : Cert.QReferenceIdeal.Facts] : Prop :=
  ∀ (m : (ℓ : Loc Cert.QKernelIdeal.nD Cert.QKernelIdeal.τ Cert.QKernelIdeal.sig) → Buf (Elt Ideal) ℓ) (g : Dev Cert.QKernelIdeal.nD → PrngReg)
    (m' : (ℓ : Loc Cert.QReferenceIdeal.nD Cert.QReferenceIdeal.τ Cert.QReferenceIdeal.sig) → Buf (Elt Ideal) ℓ) (g' : Dev Cert.QReferenceIdeal.nD → PrngReg), Pre_QKernelIdeal m →
    (∀ c : Dev Cert.QKernelIdeal.nD,
      m' ((c.tc : Thread Cert.QReferenceIdeal.nD Cert.QReferenceIdeal.τ).loc Cert.QReferenceIdeal.main_arg0) = m ((c.tc : Thread Cert.QKernelIdeal.nD Cert.QKernelIdeal.τ).loc Cert.QKernelIdeal.main_arg0)
      ∧ m' ((c.tc : Thread Cert.QReferenceIdeal.nD Cert.QReferenceIdeal.τ).loc Cert.QReferenceIdeal.main_arg1) = m ((c.tc : Thread Cert.QKernelIdeal.nD Cert.QKernelIdeal.τ).loc Cert.QKernelIdeal.main_arg1)
      ∧ m' ((c.tc : Thread Cert.QReferenceIdeal.nD Cert.QReferenceIdeal.τ).loc Cert.QReferenceIdeal.main_arg2) = m ((c.tc : Thread Cert.QKernelIdeal.nD Cert.QKernelIdeal.τ).loc Cert.QKernelIdeal.main_arg2)
      ∧ m' ((c.tc : Thread Cert.QReferenceIdeal.nD Cert.QReferenceIdeal.τ).loc Cert.QReferenceIdeal.main_arg3) = m ((c.tc : Thread Cert.QKernelIdeal.nD Cert.QKernelIdeal.τ).loc Cert.QKernelIdeal.main_arg3)
      ∧ m' ((c.tc : Thread Cert.QReferenceIdeal.nD Cert.QReferenceIdeal.τ).loc Cert.QReferenceIdeal.main_arg4) = m ((c.tc : Thread Cert.QKernelIdeal.nD Cert.QKernelIdeal.τ).loc Cert.QKernelIdeal.main_arg4)
      ∧ m' ((c.tc : Thread Cert.QReferenceIdeal.nD Cert.QReferenceIdeal.τ).loc Cert.QReferenceIdeal.main_arg5) = m ((c.tc : Thread Cert.QKernelIdeal.nD Cert.QKernelIdeal.τ).loc Cert.QKernelIdeal.main_arg5)
      ∧ m' ((c.tc : Thread Cert.QReferenceIdeal.nD Cert.QReferenceIdeal.τ).loc Cert.QReferenceIdeal.main_arg6) = m ((c.tc : Thread Cert.QKernelIdeal.nD Cert.QKernelIdeal.τ).loc Cert.QKernelIdeal.main_arg6)) →
    ∃ (v0 : (c : Dev Cert.QKernelIdeal.nD) → Buf (Elt Ideal) ((c.tc : Thread Cert.QKernelIdeal.nD Cert.QKernelIdeal.τ).loc Cert.QKernelIdeal.main_v0)),
      θ_run (Cert.QKernelIdeal.defs (F := Ideal)) (onTc (τ := Cert.QKernelIdeal.τ) (Cert.QKernelIdeal.main (F := Ideal))) ⟨m, fun _ => 0, g⟩ (fun r => ∀ c : Dev Cert.QKernelIdeal.nD,
          r.2.mem ((c.tc : Thread Cert.QKernelIdeal.nD Cert.QKernelIdeal.τ).loc Cert.QKernelIdeal.main_v0) = v0 c
          ∧ r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
          ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
          ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
          ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3)
          ∧ r.2.mem ((c.tc : Thread Cert.QKernelIdeal.nD Cert.QKernelIdeal.τ).loc Cert.QKernelIdeal.main_arg4) = m ((c.tc : Thread Cert.QKernelIdeal.nD Cert.QKernelIdeal.τ).loc Cert.QKernelIdeal.main_arg4)
          ∧ r.2.mem ((c.tc : Thread Cert.QKernelIdeal.nD Cert.QKernelIdeal.τ).loc Cert.QKernelIdeal.main_arg5) = m ((c.tc : Thread Cert.QKernelIdeal.nD Cert.QKernelIdeal.τ).loc Cert.QKernelIdeal.main_arg5)
          ∧ r.2.mem ((c.tc : Thread Cert.QKernelIdeal.nD Cert.QKernelIdeal.τ).loc Cert.QKernelIdeal.main_arg6) = m ((c.tc : Thread Cert.QKernelIdeal.nD Cert.QKernelIdeal.τ).loc Cert.QKernelIdeal.main_arg6))
      ∧ θ_run (Cert.QReferenceIdeal.defs (F := Ideal)) (onTc (τ := Cert.QReferenceIdeal.τ) (Cert.QReferenceIdeal.main (F := Ideal))) ⟨m', fun _ => 0, g'⟩ (fun r => ∀ c : Dev Cert.QReferenceIdeal.nD,
          r.2.mem ((c.tc : Thread Cert.QReferenceIdeal.nD Cert.QReferenceIdeal.τ).loc Cert.QReferenceIdeal.main_v66) = v0 c
          ∧ r.2.mem ((c.tc : Thread Cert.QReferenceIdeal.nD Cert.QReferenceIdeal.τ).loc Cert.QReferenceIdeal.main_arg0) = m' ((c.tc : Thread Cert.QReferenceIdeal.nD Cert.QReferenceIdeal.τ).loc Cert.QReferenceIdeal.main_arg0)
          ∧ r.2.mem ((c.tc : Thread Cert.QReferenceIdeal.nD Cert.QReferenceIdeal.τ).loc Cert.QReferenceIdeal.main_arg1) = m' ((c.tc : Thread Cert.QReferenceIdeal.nD Cert.QReferenceIdeal.τ).loc Cert.QReferenceIdeal.main_arg1)
          ∧ r.2.mem ((c.tc : Thread Cert.QReferenceIdeal.nD Cert.QReferenceIdeal.τ).loc Cert.QReferenceIdeal.main_arg2) = m' ((c.tc : Thread Cert.QReferenceIdeal.nD Cert.QReferenceIdeal.τ).loc Cert.QReferenceIdeal.main_arg2)
          ∧ r.2.mem ((c.tc : Thread Cert.QReferenceIdeal.nD Cert.QReferenceIdeal.τ).loc Cert.QReferenceIdeal.main_arg3) = m' ((c.tc : Thread Cert.QReferenceIdeal.nD Cert.QReferenceIdeal.τ).loc Cert.QReferenceIdeal.main_arg3)
          ∧ r.2.mem ((c.tc : Thread Cert.QReferenceIdeal.nD Cert.QReferenceIdeal.τ).loc Cert.QReferenceIdeal.main_arg4) = m' ((c.tc : Thread Cert.QReferenceIdeal.nD Cert.QReferenceIdeal.τ).loc Cert.QReferenceIdeal.main_arg4)
          ∧ r.2.mem ((c.tc : Thread Cert.QReferenceIdeal.nD Cert.QReferenceIdeal.τ).loc Cert.QReferenceIdeal.main_arg5) = m' ((c.tc : Thread Cert.QReferenceIdeal.nD Cert.QReferenceIdeal.τ).loc Cert.QReferenceIdeal.main_arg5)
          ∧ r.2.mem ((c.tc : Thread Cert.QReferenceIdeal.nD Cert.QReferenceIdeal.τ).loc Cert.QReferenceIdeal.main_arg6) = m' ((c.tc : Thread Cert.QReferenceIdeal.nD Cert.QReferenceIdeal.τ).loc Cert.QReferenceIdeal.main_arg6))

def preserves_KvKernel_KvKernelIdeal : Prop :=
  True

def algebraic_KvKernelIdeal_KvReferenceIdeal [hKvKernelIdeal : Cert.KvKernelIdeal.Facts] [hKvReferenceIdeal : Cert.KvReferenceIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvKernelIdeal m →
    (∀ c : Dev Cert.KvKernelIdeal.nD,
      m' ((c.tc : Thread Cert.KvReferenceIdeal.nD Cert.KvReferenceIdeal.τ).loc Cert.KvReferenceIdeal.main_arg0) = m ((c.tc : Thread Cert.KvKernelIdeal.nD Cert.KvKernelIdeal.τ).loc Cert.KvKernelIdeal.main_arg0)
      ∧ m' ((c.tc : Thread Cert.KvReferenceIdeal.nD Cert.KvReferenceIdeal.τ).loc Cert.KvReferenceIdeal.main_arg1) = m ((c.tc : Thread Cert.KvKernelIdeal.nD Cert.KvKernelIdeal.τ).loc Cert.KvKernelIdeal.main_arg1)
      ∧ m' ((c.tc : Thread Cert.KvReferenceIdeal.nD Cert.KvReferenceIdeal.τ).loc Cert.KvReferenceIdeal.main_arg2) = m ((c.tc : Thread Cert.KvKernelIdeal.nD Cert.KvKernelIdeal.τ).loc Cert.KvKernelIdeal.main_arg2)
      ∧ m' ((c.tc : Thread Cert.KvReferenceIdeal.nD Cert.KvReferenceIdeal.τ).loc Cert.KvReferenceIdeal.main_arg3) = m ((c.tc : Thread Cert.KvKernelIdeal.nD Cert.KvKernelIdeal.τ).loc Cert.KvKernelIdeal.main_arg3)
      ∧ m' ((c.tc : Thread Cert.KvReferenceIdeal.nD Cert.KvReferenceIdeal.τ).loc Cert.KvReferenceIdeal.main_arg4) = m ((c.tc : Thread Cert.KvKernelIdeal.nD Cert.KvKernelIdeal.τ).loc Cert.KvKernelIdeal.main_arg4)
      ∧ m' ((c.tc : Thread Cert.KvReferenceIdeal.nD Cert.KvReferenceIdeal.τ).loc Cert.KvReferenceIdeal.main_arg5) = m ((c.tc : Thread Cert.KvKernelIdeal.nD Cert.KvKernelIdeal.τ).loc Cert.KvKernelIdeal.main_arg5)
      ∧ m' ((c.tc : Thread Cert.KvReferenceIdeal.nD Cert.KvReferenceIdeal.τ).loc Cert.KvReferenceIdeal.main_arg6) = m ((c.tc : Thread Cert.KvKernelIdeal.nD Cert.KvKernelIdeal.τ).loc Cert.KvKernelIdeal.main_arg6)) →
    ∃ (v0 : (c : Dev Cert.KvKernelIdeal.nD) → Buf (Elt Ideal) ((c.tc : Thread Cert.KvKernelIdeal.nD Cert.KvKernelIdeal.τ).loc Cert.KvKernelIdeal.main_v0_0)) (v1 : (c : Dev Cert.KvKernelIdeal.nD) → Buf (Elt Ideal) ((c.tc : Thread Cert.KvKernelIdeal.nD Cert.KvKernelIdeal.τ).loc Cert.KvKernelIdeal.main_v0_1)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v0_0) = v0 c
          ∧ r.2.mem ((c.tc : Thread Cert.KvKernelIdeal.nD Cert.KvKernelIdeal.τ).loc Cert.KvKernelIdeal.main_v0_1) = v1 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
          ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
          ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3)
          ∧ r.2.mem ((c.tc : Thread Cert.KvKernelIdeal.nD Cert.KvKernelIdeal.τ).loc Cert.KvKernelIdeal.main_arg4) = m ((c.tc : Thread Cert.KvKernelIdeal.nD Cert.KvKernelIdeal.τ).loc Cert.KvKernelIdeal.main_arg4)
          ∧ r.2.mem ((c.tc : Thread Cert.KvKernelIdeal.nD Cert.KvKernelIdeal.τ).loc Cert.KvKernelIdeal.main_arg5) = m ((c.tc : Thread Cert.KvKernelIdeal.nD Cert.KvKernelIdeal.τ).loc Cert.KvKernelIdeal.main_arg5)
          ∧ r.2.mem ((c.tc : Thread Cert.KvKernelIdeal.nD Cert.KvKernelIdeal.τ).loc Cert.KvKernelIdeal.main_arg6) = m ((c.tc : Thread Cert.KvKernelIdeal.nD Cert.KvKernelIdeal.τ).loc Cert.KvKernelIdeal.main_arg6))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v66) = v0 c
          ∧ r.2.mem ((c.tc : Thread Cert.KvReferenceIdeal.nD Cert.KvReferenceIdeal.τ).loc Cert.KvReferenceIdeal.main_v67) = v1 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3)
          ∧ r.2.mem ((c.tc : Thread Cert.KvReferenceIdeal.nD Cert.KvReferenceIdeal.τ).loc Cert.KvReferenceIdeal.main_arg4) = m' ((c.tc : Thread Cert.KvReferenceIdeal.nD Cert.KvReferenceIdeal.τ).loc Cert.KvReferenceIdeal.main_arg4)
          ∧ r.2.mem ((c.tc : Thread Cert.KvReferenceIdeal.nD Cert.KvReferenceIdeal.τ).loc Cert.KvReferenceIdeal.main_arg5) = m' ((c.tc : Thread Cert.KvReferenceIdeal.nD Cert.KvReferenceIdeal.τ).loc Cert.KvReferenceIdeal.main_arg5)
          ∧ r.2.mem ((c.tc : Thread Cert.KvReferenceIdeal.nD Cert.KvReferenceIdeal.τ).loc Cert.KvReferenceIdeal.main_arg6) = m' ((c.tc : Thread Cert.KvReferenceIdeal.nD Cert.KvReferenceIdeal.τ).loc Cert.KvReferenceIdeal.main_arg6))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hFfn0Kernel : Cert.Ffn0Kernel.Facts) (hFfn0KernelIdeal : Cert.Ffn0KernelIdeal.Facts) (hFfn0ReferenceIdeal : Cert.Ffn0ReferenceIdeal.Facts) (hQkvKernel : Cert.QkvKernel.Facts) (hQkvKernelIdeal : Cert.QkvKernelIdeal.Facts) (hQkvReferenceIdeal : Cert.QkvReferenceIdeal.Facts) (hQKernel : Cert.QKernel.Facts) (hQKernelIdeal : Cert.QKernelIdeal.Facts) (hQReferenceIdeal : Cert.QReferenceIdeal.Facts) (hKvKernel : Cert.KvKernel.Facts) (hKvKernelIdeal : Cert.KvKernelIdeal.Facts) (hKvReferenceIdeal : Cert.KvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_Ffn0Kernel (hFfn0Kernel := hFfn0Kernel)
    ∧ quiescent_Ffn0KernelIdeal (hFfn0KernelIdeal := hFfn0KernelIdeal)
    ∧ quiescent_Ffn0ReferenceIdeal (hFfn0ReferenceIdeal := hFfn0ReferenceIdeal)
    ∧ quiescent_QkvKernel (hQkvKernel := hQkvKernel)
    ∧ quiescent_QkvKernelIdeal (hQkvKernelIdeal := hQkvKernelIdeal)
    ∧ quiescent_QkvReferenceIdeal (hQkvReferenceIdeal := hQkvReferenceIdeal)
    ∧ quiescent_QKernel (hQKernel := hQKernel)
    ∧ quiescent_QKernelIdeal (hQKernelIdeal := hQKernelIdeal)
    ∧ quiescent_QReferenceIdeal (hQReferenceIdeal := hQReferenceIdeal)
    ∧ quiescent_KvKernel (hKvKernel := hKvKernel)
    ∧ quiescent_KvKernelIdeal (hKvKernelIdeal := hKvKernelIdeal)
    ∧ quiescent_KvReferenceIdeal (hKvReferenceIdeal := hKvReferenceIdeal)
    ∧ preserves_Kernel_KernelIdeal
    ∧ preserves_FfnKernel_FfnKernelIdeal
    ∧ algebraic_FfnKernelIdeal_FfnReferenceIdeal (hFfnKernelIdeal := hFfnKernelIdeal) (hFfnReferenceIdeal := hFfnReferenceIdeal)
    ∧ preserves_Ffn0Kernel_Ffn0KernelIdeal
    ∧ algebraic_Ffn0KernelIdeal_Ffn0ReferenceIdeal (hFfn0KernelIdeal := hFfn0KernelIdeal) (hFfn0ReferenceIdeal := hFfn0ReferenceIdeal)
    ∧ preserves_QkvKernel_QkvKernelIdeal
    ∧ algebraic_QkvKernelIdeal_QkvReferenceIdeal (hQkvKernelIdeal := hQkvKernelIdeal) (hQkvReferenceIdeal := hQkvReferenceIdeal)
    ∧ preserves_QKernel_QKernelIdeal
    ∧ algebraic_QKernelIdeal_QReferenceIdeal (hQKernelIdeal := hQKernelIdeal) (hQReferenceIdeal := hQReferenceIdeal)
    ∧ preserves_KvKernel_KvKernelIdeal
    ∧ algebraic_KvKernelIdeal_KvReferenceIdeal (hKvKernelIdeal := hKvKernelIdeal) (hKvReferenceIdeal := hKvReferenceIdeal)
-- ==== Kernel.lean ====
abbrev S2x8x256x8192 : Shape := ⟨4, ![2, 8, 256, 8192]⟩
abbrev S2x8x8192x256 : Shape := ⟨4, ![2, 8, 8192, 256]⟩
abbrev S2x8x160x8192 : Shape := ⟨4, ![2, 8, 160, 8192]⟩
abbrev S512x1024 : Shape := ⟨2, ![512, 1024]⟩
abbrev S_ : Shape := ⟨0, ![]⟩
abbrev S2x8x8192x128 : Shape := ⟨4, ![2, 8, 8192, 128]⟩
abbrev S1x1x256x2048 : Shape := ⟨4, ![1, 1, 256, 2048]⟩
abbrev S1x1x8192x256 : Shape := ⟨4, ![1, 1, 8192, 256]⟩
abbrev S1x1x160x8192 : Shape := ⟨4, ![1, 1, 160, 8192]⟩
abbrev S1x1x2048x128 : Shape := ⟨4, ![1, 1, 2048, 128]⟩
abbrev S256x4096 : Shape := ⟨2, ![256, 4096]⟩
abbrev S512x4096 : Shape := ⟨2, ![512, 4096]⟩
abbrev S1x4096 : Shape := ⟨2, ![1, 4096]⟩
abbrev S80x4096 : Shape := ⟨2, ![80, 4096]⟩
abbrev S256x1 : Shape := ⟨2, ![256, 1]⟩
abbrev S256x2048 : Shape := ⟨2, ![256, 2048]⟩
abbrev S256x512 : Shape := ⟨2, ![256, 512]⟩
abbrev S1x1x16x256 : Shape := ⟨4, ![1, 1, 16, 256]⟩
abbrev S16x256 : Shape := ⟨2, ![16, 256]⟩
abbrev S16x4096 : Shape := ⟨2, ![16, 4096]⟩
abbrev S1x1x512x256 : Shape := ⟨4, ![1, 1, 512, 256]⟩
abbrev S512x256 : Shape := ⟨2, ![512, 256]⟩
abbrev S4096 : Shape := ⟨1, ![4096]⟩
abbrev S1x1x160x512 : Shape := ⟨4, ![1, 1, 160, 512]⟩
abbrev S160x512 : Shape := ⟨2, ![160, 512]⟩
abbrev S80x512 : Shape := ⟨2, ![80, 512]⟩
abbrev S512x512 : Shape := ⟨2, ![512, 512]⟩
abbrev S512x3072 : Shape := ⟨2, ![512, 3072]⟩
abbrev S256x3072 : Shape := ⟨2, ![256, 3072]⟩
abbrev S512x2048 : Shape := ⟨2, ![512, 2048]⟩
abbrev S1x3072 : Shape := ⟨2, ![1, 3072]⟩
abbrev S3072 : Shape := ⟨1, ![3072]⟩
abbrev S1x2048 : Shape := ⟨2, ![1, 2048]⟩
abbrev S2048 : Shape := ⟨1, ![2048]⟩
abbrev S80x3072 : Shape := ⟨2, ![80, 3072]⟩
abbrev S256x1024 : Shape := ⟨2, ![256, 1024]⟩
abbrev S1x1024 : Shape := ⟨2, ![1, 1024]⟩
abbrev S1024 : Shape := ⟨1, ![1024]⟩
abbrev S80x2048 : Shape := ⟨2, ![80, 2048]⟩
abbrev S80x1024 : Shape := ⟨2, ![80, 1024]⟩
abbrev S1x1x4096 : Shape := ⟨3, ![1, 1, 4096]⟩
abbrev S1 : Shape := ⟨1, ![1]⟩
abbrev S1x1x1 : Shape := ⟨3, ![1, 1, 1]⟩
abbrev S64x4096 : Shape := ⟨2, ![64, 4096]⟩
abbrev S64x512 : Shape := ⟨2, ![64, 512]⟩
abbrev S128x512 : Shape := ⟨2, ![128, 512]⟩
abbrev S512x128 : Shape := ⟨2, ![512, 128]⟩
abbrev S1x1x512x128 : Shape := ⟨4, ![1, 1, 512, 128]⟩

abbrev nBuf : Space → Nat
  | .hbm => 71
  | .vmem => 19
  | .smem => 0
  | _ => 0

abbrev bufTy : (tb : Table) → Fin (tcTables nBuf tb) → BufTy
  | .hbm, ⟨0, _⟩ => ⟨S2x8x256x8192, .bf16⟩
  | .hbm, ⟨1, _⟩ => ⟨S2x8x8192x256, .bf16⟩
  | .hbm, ⟨2, _⟩ => ⟨S2x8x160x8192, .bf16⟩
  | .hbm, ⟨3, _⟩ => ⟨S512x1024, .i32⟩
  | .hbm, ⟨4, _⟩ => ⟨S_, .i32⟩
  | .hbm, ⟨5, _⟩ => ⟨S_, .i32⟩
  | .hbm, ⟨6, _⟩ => ⟨S512x1024, .i32⟩
  | .hbm, ⟨7, _⟩ => ⟨S512x1024, .i32⟩
  | .hbm, ⟨8, _⟩ => ⟨S512x1024, .i32⟩
  | .hbm, ⟨9, _⟩ => ⟨S_, .i32⟩
  | .hbm, ⟨10, _⟩ => ⟨S512x1024, .i32⟩
  | .hbm, ⟨11, _⟩ => ⟨S512x1024, .i1⟩
  | .hbm, ⟨12, _⟩ => ⟨S512x1024, .i32⟩
  | .hbm, ⟨13, _⟩ => ⟨S512x1024, .i32⟩
  | .hbm, ⟨14, _⟩ => ⟨S_, .i32⟩
  | .hbm, ⟨15, _⟩ => ⟨S512x1024, .i32⟩
  | .hbm, ⟨16, _⟩ => ⟨S512x1024, .i1⟩
  | .hbm, ⟨17, _⟩ => ⟨S512x1024, .i1⟩
  | .hbm, ⟨18, _⟩ => ⟨S_, .i32⟩
  | .hbm, ⟨19, _⟩ => ⟨S512x1024, .i32⟩
  | .hbm, ⟨20, _⟩ => ⟨S512x1024, .i32⟩
  | .hbm, ⟨21, _⟩ => ⟨S512x1024, .i32⟩
  | .hbm, ⟨22, _⟩ => ⟨S512x1024, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S512x1024, .i32⟩
  | .hbm, ⟨30, _⟩ => ⟨S512x1024, .i32⟩
  | .hbm, ⟨31, _⟩ => ⟨S_, .i32⟩
  | .hbm, ⟨32, _⟩ => ⟨S512x1024, .i32⟩
  | .hbm, ⟨33, _⟩ => ⟨S512x1024, .i1⟩
  | .hbm, ⟨34, _⟩ => ⟨S_, .i32⟩
  | .hbm, ⟨35, _⟩ => ⟨S512x1024, .i32⟩
  | .hbm, ⟨36, _⟩ => ⟨S512x1024, .i1⟩
  | .hbm, ⟨37, _⟩ => ⟨S_, .i32⟩
  | .hbm, ⟨38, _⟩ => ⟨S_, .i1⟩
  | .hbm, ⟨39, _⟩ => ⟨S512x1024, .i1⟩
  | .hbm, ⟨40, _⟩ => ⟨S512x1024, .i1⟩
  | .hbm, ⟨41, _⟩ => ⟨S512x1024, .i1⟩
  | .hbm, ⟨42, _⟩ => ⟨S512x1024, .i32⟩
  | .hbm, ⟨43, _⟩ => ⟨S512x1024, .i32⟩
  | .hbm, ⟨44, _⟩ => ⟨S512x1024, .i32⟩
  | .hbm, ⟨45, _⟩ => ⟨S_, .i32⟩
  | .hbm, ⟨46, _⟩ => ⟨S_, .i32⟩
  | .hbm, ⟨47, _⟩ => ⟨S512x1024, .i32⟩
  | .hbm, ⟨48, _⟩ => ⟨S512x1024, .i32⟩
  | .hbm, ⟨49, _⟩ => ⟨S512x1024, .i32⟩
  | .hbm, ⟨50, _⟩ => ⟨S_, .i32⟩
  | .hbm, ⟨51, _⟩ => ⟨S512x1024, .i32⟩
  | .hbm, ⟨52, _⟩ => ⟨S512x1024, .i1⟩
  | .hbm, ⟨53, _⟩ => ⟨S512x1024, .i32⟩
  | .hbm, ⟨54, _⟩ => ⟨S512x1024, .i32⟩
  | .hbm, ⟨55, _⟩ => ⟨S_, .i32⟩
  | .hbm, ⟨56, _⟩ => ⟨S512x1024, .i32⟩
  | .hbm, ⟨57, _⟩ => ⟨S512x1024, .i1⟩
  | .hbm, ⟨58, _⟩ => ⟨S512x1024, .i1⟩
  | .hbm, ⟨59, _⟩ => ⟨S_, .i32⟩
  | .hbm, ⟨60, _⟩ => ⟨S512x1024, .i32⟩
  | .hbm, ⟨61, _⟩ => ⟨S512x1024, .i32⟩
  | .hbm, ⟨62, _⟩ => ⟨S512x1024, .i32⟩
  | .hbm, ⟨63, _⟩ => ⟨S512x1024, .i1⟩
  | .hbm, ⟨64, _⟩ => ⟨S_, .f32⟩
  | .hbm, ⟨65, _⟩ => ⟨S_, .f32⟩
  | .hbm, ⟨66, _⟩ => ⟨S512x1024, .f32⟩
  | .hbm, ⟨67, _⟩ => ⟨S512x1024, .f32⟩
  | .hbm, ⟨68, _⟩ => ⟨S512x1024, .f32⟩
  | .hbm, ⟨69, _⟩ => ⟨S512x1024, .f32⟩
  | .hbm, ⟨70, _⟩ => ⟨S2x8x8192x128, .bf16⟩
  | .local _ .vmem, ⟨0, _⟩ => ⟨S1x1x256x2048, .bf16⟩
  | .local _ .vmem, ⟨1, _⟩ => ⟨S1x1x256x2048, .bf16⟩
  | .local _ .vmem, ⟨2, _⟩ => ⟨S1x1x8192x256, .bf16⟩
  | .local _ .vmem, ⟨3, _⟩ => ⟨S1x1x8192x256, .bf16⟩
  | .local _ .vmem, ⟨4, _⟩ => ⟨S1x1x160x8192, .bf16⟩
  | .local _ .vmem, ⟨5, _⟩ => ⟨S1x1x160x8192, .bf16⟩
  | .local _ .vmem, ⟨6, _⟩ => ⟨S512x1024, .f32⟩
  | .local _ .vmem, ⟨7, _⟩ => ⟨S1x1x2048x128, .bf16⟩
  | .local _ .vmem, ⟨8, _⟩ => ⟨S1x1x2048x128, .bf16⟩
  | .local _ .vmem, ⟨9, _⟩ => ⟨S256x4096, .bf16⟩
  | .local _ .vmem, ⟨10, _⟩ => ⟨S512x4096, .f32⟩
  | .local _ .vmem, ⟨11, _⟩ => ⟨S1x4096, .f32⟩
  | .local _ .vmem, ⟨12, _⟩ => ⟨S512x4096, .bf16⟩
  | .local _ .vmem, ⟨13, _⟩ => ⟨S512x4096, .bf16⟩
  | .local _ .vmem, ⟨14, _⟩ => ⟨S1x4096, .f32⟩
  | .local _ .vmem, ⟨15, _⟩ => ⟨S1x4096, .f32⟩
  | .local _ .vmem, ⟨16, _⟩ => ⟨S1x4096, .f32⟩
  | .local _ .vmem, ⟨17, _⟩ => ⟨S1x4096, .f32⟩
  | .local _ .vmem, ⟨18, _⟩ => ⟨S80x4096, .f32⟩
  | _, _ => ⟨S2x8x256x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_call1_v0 : Ref sig .tc := ⟨.hbm, 24, rfl⟩
abbrev main_call1_c : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_c_1 : Ref sig .tc := ⟨.hbm, 31, rfl⟩
abbrev main_call1_v5 : Ref sig .tc := ⟨.hbm, 32, rfl⟩
abbrev main_call1_v6 : Ref sig .tc := ⟨.hbm, 33, rfl⟩
abbrev main_call1_c_2 : Ref sig .tc := ⟨.hbm, 34, rfl⟩
abbrev main_call1_v7 : Ref sig .tc := ⟨.hbm, 35, rfl⟩
abbrev main_call1_v8 : Ref sig .tc := ⟨.hbm, 36, rfl⟩
abbrev main_call1_c_3 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_v3 : Ref sig .tc := ⟨.hbm, 44, rfl⟩
abbrev main_c_1 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_v5 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_c : Ref sig .tc := ⟨.hbm, 55, rfl⟩
abbrev main_call2_v9 : Ref sig .tc := ⟨.hbm, 56, rfl⟩
abbrev main_call2_v10 : Ref sig .tc := ⟨.hbm, 57, rfl⟩
abbrev main_call2_v11 : Ref sig .tc := ⟨.hbm, 58, rfl⟩
abbrev main_call2_c_0 : Ref sig .tc := ⟨.hbm, 59, rfl⟩
abbrev main_call2_v12 : Ref sig .tc := ⟨.hbm, 60, rfl⟩
abbrev main_call2_v13 : Ref sig .tc := ⟨.hbm, 61, rfl⟩
abbrev main_v4 : Ref sig .tc := ⟨.hbm, 62, rfl⟩
abbrev main_v5 : Ref sig .tc := ⟨.hbm, 63, rfl⟩
abbrev main_cst : Ref sig .tc := ⟨.hbm, 64, rfl⟩
abbrev main_cst_2 : Ref sig .tc := ⟨.hbm, 65, rfl⟩
abbrev main_call3_v0 : Ref sig .tc := ⟨.hbm, 66, rfl⟩
abbrev main_call3_v1 : Ref sig .tc := ⟨.hbm, 67, rfl⟩
abbrev main_v6 : Ref sig .tc := ⟨.hbm, 68, rfl⟩
abbrev main_v7 : Ref sig .tc := ⟨.hbm, 69, rfl⟩
abbrev main_v8 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 8, 4], ![false, false, false]⟩

@[reducible] def k0_t1_loop (i : grid0.Coords) : Scf.Loop 32 :=
  let c0_i32_47 : BitVec 32 := 0#32
  let arg2 : BitVec 32 := BitVec.ofNat 32 (i 2).val
  let c4_i32 : BitVec 32 := 4#32
  let v75 : BitVec 32 := Scalar.muli arg2 c4_i32
  let c0_i32 : BitVec 32 := 0#32
  let v101 : BitVec 1 := Scalar.cmpi .sgt v75 c0_i32
  let v102 : BitVec 32 := Scalar.extui v101
  let c0_i32_42 : BitVec 32 := 0#32
  let v103 : BitVec 1 := Scalar.cmpi .slt v75 c0_i32_42
  let v104 : BitVec 32 := Scalar.extui v103
  let v105 : BitVec 32 := Scalar.subi v102 v104
  let c4_i32_41 : BitVec 32 := 4#32
  let c0_i32_43 : BitVec 32 := 0#32
  let v106 : BitVec 1 := Scalar.cmpi .sgt c4_i32_41 c0_i32_43
  let v107 : BitVec 32 := Scalar.extui v106
  let c0_i32_44 : BitVec 32 := 0#32
  let v108 : BitVec 1 := Scalar.cmpi .slt c4_i32_41 c0_i32_44
  let v109 : BitVec 32 := Scalar.extui v108
  let v110 : BitVec 32 := Scalar.subi v107 v109
  let v111 : BitVec 1 := Scalar.cmpi .ne v105 v110
  let v112 : BitVec 32 := Scalar.remsi v75 c4_i32_41
  let c0_i32_45 : BitVec 32 := 0#32
  let v113 : BitVec 1 := Scalar.cmpi .ne v112 c0_i32_45
  let v114 : BitVec 1 := Scalar.andi v111 v113
  let v100 : BitVec 32 := Scalar.divsi v75 c4_i32_41
  let c1_i32 : BitVec 32 := 1#32
  let v115 : BitVec 32 := Scalar.subi v100 c1_i32
  let v116 : BitVec 32 := Scalar.select v114 v115 v100
  let v117 : BitVec 32 := Scalar.subi v116 c0_i32_47
  let c1_i32_48 : BitVec 32 := 1#32
  let v119 : BitVec 32 := Scalar.divsi v117 c1_i32_48
  let v120 : BitVec 32 := Scalar.muli v119 c1_i32_48
  let v121 : BitVec 32 := Scalar.addi c0_i32_47 v120
  let c1_i32_49 : BitVec 32 := 1#32
  ⟨c0_i32_47, v121, c1_i32_49⟩
def k0_mult1 (i : grid0.Coords) (k0_t1 : Fin (k0_t1_loop i).trips) : BitVec 32 :=
  let c4_i32_313 : BitVec 32 := 4#32
  let c0_i32_47 : BitVec 32 := 0#32
  let c1_i32_49 : BitVec 32 := 1#32
  let arg18 : BitVec 32 := Scf.iv c0_i32_47 c1_i32_49 k0_t1
  let v488 : BitVec 32 := Scalar.muli c4_i32_313 arg18
  let c0_i32_314 : BitVec 32 := 0#32
  let v489 : BitVec 32 := Scalar.addi v488 c0_i32_314
  let c512_i32_315 : BitVec 32 := 512#32
  let v490 : BitVec 32 := Scalar.muli v489 c512_i32_315
  v490
def k0_off1 (i : grid0.Coords) (k0_t1 : Fin (k0_t1_loop i).trips) (c0_i32_314 : BitVec 32) : Fin 4 → Nat :=
  let c0_316 : Index := 0#32
  let c0_317 : Index := 0#32
  let c4_i32_313 : BitVec 32 := 4#32
  let c0_i32_47 : BitVec 32 := 0#32
  let c1_i32_49 : BitVec 32 := 1#32
  let arg18 : BitVec 32 := Scf.iv c0_i32_47 c1_i32_49 k0_t1
  let v488 : BitVec 32 := Scalar.muli c4_i32_313 arg18
  let v489 : BitVec 32 := Scalar.addi v488 c0_i32_314
  let c512_i32_315 : BitVec 32 := 512#32
  let v490 : BitVec 32 := Scalar.muli v489 c512_i32_315
  let v491 : BitVec 32 := v490
  let v492 : Index := Scalar.indexCast v491
  let c0_318 : Index := 0#32
  ![0, 0, v492.toNat, 0]
def k0_mult2 (i : grid0.Coords) (k0_t1 : Fin (k0_t1_loop i).trips) : BitVec 32 :=
  let c4_i32_335 : BitVec 32 := 4#32
  let c0_i32_47 : BitVec 32 := 0#32
  let c1_i32_49 : BitVec 32 := 1#32
  let arg18 : BitVec 32 := Scf.iv c0_i32_47 c1_i32_49 k0_t1
  let v522 : BitVec 32 := Scalar.muli c4_i32_335 arg18
  let c0_i32_336 : BitVec 32 := 0#32
  let v523 : BitVec 32 := Scalar.addi v522 c0_i32_336
  let c1_i32_337 : BitVec 32 := 1#32
  let v524 : BitVec 32 := Scalar.subi v523 c1_i32_337
  let c0_i32_338 : BitVec 32 := 0#32
  let v525 : BitVec 32 := Scalar.maxsi v524 c0_i32_338
  let c512_i32_339 : BitVec 32 := 512#32
  let v526 : BitVec 32 := Scalar.muli v525 c512_i32_339
  v526
def k0_off2 (i : grid0.Coords) (k0_t1 : Fin (k0_t1_loop i).trips) (c0_i32_336 : BitVec 32) : Fin 4 → Nat :=
  let c0_340 : Index := 0#32
  let c0_341 : Index := 0#32
  let c0_342 : Index := 0#32
  let c4_i32_335 : BitVec 32 := 4#32
  let c0_i32_47 : BitVec 32 := 0#32
  let c1_i32_49 : BitVec 32 := 1#32
  let arg18 : BitVec 32 := Scf.iv c0_i32_47 c1_i32_49 k0_t1
  let v522 : BitVec 32 := Scalar.muli c4_i32_335 arg18
  let v523 : BitVec 32 := Scalar.addi v522 c0_i32_336
  let c1_i32_337 : BitVec 32 := 1#32
  let v524 : BitVec 32 := Scalar.subi v523 c1_i32_337
  let c0_i32_338 : BitVec 32 := 0#32
  let v525 : BitVec 32 := Scalar.maxsi v524 c0_i32_338
  let c512_i32_339 : BitVec 32 := 512#32
  let v526 : BitVec 32 := Scalar.muli v525 c512_i32_339
  let v527 : BitVec 32 := v526
  let v528 : Index := Scalar.indexCast v527
  ![0, 0, 0, v528.toNat]
def k0_mult3 (i : grid0.Coords) (k0_t1 : Fin (k0_t1_loop i).trips) : BitVec 32 :=
  let c4_i32_373 : BitVec 32 := 4#32
  let c0_i32_47 : BitVec 32 := 0#32
  let c1_i32_49 : BitVec 32 := 1#32
  let arg18 : BitVec 32 := Scf.iv c0_i32_47 c1_i32_49 k0_t1
  let v564 : BitVec 32 := Scalar.muli c4_i32_373 arg18
  let c1_i32_374 : BitVec 32 := 1#32
  let v565 : BitVec 32 := Scalar.addi v564 c1_i32_374
  let c512_i32_375 : BitVec 32 := 512#32
  let v566 : BitVec 32 := Scalar.muli v565 c512_i32_375
  v566
def k0_mult4 (i : grid0.Coords) (k0_t1 : Fin (k0_t1_loop i).trips) : BitVec 32 :=
  let c4_i32_395 : BitVec 32 := 4#32
  let c0_i32_47 : BitVec 32 := 0#32
  let c1_i32_49 : BitVec 32 := 1#32
  let arg18 : BitVec 32 := Scf.iv c0_i32_47 c1_i32_49 k0_t1
  let v598 : BitVec 32 := Scalar.muli c4_i32_395 arg18
  let c1_i32_396 : BitVec 32 := 1#32
  let v599 : BitVec 32 := Scalar.addi v598 c1_i32_396
  let c1_i32_397 : BitVec 32 := 1#32
  let v600 : BitVec 32 := Scalar.subi v599 c1_i32_397
  let c0_i32_398 : BitVec 32 := 0#32
  let v601 : BitVec 32 := Scalar.maxsi v600 c0_i32_398
  let c512_i32_399 : BitVec 32 := 512#32
  let v602 : BitVec 32 := Scalar.muli v601 c512_i32_399
  v602
def k0_mult5 (i : grid0.Coords) (k0_t1 : Fin (k0_t1_loop i).trips) : BitVec 32 :=
  let c4_i32_433 : BitVec 32 := 4#32
  let c0_i32_47 : BitVec 32 := 0#32
  let c1_i32_49 : BitVec 32 := 1#32
  let arg18 : BitVec 32 := Scf.iv c0_i32_47 c1_i32_49 k0_t1
  let v640 : BitVec 32 := Scalar.muli c4_i32_433 arg18
  let c2_i32_434 : BitVec 32 := 2#32
  let v641 : BitVec 32 := Scalar.addi v640 c2_i32_434
  let c512_i32_435 : BitVec 32 := 512#32
  let v642 : BitVec 32 := Scalar.muli v641 c512_i32_435
  v642
def k0_mult6 (i : grid0.Coords) (k0_t1 : Fin (k0_t1_loop i).trips) : BitVec 32 :=
  let c4_i32_455 : BitVec 32 := 4#32
  let c0_i32_47 : BitVec 32 := 0#32
  let c1_i32_49 : BitVec 32 := 1#32
  let arg18 : BitVec 32 := Scf.iv c0_i32_47 c1_i32_49 k0_t1
  let v674 : BitVec 32 := Scalar.muli c4_i32_455 arg18
  let c2_i32_456 : BitVec 32 := 2#32
  let v675 : BitVec 32 := Scalar.addi v674 c2_i32_456
  let c1_i32_457 : BitVec 32 := 1#32
  let v676 : BitVec 32 := Scalar.subi v675 c1_i32_457
  let c0_i32_458 : BitVec 32 := 0#32
  let v677 : BitVec 32 := Scalar.maxsi v676 c0_i32_458
  let c512_i32_459 : BitVec 32 := 512#32
  let v678 : BitVec 32 := Scalar.muli v677 c512_i32_459
  v678
def k0_mult7 (i : grid0.Coords) (k0_t1 : Fin (k0_t1_loop i).trips) : BitVec 32 :=
  let c4_i32_493 : BitVec 32 := 4#32
  let c0_i32_47 : BitVec 32 := 0#32
  let c1_i32_49 : BitVec 32 := 1#32
  let arg18 : BitVec 32 := Scf.iv c0_i32_47 c1_i32_49 k0_t1
  let v716 : BitVec 32 := Scalar.muli c4_i32_493 arg18
  let c3_i32_494 : BitVec 32 := 3#32
  let v717 : BitVec 32 := Scalar.addi v716 c3_i32_494
  let c512_i32_495 : BitVec 32 := 512#32
  let v718 : BitVec 32 := Scalar.muli v717 c512_i32_495
  v718
def k0_mult8 (i : grid0.Coords) (k0_t1 : Fin (k0_t1_loop i).trips) : BitVec 32 :=
  let c4_i32_515 : BitVec 32 := 4#32
  let c0_i32_47 : BitVec 32 := 0#32
  let c1_i32_49 : BitVec 32 := 1#32
  let arg18 : BitVec 32 := Scf.iv c0_i32_47 c1_i32_49 k0_t1
  let v750 : BitVec 32 := Scalar.muli c4_i32_515 arg18
  let c3_i32_516 : BitVec 32 := 3#32
  let v751 : BitVec 32 := Scalar.addi v750 c3_i32_516
  let c1_i32_517 : BitVec 32 := 1#32
  let v752 : BitVec 32 := Scalar.subi v751 c1_i32_517
  let c0_i32_518 : BitVec 32 := 0#32
  let v753 : BitVec 32 := Scalar.maxsi v752 c0_i32_518
  let c512_i32_519 : BitVec 32 := 512#32
  let v754 : BitVec 32 := Scalar.muli v753 c512_i32_519
  v754
@[reducible] def k0_t2_loop (i : grid0.Coords) : Scf.Loop 32 :=
  let c0_i32_47 : BitVec 32 := 0#32
  let arg2 : BitVec 32 := BitVec.ofNat 32 (i 2).val
  let c4_i32 : BitVec 32 := 4#32
  let v75 : BitVec 32 := Scalar.muli arg2 c4_i32
  let c0_i32 : BitVec 32 := 0#32
  let v101 : BitVec 1 := Scalar.cmpi .sgt v75 c0_i32
  let v102 : BitVec 32 := Scalar.extui v101
  let c0_i32_42 : BitVec 32 := 0#32
  let v103 : BitVec 1 := Scalar.cmpi .slt v75 c0_i32_42
  let v104 : BitVec 32 := Scalar.extui v103
  let v105 : BitVec 32 := Scalar.subi v102 v104
  let c4_i32_41 : BitVec 32 := 4#32
  let c0_i32_43 : BitVec 32 := 0#32
  let v106 : BitVec 1 := Scalar.cmpi .sgt c4_i32_41 c0_i32_43
  let v107 : BitVec 32 := Scalar.extui v106
  let c0_i32_44 : BitVec 32 := 0#32
  let v108 : BitVec 1 := Scalar.cmpi .slt c4_i32_41 c0_i32_44
  let v109 : BitVec 32 := Scalar.extui v108
  let v110 : BitVec 32 := Scalar.subi v107 v109
  let v111 : BitVec 1 := Scalar.cmpi .ne v105 v110
  let v112 : BitVec 32 := Scalar.remsi v75 c4_i32_41
  let c0_i32_45 : BitVec 32 := 0#32
  let v113 : BitVec 1 := Scalar.cmpi .ne v112 c0_i32_45
  let v114 : BitVec 1 := Scalar.andi v111 v113
  let v100 : BitVec 32 := Scalar.divsi v75 c4_i32_41
  let c1_i32 : BitVec 32 := 1#32
  let v115 : BitVec 32 := Scalar.subi v100 c1_i32
  let v116 : BitVec 32 := Scalar.select v114 v115 v100
  let v117 : BitVec 32 := Scalar.subi v116 c0_i32_47
  let c1_i32_48 : BitVec 32 := 1#32
  let v119 : BitVec 32 := Scalar.divsi v117 c1_i32_48
  let v120 : BitVec 32 := Scalar.muli v119 c1_i32_48
  let v121 : BitVec 32 := Scalar.addi c0_i32_47 v120
  let v118 : BitVec 32 := Scalar.addi c0_i32_47 v117
  let c1_i32_50 : BitVec 32 := 1#32
  ⟨v121, v118, c1_i32_50⟩
def k0_mult9 (i : grid0.Coords) (k0_t2 : Fin (k0_t2_loop i).trips) : BitVec 32 :=
  let c4_i32_313 : BitVec 32 := 4#32
  let c0_i32_47 : BitVec 32 := 0#32
  let arg2 : BitVec 32 := BitVec.ofNat 32 (i 2).val
  let c4_i32 : BitVec 32 := 4#32
  let v75 : BitVec 32 := Scalar.muli arg2 c4_i32
  let c0_i32 : BitVec 32 := 0#32
  let v101 : BitVec 1 := Scalar.cmpi .sgt v75 c0_i32
  let v102 : BitVec 32 := Scalar.extui v101
  let c0_i32_42 : BitVec 32 := 0#32
  let v103 : BitVec 1 := Scalar.cmpi .slt v75 c0_i32_42
  let v104 : BitVec 32 := Scalar.extui v103
  let v105 : BitVec 32 := Scalar.subi v102 v104
  let c4_i32_41 : BitVec 32 := 4#32
  let c0_i32_43 : BitVec 32 := 0#32
  let v106 : BitVec 1 := Scalar.cmpi .sgt c4_i32_41 c0_i32_43
  let v107 : BitVec 32 := Scalar.extui v106
  let c0_i32_44 : BitVec 32 := 0#32
  let v108 : BitVec 1 := Scalar.cmpi .slt c4_i32_41 c0_i32_44
  let v109 : BitVec 32 := Scalar.extui v108
  let v110 : BitVec 32 := Scalar.subi v107 v109
  let v111 : BitVec 1 := Scalar.cmpi .ne v105 v110
  let v112 : BitVec 32 := Scalar.remsi v75 c4_i32_41
  let c0_i32_45 : BitVec 32 := 0#32
  let v113 : BitVec 1 := Scalar.cmpi .ne v112 c0_i32_45
  let v114 : BitVec 1 := Scalar.andi v111 v113
  let v100 : BitVec 32 := Scalar.divsi v75 c4_i32_41
  let c1_i32 : BitVec 32 := 1#32
  let v115 : BitVec 32 := Scalar.subi v100 c1_i32
  let v116 : BitVec 32 := Scalar.select v114 v115 v100
  let v117 : BitVec 32 := Scalar.subi v116 c0_i32_47
  let c1_i32_48 : BitVec 32 := 1#32
  let v119 : BitVec 32 := Scalar.divsi v117 c1_i32_48
  let v120 : BitVec 32 := Scalar.muli v119 c1_i32_48
  let v121 : BitVec 32 := Scalar.addi c0_i32_47 v120
  let c1_i32_50 : BitVec 32 := 1#32
  let arg18 : BitVec 32 := Scf.iv v121 c1_i32_50 k0_t2
  let v488 : BitVec 32 := Scalar.muli c4_i32_313 arg18
  let c0_i32_314 : BitVec 32 := 0#32
  let v489 : BitVec 32 := Scalar.addi v488 c0_i32_314
  let c512_i32_315 : BitVec 32 := 512#32
  let v490 : BitVec 32 := Scalar.muli v489 c512_i32_315
  v490
def k0_off3 (i : grid0.Coords) (k0_t2 : Fin (k0_t2_loop i).trips) (c0_i32_314 : BitVec 32) : Fin 4 → Nat :=
  let c0_316 : Index := 0#32
  let c0_317 : Index := 0#32
  let c4_i32_313 : BitVec 32 := 4#32
  let c0_i32_47 : BitVec 32 := 0#32
  let arg2 : BitVec 32 := BitVec.ofNat 32 (i 2).val
  let c4_i32 : BitVec 32 := 4#32
  let v75 : BitVec 32 := Scalar.muli arg2 c4_i32
  let c0_i32 : BitVec 32 := 0#32
  let v101 : BitVec 1 := Scalar.cmpi .sgt v75 c0_i32
  let v102 : BitVec 32 := Scalar.extui v101
  let c0_i32_42 : BitVec 32 := 0#32
  let v103 : BitVec 1 := Scalar.cmpi .slt v75 c0_i32_42
  let v104 : BitVec 32 := Scalar.extui v103
  let v105 : BitVec 32 := Scalar.subi v102 v104
  let c4_i32_41 : BitVec 32 := 4#32
  let c0_i32_43 : BitVec 32 := 0#32
  let v106 : BitVec 1 := Scalar.cmpi .sgt c4_i32_41 c0_i32_43
  let v107 : BitVec 32 := Scalar.extui v106
  let c0_i32_44 : BitVec 32 := 0#32
  let v108 : BitVec 1 := Scalar.cmpi .slt c4_i32_41 c0_i32_44
  let v109 : BitVec 32 := Scalar.extui v108
  let v110 : BitVec 32 := Scalar.subi v107 v109
  let v111 : BitVec 1 := Scalar.cmpi .ne v105 v110
  let v112 : BitVec 32 := Scalar.remsi v75 c4_i32_41
  let c0_i32_45 : BitVec 32 := 0#32
  let v113 : BitVec 1 := Scalar.cmpi .ne v112 c0_i32_45
  let v114 : BitVec 1 := Scalar.andi v111 v113
  let v100 : BitVec 32 := Scalar.divsi v75 c4_i32_41
  let c1_i32 : BitVec 32 := 1#32
  let v115 : BitVec 32 := Scalar.subi v100 c1_i32
  let v116 : BitVec 32 := Scalar.select v114 v115 v100
  let v117 : BitVec 32 := Scalar.subi v116 c0_i32_47
  let c1_i32_48 : BitVec 32 := 1#32
  let v119 : BitVec 32 := Scalar.divsi v117 c1_i32_48
  let v120 : BitVec 32 := Scalar.muli v119 c1_i32_48
  let v121 : BitVec 32 := Scalar.addi c0_i32_47 v120
  let c1_i32_50 : BitVec 32 := 1#32
  let arg18 : BitVec 32 := Scf.iv v121 c1_i32_50 k0_t2
  let v488 : BitVec 32 := Scalar.muli c4_i32_313 arg18
  let v489 : BitVec 32 := Scalar.addi v488 c0_i32_314
  let c512_i32_315 : BitVec 32 := 512#32
  let v490 : BitVec 32 := Scalar.muli v489 c512_i32_315
  let v491 : BitVec 32 := v490
  let v492 : Index := Scalar.indexCast v491
  let c0_318 : Index := 0#32
  ![0, 0, v492.toNat, 0]
def k0_mult10 (i : grid0.Coords) (k0_t2 : Fin (k0_t2_loop i).trips) : BitVec 32 :=
  let c4_i32_335 : BitVec 32 := 4#32
  let c0_i32_47 : BitVec 32 := 0#32
  let arg2 : BitVec 32 := BitVec.ofNat 32 (i 2).val
  let c4_i32 : BitVec 32 := 4#32
  let v75 : BitVec 32 := Scalar.muli arg2 c4_i32
  let c0_i32 : BitVec 32 := 0#32
  let v101 : BitVec 1 := Scalar.cmpi .sgt v75 c0_i32
  let v102 : BitVec 32 := Scalar.extui v101
  let c0_i32_42 : BitVec 32 := 0#32
  let v103 : BitVec 1 := Scalar.cmpi .slt v75 c0_i32_42
  let v104 : BitVec 32 := Scalar.extui v103
  let v105 : BitVec 32 := Scalar.subi v102 v104
  let c4_i32_41 : BitVec 32 := 4#32
  let c0_i32_43 : BitVec 32 := 0#32
  let v106 : BitVec 1 := Scalar.cmpi .sgt c4_i32_41 c0_i32_43
  let v107 : BitVec 32 := Scalar.extui v106
  let c0_i32_44 : BitVec 32 := 0#32
  let v108 : BitVec 1 := Scalar.cmpi .slt c4_i32_41 c0_i32_44
  let v109 : BitVec 32 := Scalar.extui v108
  let v110 : BitVec 32 := Scalar.subi v107 v109
  let v111 : BitVec 1 := Scalar.cmpi .ne v105 v110
  let v112 : BitVec 32 := Scalar.remsi v75 c4_i32_41
  let c0_i32_45 : BitVec 32 := 0#32
  let v113 : BitVec 1 := Scalar.cmpi .ne v112 c0_i32_45
  let v114 : BitVec 1 := Scalar.andi v111 v113
  let v100 : BitVec 32 := Scalar.divsi v75 c4_i32_41
  let c1_i32 : BitVec 32 := 1#32
  let v115 : BitVec 32 := Scalar.subi v100 c1_i32
  let v116 : BitVec 32 := Scalar.select v114 v115 v100
  let v117 : BitVec 32 := Scalar.subi v116 c0_i32_47
  let c1_i32_48 : BitVec 32 := 1#32
  let v119 : BitVec 32 := Scalar.divsi v117 c1_i32_48
  let v120 : BitVec 32 := Scalar.muli v119 c1_i32_48
  let v121 : BitVec 32 := Scalar.addi c0_i32_47 v120
  let c1_i32_50 : BitVec 32 := 1#32
  let arg18 : BitVec 32 := Scf.iv v121 c1_i32_50 k0_t2
  let v522 : BitVec 32 := Scalar.muli c4_i32_335 arg18
  let c0_i32_336 : BitVec 32 := 0#32
  let v523 : BitVec 32 := Scalar.addi v522 c0_i32_336
  let c1_i32_337 : BitVec 32 := 1#32
  let v524 : BitVec 32 := Scalar.subi v523 c1_i32_337
  let c0_i32_338 : BitVec 32 := 0#32
  let v525 : BitVec 32 := Scalar.maxsi v524 c0_i32_338
  let c512_i32_339 : BitVec 32 := 512#32
  let v526 : BitVec 32 := Scalar.muli v525 c512_i32_339
  v526
def k0_off4 (i : grid0.Coords) (k0_t2 : Fin (k0_t2_loop i).trips) (c0_i32_336 : BitVec 32) : Fin 4 → Nat :=
  let c0_340 : Index := 0#32
  let c0_341 : Index := 0#32
  let c0_342 : Index := 0#32
  let c4_i32_335 : BitVec 32 := 4#32
  let c0_i32_47 : BitVec 32 := 0#32
  let arg2 : BitVec 32 := BitVec.ofNat 32 (i 2).val
  let c4_i32 : BitVec 32 := 4#32
  let v75 : BitVec 32 := Scalar.muli arg2 c4_i32
  let c0_i32 : BitVec 32 := 0#32
  let v101 : BitVec 1 := Scalar.cmpi .sgt v75 c0_i32
  let v102 : BitVec 32 := Scalar.extui v101
  let c0_i32_42 : BitVec 32 := 0#32
  let v103 : BitVec 1 := Scalar.cmpi .slt v75 c0_i32_42
  let v104 : BitVec 32 := Scalar.extui v103
  let v105 : BitVec 32 := Scalar.subi v102 v104
  let c4_i32_41 : BitVec 32 := 4#32
  let c0_i32_43 : BitVec 32 := 0#32
  let v106 : BitVec 1 := Scalar.cmpi .sgt c4_i32_41 c0_i32_43
  let v107 : BitVec 32 := Scalar.extui v106
  let c0_i32_44 : BitVec 32 := 0#32
  let v108 : BitVec 1 := Scalar.cmpi .slt c4_i32_41 c0_i32_44
  let v109 : BitVec 32 := Scalar.extui v108
  let v110 : BitVec 32 := Scalar.subi v107 v109
  let v111 : BitVec 1 := Scalar.cmpi .ne v105 v110
  let v112 : BitVec 32 := Scalar.remsi v75 c4_i32_41
  let c0_i32_45 : BitVec 32 := 0#32
  let v113 : BitVec 1 := Scalar.cmpi .ne v112 c0_i32_45
  let v114 : BitVec 1 := Scalar.andi v111 v113
  let v100 : BitVec 32 := Scalar.divsi v75 c4_i32_41
  let c1_i32 : BitVec 32 := 1#32
  let v115 : BitVec 32 := Scalar.subi v100 c1_i32
  let v116 : BitVec 32 := Scalar.select v114 v115 v100
  let v117 : BitVec 32 := Scalar.subi v116 c0_i32_47
  let c1_i32_48 : BitVec 32 := 1#32
  let v119 : BitVec 32 := Scalar.divsi v117 c1_i32_48
  let v120 : BitVec 32 := Scalar.muli v119 c1_i32_48
  let v121 : BitVec 32 := Scalar.addi c0_i32_47 v120
  let c1_i32_50 : BitVec 32 := 1#32
  let arg18 : BitVec 32 := Scf.iv v121 c1_i32_50 k0_t2
  let v522 : BitVec 32 := Scalar.muli c4_i32_335 arg18
  let v523 : BitVec 32 := Scalar.addi v522 c0_i32_336
  let c1_i32_337 : BitVec 32 := 1#32
  let v524 : BitVec 32 := Scalar.subi v523 c1_i32_337
  let c0_i32_338 : BitVec 32 := 0#32
  let v525 : BitVec 32 := Scalar.maxsi v524 c0_i32_338
  let c512_i32_339 : BitVec 32 := 512#32
  let v526 : BitVec 32 := Scalar.muli v525 c512_i32_339
  let v527 : BitVec 32 := v526
  let v528 : Index := Scalar.indexCast v527
  ![0, 0, 0, v528.toNat]
def k0_mult11 (i : grid0.Coords) (k0_t2 : Fin (k0_t2_loop i).trips) : BitVec 32 :=
  let c4_i32_373 : BitVec 32 := 4#32
  let c0_i32_47 : BitVec 32 := 0#32
  let arg2 : BitVec 32 := BitVec.ofNat 32 (i 2).val
  let c4_i32 : BitVec 32 := 4#32
  let v75 : BitVec 32 := Scalar.muli arg2 c4_i32
  let c0_i32 : BitVec 32 := 0#32
  let v101 : BitVec 1 := Scalar.cmpi .sgt v75 c0_i32
  let v102 : BitVec 32 := Scalar.extui v101
  let c0_i32_42 : BitVec 32 := 0#32
  let v103 : BitVec 1 := Scalar.cmpi .slt v75 c0_i32_42
  let v104 : BitVec 32 := Scalar.extui v103
  let v105 : BitVec 32 := Scalar.subi v102 v104
  let c4_i32_41 : BitVec 32 := 4#32
  let c0_i32_43 : BitVec 32 := 0#32
  let v106 : BitVec 1 := Scalar.cmpi .sgt c4_i32_41 c0_i32_43
  let v107 : BitVec 32 := Scalar.extui v106
  let c0_i32_44 : BitVec 32 := 0#32
  let v108 : BitVec 1 := Scalar.cmpi .slt c4_i32_41 c0_i32_44
  let v109 : BitVec 32 := Scalar.extui v108
  let v110 : BitVec 32 := Scalar.subi v107 v109
  let v111 : BitVec 1 := Scalar.cmpi .ne v105 v110
  let v112 : BitVec 32 := Scalar.remsi v75 c4_i32_41
  let c0_i32_45 : BitVec 32 := 0#32
  let v113 : BitVec 1 := Scalar.cmpi .ne v112 c0_i32_45
  let v114 : BitVec 1 := Scalar.andi v111 v113
  let v100 : BitVec 32 := Scalar.divsi v75 c4_i32_41
  let c1_i32 : BitVec 32 := 1#32
  let v115 : BitVec 32 := Scalar.subi v100 c1_i32
  let v116 : BitVec 32 := Scalar.select v114 v115 v100
  let v117 : BitVec 32 := Scalar.subi v116 c0_i32_47
  let c1_i32_48 : BitVec 32 := 1#32
  let v119 : BitVec 32 := Scalar.divsi v117 c1_i32_48
  let v120 : BitVec 32 := Scalar.muli v119 c1_i32_48
  let v121 : BitVec 32 := Scalar.addi c0_i32_47 v120
  let c1_i32_50 : BitVec 32 := 1#32
  let arg18 : BitVec 32 := Scf.iv v121 c1_i32_50 k0_t2
  let v564 : BitVec 32 := Scalar.muli c4_i32_373 arg18
  let c1_i32_374 : BitVec 32 := 1#32
  let v565 : BitVec 32 := Scalar.addi v564 c1_i32_374
  let c512_i32_375 : BitVec 32 := 512#32
  let v566 : BitVec 32 := Scalar.muli v565 c512_i32_375
  v566
def k0_mult12 (i : grid0.Coords) (k0_t2 : Fin (k0_t2_loop i).trips) : BitVec 32 :=
  let c4_i32_395 : BitVec 32 := 4#32
  let c0_i32_47 : BitVec 32 := 0#32
  let arg2 : BitVec 32 := BitVec.ofNat 32 (i 2).val
  let c4_i32 : BitVec 32 := 4#32
  let v75 : BitVec 32 := Scalar.muli arg2 c4_i32
  let c0_i32 : BitVec 32 := 0#32
  let v101 : BitVec 1 := Scalar.cmpi .sgt v75 c0_i32
  let v102 : BitVec 32 := Scalar.extui v101
  let c0_i32_42 : BitVec 32 := 0#32
  let v103 : BitVec 1 := Scalar.cmpi .slt v75 c0_i32_42
  let v104 : BitVec 32 := Scalar.extui v103
  let v105 : BitVec 32 := Scalar.subi v102 v104
  let c4_i32_41 : BitVec 32 := 4#32
  let c0_i32_43 : BitVec 32 := 0#32
  let v106 : BitVec 1 := Scalar.cmpi .sgt c4_i32_41 c0_i32_43
  let v107 : BitVec 32 := Scalar.extui v106
  let c0_i32_44 : BitVec 32 := 0#32
  let v108 : BitVec 1 := Scalar.cmpi .slt c4_i32_41 c0_i32_44
  let v109 : BitVec 32 := Scalar.extui v108
  let v110 : BitVec 32 := Scalar.subi v107 v109
  let v111 : BitVec 1 := Scalar.cmpi .ne v105 v110
  let v112 : BitVec 32 := Scalar.remsi v75 c4_i32_41
  let c0_i32_45 : BitVec 32 := 0#32
  let v113 : BitVec 1 := Scalar.cmpi .ne v112 c0_i32_45
  let v114 : BitVec 1 := Scalar.andi v111 v113
  let v100 : BitVec 32 := Scalar.divsi v75 c4_i32_41
  let c1_i32 : BitVec 32 := 1#32
  let v115 : BitVec 32 := Scalar.subi v100 c1_i32
  let v116 : BitVec 32 := Scalar.select v114 v115 v100
  let v117 : BitVec 32 := Scalar.subi v116 c0_i32_47
  let c1_i32_48 : BitVec 32 := 1#32
  let v119 : BitVec 32 := Scalar.divsi v117 c1_i32_48
  let v120 : BitVec 32 := Scalar.muli v119 c1_i32_48
  let v121 : BitVec 32 := Scalar.addi c0_i32_47 v120
  let c1_i32_50 : BitVec 32 := 1#32
  let arg18 : BitVec 32 := Scf.iv v121 c1_i32_50 k0_t2
  let v598 : BitVec 32 := Scalar.muli c4_i32_395 arg18
  let c1_i32_396 : BitVec 32 := 1#32
  let v599 : BitVec 32 := Scalar.addi v598 c1_i32_396
  let c1_i32_397 : BitVec 32 := 1#32
  let v600 : BitVec 32 := Scalar.subi v599 c1_i32_397
  let c0_i32_398 : BitVec 32 := 0#32
  let v601 : BitVec 32 := Scalar.maxsi v600 c0_i32_398
  let c512_i32_399 : BitVec 32 := 512#32
  let v602 : BitVec 32 := Scalar.muli v601 c512_i32_399
  v602
def k0_mult13 (i : grid0.Coords) (k0_t2 : Fin (k0_t2_loop i).trips) : BitVec 32 :=
  let c4_i32_433 : BitVec 32 := 4#32
  let c0_i32_47 : BitVec 32 := 0#32
  let arg2 : BitVec 32 := BitVec.ofNat 32 (i 2).val
  let c4_i32 : BitVec 32 := 4#32
  let v75 : BitVec 32 := Scalar.muli arg2 c4_i32
  let c0_i32 : BitVec 32 := 0#32
  let v101 : BitVec 1 := Scalar.cmpi .sgt v75 c0_i32
  let v102 : BitVec 32 := Scalar.extui v101
  let c0_i32_42 : BitVec 32 := 0#32
  let v103 : BitVec 1 := Scalar.cmpi .slt v75 c0_i32_42
  let v104 : BitVec 32 := Scalar.extui v103
  let v105 : BitVec 32 := Scalar.subi v102 v104
  let c4_i32_41 : BitVec 32 := 4#32
  let c0_i32_43 : BitVec 32 := 0#32
  let v106 : BitVec 1 := Scalar.cmpi .sgt c4_i32_41 c0_i32_43
  let v107 : BitVec 32 := Scalar.extui v106
  let c0_i32_44 : BitVec 32 := 0#32
  let v108 : BitVec 1 := Scalar.cmpi .slt c4_i32_41 c0_i32_44
  let v109 : BitVec 32 := Scalar.extui v108
  let v110 : BitVec 32 := Scalar.subi v107 v109
  let v111 : BitVec 1 := Scalar.cmpi .ne v105 v110
  let v112 : BitVec 32 := Scalar.remsi v75 c4_i32_41
  let c0_i32_45 : BitVec 32 := 0#32
  let v113 : BitVec 1 := Scalar.cmpi .ne v112 c0_i32_45
  let v114 : BitVec 1 := Scalar.andi v111 v113
  let v100 : BitVec 32 := Scalar.divsi v75 c4_i32_41
  let c1_i32 : BitVec 32 := 1#32
  let v115 : BitVec 32 := Scalar.subi v100 c1_i32
  let v116 : BitVec 32 := Scalar.select v114 v115 v100
  let v117 : BitVec 32 := Scalar.subi v116 c0_i32_47
  let c1_i32_48 : BitVec 32 := 1#32
  let v119 : BitVec 32 := Scalar.divsi v117 c1_i32_48
  let v120 : BitVec 32 := Scalar.muli v119 c1_i32_48
  let v121 : BitVec 32 := Scalar.addi c0_i32_47 v120
  let c1_i32_50 : BitVec 32 := 1#32
  let arg18 : BitVec 32 := Scf.iv v121 c1_i32_50 k0_t2
  let v640 : BitVec 32 := Scalar.muli c4_i32_433 arg18
  let c2_i32_434 : BitVec 32 := 2#32
  let v641 : BitVec 32 := Scalar.addi v640 c2_i32_434
  let c512_i32_435 : BitVec 32 := 512#32
  let v642 : BitVec 32 := Scalar.muli v641 c512_i32_435
  v642
def k0_mult14 (i : grid0.Coords) (k0_t2 : Fin (k0_t2_loop i).trips) : BitVec 32 :=
  let c4_i32_455 : BitVec 32 := 4#32
  let c0_i32_47 : BitVec 32 := 0#32
  let arg2 : BitVec 32 := BitVec.ofNat 32 (i 2).val
  let c4_i32 : BitVec 32 := 4#32
  let v75 : BitVec 32 := Scalar.muli arg2 c4_i32
  let c0_i32 : BitVec 32 := 0#32
  let v101 : BitVec 1 := Scalar.cmpi .sgt v75 c0_i32
  let v102 : BitVec 32 := Scalar.extui v101
  let c0_i32_42 : BitVec 32 := 0#32
  let v103 : BitVec 1 := Scalar.cmpi .slt v75 c0_i32_42
  let v104 : BitVec 32 := Scalar.extui v103
  let v105 : BitVec 32 := Scalar.subi v102 v104
  let c4_i32_41 : BitVec 32 := 4#32
  let c0_i32_43 : BitVec 32 := 0#32
  let v106 : BitVec 1 := Scalar.cmpi .sgt c4_i32_41 c0_i32_43
  let v107 : BitVec 32 := Scalar.extui v106
  let c0_i32_44 : BitVec 32 := 0#32
  let v108 : BitVec 1 := Scalar.cmpi .slt c4_i32_41 c0_i32_44
  let v109 : BitVec 32 := Scalar.extui v108
  let v110 : BitVec 32 := Scalar.subi v107 v109
  let v111 : BitVec 1 := Scalar.cmpi .ne v105 v110
  let v112 : BitVec 32 := Scalar.remsi v75 c4_i32_41
  let c0_i32_45 : BitVec 32 := 0#32
  let v113 : BitVec 1 := Scalar.cmpi .ne v112 c0_i32_45
  let v114 : BitVec 1 := Scalar.andi v111 v113
  let v100 : BitVec 32 := Scalar.divsi v75 c4_i32_41
  let c1_i32 : BitVec 32 := 1#32
  let v115 : BitVec 32 := Scalar.subi v100 c1_i32
  let v116 : BitVec 32 := Scalar.select v114 v115 v100
  let v117 : BitVec 32 := Scalar.subi v116 c0_i32_47
  let c1_i32_48 : BitVec 32 := 1#32
  let v119 : BitVec 32 := Scalar.divsi v117 c1_i32_48
  let v120 : BitVec 32 := Scalar.muli v119 c1_i32_48
  let v121 : BitVec 32 := Scalar.addi c0_i32_47 v120
  let c1_i32_50 : BitVec 32 := 1#32
  let arg18 : BitVec 32 := Scf.iv v121 c1_i32_50 k0_t2
  let v674 : BitVec 32 := Scalar.muli c4_i32_455 arg18
  let c2_i32_456 : BitVec 32 := 2#32
  let v675 : BitVec 32 := Scalar.addi v674 c2_i32_456
  let c1_i32_457 : BitVec 32 := 1#32
  let v676 : BitVec 32 := Scalar.subi v675 c1_i32_457
  let c0_i32_458 : BitVec 32 := 0#32
  let v677 : BitVec 32 := Scalar.maxsi v676 c0_i32_458
  let c512_i32_459 : BitVec 32 := 512#32
  let v678 : BitVec 32 := Scalar.muli v677 c512_i32_459
  v678
def k0_mult15 (i : grid0.Coords) (k0_t2 : Fin (k0_t2_loop i).trips) : BitVec 32 :=
  let c4_i32_493 : BitVec 32 := 4#32
  let c0_i32_47 : BitVec 32 := 0#32
  let arg2 : BitVec 32 := BitVec.ofNat 32 (i 2).val
  let c4_i32 : BitVec 32 := 4#32
  let v75 : BitVec 32 := Scalar.muli arg2 c4_i32
  let c0_i32 : BitVec 32 := 0#32
  let v101 : BitVec 1 := Scalar.cmpi .sgt v75 c0_i32
  let v102 : BitVec 32 := Scalar.extui v101
  let c0_i32_42 : BitVec 32 := 0#32
  let v103 : BitVec 1 := Scalar.cmpi .slt v75 c0_i32_42
  let v104 : BitVec 32 := Scalar.extui v103
  let v105 : BitVec 32 := Scalar.subi v102 v104
  let c4_i32_41 : BitVec 32 := 4#32
  let c0_i32_43 : BitVec 32 := 0#32
  let v106 : BitVec 1 := Scalar.cmpi .sgt c4_i32_41 c0_i32_43
  let v107 : BitVec 32 := Scalar.extui v106
  let c0_i32_44 : BitVec 32 := 0#32
  let v108 : BitVec 1 := Scalar.cmpi .slt c4_i32_41 c0_i32_44
  let v109 : BitVec 32 := Scalar.extui v108
  let v110 : BitVec 32 := Scalar.subi v107 v109
  let v111 : BitVec 1 := Scalar.cmpi .ne v105 v110
  let v112 : BitVec 32 := Scalar.remsi v75 c4_i32_41
  let c0_i32_45 : BitVec 32 := 0#32
  let v113 : BitVec 1 := Scalar.cmpi .ne v112 c0_i32_45
  let v114 : BitVec 1 := Scalar.andi v111 v113
  let v100 : BitVec 32 := Scalar.divsi v75 c4_i32_41
  let c1_i32 : BitVec 32 := 1#32
  let v115 : BitVec 32 := Scalar.subi v100 c1_i32
  let v116 : BitVec 32 := Scalar.select v114 v115 v100
  let v117 : BitVec 32 := Scalar.subi v116 c0_i32_47
  let c1_i32_48 : BitVec 32 := 1#32
  let v119 : BitVec 32 := Scalar.divsi v117 c1_i32_48
  let v120 : BitVec 32 := Scalar.muli v119 c1_i32_48
  let v121 : BitVec 32 := Scalar.addi c0_i32_47 v120
  let c1_i32_50 : BitVec 32 := 1#32
  let arg18 : BitVec 32 := Scf.iv v121 c1_i32_50 k0_t2
  let v716 : BitVec 32 := Scalar.muli c4_i32_493 arg18
  let c3_i32_494 : BitVec 32 := 3#32
  let v717 : BitVec 32 := Scalar.addi v716 c3_i32_494
  let c512_i32_495 : BitVec 32 := 512#32
  let v718 : BitVec 32 := Scalar.muli v717 c512_i32_495
  v718
def k0_mult16 (i : grid0.Coords) (k0_t2 : Fin (k0_t2_loop i).trips) : BitVec 32 :=
  let c4_i32_515 : BitVec 32 := 4#32
  let c0_i32_47 : BitVec 32 := 0#32
  let arg2 : BitVec 32 := BitVec.ofNat 32 (i 2).val
  let c4_i32 : BitVec 32 := 4#32
  let v75 : BitVec 32 := Scalar.muli arg2 c4_i32
  let c0_i32 : BitVec 32 := 0#32
  let v101 : BitVec 1 := Scalar.cmpi .sgt v75 c0_i32
  let v102 : BitVec 32 := Scalar.extui v101
  let c0_i32_42 : BitVec 32 := 0#32
  let v103 : BitVec 1 := Scalar.cmpi .slt v75 c0_i32_42
  let v104 : BitVec 32 := Scalar.extui v103
  let v105 : BitVec 32 := Scalar.subi v102 v104
  let c4_i32_41 : BitVec 32 := 4#32
  let c0_i32_43 : BitVec 32 := 0#32
  let v106 : BitVec 1 := Scalar.cmpi .sgt c4_i32_41 c0_i32_43
  let v107 : BitVec 32 := Scalar.extui v106
  let c0_i32_44 : BitVec 32 := 0#32
  let v108 : BitVec 1 := Scalar.cmpi .slt c4_i32_41 c0_i32_44
  let v109 : BitVec 32 := Scalar.extui v108
  let v110 : BitVec 32 := Scalar.subi v107 v109
  let v111 : BitVec 1 := Scalar.cmpi .ne v105 v110
  let v112 : BitVec 32 := Scalar.remsi v75 c4_i32_41
  let c0_i32_45 : BitVec 32 := 0#32
  let v113 : BitVec 1 := Scalar.cmpi .ne v112 c0_i32_45
  let v114 : BitVec 1 := Scalar.andi v111 v113
  let v100 : BitVec 32 := Scalar.divsi v75 c4_i32_41
  let c1_i32 : BitVec 32 := 1#32
  let v115 : BitVec 32 := Scalar.subi v100 c1_i32
  let v116 : BitVec 32 := Scalar.select v114 v115 v100
  let v117 : BitVec 32 := Scalar.subi v116 c0_i32_47
  let c1_i32_48 : BitVec 32 := 1#32
  let v119 : BitVec 32 := Scalar.divsi v117 c1_i32_48
  let v120 : BitVec 32 := Scalar.muli v119 c1_i32_48
  let v121 : BitVec 32 := Scalar.addi c0_i32_47 v120
  let c1_i32_50 : BitVec 32 := 1#32
  let arg18 : BitVec 32 := Scf.iv v121 c1_i32_50 k0_t2
  let v750 : BitVec 32 := Scalar.muli c4_i32_515 arg18
  let c3_i32_516 : BitVec 32 := 3#32
  let v751 : BitVec 32 := Scalar.addi v750 c3_i32_516
  let c1_i32_517 : BitVec 32 := 1#32
  let v752 : BitVec 32 := Scalar.subi v751 c1_i32_517
  let c0_i32_518 : BitVec 32 := 0#32
  let v753 : BitVec 32 := Scalar.maxsi v752 c0_i32_518
  let c512_i32_519 : BitVec 32 := 512#32
  let v754 : BitVec 32 := Scalar.muli v753 c512_i32_519
  v754
def k0_mult17 (i : grid0.Coords) : BitVec 32 :=
  let arg2 : BitVec 32 := BitVec.ofNat 32 (i 2).val
  let c4_i32 : BitVec 32 := 4#32
  let v75 : BitVec 32 := Scalar.muli arg2 c4_i32
  let c0_i32_51 : BitVec 32 := 0#32
  let v122 : BitVec 32 := Scalar.addi v75 c0_i32_51
  let c512_i32 : BitVec 32 := 512#32
  let v123 : BitVec 32 := Scalar.muli v122 c512_i32
  v123
def k0_off5 (i : grid0.Coords) (c0_i32_51 : BitVec 32) : Fin 4 → Nat :=
  let c0_52 : Index := 0#32
  let c0_53 : Index := 0#32
  let arg2 : BitVec 32 := BitVec.ofNat 32 (i 2).val
  let c4_i32 : BitVec 32 := 4#32
  let v75 : BitVec 32 := Scalar.muli arg2 c4_i32
  let v122 : BitVec 32 := Scalar.addi v75 c0_i32_51
  let c512_i32 : BitVec 32 := 512#32
  let v123 : BitVec 32 := Scalar.muli v122 c512_i32
  let v124 : BitVec 32 := v123
  let v125 : Index := Scalar.indexCast v124
  let c0_54 : Index := 0#32
  ![0, 0, v125.toNat, 0]
def k0_mult18 (i : grid0.Coords) : BitVec 32 :=
  let arg2 : BitVec 32 := BitVec.ofNat 32 (i 2).val
  let c4_i32 : BitVec 32 := 4#32
  let v75 : BitVec 32 := Scalar.muli arg2 c4_i32
  let c0_i32_73 : BitVec 32 := 0#32
  let v161 : BitVec 32 := Scalar.addi v75 c0_i32_73
  let c1_i32_74 : BitVec 32 := 1#32
  let v162 : BitVec 32 := Scalar.subi v161 c1_i32_74
  let c0_i32_75 : BitVec 32 := 0#32
  let v163 : BitVec 32 := Scalar.maxsi v162 c0_i32_75
  let c512_i32_76 : BitVec 32 := 512#32
  let v164 : BitVec 32 := Scalar.muli v163 c512_i32_76
  v164
def k0_off6 (i : grid0.Coords) (c0_i32_73 : BitVec 32) : Fin 4 → Nat :=
  let c0_77 : Index := 0#32
  let c0_78 : Index := 0#32
  let c0_79 : Index := 0#32
  let arg2 : BitVec 32 := BitVec.ofNat 32 (i 2).val
  let c4_i32 : BitVec 32 := 4#32
  let v75 : BitVec 32 := Scalar.muli arg2 c4_i32
  let v161 : BitVec 32 := Scalar.addi v75 c0_i32_73
  let c1_i32_74 : BitVec 32 := 1#32
  let v162 : BitVec 32 := Scalar.subi v161 c1_i32_74
  let c0_i32_75 : BitVec 32 := 0#32
  let v163 : BitVec 32 := Scalar.maxsi v162 c0_i32_75
  let c512_i32_76 : BitVec 32 := 512#32
  let v164 : BitVec 32 := Scalar.muli v163 c512_i32_76
  let v165 : BitVec 32 := v164
  let v166 : Index := Scalar.indexCast v165
  ![0, 0, 0, v166.toNat]
def k0_mult19 (i : grid0.Coords) : BitVec 32 :=
  let arg2 : BitVec 32 := BitVec.ofNat 32 (i 2).val
  let c4_i32 : BitVec 32 := 4#32
  let v75 : BitVec 32 := Scalar.muli arg2 c4_i32
  let c1_i32_110 : BitVec 32 := 1#32
  let v202 : BitVec 32 := Scalar.addi v75 c1_i32_110
  let c512_i32_111 : BitVec 32 := 512#32
  let v203 : BitVec 32 := Scalar.muli v202 c512_i32_111
  v203
def k0_mult20 (i : grid0.Coords) : BitVec 32 :=
  let arg2 : BitVec 32 := BitVec.ofNat 32 (i 2).val
  let c4_i32 : BitVec 32 := 4#32
  let v75 : BitVec 32 := Scalar.muli arg2 c4_i32
  let c1_i32_133 : BitVec 32 := 1#32
  let v241 : BitVec 32 := Scalar.addi v75 c1_i32_133
  let c1_i32_134 : BitVec 32 := 1#32
  let v242 : BitVec 32 := Scalar.subi v241 c1_i32_134
  let c0_i32_135 : BitVec 32 := 0#32
  let v243 : BitVec 32 := Scalar.maxsi v242 c0_i32_135
  let c512_i32_136 : BitVec 32 := 512#32
  let v244 : BitVec 32 := Scalar.muli v243 c512_i32_136
  v244
def k0_mult21 (i : grid0.Coords) : BitVec 32 :=
  let arg2 : BitVec 32 := BitVec.ofNat 32 (i 2).val
  let c4_i32 : BitVec 32 := 4#32
  let v75 : BitVec 32 := Scalar.muli arg2 c4_i32
  let c2_i32 : BitVec 32 := 2#32
  let v282 : BitVec 32 := Scalar.addi v75 c2_i32
  let c512_i32_170 : BitVec 32 := 512#32
  let v283 : BitVec 32 := Scalar.muli v282 c512_i32_170
  v283
def k0_mult22 (i : grid0.Coords) : BitVec 32 :=
  let arg2 : BitVec 32 := BitVec.ofNat 32 (i 2).val
  let c4_i32 : BitVec 32 := 4#32
  let v75 : BitVec 32 := Scalar.muli arg2 c4_i32
  let c2_i32_192 : BitVec 32 := 2#32
  let v321 : BitVec 32 := Scalar.addi v75 c2_i32_192
  let c1_i32_193 : BitVec 32 := 1#32
  let v322 : BitVec 32 := Scalar.subi v321 c1_i32_193
  let c0_i32_194 : BitVec 32 := 0#32
  let v323 : BitVec 32 := Scalar.maxsi v322 c0_i32_194
  let c512_i32_195 : BitVec 32 := 512#32
  let v324 : BitVec 32 := Scalar.muli v323 c512_i32_195
  v324
def k0_mult23 (i : grid0.Coords) : BitVec 32 :=
  let arg2 : BitVec 32 := BitVec.ofNat 32 (i 2).val
  let c4_i32 : BitVec 32 := 4#32
  let v75 : BitVec 32 := Scalar.muli arg2 c4_i32
  let c3_i32 : BitVec 32 := 3#32
  let v356 : BitVec 32 := Scalar.addi v75 c3_i32
  let c512_i32_223 : BitVec 32 := 512#32
  let v357 : BitVec 32 := Scalar.muli v356 c512_i32_223
  v357
def k0_mult24 (i : grid0.Coords) : BitVec 32 :=
  let arg2 : BitVec 32 := BitVec.ofNat 32 (i 2).val
  let c4_i32 : BitVec 32 := 4#32
  let v75 : BitVec 32 := Scalar.muli arg2 c4_i32
  let c3_i32_245 : BitVec 32 := 3#32
  let v392 : BitVec 32 := Scalar.addi v75 c3_i32_245
  let c1_i32_246 : BitVec 32 := 1#32
  let v393 : BitVec 32 := Scalar.subi v392 c1_i32_246
  let c0_i32_247 : BitVec 32 := 0#32
  let v394 : BitVec 32 := Scalar.maxsi v393 c0_i32_247
  let c512_i32_248 : BitVec 32 := 512#32
  let v395 : BitVec 32 := Scalar.muli v394 c512_i32_248
  v395
def k0_mult25 (i : grid0.Coords) : BitVec 32 :=
  let arg2 : BitVec 32 := BitVec.ofNat 32 (i 2).val
  let c4_i32 : BitVec 32 := 4#32
  let v75 : BitVec 32 := Scalar.muli arg2 c4_i32
  let c4_i32_270 : BitVec 32 := 4#32
  let v421 : BitVec 32 := Scalar.addi v75 c4_i32_270
  let c1_i32_271 : BitVec 32 := 1#32
  let v422 : BitVec 32 := Scalar.subi v421 c1_i32_271
  let c0_i32_272 : BitVec 32 := 0#32
  let v423 : BitVec 32 := Scalar.maxsi v422 c0_i32_272
  let c512_i32_273 : BitVec 32 := 512#32
  let v424 : BitVec 32 := Scalar.muli v423 c512_i32_273
  v424
@[reducible] def k0_t3_loop (i : grid0.Coords) : Scf.Loop 32 :=
  let c0_i32_320 : BitVec 32 := 0#32
  let arg2 : BitVec 32 := BitVec.ofNat 32 (i 2).val
  let c4_i32 : BitVec 32 := 4#32
  let v75 : BitVec 32 := Scalar.muli arg2 c4_i32
  let v496 : BitVec 32 := Scalar.subi v75 c0_i32_320
  let c1_i32_321 : BitVec 32 := 1#32
  let v498 : BitVec 32 := Scalar.divsi v496 c1_i32_321
  let v499 : BitVec 32 := Scalar.muli v498 c1_i32_321
  let v500 : BitVec 32 := Scalar.addi c0_i32_320 v499
  let c1_i32_322 : BitVec 32 := 1#32
  ⟨c0_i32_320, v500, c1_i32_322⟩
def k0_mult26 (i : grid0.Coords) (k0_t3 : Fin (k0_t3_loop i).trips) : BitVec 32 :=
  let c0_i32_320 : BitVec 32 := 0#32
  let c1_i32_322 : BitVec 32 := 1#32
  let arg18 : BitVec 32 := Scf.iv c0_i32_320 c1_i32_322 k0_t3
  let c512_i32_519 : BitVec 32 := 512#32
  let v830 : BitVec 32 := Scalar.muli arg18 c512_i32_519
  v830
def k0_off7 (i : grid0.Coords) (k0_t3 : Fin (k0_t3_loop i).trips) : Fin 4 → Nat :=
  let c0_520 : Index := 0#32
  let c0_521 : Index := 0#32
  let c0_i32_320 : BitVec 32 := 0#32
  let c1_i32_322 : BitVec 32 := 1#32
  let arg18 : BitVec 32 := Scf.iv c0_i32_320 c1_i32_322 k0_t3
  let c512_i32_519 : BitVec 32 := 512#32
  let v830 : BitVec 32 := Scalar.muli arg18 c512_i32_519
  let v831 : BitVec 32 := v830
  let v832 : Index := Scalar.indexCast v831
  let c0_522 : Index := 0#32
  ![0, 0, v832.toNat, 0]
def k0_mult27 (i : grid0.Coords) (k0_t3 : Fin (k0_t3_loop i).trips) : BitVec 32 :=
  let c0_i32_320 : BitVec 32 := 0#32
  let c1_i32_322 : BitVec 32 := 1#32
  let arg18 : BitVec 32 := Scf.iv c0_i32_320 c1_i32_322 k0_t3
  let c512_i32_537 : BitVec 32 := 512#32
  let v855 : BitVec 32 := Scalar.muli arg18 c512_i32_537
  v855
def k0_off8 (i : grid0.Coords) (k0_t3 : Fin (k0_t3_loop i).trips) : Fin 4 → Nat :=
  let c0_538 : Index := 0#32
  let c0_539 : Index := 0#32
  let c0_540 : Index := 0#32
  let c0_i32_320 : BitVec 32 := 0#32
  let c1_i32_322 : BitVec 32 := 1#32
  let arg18 : BitVec 32 := Scf.iv c0_i32_320 c1_i32_322 k0_t3
  let c512_i32_537 : BitVec 32 := 512#32
  let v855 : BitVec 32 := Scalar.muli arg18 c512_i32_537
  let v856 : BitVec 32 := v855
  let v857 : Index := Scalar.indexCast v856
  ![0, 0, 0, v857.toNat]
@[reducible] def k0_t4_loop (i : grid0.Coords) : Scf.Loop 32 :=
  let c0_i32_320 : BitVec 32 := 0#32
  let arg2 : BitVec 32 := BitVec.ofNat 32 (i 2).val
  let c4_i32 : BitVec 32 := 4#32
  let v75 : BitVec 32 := Scalar.muli arg2 c4_i32
  let v496 : BitVec 32 := Scalar.subi v75 c0_i32_320
  let c1_i32_321 : BitVec 32 := 1#32
  let v498 : BitVec 32 := Scalar.divsi v496 c1_i32_321
  let v499 : BitVec 32 := Scalar.muli v498 c1_i32_321
  let v500 : BitVec 32 := Scalar.addi c0_i32_320 v499
  let v497 : BitVec 32 := Scalar.addi c0_i32_320 v496
  let c1_i32_323 : BitVec 32 := 1#32
  ⟨v500, v497, c1_i32_323⟩
def k0_mult28 (i : grid0.Coords) (k0_t4 : Fin (k0_t4_loop i).trips) : BitVec 32 :=
  let c0_i32_320 : BitVec 32 := 0#32
  let arg2 : BitVec 32 := BitVec.ofNat 32 (i 2).val
  let c4_i32 : BitVec 32 := 4#32
  let v75 : BitVec 32 := Scalar.muli arg2 c4_i32
  let v496 : BitVec 32 := Scalar.subi v75 c0_i32_320
  let c1_i32_321 : BitVec 32 := 1#32
  let v498 : BitVec 32 := Scalar.divsi v496 c1_i32_321
  let v499 : BitVec 32 := Scalar.muli v498 c1_i32_321
  let v500 : BitVec 32 := Scalar.addi c0_i32_320 v499
  let c1_i32_323 : BitVec 32 := 1#32
  let arg18 : BitVec 32 := Scf.iv v500 c1_i32_323 k0_t4
  let c512_i32_519 : BitVec 32 := 512#32
  let v830 : BitVec 32 := Scalar.muli arg18 c512_i32_519
  v830
def k0_off9 (i : grid0.Coords) (k0_t4 : Fin (k0_t4_loop i).trips) : Fin 4 → Nat :=
  let c0_520 : Index := 0#32
  let c0_521 : Index := 0#32
  let c0_i32_320 : BitVec 32 := 0#32
  let arg2 : BitVec 32 := BitVec.ofNat 32 (i 2).val
  let c4_i32 : BitVec 32 := 4#32
  let v75 : BitVec 32 := Scalar.muli arg2 c4_i32
  let v496 : BitVec 32 := Scalar.subi v75 c0_i32_320
  let c1_i32_321 : BitVec 32 := 1#32
  let v498 : BitVec 32 := Scalar.divsi v496 c1_i32_321
  let v499 : BitVec 32 := Scalar.muli v498 c1_i32_321
  let v500 : BitVec 32 := Scalar.addi c0_i32_320 v499
  let c1_i32_323 : BitVec 32 := 1#32
  let arg18 : BitVec 32 := Scf.iv v500 c1_i32_323 k0_t4
  let c512_i32_519 : BitVec 32 := 512#32
  let v830 : BitVec 32 := Scalar.muli arg18 c512_i32_519
  let v831 : BitVec 32 := v830
  let v832 : Index := Scalar.indexCast v831
  let c0_522 : Index := 0#32
  ![0, 0, v832.toNat, 0]
def k0_mult29 (i : grid0.Coords) (k0_t4 : Fin (k0_t4_loop i).trips) : BitVec 32 :=
  let c0_i32_320 : BitVec 32 := 0#32
  let arg2 : BitVec 32 := BitVec.ofNat 32 (i 2).val
  let c4_i32 : BitVec 32 := 4#32
  let v75 : BitVec 32 := Scalar.muli arg2 c4_i32
  let v496 : BitVec 32 := Scalar.subi v75 c0_i32_320
  let c1_i32_321 : BitVec 32 := 1#32
  let v498 : BitVec 32 := Scalar.divsi v496 c1_i32_321
  let v499 : BitVec 32 := Scalar.muli v498 c1_i32_321
  let v500 : BitVec 32 := Scalar.addi c0_i32_320 v499
  let c1_i32_323 : BitVec 32 := 1#32
  let arg18 : BitVec 32 := Scf.iv v500 c1_i32_323 k0_t4
  let c512_i32_537 : BitVec 32 := 512#32
  let v855 : BitVec 32 := Scalar.muli arg18 c512_i32_537
  v855
def k0_off10 (i : grid0.Coords) (k0_t4 : Fin (k0_t4_loop i).trips) : Fin 4 → Nat :=
  let c0_538 : Index := 0#32
  let c0_539 : Index := 0#32
  let c0_540 : Index := 0#32
  let c0_i32_320 : BitVec 32 := 0#32
  let arg2 : BitVec 32 := BitVec.ofNat 32 (i 2).val
  let c4_i32 : BitVec 32 := 4#32
  let v75 : BitVec 32 := Scalar.muli arg2 c4_i32
  let v496 : BitVec 32 := Scalar.subi v75 c0_i32_320
  let c1_i32_321 : BitVec 32 := 1#32
  let v498 : BitVec 32 := Scalar.divsi v496 c1_i32_321
  let v499 : BitVec 32 := Scalar.muli v498 c1_i32_321
  let v500 : BitVec 32 := Scalar.addi c0_i32_320 v499
  let c1_i32_323 : BitVec 32 := 1#32
  let arg18 : BitVec 32 := Scf.iv v500 c1_i32_323 k0_t4
  let c512_i32_537 : BitVec 32 := 512#32
  let v855 : BitVec 32 := Scalar.muli arg18 c512_i32_537
  let v856 : BitVec 32 := v855
  let v857 : Index := Scalar.indexCast v856
  ![0, 0, 0, v857.toNat]
def k0_mult30 (i : grid0.Coords) : BitVec 32 :=
  let arg2 : BitVec 32 := BitVec.ofNat 32 (i 2).val
  let c4_i32 : BitVec 32 := 4#32
  let v75 : BitVec 32 := Scalar.muli arg2 c4_i32
  let c0_i32_324 : BitVec 32 := 0#32
  let v501 : BitVec 32 := Scalar.addi v75 c0_i32_324
  let c512_i32_325 : BitVec 32 := 512#32
  let v502 : BitVec 32 := Scalar.muli v501 c512_i32_325
  v502
def k0_off11 (i : grid0.Coords) (c0_i32_324 : BitVec 32) : Fin 4 → Nat :=
  let c0_326 : Index := 0#32
  let c0_327 : Index := 0#32
  let arg2 : BitVec 32 := BitVec.ofNat 32 (i 2).val
  let c4_i32 : BitVec 32 := 4#32
  let v75 : BitVec 32 := Scalar.muli arg2 c4_i32
  let v501 : BitVec 32 := Scalar.addi v75 c0_i32_324
  let c512_i32_325 : BitVec 32 := 512#32
  let v502 : BitVec 32 := Scalar.muli v501 c512_i32_325
  let v503 : BitVec 32 := v502
  let v504 : Index := Scalar.indexCast v503
  let c0_328 : Index := 0#32
  ![0, 0, v504.toNat, 0]
def k0_mult31 (i : grid0.Coords) : BitVec 32 :=
  let arg2 : BitVec 32 := BitVec.ofNat 32 (i 2).val
  let c4_i32 : BitVec 32 := 4#32
  let v75 : BitVec 32 := Scalar.muli arg2 c4_i32
  let c0_i32_337 : BitVec 32 := 0#32
  let v517 : BitVec 32 := Scalar.addi v75 c0_i32_337
  let c512_i32_345 : BitVec 32 := 512#32
  let v532 : BitVec 32 := Scalar.muli v517 c512_i32_345
  v532
def k0_off12 (i : grid0.Coords) (c0_i32_337 : BitVec 32) : Fin 4 → Nat :=
  let c0_346 : Index := 0#32
  let c0_347 : Index := 0#32
  let c0_348 : Index := 0#32
  let arg2 : BitVec 32 := BitVec.ofNat 32 (i 2).val
  let c4_i32 : BitVec 32 := 4#32
  let v75 : BitVec 32 := Scalar.muli arg2 c4_i32
  let v517 : BitVec 32 := Scalar.addi v75 c0_i32_337
  let c512_i32_345 : BitVec 32 := 512#32
  let v532 : BitVec 32 := Scalar.muli v517 c512_i32_345
  let v533 : BitVec 32 := v532
  let v534 : Index := Scalar.indexCast v533
  ![0, 0, 0, v534.toNat]
def k0_mult32 (i : grid0.Coords) : BitVec 32 :=
  let arg2 : BitVec 32 := BitVec.ofNat 32 (i 2).val
  let c4_i32 : BitVec 32 := 4#32
  let v75 : BitVec 32 := Scalar.muli arg2 c4_i32
  let c0_i32_357 : BitVec 32 := 0#32
  let v554 : BitVec 32 := Scalar.addi v75 c0_i32_357
  let c512_i32_364 : BitVec 32 := 512#32
  let v565 : BitVec 32 := Scalar.muli v554 c512_i32_364
  v565
def k0_mult33 (i : grid0.Coords) : BitVec 32 :=
  let arg2 : BitVec 32 := BitVec.ofNat 32 (i 2).val
  let c4_i32 : BitVec 32 := 4#32
  let v75 : BitVec 32 := Scalar.muli arg2 c4_i32
  let c1_i32_380 : BitVec 32 := 1#32
  let v599 : BitVec 32 := Scalar.addi v75 c1_i32_380
  let c512_i32_381 : BitVec 32 := 512#32
  let v600 : BitVec 32 := Scalar.muli v599 c512_i32_381
  v600
def k0_mult34 (i : grid0.Coords) : BitVec 32 :=
  let arg2 : BitVec 32 := BitVec.ofNat 32 (i 2).val
  let c4_i32 : BitVec 32 := 4#32
  let v75 : BitVec 32 := Scalar.muli arg2 c4_i32
  let c1_i32_393 : BitVec 32 := 1#32
  let v615 : BitVec 32 := Scalar.addi v75 c1_i32_393
  let c512_i32_401 : BitVec 32 := 512#32
  let v630 : BitVec 32 := Scalar.muli v615 c512_i32_401
  v630
def k0_mult35 (i : grid0.Coords) : BitVec 32 :=
  let arg2 : BitVec 32 := BitVec.ofNat 32 (i 2).val
  let c4_i32 : BitVec 32 := 4#32
  let v75 : BitVec 32 := Scalar.muli arg2 c4_i32
  let c1_i32_413 : BitVec 32 := 1#32
  let v652 : BitVec 32 := Scalar.addi v75 c1_i32_413
  let c512_i32_420 : BitVec 32 := 512#32
  let v663 : BitVec 32 := Scalar.muli v652 c512_i32_420
  v663
def k0_mult36 (i : grid0.Coords) : BitVec 32 :=
  let arg2 : BitVec 32 := BitVec.ofNat 32 (i 2).val
  let c4_i32 : BitVec 32 := 4#32
  let v75 : BitVec 32 := Scalar.muli arg2 c4_i32
  let c2_i32_434 : BitVec 32 := 2#32
  let v691 : BitVec 32 := Scalar.addi v75 c2_i32_434
  let c512_i32_435 : BitVec 32 := 512#32
  let v692 : BitVec 32 := Scalar.muli v691 c512_i32_435
  v692
def k0_mult37 (i : grid0.Coords) : BitVec 32 :=
  let arg2 : BitVec 32 := BitVec.ofNat 32 (i 2).val
  let c4_i32 : BitVec 32 := 4#32
  let v75 : BitVec 32 := Scalar.muli arg2 c4_i32
  let c2_i32_447 : BitVec 32 := 2#32
  let v707 : BitVec 32 := Scalar.addi v75 c2_i32_447
  let c512_i32_455 : BitVec 32 := 512#32
  let v722 : BitVec 32 := Scalar.muli v707 c512_i32_455
  v722
def k0_mult38 (i : grid0.Coords) : BitVec 32 :=
  let arg2 : BitVec 32 := BitVec.ofNat 32 (i 2).val
  let c4_i32 : BitVec 32 := 4#32
  let v75 : BitVec 32 := Scalar.muli arg2 c4_i32
  let c2_i32_467 : BitVec 32 := 2#32
  let v744 : BitVec 32 := Scalar.addi v75 c2_i32_467
  let c512_i32_474 : BitVec 32 := 512#32
  let v755 : BitVec 32 := Scalar.muli v744 c512_i32_474
  v755
def k0_mult39 (i : grid0.Coords) : BitVec 32 :=
  let arg2 : BitVec 32 := BitVec.ofNat 32 (i 2).val
  let c4_i32 : BitVec 32 := 4#32
  let v75 : BitVec 32 := Scalar.muli arg2 c4_i32
  let c3_i32_486 : BitVec 32 := 3#32
  let v777 : BitVec 32 := Scalar.addi v75 c3_i32_486
  let c512_i32_487 : BitVec 32 := 512#32
  let v778 : BitVec 32 := Scalar.muli v777 c512_i32_487
  v778
def k0_mult40 (i : grid0.Coords) : BitVec 32 :=
  let arg2 : BitVec 32 := BitVec.ofNat 32 (i 2).val
  let c4_i32 : BitVec 32 := 4#32
  let v75 : BitVec 32 := Scalar.muli arg2 c4_i32
  let c3_i32_499 : BitVec 32 := 3#32
  let v793 : BitVec 32 := Scalar.addi v75 c3_i32_499
  let c512_i32_507 : BitVec 32 := 512#32
  let v808 : BitVec 32 := Scalar.muli v793 c512_i32_507
  v808
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x160x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "neg_inf" => some ⊥
  | _ => none
-- ==== ReferenceIdeal.lean ====
abbrev S2x8x256x8192 : Shape := ⟨4, ![2, 8, 256, 8192]⟩
abbrev S2x8x8192x256 : Shape := ⟨4, ![2, 8, 8192, 256]⟩
abbrev S2x8x160x8192 : Shape := ⟨4, ![2, 8, 160, 8192]⟩
abbrev S2x8x128x8192 : Shape := ⟨4, ![2, 8, 128, 8192]⟩
abbrev S2x8x2x64x8192 : Shape := ⟨5, ![2, 8, 2, 64, 8192]⟩
abbrev S2x8x64x8192 : Shape := ⟨4, ![2, 8, 64, 8192]⟩
abbrev S2x8x2x32x8192 : Shape := ⟨5, ![2, 8, 2, 32, 8192]⟩
abbrev S2x8x8192x128 : Shape := ⟨4, ![2, 8, 8192, 128]⟩
abbrev S2x8x8192x2x64 : Shape := ⟨5, ![2, 8, 8192, 2, 64]⟩
abbrev S2x8x8192x64 : Shape := ⟨4, ![2, 8, 8192, 64]⟩
abbrev S2x8x8192x2x32 : Shape := ⟨5, ![2, 8, 8192, 2, 32]⟩
abbrev S2x8x2x80x8192 : Shape := ⟨5, ![2, 8, 2, 80, 8192]⟩
abbrev S2x8x2x8192x8192 : Shape := ⟨5, ![2, 8, 2, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x1x8192x8192 : Shape := ⟨5, ![1, 1, 1, 8192, 8192]⟩
abbrev S2x8x2x8192 : Shape := ⟨4, ![2, 8, 2, 8192]⟩
abbrev S2x8x2x8192x1 : Shape := ⟨5, ![2, 8, 2, 8192, 1]⟩

abbrev nBuf : Space → Nat
  | .hbm => 71
  | .vmem => 0
  | .smem => 0
  | _ => 0

abbrev bufTy : (tb : Table) → Fin (tcTables nBuf tb) → BufTy
  | .hbm, ⟨0, _⟩ => ⟨S2x8x256x8192, .bf16⟩
  | .hbm, ⟨1, _⟩ => ⟨S2x8x8192x256, .bf16⟩
  | .hbm, ⟨2, _⟩ => ⟨S2x8x160x8192, .bf16⟩
  | .hbm, ⟨3, _⟩ => ⟨S2x8x256x8192, .f32⟩
  | .hbm, ⟨4, _⟩ => ⟨S2x8x8192x256, .f32⟩
  | .hbm, ⟨5, _⟩ => ⟨S2x8x160x8192, .f32⟩
  | .hbm, ⟨6, _⟩ => ⟨S2x8x128x8192, .f32⟩
  | .hbm, ⟨7, _⟩ => ⟨S2x8x2x64x8192, .f32⟩
  | .hbm, ⟨8, _⟩ => ⟨S2x8x64x8192, .f32⟩
  | .hbm, ⟨9, _⟩ => ⟨S2x8x2x32x8192, .f32⟩
  | .hbm, ⟨10, _⟩ => ⟨S2x8x8192x128, .f32⟩
  | .hbm, ⟨11, _⟩ => ⟨S2x8x8192x2x64, .f32⟩
  | .hbm, ⟨12, _⟩ => ⟨S2x8x8192x64, .f32⟩
  | .hbm, ⟨13, _⟩ => ⟨S2x8x8192x2x32, .f32⟩
  | .hbm, ⟨14, _⟩ => ⟨S2x8x2x80x8192, .f32⟩
  | .hbm, ⟨15, _⟩ => ⟨S2x8x2x64x8192, .f32⟩
  | .hbm, ⟨16, _⟩ => ⟨S2x8x2x8192x8192, .f32⟩
  | .hbm, ⟨17, _⟩ => ⟨S2x8x2x8192x8192, .f32⟩
  | .hbm, ⟨18, _⟩ => ⟨S2x8x2x8192x8192, .f32⟩
  | .hbm, ⟨19, _⟩ => ⟨S_, .f32⟩
  | .hbm, ⟨20, _⟩ => ⟨S_, .f32⟩
  | .hbm, ⟨21, _⟩ => ⟨S2x8x2x8192x8192, .f32⟩
  | .hbm, ⟨22, _⟩ => ⟨S2x8x2x8192x8192, .f32⟩
  | .hbm, ⟨23, _⟩ => ⟨S8192, .i32⟩
  | .hbm, ⟨24, _⟩ => ⟨S_, .i32⟩
  | .hbm, ⟨25, _⟩ => ⟨S_, .i32⟩
  | .hbm, ⟨26, _⟩ => ⟨S8192, .i32⟩
  | .hbm, ⟨27, _⟩ => ⟨S8192, .i32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i1⟩
  | .hbm, ⟨32, _⟩ => ⟨S8192, .i32⟩
  | .hbm, ⟨33, _⟩ => ⟨S8192, .i32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S8192, .i1⟩
  | .hbm, ⟨38, _⟩ => ⟨S_, .i32⟩
  | .hbm, ⟨39, _⟩ => ⟨S8192, .i32⟩
  | .hbm, ⟨40, _⟩ => ⟨S8192, .i32⟩
  | .hbm, ⟨41, _⟩ => ⟨S8192, .i32⟩
  | .hbm, ⟨42, _⟩ => ⟨S1x8192, .i32⟩
  | .hbm, ⟨43, _⟩ => ⟨S8192x1, .i32⟩
  | .hbm, ⟨44, _⟩ => ⟨S8192x8192, .i32⟩
  | .hbm, ⟨45, _⟩ => ⟨S8192x8192, .i32⟩
  | .hbm, ⟨46, _⟩ => ⟨S8192x8192, .i1⟩
  | .hbm, ⟨47, _⟩ => ⟨S1x1x1x8192x8192, .i1⟩
  | .hbm, ⟨48, _⟩ => ⟨S_, .f32⟩
  | .hbm, ⟨49, _⟩ => ⟨S_, .f32⟩
  | .hbm, ⟨50, _⟩ => ⟨S2x8x2x8192x8192, .i1⟩
  | .hbm, ⟨51, _⟩ => ⟨S2x8x2x8192x8192, .f32⟩
  | .hbm, ⟨52, _⟩ => ⟨S2x8x2x8192x8192, .f32⟩
  | .hbm, ⟨53, _⟩ => ⟨S_, .f32⟩
  | .hbm, ⟨54, _⟩ => ⟨S2x8x2x8192, .f32⟩
  | .hbm, ⟨55, _⟩ => ⟨S_, .f32⟩
  | .hbm, ⟨56, _⟩ => ⟨S2x8x2x8192, .f32⟩
  | .hbm, ⟨57, _⟩ => ⟨S2x8x2x8192, .f32⟩
  | .hbm, ⟨58, _⟩ => ⟨S2x8x2x8192x1, .f32⟩
  | .hbm, ⟨59, _⟩ => ⟨S2x8x2x8192x8192, .f32⟩
  | .hbm, ⟨60, _⟩ => ⟨S2x8x2x8192x8192, .f32⟩
  | .hbm, ⟨61, _⟩ => ⟨S2x8x2x8192x8192, .f32⟩
  | .hbm, ⟨62, _⟩ => ⟨S_, .f32⟩
  | .hbm, ⟨63, _⟩ => ⟨S2x8x2x8192, .f32⟩
  | .hbm, ⟨64, _⟩ => ⟨S2x8x2x8192x1, .f32⟩
  | .hbm, ⟨65, _⟩ => ⟨S2x8x2x8192x8192, .f32⟩
  | .hbm, ⟨66, _⟩ => ⟨S2x8x2x8192x8192, .f32⟩
  | .hbm, ⟨67, _⟩ => ⟨S2x8x2x64x8192, .f32⟩
  | .hbm, ⟨68, _⟩ => ⟨S2x8x8192x2x64, .f32⟩
  | .hbm, ⟨69, _⟩ => ⟨S2x8x8192x128, .f32⟩
  | .hbm, ⟨70, _⟩ => ⟨S2x8x8192x128, .bf16⟩
  | _, _ => ⟨S2x8x256x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_0 : Ref sig .tc := ⟨.hbm, 38, rfl⟩
abbrev main_call0_v12 : Ref sig .tc := ⟨.hbm, 39, rfl⟩
abbrev main_call0_v13 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_0 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_cst_1 : Ref sig .tc := ⟨.hbm, 53, rfl⟩
abbrev main_v28 : Ref sig .tc := ⟨.hbm, 54, rfl⟩
abbrev main_cst_2 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_3 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩

abbrev nD : Nat := 1
abbrev τ : Topo := Topo.v7x

variable {F : FTy → Type} [FloatOps F]
-- ==== FfnKernel.lean ====
abbrev S2x8x8192x128 : Shape := ⟨4, ![2, 8, 8192, 128]⟩
abbrev S2x8192x1024 : Shape := ⟨3, ![2, 8192, 1024]⟩
abbrev S2x8x1024 : Shape := ⟨3, ![2, 8, 1024]⟩
abbrev S1024x1024 : Shape := ⟨2, ![1024, 1024]⟩
abbrev S2x1024x5632 : Shape := ⟨3, ![2, 1024, 5632]⟩
abbrev S8x5632 : Shape := ⟨2, ![8, 5632]⟩
abbrev S2x2816x1024 : Shape := ⟨3, ![2, 2816, 1024]⟩
abbrev S1x8x512x128 : Shape := ⟨4, ![1, 8, 512, 128]⟩
abbrev S1x8x16x128 : Shape := ⟨4, ![1, 8, 16, 128]⟩
abbrev S1x512x1024 : Shape := ⟨3, ![1, 512, 1024]⟩
abbrev S1x16x1024 : Shape := ⟨3, ![1, 16, 1024]⟩
abbrev S1x8x1024 : Shape := ⟨3, ![1, 8, 1024]⟩
abbrev S1x1024x5632 : Shape := ⟨3, ![1, 1024, 5632]⟩
abbrev S1x2816x1024 : Shape := ⟨3, ![1, 2816, 1024]⟩
abbrev S528x1024 : Shape := ⟨2, ![528, 1024]⟩
abbrev S512x1024 : Shape := ⟨2, ![512, 1024]⟩
abbrev S8x528x128 : Shape := ⟨3, ![8, 528, 128]⟩
abbrev S8x1024 : Shape := ⟨2, ![8, 1024]⟩
abbrev S1x1024 : Shape := ⟨2, ![1, 1024]⟩
abbrev S1x1x16x128 : Shape := ⟨4, ![1, 1, 16, 128]⟩
abbrev S16x128 : Shape := ⟨2, ![16, 128]⟩
abbrev S16x1024 : Shape := ⟨2, ![16, 1024]⟩
abbrev S1x1x512x128 : Shape := ⟨4, ![1, 1, 512, 128]⟩
abbrev S512x128 : Shape := ⟨2, ![512, 128]⟩
abbrev S528 : Shape := ⟨1, ![528]⟩
abbrev S528x1 : Shape := ⟨2, ![528, 1]⟩
abbrev S1x1024x256 : Shape := ⟨3, ![1, 1024, 256]⟩
abbrev S1024x256 : Shape := ⟨2, ![1024, 256]⟩
abbrev S528x256 : Shape := ⟨2, ![528, 256]⟩
abbrev S528x128 : Shape := ⟨2, ![528, 128]⟩
abbrev S1x528x128 : Shape := ⟨3, ![1, 528, 128]⟩
abbrev S1x128 : Shape := ⟨2, ![1, 128]⟩
abbrev S1x512x128 : Shape := ⟨3, ![1, 512, 128]⟩
abbrev S512x256 : Shape := ⟨2, ![512, 256]⟩
abbrev S1x256x1024 : Shape := ⟨3, ![1, 256, 1024]⟩
abbrev S256x1024 : Shape := ⟨2, ![256, 1024]⟩
abbrev S512 : Shape := ⟨1, ![512]⟩
abbrev S512x1 : Shape := ⟨2, ![512, 1]⟩

abbrev nBuf : Space → Nat
  | .hbm => 8
  | .vmem => 20
  | .smem => 0
  | _ => 0

abbrev bufTy : (tb : Table) → Fin (tcTables nBuf tb) → BufTy
  | .hbm, ⟨0, _⟩ => ⟨S2x8x8192x128, .bf16⟩
  | .hbm, ⟨1, _⟩ => ⟨S2x8192x1024, .f32⟩
  | .hbm, ⟨2, _⟩ => ⟨S2x8x1024, .f32⟩
  | .hbm, ⟨3, _⟩ => ⟨S1024x1024, .bf16⟩
  | .hbm, ⟨4, _⟩ => ⟨S2x1024x5632, .bf16⟩
  | .hbm, ⟨5, _⟩ => ⟨S8x5632, .f32⟩
  | .hbm, ⟨6, _⟩ => ⟨S2x2816x1024, .bf16⟩
  | .hbm, ⟨7, _⟩ => ⟨S2x8192x1024, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x8x16x128, .bf16⟩
  | .local _ .vmem, ⟨3, _⟩ => ⟨S1x8x16x128, .bf16⟩
  | .local _ .vmem, ⟨4, _⟩ => ⟨S1x512x1024, .f32⟩
  | .local _ .vmem, ⟨5, _⟩ => ⟨S1x512x1024, .f32⟩
  | .local _ .vmem, ⟨6, _⟩ => ⟨S1x16x1024, .f32⟩
  | .local _ .vmem, ⟨7, _⟩ => ⟨S1x16x1024, .f32⟩
  | .local _ .vmem, ⟨8, _⟩ => ⟨S1x8x1024, .f32⟩
  | .local _ .vmem, ⟨9, _⟩ => ⟨S1x8x1024, .f32⟩
  | .local _ .vmem, ⟨10, _⟩ => ⟨S1024x1024, .bf16⟩
  | .local _ .vmem, ⟨11, _⟩ => ⟨S1x1024x5632, .bf16⟩
  | .local _ .vmem, ⟨12, _⟩ => ⟨S8x5632, .f32⟩
  | .local _ .vmem, ⟨13, _⟩ => ⟨S1x2816x1024, .bf16⟩
  | .local _ .vmem, ⟨14, _⟩ => ⟨S1x512x1024, .f32⟩
  | .local _ .vmem, ⟨15, _⟩ => ⟨S1x512x1024, .f32⟩
  | .local _ .vmem, ⟨16, _⟩ => ⟨S528x1024, .bf16⟩
  | .local _ .vmem, ⟨17, _⟩ => ⟨S512x1024, .f32⟩
  | .local _ .vmem, ⟨18, _⟩ => ⟨S512x1024, .f32⟩
  | .local _ .vmem, ⟨19, _⟩ => ⟨S8x528x128, .f32⟩
  | _, _ => ⟨S2x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnReferenceIdeal.lean ====
abbrev S2x8x8192x128 : Shape := ⟨4, ![2, 8, 8192, 128]⟩
abbrev S2x8192x1024 : Shape := ⟨3, ![2, 8192, 1024]⟩
abbrev S2x8x1024 : Shape := ⟨3, ![2, 8, 1024]⟩
abbrev S1024x1024 : Shape := ⟨2, ![1024, 1024]⟩
abbrev S2x1024x5632 : Shape := ⟨3, ![2, 1024, 5632]⟩
abbrev S8x5632 : Shape := ⟨2, ![8, 5632]⟩
abbrev S2x2816x1024 : Shape := ⟨3, ![2, 2816, 1024]⟩
abbrev S2x1x1024 : Shape := ⟨3, ![2, 1, 1024]⟩
abbrev S2x1024 : Shape := ⟨2, ![2, 1024]⟩
abbrev S3x5632 : Shape := ⟨2, ![3, 5632]⟩
abbrev S1x5632 : Shape := ⟨2, ![1, 5632]⟩
abbrev S5632 : Shape := ⟨1, ![5632]⟩
abbrev S2x8192x8x128 : Shape := ⟨4, ![2, 8192, 8, 128]⟩
abbrev S_ : Shape := ⟨0, ![]⟩
abbrev S2x8192 : Shape := ⟨2, ![2, 8192]⟩
abbrev S2x8192x1 : Shape := ⟨3, ![2, 8192, 1]⟩
abbrev S1x1024x5632 : Shape := ⟨3, ![1, 1024, 5632]⟩
abbrev S1024x5632 : Shape := ⟨2, ![1024, 5632]⟩
abbrev S2x8192x5632 : Shape := ⟨3, ![2, 8192, 5632]⟩
abbrev S2x8194x5632 : Shape := ⟨3, ![2, 8194, 5632]⟩
abbrev S1x1x5632 : Shape := ⟨3, ![1, 1, 5632]⟩
abbrev S2x8192x2816 : Shape := ⟨3, ![2, 8192, 2816]⟩
abbrev S1x2816x1024 : Shape := ⟨3, ![1, 2816, 1024]⟩
abbrev S2816x1024 : Shape := ⟨2, ![2816, 1024]⟩

abbrev nBuf : Space → Nat
  | .hbm => 122
  | .vmem => 0
  | .smem => 0
  | _ => 0

abbrev bufTy : (tb : Table) → Fin (tcTables nBuf tb) → BufTy
  | .hbm, ⟨0, _⟩ => ⟨S2x8x8192x128, .bf16⟩
  | .hbm, ⟨1, _⟩ => ⟨S2x8192x1024, .f32⟩
  | .hbm, ⟨2, _⟩ => ⟨S2x8x1024, .f32⟩
  | .hbm, ⟨3, _⟩ => ⟨S1024x1024, .bf16⟩
  | .hbm, ⟨4, _⟩ => ⟨S2x1024x5632, .bf16⟩
  | .hbm, ⟨5, _⟩ => ⟨S8x5632, .f32⟩
  | .hbm, ⟨6, _⟩ => ⟨S2x2816x1024, .bf16⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x1x1024, .f32⟩
  | .hbm, ⟨20, _⟩ => ⟨S2x1024, .f32⟩
  | .hbm, ⟨21, _⟩ => ⟨S2x1x1024, .f32⟩
  | .hbm, ⟨22, _⟩ => ⟨S2x1x1024, .f32⟩
  | .hbm, ⟨23, _⟩ => ⟨S2x1024, .f32⟩
  | .hbm, ⟨24, _⟩ => ⟨S2x1x1024, .f32⟩
  | .hbm, ⟨25, _⟩ => ⟨S3x5632, .f32⟩
  | .hbm, ⟨26, _⟩ => ⟨S1x5632, .f32⟩
  | .hbm, ⟨27, _⟩ => ⟨S5632, .f32⟩
  | .hbm, ⟨28, _⟩ => ⟨S2x8192x8x128, .bf16⟩
  | .hbm, ⟨29, _⟩ => ⟨S2x8192x1024, .bf16⟩
  | .hbm, ⟨30, _⟩ => ⟨S2x8192x1024, .f32⟩
  | .hbm, ⟨31, _⟩ => ⟨S1024x1024, .f32⟩
  | .hbm, ⟨32, _⟩ => ⟨S2x8192x1024, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x1x1024, .f32⟩
  | .hbm, ⟨53, _⟩ => ⟨S2x1x1024, .f32⟩
  | .hbm, ⟨54, _⟩ => ⟨S2x8192x1024, .f32⟩
  | .hbm, ⟨55, _⟩ => ⟨S2x8192x1024, .f32⟩
  | .hbm, ⟨56, _⟩ => ⟨S2x8192x1024, .f32⟩
  | .hbm, ⟨57, _⟩ => ⟨S2x8192x1024, .f32⟩
  | .hbm, ⟨58, _⟩ => ⟨S1x1024x5632, .bf16⟩
  | .hbm, ⟨59, _⟩ => ⟨S1024x5632, .bf16⟩
  | .hbm, ⟨60, _⟩ => ⟨S1024x5632, .f32⟩
  | .hbm, ⟨61, _⟩ => ⟨S2x8192x5632, .f32⟩
  | .hbm, ⟨62, _⟩ => ⟨S_, .i32⟩
  | .hbm, ⟨63, _⟩ => ⟨S_, .f32⟩
  | .hbm, ⟨64, _⟩ => ⟨S2x8194x5632, .f32⟩
  | .hbm, ⟨65, _⟩ => ⟨S2x8192x5632, .f32⟩
  | .hbm, ⟨66, _⟩ => ⟨S1x5632, .f32⟩
  | .hbm, ⟨67, _⟩ => ⟨S5632, .f32⟩
  | .hbm, ⟨68, _⟩ => ⟨S1x1x5632, .f32⟩
  | .hbm, ⟨69, _⟩ => ⟨S2x8192x5632, .f32⟩
  | .hbm, ⟨70, _⟩ => ⟨S2x8192x5632, .f32⟩
  | .hbm, ⟨71, _⟩ => ⟨S1x1x5632, .f32⟩
  | .hbm, ⟨72, _⟩ => ⟨S2x8192x5632, .f32⟩
  | .hbm, ⟨73, _⟩ => ⟨S2x8192x5632, .f32⟩
  | .hbm, ⟨74, _⟩ => ⟨S2x8192x5632, .f32⟩
  | .hbm, ⟨75, _⟩ => ⟨S1x5632, .f32⟩
  | .hbm, ⟨76, _⟩ => ⟨S5632, .f32⟩
  | .hbm, ⟨77, _⟩ => ⟨S1x1x5632, .f32⟩
  | .hbm, ⟨78, _⟩ => ⟨S2x8192x5632, .f32⟩
  | .hbm, ⟨79, _⟩ => ⟨S2x8192x5632, .f32⟩
  | .hbm, ⟨80, _⟩ => ⟨S2x8192x5632, .f32⟩
  | .hbm, ⟨81, _⟩ => ⟨S2x8192x5632, .f32⟩
  | .hbm, ⟨82, _⟩ => ⟨S1x5632, .f32⟩
  | .hbm, ⟨83, _⟩ => ⟨S5632, .f32⟩
  | .hbm, ⟨84, _⟩ => ⟨S1x1x5632, .f32⟩
  | .hbm, ⟨85, _⟩ => ⟨S2x8192x5632, .f32⟩
  | .hbm, ⟨86, _⟩ => ⟨S2x8192x5632, .f32⟩
  | .hbm, ⟨87, _⟩ => ⟨S2x8192x5632, .f32⟩
  | .hbm, ⟨88, _⟩ => ⟨S2x8192x2816, .f32⟩
  | .hbm, ⟨89, _⟩ => ⟨S2x8192x2816, .f32⟩
  | .hbm, ⟨90, _⟩ => ⟨S2x8192x2816, .f32⟩
  | .hbm, ⟨91, _⟩ => ⟨S2x8192x2816, .f32⟩
  | .hbm, ⟨92, _⟩ => ⟨S_, .f32⟩
  | .hbm, ⟨93, _⟩ => ⟨S2x8192x2816, .f32⟩
  | .hbm, ⟨94, _⟩ => ⟨S2x8192x2816, .f32⟩
  | .hbm, ⟨95, _⟩ => ⟨S_, .f32⟩
  | .hbm, ⟨96, _⟩ => ⟨S2x8192x2816, .f32⟩
  | .hbm, ⟨97, _⟩ => ⟨S2x8192x2816, .f32⟩
  | .hbm, ⟨98, _⟩ => ⟨S2x8192x2816, .f32⟩
  | .hbm, ⟨99, _⟩ => ⟨S2x8192x2816, .f32⟩
  | .hbm, ⟨100, _⟩ => ⟨S1x2816x1024, .bf16⟩
  | .hbm, ⟨101, _⟩ => ⟨S2816x1024, .bf16⟩
  | .hbm, ⟨102, _⟩ => ⟨S2816x1024, .f32⟩
  | .hbm, ⟨103, _⟩ => ⟨S2x8192x1024, .f32⟩
  | .hbm, ⟨104, _⟩ => ⟨S2x8192x1024, .f32⟩
  | .hbm, ⟨105, _⟩ => ⟨S2x8192x1024, .f32⟩
  | .hbm, ⟨106, _⟩ => ⟨S2x8192x1024, .f32⟩
  | .hbm, ⟨107, _⟩ => ⟨S2x8192x1024, .f32⟩
  | .hbm, ⟨108, _⟩ => ⟨S_, .f32⟩
  | .hbm, ⟨109, _⟩ => ⟨S2x8192, .f32⟩
  | .hbm, ⟨110, _⟩ => ⟨S2x8192x1, .f32⟩
  | .hbm, ⟨111, _⟩ => ⟨S_, .f32⟩
  | .hbm, ⟨112, _⟩ => ⟨S2x8192x1, .f32⟩
  | .hbm, ⟨113, _⟩ => ⟨S2x8192x1, .f32⟩
  | .hbm, ⟨114, _⟩ => ⟨S_, .f32⟩
  | .hbm, ⟨115, _⟩ => ⟨S2x8192x1, .f32⟩
  | .hbm, ⟨116, _⟩ => ⟨S2x8192x1, .f32⟩
  | .hbm, ⟨117, _⟩ => ⟨S2x8192x1, .f32⟩
  | .hbm, ⟨118, _⟩ => ⟨S2x8192x1024, .f32⟩
  | .hbm, ⟨119, _⟩ => ⟨S2x8192x1024, .f32⟩
  | .hbm, ⟨120, _⟩ => ⟨S2x8192x1024, .f32⟩
  | .hbm, ⟨121, _⟩ => ⟨S2x8192x1024, .f32⟩
  | _, _ => ⟨S2x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst : Ref sig .tc := ⟨.hbm, 37, rfl⟩
abbrev main_v30 : Ref sig .tc := ⟨.hbm, 38, rfl⟩
abbrev main_v31 : Ref sig .tc := ⟨.hbm, 39, rfl⟩
abbrev main_cst_0 : Ref sig .tc := ⟨.hbm, 40, rfl⟩
abbrev main_v32 : Ref sig .tc := ⟨.hbm, 41, rfl⟩
abbrev main_v33 : Ref sig .tc := ⟨.hbm, 42, rfl⟩
abbrev main_cst_1 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_2 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_c : Ref sig .tc := ⟨.hbm, 62, rfl⟩
abbrev main_call0_v0 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_3 : Ref sig .tc := ⟨.hbm, 92, rfl⟩
abbrev main_v79 : Ref sig .tc := ⟨.hbm, 93, rfl⟩
abbrev main_v80 : Ref sig .tc := ⟨.hbm, 94, rfl⟩
abbrev main_cst_4 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_5 : Ref sig .tc := ⟨.hbm, 108, rfl⟩
abbrev main_v93 : Ref sig .tc := ⟨.hbm, 109, rfl⟩
abbrev main_v94 : Ref sig .tc := ⟨.hbm, 110, rfl⟩
abbrev main_cst_6 : Ref sig .tc := ⟨.hbm, 111, rfl⟩
abbrev main_v95 : Ref sig .tc := ⟨.hbm, 112, rfl⟩
abbrev main_v96 : Ref sig .tc := ⟨.hbm, 113, rfl⟩
abbrev main_cst_7 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩

abbrev nD : Nat := 1
abbrev τ : Topo := Topo.v7x

variable {F : FTy → Type} [FloatOps F]
-- ==== Ffn0Kernel.lean ====
abbrev S2x8x8192x128 : Shape := ⟨4, ![2, 8, 8192, 128]⟩
abbrev S2x8192x1024 : Shape := ⟨3, ![2, 8192, 1024]⟩
abbrev S2x8x1024 : Shape := ⟨3, ![2, 8, 1024]⟩
abbrev S1024x1024 : Shape := ⟨2, ![1024, 1024]⟩
abbrev S2x1024x5632 : Shape := ⟨3, ![2, 1024, 5632]⟩
abbrev S8x5632 : Shape := ⟨2, ![8, 5632]⟩
abbrev S2x2816x1024 : Shape := ⟨3, ![2, 2816, 1024]⟩
abbrev S1x8x512x128 : Shape := ⟨4, ![1, 8, 512, 128]⟩
abbrev S1x8x16x128 : Shape := ⟨4, ![1, 8, 16, 128]⟩
abbrev S1x512x1024 : Shape := ⟨3, ![1, 512, 1024]⟩
abbrev S1x16x1024 : Shape := ⟨3, ![1, 16, 1024]⟩
abbrev S1x8x1024 : Shape := ⟨3, ![1, 8, 1024]⟩
abbrev S1x1024x5632 : Shape := ⟨3, ![1, 1024, 5632]⟩
abbrev S1x2816x1024 : Shape := ⟨3, ![1, 2816, 1024]⟩
abbrev S528x1024 : Shape := ⟨2, ![528, 1024]⟩
abbrev S512x1024 : Shape := ⟨2, ![512, 1024]⟩
abbrev S8x528x128 : Shape := ⟨3, ![8, 528, 128]⟩
abbrev S8x1024 : Shape := ⟨2, ![8, 1024]⟩
abbrev S1x1024 : Shape := ⟨2, ![1, 1024]⟩
abbrev S1x1x16x128 : Shape := ⟨4, ![1, 1, 16, 128]⟩
abbrev S16x128 : Shape := ⟨2, ![16, 128]⟩
abbrev S16x1024 : Shape := ⟨2, ![16, 1024]⟩
abbrev S1x1x512x128 : Shape := ⟨4, ![1, 1, 512, 128]⟩
abbrev S512x128 : Shape := ⟨2, ![512, 128]⟩
abbrev S528 : Shape := ⟨1, ![528]⟩
abbrev S528x1 : Shape := ⟨2, ![528, 1]⟩
abbrev S1x1024x256 : Shape := ⟨3, ![1, 1024, 256]⟩
abbrev S1024x256 : Shape := ⟨2, ![1024, 256]⟩
abbrev S528x256 : Shape := ⟨2, ![528, 256]⟩
abbrev S528x128 : Shape := ⟨2, ![528, 128]⟩
abbrev S1x528x128 : Shape := ⟨3, ![1, 528, 128]⟩
abbrev S1x128 : Shape := ⟨2, ![1, 128]⟩
abbrev S1x512x128 : Shape := ⟨3, ![1, 512, 128]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 8
  | .vmem => 20
  | .smem => 0
  | _ => 0

abbrev bufTy : (tb : Table) → Fin (tcTables nBuf tb) → BufTy
  | .hbm, ⟨0, _⟩ => ⟨S2x8x8192x128, .bf16⟩
  | .hbm, ⟨1, _⟩ => ⟨S2x8192x1024, .f32⟩
  | .hbm, ⟨2, _⟩ => ⟨S2x8x1024, .f32⟩
  | .hbm, ⟨3, _⟩ => ⟨S1024x1024, .bf16⟩
  | .hbm, ⟨4, _⟩ => ⟨S2x1024x5632, .bf16⟩
  | .hbm, ⟨5, _⟩ => ⟨S8x5632, .f32⟩
  | .hbm, ⟨6, _⟩ => ⟨S2x2816x1024, .bf16⟩
  | .hbm, ⟨7, _⟩ => ⟨S2x8192x1024, .f32⟩
  | .local _ .vmem, ⟨0, _⟩ => ⟨S1x8x512x128, .bf16⟩
  | .local _ .vmem, ⟨1, _⟩ => ⟨S1x8x512x128, .bf16⟩
  | .local _ .vmem, ⟨2, _⟩ => ⟨S1x8x16x128, .bf16⟩
  | .local _ .vmem, ⟨3, _⟩ => ⟨S1x8x16x128, .bf16⟩
  | .local _ .vmem, ⟨4, _⟩ => ⟨S1x512x1024, .f32⟩
  | .local _ .vmem, ⟨5, _⟩ => ⟨S1x512x1024, .f32⟩
  | .local _ .vmem, ⟨6, _⟩ => ⟨S1x16x1024, .f32⟩
  | .local _ .vmem, ⟨7, _⟩ => ⟨S1x16x1024, .f32⟩
  | .local _ .vmem, ⟨8, _⟩ => ⟨S1x8x1024, .f32⟩
  | .local _ .vmem, ⟨9, _⟩ => ⟨S1x8x1024, .f32⟩
  | .local _ .vmem, ⟨10, _⟩ => ⟨S1024x1024, .bf16⟩
  | .local _ .vmem, ⟨11, _⟩ => ⟨S1x1024x5632, .bf16⟩
  | .local _ .vmem, ⟨12, _⟩ => ⟨S8x5632, .f32⟩
  | .local _ .vmem, ⟨13, _⟩ => ⟨S1x2816x1024, .bf16⟩
  | .local _ .vmem, ⟨14, _⟩ => ⟨S1x512x1024, .f32⟩
  | .local _ .vmem, ⟨15, _⟩ => ⟨S1x512x1024, .f32⟩
  | .local _ .vmem, ⟨16, _⟩ => ⟨S528x1024, .bf16⟩
  | .local _ .vmem, ⟨17, _⟩ => ⟨S512x1024, .f32⟩
  | .local _ .vmem, ⟨18, _⟩ => ⟨S512x1024, .f32⟩
  | .local _ .vmem, ⟨19, _⟩ => ⟨S8x528x128, .f32⟩
  | _, _ => ⟨S2x8x8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x16x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Ffn0ReferenceIdeal.lean ====
abbrev S2x8x8192x128 : Shape := ⟨4, ![2, 8, 8192, 128]⟩
abbrev S2x8192x1024 : Shape := ⟨3, ![2, 8192, 1024]⟩
abbrev S2x8x1024 : Shape := ⟨3, ![2, 8, 1024]⟩
abbrev S1024x1024 : Shape := ⟨2, ![1024, 1024]⟩
abbrev S2x1024x5632 : Shape := ⟨3, ![2, 1024, 5632]⟩
abbrev S8x5632 : Shape := ⟨2, ![8, 5632]⟩
abbrev S2x2816x1024 : Shape := ⟨3, ![2, 2816, 1024]⟩
abbrev S2x1x1024 : Shape := ⟨3, ![2, 1, 1024]⟩
abbrev S2x1024 : Shape := ⟨2, ![2, 1024]⟩
abbrev S3x5632 : Shape := ⟨2, ![3, 5632]⟩
abbrev S1x5632 : Shape := ⟨2, ![1, 5632]⟩
abbrev S5632 : Shape := ⟨1, ![5632]⟩
abbrev S2x8192x8x128 : Shape := ⟨4, ![2, 8192, 8, 128]⟩
abbrev S_ : Shape := ⟨0, ![]⟩
abbrev S2x8192 : Shape := ⟨2, ![2, 8192]⟩
abbrev S2x8192x1 : Shape := ⟨3, ![2, 8192, 1]⟩
abbrev S1x1024x5632 : Shape := ⟨3, ![1, 1024, 5632]⟩
abbrev S1024x5632 : Shape := ⟨2, ![1024, 5632]⟩
abbrev S2x8192x5632 : Shape := ⟨3, ![2, 8192, 5632]⟩
abbrev S2x8194x5632 : Shape := ⟨3, ![2, 8194, 5632]⟩
abbrev S1x1x5632 : Shape := ⟨3, ![1, 1, 5632]⟩
abbrev S2x8192x2816 : Shape := ⟨3, ![2, 8192, 2816]⟩
abbrev S1x2816x1024 : Shape := ⟨3, ![1, 2816, 1024]⟩
abbrev S2816x1024 : Shape := ⟨2, ![2816, 1024]⟩

abbrev nBuf : Space → Nat
  | .hbm => 104
  | .vmem => 0
  | .smem => 0
  | _ => 0

abbrev bufTy : (tb : Table) → Fin (tcTables nBuf tb) → BufTy
  | .hbm, ⟨0, _⟩ => ⟨S2x8x8192x128, .bf16⟩
  | .hbm, ⟨1, _⟩ => ⟨S2x8192x1024, .f32⟩
  | .hbm, ⟨2, _⟩ => ⟨S2x8x1024, .f32⟩
  | .hbm, ⟨3, _⟩ => ⟨S1024x1024, .bf16⟩
  | .hbm, ⟨4, _⟩ => ⟨S2x1024x5632, .bf16⟩
  | .hbm, ⟨5, _⟩ => ⟨S8x5632, .f32⟩
  | .hbm, ⟨6, _⟩ => ⟨S2x2816x1024, .bf16⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x1x1024, .f32⟩
  | .hbm, ⟨17, _⟩ => ⟨S2x1024, .f32⟩
  | .hbm, ⟨18, _⟩ => ⟨S2x1x1024, .f32⟩
  | .hbm, ⟨19, _⟩ => ⟨S2x1x1024, .f32⟩
  | .hbm, ⟨20, _⟩ => ⟨S2x1024, .f32⟩
  | .hbm, ⟨21, _⟩ => ⟨S2x1x1024, .f32⟩
  | .hbm, ⟨22, _⟩ => ⟨S3x5632, .f32⟩
  | .hbm, ⟨23, _⟩ => ⟨S1x5632, .f32⟩
  | .hbm, ⟨24, _⟩ => ⟨S5632, .f32⟩
  | .hbm, ⟨25, _⟩ => ⟨S2x8192x8x128, .bf16⟩
  | .hbm, ⟨26, _⟩ => ⟨S2x8192x1024, .bf16⟩
  | .hbm, ⟨27, _⟩ => ⟨S2x8192x1024, .f32⟩
  | .hbm, ⟨28, _⟩ => ⟨S1024x1024, .f32⟩
  | .hbm, ⟨29, _⟩ => ⟨S2x8192x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S_, .f32⟩
  | .hbm, ⟨35, _⟩ => ⟨S2x8192, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S_, .f32⟩
  | .hbm, ⟨49, _⟩ => ⟨S2x1x1024, .f32⟩
  | .hbm, ⟨50, _⟩ => ⟨S2x1x1024, .f32⟩
  | .hbm, ⟨51, _⟩ => ⟨S2x8192x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S1x1024x5632, .bf16⟩
  | .hbm, ⟨56, _⟩ => ⟨S1024x5632, .bf16⟩
  | .hbm, ⟨57, _⟩ => ⟨S1024x5632, .f32⟩
  | .hbm, ⟨58, _⟩ => ⟨S2x8192x5632, .f32⟩
  | .hbm, ⟨59, _⟩ => ⟨S_, .i32⟩
  | .hbm, ⟨60, _⟩ => ⟨S_, .f32⟩
  | .hbm, ⟨61, _⟩ => ⟨S2x8194x5632, .f32⟩
  | .hbm, ⟨62, _⟩ => ⟨S2x8192x5632, .f32⟩
  | .hbm, ⟨63, _⟩ => ⟨S1x5632, .f32⟩
  | .hbm, ⟨64, _⟩ => ⟨S5632, .f32⟩
  | .hbm, ⟨65, _⟩ => ⟨S1x1x5632, .f32⟩
  | .hbm, ⟨66, _⟩ => ⟨S2x8192x5632, .f32⟩
  | .hbm, ⟨67, _⟩ => ⟨S2x8192x5632, .f32⟩
  | .hbm, ⟨68, _⟩ => ⟨S1x1x5632, .f32⟩
  | .hbm, ⟨69, _⟩ => ⟨S2x8192x5632, .f32⟩
  | .hbm, ⟨70, _⟩ => ⟨S2x8192x5632, .f32⟩
  | .hbm, ⟨71, _⟩ => ⟨S2x8192x5632, .f32⟩
  | .hbm, ⟨72, _⟩ => ⟨S1x5632, .f32⟩
  | .hbm, ⟨73, _⟩ => ⟨S5632, .f32⟩
  | .hbm, ⟨74, _⟩ => ⟨S1x1x5632, .f32⟩
  | .hbm, ⟨75, _⟩ => ⟨S2x8192x5632, .f32⟩
  | .hbm, ⟨76, _⟩ => ⟨S2x8192x5632, .f32⟩
  | .hbm, ⟨77, _⟩ => ⟨S2x8192x5632, .f32⟩
  | .hbm, ⟨78, _⟩ => ⟨S2x8192x5632, .f32⟩
  | .hbm, ⟨79, _⟩ => ⟨S1x5632, .f32⟩
  | .hbm, ⟨80, _⟩ => ⟨S5632, .f32⟩
  | .hbm, ⟨81, _⟩ => ⟨S1x1x5632, .f32⟩
  | .hbm, ⟨82, _⟩ => ⟨S2x8192x5632, .f32⟩
  | .hbm, ⟨83, _⟩ => ⟨S2x8192x5632, .f32⟩
  | .hbm, ⟨84, _⟩ => ⟨S2x8192x5632, .f32⟩
  | .hbm, ⟨85, _⟩ => ⟨S2x8192x2816, .f32⟩
  | .hbm, ⟨86, _⟩ => ⟨S2x8192x2816, .f32⟩
  | .hbm, ⟨87, _⟩ => ⟨S2x8192x2816, .f32⟩
  | .hbm, ⟨88, _⟩ => ⟨S2x8192x2816, .f32⟩
  | .hbm, ⟨89, _⟩ => ⟨S_, .f32⟩
  | .hbm, ⟨90, _⟩ => ⟨S2x8192x2816, .f32⟩
  | .hbm, ⟨91, _⟩ => ⟨S2x8192x2816, .f32⟩
  | .hbm, ⟨92, _⟩ => ⟨S_, .f32⟩
  | .hbm, ⟨93, _⟩ => ⟨S2x8192x2816, .f32⟩
  | .hbm, ⟨94, _⟩ => ⟨S2x8192x2816, .f32⟩
  | .hbm, ⟨95, _⟩ => ⟨S2x8192x2816, .f32⟩
  | .hbm, ⟨96, _⟩ => ⟨S2x8192x2816, .f32⟩
  | .hbm, ⟨97, _⟩ => ⟨S1x2816x1024, .bf16⟩
  | .hbm, ⟨98, _⟩ => ⟨S2816x1024, .bf16⟩
  | .hbm, ⟨99, _⟩ => ⟨S2816x1024, .f32⟩
  | .hbm, ⟨100, _⟩ => ⟨S2x8192x1024, .f32⟩
  | .hbm, ⟨101, _⟩ => ⟨S2x8192x1024, .f32⟩
  | .hbm, ⟨102, _⟩ => ⟨S2x8192x1024, .f32⟩
  | .hbm, ⟨103, _⟩ => ⟨S2x8192x1024, .f32⟩
  | _, _ => ⟨S2x8x8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst : Ref sig .tc := ⟨.hbm, 34, rfl⟩
abbrev main_v27 : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_2 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_c : Ref sig .tc := ⟨.hbm, 59, rfl⟩
abbrev main_call0_v0 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_3 : Ref sig .tc := ⟨.hbm, 89, rfl⟩
abbrev main_v76 : Ref sig .tc := ⟨.hbm, 90, rfl⟩
abbrev main_v77 : Ref sig .tc := ⟨.hbm, 91, rfl⟩
abbrev main_cst_4 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩

abbrev nD : Nat := 1
abbrev τ : Topo := Topo.v7x

variable {F : FTy → Type} [FloatOps F]
-- ==== QkvKernel.lean ====
abbrev S2x8192x1024 : Shape := ⟨3, ![2, 8192, 1024]⟩
abbrev S2x8x1024 : Shape := ⟨3, ![2, 8, 1024]⟩
abbrev S1024x3072 : Shape := ⟨2, ![1024, 3072]⟩
abbrev S2x8x128x8192 : Shape := ⟨4, ![2, 8, 128, 8192]⟩
abbrev S2x8x8192x128 : Shape := ⟨4, ![2, 8, 8192, 128]⟩
abbrev S1x1024x1024 : Shape := ⟨3, ![1, 1024, 1024]⟩
abbrev S1x8x1024 : Shape := ⟨3, ![1, 8, 1024]⟩
abbrev S1x8x128x1024 : Shape := ⟨4, ![1, 8, 128, 1024]⟩
abbrev S1x8x1024x128 : Shape := ⟨4, ![1, 8, 1024, 128]⟩
abbrev S1024x1024 : Shape := ⟨2, ![1024, 1024]⟩
abbrev S8x1024 : Shape := ⟨2, ![8, 1024]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩
abbrev S1024x128 : Shape := ⟨2, ![1024, 128]⟩
abbrev S128x1024 : Shape := ⟨2, ![128, 1024]⟩
abbrev S1x1x128x1024 : Shape := ⟨4, ![1, 1, 128, 1024]⟩
abbrev S1x1x1024x128 : Shape := ⟨4, ![1, 1, 1024, 128]⟩

abbrev nBuf : Space → Nat
  | .hbm => 6
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x8x1024, .f32⟩
  | .hbm, ⟨2, _⟩ => ⟨S1024x3072, .bf16⟩
  | .hbm, ⟨3, _⟩ => ⟨S2x8x128x8192, .bf16⟩
  | .hbm, ⟨4, _⟩ => ⟨S2x8x8192x128, .bf16⟩
  | .hbm, ⟨5, _⟩ => ⟨S2x8x128x8192, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x3072, .bf16⟩
  | .local _ .vmem, ⟨5, _⟩ => ⟨S1x8x128x1024, .bf16⟩
  | .local _ .vmem, ⟨6, _⟩ => ⟨S1x8x128x1024, .bf16⟩
  | .local _ .vmem, ⟨7, _⟩ => ⟨S1x8x1024x128, .bf16⟩
  | .local _ .vmem, ⟨8, _⟩ => ⟨S1x8x1024x128, .bf16⟩
  | .local _ .vmem, ⟨9, _⟩ => ⟨S1x8x128x1024, .bf16⟩
  | .local _ .vmem, ⟨10, _⟩ => ⟨S1x8x128x1024, .bf16⟩
  | .local _ .vmem, ⟨11, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== QkvReferenceIdeal.lean ====
abbrev S2x8192x1024 : Shape := ⟨3, ![2, 8192, 1024]⟩
abbrev S2x8x1024 : Shape := ⟨3, ![2, 8, 1024]⟩
abbrev S1024x3072 : Shape := ⟨2, ![1024, 3072]⟩
abbrev S2x1x1024 : Shape := ⟨3, ![2, 1, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S2x8192x3072 : Shape := ⟨3, ![2, 8192, 3072]⟩
abbrev S2x8192x8x128 : Shape := ⟨4, ![2, 8192, 8, 128]⟩
abbrev S2x8x128x8192 : Shape := ⟨4, ![2, 8, 128, 8192]⟩
abbrev S2x8x8192x128 : Shape := ⟨4, ![2, 8, 8192, 128]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8x1024, .f32⟩
  | .hbm, ⟨2, _⟩ => ⟨S1024x3072, .bf16⟩
  | .hbm, ⟨3, _⟩ => ⟨S2x1x1024, .f32⟩
  | .hbm, ⟨4, _⟩ => ⟨S2x1024, .f32⟩
  | .hbm, ⟨5, _⟩ => ⟨S2x1x1024, .f32⟩
  | .hbm, ⟨6, _⟩ => ⟨S2x1x1024, .f32⟩
  | .hbm, ⟨7, _⟩ => ⟨S2x1024, .f32⟩
  | .hbm, ⟨8, _⟩ => ⟨S2x1x1024, .f32⟩
  | .hbm, ⟨9, _⟩ => ⟨S2x1x1024, .f32⟩
  | .hbm, ⟨10, _⟩ => ⟨S2x1024, .f32⟩
  | .hbm, ⟨11, _⟩ => ⟨S2x1x1024, .f32⟩
  | .hbm, ⟨12, _⟩ => ⟨S2x8192x1024, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x1024, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x1x1024, .f32⟩
  | .hbm, ⟨29, _⟩ => ⟨S2x1x1024, .f32⟩
  | .hbm, ⟨30, _⟩ => ⟨S2x8192x1024, .f32⟩
  | .hbm, ⟨31, _⟩ => ⟨S2x8192x1024, .f32⟩
  | .hbm, ⟨32, _⟩ => ⟨S2x8192x1024, .f32⟩
  | .hbm, ⟨33, _⟩ => ⟨S2x8192x1024, .f32⟩
  | .hbm, ⟨34, _⟩ => ⟨S1024x3072, .f32⟩
  | .hbm, ⟨35, _⟩ => ⟨S2x8192x3072, .f32⟩
  | .hbm, ⟨36, _⟩ => ⟨S2x8192x1024, .f32⟩
  | .hbm, ⟨37, _⟩ => ⟨S2x8192x1024, .f32⟩
  | .hbm, ⟨38, _⟩ => ⟨S2x8192x1024, .f32⟩
  | .hbm, ⟨39, _⟩ => ⟨S2x8192x8x128, .f32⟩
  | .hbm, ⟨40, _⟩ => ⟨S2x8192x8x128, .f32⟩
  | .hbm, ⟨41, _⟩ => ⟨S2x8192x8x128, .f32⟩
  | .hbm, ⟨42, _⟩ => ⟨S2x8x128x8192, .f32⟩
  | .hbm, ⟨43, _⟩ => ⟨S_, .f32⟩
  | .hbm, ⟨44, _⟩ => ⟨S2x8x128x8192, .f32⟩
  | .hbm, ⟨45, _⟩ => ⟨S2x8x128x8192, .f32⟩
  | .hbm, ⟨46, _⟩ => ⟨S2x8x128x8192, .bf16⟩
  | .hbm, ⟨47, _⟩ => ⟨S2x8x8192x128, .f32⟩
  | .hbm, ⟨48, _⟩ => ⟨S2x8x8192x128, .bf16⟩
  | .hbm, ⟨49, _⟩ => ⟨S2x8x128x8192, .f32⟩
  | .hbm, ⟨50, _⟩ => ⟨S2x8x128x8192, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== QKernel.lean ====
abbrev S2x8192x1024 : Shape := ⟨3, ![2, 8192, 1024]⟩
abbrev S2x8x1024 : Shape := ⟨3, ![2, 8, 1024]⟩
abbrev S8x384 : Shape := ⟨2, ![8, 384]⟩
abbrev S1024x384 : Shape := ⟨2, ![1024, 384]⟩
abbrev S384x3072 : Shape := ⟨2, ![384, 3072]⟩
abbrev S2x8192x32 : Shape := ⟨3, ![2, 8192, 32]⟩
abbrev S2x8x256x8192 : Shape := ⟨4, ![2, 8, 256, 8192]⟩
abbrev S1x1024x1024 : Shape := ⟨3, ![1, 1024, 1024]⟩
abbrev S1x8x1024 : Shape := ⟨3, ![1, 8, 1024]⟩
abbrev S1x1024x32 : Shape := ⟨3, ![1, 1024, 32]⟩
abbrev S1x8x256x1024 : Shape := ⟨4, ![1, 8, 256, 1024]⟩
abbrev S8x1024 : Shape := ⟨2, ![8, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S1x384 : Shape := ⟨2, ![1, 384]⟩
abbrev S1024x32 : Shape := ⟨2, ![1024, 32]⟩
abbrev S1024x128 : Shape := ⟨2, ![1024, 128]⟩
abbrev S384x768 : Shape := ⟨2, ![384, 768]⟩
abbrev S1024x768 : Shape := ⟨2, ![1024, 768]⟩
abbrev S1024x256 : Shape := ⟨2, ![1024, 256]⟩
abbrev S256x1024 : Shape := ⟨2, ![256, 1024]⟩
abbrev S1x1x256x1024 : Shape := ⟨4, ![1, 1, 256, 1024]⟩

abbrev nBuf : Space → Nat
  | .hbm => 8
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x8x1024, .f32⟩
  | .hbm, ⟨2, _⟩ => ⟨S8x384, .f32⟩
  | .hbm, ⟨3, _⟩ => ⟨S1024x384, .bf16⟩
  | .hbm, ⟨4, _⟩ => ⟨S384x3072, .bf16⟩
  | .hbm, ⟨5, _⟩ => ⟨S2x8192x32, .f32⟩
  | .hbm, ⟨6, _⟩ => ⟨S2x8192x32, .f32⟩
  | .hbm, ⟨7, _⟩ => ⟨S2x8x256x8192, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S8x384, .f32⟩
  | .local _ .vmem, ⟨5, _⟩ => ⟨S1024x384, .bf16⟩
  | .local _ .vmem, ⟨6, _⟩ => ⟨S384x3072, .bf16⟩
  | .local _ .vmem, ⟨7, _⟩ => ⟨S1x1024x32, .f32⟩
  | .local _ .vmem, ⟨8, _⟩ => ⟨S1x1024x32, .f32⟩
  | .local _ .vmem, ⟨9, _⟩ => ⟨S1x1024x32, .f32⟩
  | .local _ .vmem, ⟨10, _⟩ => ⟨S1x1024x32, .f32⟩
  | .local _ .vmem, ⟨11, _⟩ => ⟨S1x8x256x1024, .bf16⟩
  | .local _ .vmem, ⟨12, _⟩ => ⟨S1x8x256x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S384x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== QReferenceIdeal.lean ====
abbrev S2x8192x1024 : Shape := ⟨3, ![2, 8192, 1024]⟩
abbrev S2x8x1024 : Shape := ⟨3, ![2, 8, 1024]⟩
abbrev S8x384 : Shape := ⟨2, ![8, 384]⟩
abbrev S1024x384 : Shape := ⟨2, ![1024, 384]⟩
abbrev S384x3072 : Shape := ⟨2, ![384, 3072]⟩
abbrev S2x8192x32 : Shape := ⟨3, ![2, 8192, 32]⟩
abbrev S2x1x1024 : Shape := ⟨3, ![2, 1, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S2x8192x384 : Shape := ⟨3, ![2, 8192, 384]⟩
abbrev S1x384 : Shape := ⟨2, ![1, 384]⟩
abbrev S384 : Shape := ⟨1, ![384]⟩
abbrev S1x1x384 : Shape := ⟨3, ![1, 1, 384]⟩
abbrev S2x8192x3072 : Shape := ⟨3, ![2, 8192, 3072]⟩
abbrev S2x8192x4x768 : Shape := ⟨4, ![2, 8192, 4, 768]⟩
abbrev S2x8192x4x256 : Shape := ⟨4, ![2, 8192, 4, 256]⟩
abbrev S2x8192x8x128 : Shape := ⟨4, ![2, 8192, 8, 128]⟩
abbrev S2x8192x128 : Shape := ⟨3, ![2, 8192, 128]⟩
abbrev S2x8192x1x128 : Shape := ⟨4, ![2, 8192, 1, 128]⟩
abbrev S2x8192x8x256 : Shape := ⟨4, ![2, 8192, 8, 256]⟩
abbrev S2x8x256x8192 : Shape := ⟨4, ![2, 8, 256, 8192]⟩

abbrev nBuf : Space → Nat
  | .hbm => 82
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8x1024, .f32⟩
  | .hbm, ⟨2, _⟩ => ⟨S8x384, .f32⟩
  | .hbm, ⟨3, _⟩ => ⟨S1024x384, .bf16⟩
  | .hbm, ⟨4, _⟩ => ⟨S384x3072, .bf16⟩
  | .hbm, ⟨5, _⟩ => ⟨S2x8192x32, .f32⟩
  | .hbm, ⟨6, _⟩ => ⟨S2x8192x32, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S1024x384, .f32⟩
  | .hbm, ⟨39, _⟩ => ⟨S2x8192x384, .f32⟩
  | .hbm, ⟨40, _⟩ => ⟨S1x384, .f32⟩
  | .hbm, ⟨41, _⟩ => ⟨S384, .f32⟩
  | .hbm, ⟨42, _⟩ => ⟨S2x8192x384, .f32⟩
  | .hbm, ⟨43, _⟩ => ⟨S_, .f32⟩
  | .hbm, ⟨44, _⟩ => ⟨S2x8192, .f32⟩
  | .hbm, ⟨45, _⟩ => ⟨S2x8192x1, .f32⟩
  | .hbm, ⟨46, _⟩ => ⟨S_, .f32⟩
  | .hbm, ⟨47, _⟩ => ⟨S2x8192x1, .f32⟩
  | .hbm, ⟨48, _⟩ => ⟨S2x8192x1, .f32⟩
  | .hbm, ⟨49, _⟩ => ⟨S_, .f32⟩
  | .hbm, ⟨50, _⟩ => ⟨S2x8192x1, .f32⟩
  | .hbm, ⟨51, _⟩ => ⟨S2x8192x1, .f32⟩
  | .hbm, ⟨52, _⟩ => ⟨S2x8192x1, .f32⟩
  | .hbm, ⟨53, _⟩ => ⟨S2x8192x384, .f32⟩
  | .hbm, ⟨54, _⟩ => ⟨S2x8192x384, .f32⟩
  | .hbm, ⟨55, _⟩ => ⟨S1x1x384, .f32⟩
  | .hbm, ⟨56, _⟩ => ⟨S2x8192x384, .f32⟩
  | .hbm, ⟨57, _⟩ => ⟨S2x8192x384, .f32⟩
  | .hbm, ⟨58, _⟩ => ⟨S384x3072, .f32⟩
  | .hbm, ⟨59, _⟩ => ⟨S2x8192x3072, .f32⟩
  | .hbm, ⟨60, _⟩ => ⟨S2x8192x4x768, .f32⟩
  | .hbm, ⟨61, _⟩ => ⟨S2x8192x4x256, .f32⟩
  | .hbm, ⟨62, _⟩ => ⟨S2x8192x8x128, .f32⟩
  | .hbm, ⟨63, _⟩ => ⟨S2x8192x4x256, .f32⟩
  | .hbm, ⟨64, _⟩ => ⟨S2x8192x8x128, .f32⟩
  | .hbm, ⟨65, _⟩ => ⟨S2x8192x4x256, .f32⟩
  | .hbm, ⟨66, _⟩ => ⟨S2x8192x8x128, .f32⟩
  | .hbm, ⟨67, _⟩ => ⟨S2x8192x128, .f32⟩
  | .hbm, ⟨68, _⟩ => ⟨S2x8192x1x128, .f32⟩
  | .hbm, ⟨69, _⟩ => ⟨S2x8192x128, .f32⟩
  | .hbm, ⟨70, _⟩ => ⟨S2x8192x1x128, .f32⟩
  | .hbm, ⟨71, _⟩ => ⟨S2x8192x8x128, .f32⟩
  | .hbm, ⟨72, _⟩ => ⟨S2x8192x8x128, .f32⟩
  | .hbm, ⟨73, _⟩ => ⟨S2x8192x8x128, .f32⟩
  | .hbm, ⟨74, _⟩ => ⟨S2x8192x8x128, .f32⟩
  | .hbm, ⟨75, _⟩ => ⟨S2x8192x8x128, .f32⟩
  | .hbm, ⟨76, _⟩ => ⟨S2x8192x8x256, .f32⟩
  | .hbm, ⟨77, _⟩ => ⟨S_, .f32⟩
  | .hbm, ⟨78, _⟩ => ⟨S2x8192x8x256, .f32⟩
  | .hbm, ⟨79, _⟩ => ⟨S2x8192x8x256, .f32⟩
  | .hbm, ⟨80, _⟩ => ⟨S2x8x256x8192, .f32⟩
  | .hbm, ⟨81, _⟩ => ⟨S2x8x256x8192, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_6 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩

abbrev nD : Nat := 1
abbrev τ : Topo := Topo.v7x

variable {F : FTy → Type} [FloatOps F]
-- ==== KvKernel.lean ====
abbrev S2x8192x1024 : Shape := ⟨3, ![2, 8192, 1024]⟩
abbrev S2x8x1024 : Shape := ⟨3, ![2, 8, 1024]⟩
abbrev S8x256 : Shape := ⟨2, ![8, 256]⟩
abbrev S1024x512 : Shape := ⟨2, ![1024, 512]⟩
abbrev S256x2048 : Shape := ⟨2, ![256, 2048]⟩
abbrev S2x8192x32 : Shape := ⟨3, ![2, 8192, 32]⟩
abbrev S2x8x8192x256 : Shape := ⟨4, ![2, 8, 8192, 256]⟩
abbrev S2x8x160x8192 : Shape := ⟨4, ![2, 8, 160, 8192]⟩
abbrev S1x1024x1024 : Shape := ⟨3, ![1, 1024, 1024]⟩
abbrev S1x8x1024 : Shape := ⟨3, ![1, 8, 1024]⟩
abbrev S1x1024x32 : Shape := ⟨3, ![1, 1024, 32]⟩
abbrev S1x8x1024x256 : Shape := ⟨4, ![1, 8, 1024, 256]⟩
abbrev S1x8x160x1024 : Shape := ⟨4, ![1, 8, 160, 1024]⟩
abbrev S8x1024 : Shape := ⟨2, ![8, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩
abbrev S1024x256 : Shape := ⟨2, ![1024, 256]⟩
abbrev S1x256 : Shape := ⟨2, ![1, 256]⟩
abbrev S1024x32 : Shape := ⟨2, ![1024, 32]⟩
abbrev S1024x128 : Shape := ⟨2, ![1024, 128]⟩
abbrev S1024x2048 : Shape := ⟨2, ![1024, 2048]⟩
abbrev S1x1x1024x128 : Shape := ⟨4, ![1, 1, 1024, 128]⟩
abbrev S128x1024 : Shape := ⟨2, ![128, 1024]⟩
abbrev S16x1024 : Shape := ⟨2, ![16, 1024]⟩
abbrev S64x1024 : Shape := ⟨2, ![64, 1024]⟩
abbrev S1x1x64x1024 : Shape := ⟨4, ![1, 1, 64, 1024]⟩
abbrev S1x1x16x1024 : Shape := ⟨4, ![1, 1, 16, 1024]⟩

abbrev nBuf : Space → Nat
  | .hbm => 9
  | .vmem => 15
  | .smem => 0
  | _ => 0

abbrev bufTy : (tb : Table) → Fin (tcTables nBuf tb) → BufTy
  | .hbm, ⟨0, _⟩ => ⟨S2x8192x1024, .f32⟩
  | .hbm, ⟨1, _⟩ => ⟨S2x8x1024, .f32⟩
  | .hbm, ⟨2, _⟩ => ⟨S8x256, .f32⟩
  | .hbm, ⟨3, _⟩ => ⟨S1024x512, .bf16⟩
  | .hbm, ⟨4, _⟩ => ⟨S256x2048, .bf16⟩
  | .hbm, ⟨5, _⟩ => ⟨S2x8192x32, .f32⟩
  | .hbm, ⟨6, _⟩ => ⟨S2x8192x32, .f32⟩
  | .hbm, ⟨7, _⟩ => ⟨S2x8x8192x256, .bf16⟩
  | .hbm, ⟨8, _⟩ => ⟨S2x8x160x8192, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x8x1024, .f32⟩
  | .local _ .vmem, ⟨3, _⟩ => ⟨S1x8x1024, .f32⟩
  | .local _ .vmem, ⟨4, _⟩ => ⟨S8x256, .f32⟩
  | .local _ .vmem, ⟨5, _⟩ => ⟨S1024x512, .bf16⟩
  | .local _ .vmem, ⟨6, _⟩ => ⟨S256x2048, .bf16⟩
  | .local _ .vmem, ⟨7, _⟩ => ⟨S1x1024x32, .f32⟩
  | .local _ .vmem, ⟨8, _⟩ => ⟨S1x1024x32, .f32⟩
  | .local _ .vmem, ⟨9, _⟩ => ⟨S1x1024x32, .f32⟩
  | .local _ .vmem, ⟨10, _⟩ => ⟨S1x1024x32, .f32⟩
  | .local _ .vmem, ⟨11, _⟩ => ⟨S1x8x1024x256, .bf16⟩
  | .local _ .vmem, ⟨12, _⟩ => ⟨S1x8x1024x256, .bf16⟩
  | .local _ .vmem, ⟨13, _⟩ => ⟨S1x8x160x1024, .bf16⟩
  | .local _ .vmem, ⟨14, _⟩ => ⟨S1x8x160x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x160x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KvReferenceIdeal.lean ====
abbrev S2x8192x1024 : Shape := ⟨3, ![2, 8192, 1024]⟩
abbrev S2x8x1024 : Shape := ⟨3, ![2, 8, 1024]⟩
abbrev S8x256 : Shape := ⟨2, ![8, 256]⟩
abbrev S1024x512 : Shape := ⟨2, ![1024, 512]⟩
abbrev S256x2048 : Shape := ⟨2, ![256, 2048]⟩
abbrev S2x8192x32 : Shape := ⟨3, ![2, 8192, 32]⟩
abbrev S2x1x1024 : Shape := ⟨3, ![2, 1, 1024]⟩
abbrev S2x1024 : Shape := ⟨2, ![2, 1024]⟩
abbrev S_ : Shape := ⟨0, ![]⟩
abbrev S2x8192 : Shape := ⟨2, ![2, 8192]⟩
abbrev S2x8192x1 : Shape := ⟨3, ![2, 8192, 1]⟩
abbrev S2x8192x512 : Shape := ⟨3, ![2, 8192, 512]⟩
abbrev S2x8192x256 : Shape := ⟨3, ![2, 8192, 256]⟩
abbrev S1x256 : Shape := ⟨2, ![1, 256]⟩
abbrev S256 : Shape := ⟨1, ![256]⟩
abbrev S1x1x256 : Shape := ⟨3, ![1, 1, 256]⟩
abbrev S2x8192x128 : Shape := ⟨3, ![2, 8192, 128]⟩
abbrev S2x8192x2048 : Shape := ⟨3, ![2, 8192, 2048]⟩
abbrev S2x8192x8x128 : Shape := ⟨4, ![2, 8192, 8, 128]⟩
abbrev S2x8192x1x128 : Shape := ⟨4, ![2, 8192, 1, 128]⟩
abbrev S2x8192x8x256 : Shape := ⟨4, ![2, 8192, 8, 256]⟩
abbrev S2x8192x8x2x64 : Shape := ⟨5, ![2, 8192, 8, 2, 64]⟩
abbrev S2x8192x8x2x16 : Shape := ⟨5, ![2, 8192, 8, 2, 16]⟩
abbrev S2x8192x8x2x80 : Shape := ⟨5, ![2, 8192, 8, 2, 80]⟩
abbrev S2x8192x8x160 : Shape := ⟨4, ![2, 8192, 8, 160]⟩
abbrev S2x8x8192x256 : Shape := ⟨4, ![2, 8, 8192, 256]⟩
abbrev S2x8x160x8192 : Shape := ⟨4, ![2, 8, 160, 8192]⟩

abbrev nBuf : Space → Nat
  | .hbm => 83
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8x1024, .f32⟩
  | .hbm, ⟨2, _⟩ => ⟨S8x256, .f32⟩
  | .hbm, ⟨3, _⟩ => ⟨S1024x512, .bf16⟩
  | .hbm, ⟨4, _⟩ => ⟨S256x2048, .bf16⟩
  | .hbm, ⟨5, _⟩ => ⟨S2x8192x32, .f32⟩
  | .hbm, ⟨6, _⟩ => ⟨S2x8192x32, .f32⟩
  | .hbm, ⟨7, _⟩ => ⟨S2x1x1024, .f32⟩
  | .hbm, ⟨8, _⟩ => ⟨S2x1024, .f32⟩
  | .hbm, ⟨9, _⟩ => ⟨S2x1x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1024, .f32⟩
  | .hbm, ⟨15, _⟩ => ⟨S2x1x1024, .f32⟩
  | .hbm, ⟨16, _⟩ => ⟨S2x8192x1024, .f32⟩
  | .hbm, ⟨17, _⟩ => ⟨S_, .f32⟩
  | .hbm, ⟨18, _⟩ => ⟨S2x8192, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S_, .f32⟩
  | .hbm, ⟨24, _⟩ => ⟨S2x8192x1, .f32⟩
  | .hbm, ⟨25, _⟩ => ⟨S2x8192x1, .f32⟩
  | .hbm, ⟨26, _⟩ => ⟨S2x8192x1, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x1x1024, .f32⟩
  | .hbm, ⟨33, _⟩ => ⟨S2x1x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S1024x512, .f32⟩
  | .hbm, ⟨39, _⟩ => ⟨S2x8192x512, .f32⟩
  | .hbm, ⟨40, _⟩ => ⟨S2x8192x256, .f32⟩
  | .hbm, ⟨41, _⟩ => ⟨S1x256, .f32⟩
  | .hbm, ⟨42, _⟩ => ⟨S256, .f32⟩
  | .hbm, ⟨43, _⟩ => ⟨S2x8192x256, .f32⟩
  | .hbm, ⟨44, _⟩ => ⟨S_, .f32⟩
  | .hbm, ⟨45, _⟩ => ⟨S2x8192, .f32⟩
  | .hbm, ⟨46, _⟩ => ⟨S2x8192x1, .f32⟩
  | .hbm, ⟨47, _⟩ => ⟨S_, .f32⟩
  | .hbm, ⟨48, _⟩ => ⟨S2x8192x1, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1, .f32⟩
  | .hbm, ⟨54, _⟩ => ⟨S2x8192x256, .f32⟩
  | .hbm, ⟨55, _⟩ => ⟨S2x8192x256, .f32⟩
  | .hbm, ⟨56, _⟩ => ⟨S1x1x256, .f32⟩
  | .hbm, ⟨57, _⟩ => ⟨S2x8192x256, .f32⟩
  | .hbm, ⟨58, _⟩ => ⟨S2x8192x256, .f32⟩
  | .hbm, ⟨59, _⟩ => ⟨S2x8192x128, .f32⟩
  | .hbm, ⟨60, _⟩ => ⟨S2x8192x128, .f32⟩
  | .hbm, ⟨61, _⟩ => ⟨S2x8192x128, .f32⟩
  | .hbm, ⟨62, _⟩ => ⟨S2x8192x128, .f32⟩
  | .hbm, ⟨63, _⟩ => ⟨S2x8192x128, .f32⟩
  | .hbm, ⟨64, _⟩ => ⟨S2x8192x128, .f32⟩
  | .hbm, ⟨65, _⟩ => ⟨S2x8192x128, .f32⟩
  | .hbm, ⟨66, _⟩ => ⟨S256x2048, .f32⟩
  | .hbm, ⟨67, _⟩ => ⟨S2x8192x2048, .f32⟩
  | .hbm, ⟨68, _⟩ => ⟨S2x8192x1024, .f32⟩
  | .hbm, ⟨69, _⟩ => ⟨S2x8192x8x128, .f32⟩
  | .hbm, ⟨70, _⟩ => ⟨S2x8192x1x128, .f32⟩
  | .hbm, ⟨71, _⟩ => ⟨S2x8192x8x128, .f32⟩
  | .hbm, ⟨72, _⟩ => ⟨S2x8192x8x256, .f32⟩
  | .hbm, ⟨73, _⟩ => ⟨S2x8192x1024, .f32⟩
  | .hbm, ⟨74, _⟩ => ⟨S2x8192x8x2x64, .f32⟩
  | .hbm, ⟨75, _⟩ => ⟨S2x8192x8x2x64, .bf16⟩
  | .hbm, ⟨76, _⟩ => ⟨S_, .bf16⟩
  | .hbm, ⟨77, _⟩ => ⟨S2x8192x8x2x16, .bf16⟩
  | .hbm, ⟨78, _⟩ => ⟨S2x8192x8x2x80, .bf16⟩
  | .hbm, ⟨79, _⟩ => ⟨S2x8192x8x160, .bf16⟩
  | .hbm, ⟨80, _⟩ => ⟨S2x8x8192x256, .f32⟩
  | .hbm, ⟨81, _⟩ => ⟨S2x8x8192x256, .bf16⟩
  | .hbm, ⟨82, _⟩ => ⟨S2x8x160x8192, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_6 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩

abbrev nD : Nat := 1
abbrev τ : Topo := Topo.v7x

variable {F : FTy → Type} [FloatOps F]
-- ==== Proof.IdealTrips.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Launch

@[expose] public section

set_option maxRecDepth 8192
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated frame kit. -/
local notation "𝕄" => MT nD τ sig Unit (Elt F) ℕ (UR sig nD τ) ℕ

variable (c : Dev nD) (i : grid0.Coords)
    (arg3 : Memref sig .tc .vmem S1x1x256x2048 .bf16) (harg3 : arg3.IsWhole)
    (arg4 : Memref sig .tc .vmem S1x1x8192x256 .bf16) (harg4 : arg4.IsWhole)
    (arg5 : Memref sig .tc .vmem S1x1x160x8192 .bf16) (harg5 : arg5.IsWhole)
    (arg6 : Memref sig .tc .vmem S512x1024 .f32) (harg6 : arg6.IsWhole)
    (arg7 : Memref sig .tc .vmem S1x1x2048x128 .bf16) (harg7 : arg7.IsWhole)
    (arg8 : Memref sig .tc .vmem S256x4096 .bf16) (harg8 : arg8.IsWhole)
    (arg9 : Memref sig .tc .vmem S512x4096 .f32) (harg9 : arg9.IsWhole)
    (arg10 : Memref sig .tc .vmem S1x4096 .f32) (harg10 : arg10.IsWhole)
    (arg11 : Memref sig .tc .vmem S512x4096 .bf16) (harg11 : arg11.IsWhole)
    (arg12 : Memref sig .tc .vmem S512x4096 .bf16) (harg12 : arg12.IsWhole)
    (arg13 : Memref sig .tc .vmem S1x4096 .f32) (harg13 : arg13.IsWhole)
    (arg14 : Memref sig .tc .vmem S1x4096 .f32) (harg14 : arg14.IsWhole)
    (arg15 : Memref sig .tc .vmem S1x4096 .f32) (harg15 : arg15.IsWhole)
    (arg16 : Memref sig .tc .vmem S1x4096 .f32) (harg16 : arg16.IsWhole)
    (arg17 : Memref sig .tc .vmem S80x4096 .f32) (harg17 : arg17.IsWhole)
    (v121 : BitVec 32)

/-- What one trip of the main loop holds: keys, values and masked queries at their contents (read only), and the two
    probability blocks, the two rescalings, the running maximum, the largest jump and the accumulator at any. -/
abbrev Held (X4 : BufTy.Contents (Elt F) arg4.view.ty) (X5 : BufTy.Contents (Elt F) arg5.view.ty) (X8 : BufTy.Contents (Elt F) arg8.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) : sProp 𝕄 :=
  iprop((arg4.view.loc (c : Thread nD τ) ↦[arg4.view.set]{fullShare} X4) ∗ (arg5.view.loc (c : Thread nD τ) ↦[arg5.view.set]{fullShare} X5) ∗ (arg8.view.loc (c : Thread nD τ) ↦[arg8.view.set]{fullShare} X8) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17))

/-- The contents of the seven buffers the main loop writes. -/
abbrev Seven : Type := BufTy.Contents (Elt F) arg11.view.ty × BufTy.Contents (Elt F) arg12.view.ty × BufTy.Contents (Elt F) arg13.view.ty × BufTy.Contents (Elt F) arg14.view.ty × BufTy.Contents (Elt F) arg15.view.ty × BufTy.Contents (Elt F) arg16.view.ty × BufTy.Contents (Elt F) arg17.view.ty

/-- ONE TRIP of the four-block loop, run at a symbolic trip number: the contents it leaves in the seven
    buffers are the run's own finds, as functions of the contents it meets. -/
@[irreducible] def trip1 (X4 : BufTy.Contents (Elt F) arg4.view.ty) (X5 : BufTy.Contents (Elt F) arg5.view.ty) (X8 : BufTy.Contents (Elt F) arg8.view.ty) (k : Fin (k0_t1_loop i).trips) :
    Σ' (N11 : BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg11.view.ty) (N12 : BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg12.view.ty) (N13 : BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg13.view.ty) (N14 : BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg14.view.ty) (N15 : BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg15.view.ty) (N16 : BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg16.view.ty) (N17 : BufTy.Contents (Elt F) arg11.view.ty → BufTy.Contents (Elt F) arg12.view.ty → BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg17.view.ty), ∀ (E : Set ℕ) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty),
      Held (F := F) c arg4 arg5 arg8 arg11 arg12 arg13 arg14 arg15 arg16 arg17 X4 X5 X8 f11 f12 f13 f14 f15 f16 f17
      ⊢ wp Idealize.ShloMosaic.frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 0#32 0#32 0#32 0#32 k PUnit.unit)
          (fun _ => Held (F := F) c arg4 arg5 arg8 arg11 arg12 arg13 arg14 arg15 arg16 arg17 X4 X5 X8
            (N11 f11 f12 f13 f14 f15 f16 f17) (N12 f11 f12 f13 f14 f15 f16 f17) (N13 f11 f12 f13 f14 f15 f16 f17) (N14 f11 f12 f13 f14 f15 f16 f17) (N15 f11 f12 f13 f14 f15 f16 f17) (N16 f11 f12 f13 f14 f15 f16 f17) (N17 f11 f12 f13 f14 f15 f16 f17)) := by
  refine ⟨?_, ?_, ?_, ?_, ?_, ?_, ?_, fun E f11 f12 f13 f14 f15 f16 f17 => ?run⟩
  case run =>
    unfold k0_t1_body
    iintro ⟨HR4, HR5, HR8, HW11, HW12, HW13, HW14, HW15, HW16, HW17⟩
    sl_exec
    sl_step
    sl_close

/-- The contents after trip `k`, from the contents before it. -/
def step1 (X4 : BufTy.Contents (Elt F) arg4.view.ty) (X5 : BufTy.Contents (Elt F) arg5.view.ty) (X8 : BufTy.Contents (Elt F) arg8.view.ty) (k : Fin (k0_t1_loop i).trips) (s : Seven (F := F) arg11 arg12 arg13 arg14 arg15 arg16 arg17) :
    Seven (F := F) arg11 arg12 arg13 arg14 arg15 arg16 arg17 :=
  ((trip1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 k).1 s.1 s.2.1 s.2.2.1 s.2.2.2.1 s.2.2.2.2.1 s.2.2.2.2.2.1 s.2.2.2.2.2.2, (trip1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 k).2.1 s.1 s.2.1 s.2.2.1 s.2.2.2.1 s.2.2.2.2.1 s.2.2.2.2.2.1 s.2.2.2.2.2.2, (trip1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 k).2.2.1 s.1 s.2.1 s.2.2.1 s.2.2.2.1 s.2.2.2.2.1 s.2.2.2.2.2.1 s.2.2.2.2.2.2, (trip1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 k).2.2.2.1 s.1 s.2.1 s.2.2.1 s.2.2.2.1 s.2.2.2.2.1 s.2.2.2.2.2.1 s.2.2.2.2.2.2, (trip1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 k).2.2.2.2.1 s.1 s.2.1 s.2.2.1 s.2.2.2.1 s.2.2.2.2.1 s.2.2.2.2.2.1 s.2.2.2.2.2.2, (trip1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 k).2.2.2.2.2.1 s.1 s.2.1 s.2.2.1 s.2.2.2.1 s.2.2.2.2.1 s.2.2.2.2.2.1 s.2.2.2.2.2.2, (trip1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 k).2.2.2.2.2.2.1 s.1 s.2.1 s.2.2.1 s.2.2.2.1 s.2.2.2.2.1 s.2.2.2.2.2.1 s.2.2.2.2.2.2)

/-- The contents after one trip, from the contents before it (past the last trip, those contents themselves). -/
@[irreducible] def next1 (X4 : BufTy.Contents (Elt F) arg4.view.ty) (X5 : BufTy.Contents (Elt F) arg5.view.ty) (X8 : BufTy.Contents (Elt F) arg8.view.ty) (k : ℕ) (s : Seven (F := F) arg11 arg12 arg13 arg14 arg15 arg16 arg17) :
    Seven (F := F) arg11 arg12 arg13 arg14 arg15 arg16 arg17 :=
  if h : k < (k0_t1_loop i).trips then step1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 ⟨k, h⟩ s else s

/-- The contents before trip `k`, from the contents `G` at the loop's entry. -/
def st1 (X4 : BufTy.Contents (Elt F) arg4.view.ty) (X5 : BufTy.Contents (Elt F) arg5.view.ty) (X8 : BufTy.Contents (Elt F) arg8.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) : ℕ → Seven (F := F) arg11 arg12 arg13 arg14 arg15 arg16 arg17
  | 0 => (G11, G12, G13, G14, G15, G16, G17)
  | k + 1 => next1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 k (st1 X4 X5 X8 G11 G12 G13 G14 G15 G16 G17 k)

theorem st1_succ (X4 : BufTy.Contents (Elt F) arg4.view.ty) (X5 : BufTy.Contents (Elt F) arg5.view.ty) (X8 : BufTy.Contents (Elt F) arg8.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (k : Fin (k0_t1_loop i).trips) :
    st1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 G11 G12 G13 G14 G15 G16 G17 (k.val + 1)
      = step1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 k (st1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 G11 G12 G13 G14 G15 G16 G17 k.val) := by
  show next1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 k.val _ = _
  unfold next1
  exact dif_pos k.isLt

/-- What is held before trip `k`. -/
def Inv1 (X4 : BufTy.Contents (Elt F) arg4.view.ty) (X5 : BufTy.Contents (Elt F) arg5.view.ty) (X8 : BufTy.Contents (Elt F) arg8.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (k : ℕ) : sProp 𝕄 :=
  Held (F := F) c arg4 arg5 arg8 arg11 arg12 arg13 arg14 arg15 arg16 arg17 X4 X5 X8
    (st1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 G11 G12 G13 G14 G15 G16 G17 k).1 (st1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 G11 G12 G13 G14 G15 G16 G17 k).2.1 (st1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 G11 G12 G13 G14 G15 G16 G17 k).2.2.1 (st1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 G11 G12 G13 G14 G15 G16 G17 k).2.2.2.1 (st1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 G11 G12 G13 G14 G15 G16 G17 k).2.2.2.2.1 (st1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 G11 G12 G13 G14 G15 G16 G17 k).2.2.2.2.2.1 (st1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 G11 G12 G13 G14 G15 G16 G17 k).2.2.2.2.2.2

/-- One trip keeps the invariant. -/
theorem region1 (E : Set ℕ) (X4 : BufTy.Contents (Elt F) arg4.view.ty) (X5 : BufTy.Contents (Elt F) arg5.view.ty) (X8 : BufTy.Contents (Elt F) arg8.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (k : Fin (k0_t1_loop i).trips) :
    Inv1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 G11 G12 G13 G14 G15 G16 G17 k.val
      ⊢ wp Idealize.ShloMosaic.frame (wpE (defs₀ (F := F)) Variants.none (c : Thread nD τ) none) E
          (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 0#32 0#32 0#32 0#32 k PUnit.unit)
          (fun _ => Inv1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 G11 G12 G13 G14 G15 G16 G17 (k.val + 1)) := by
  unfold Inv1
  rw [st1_succ]
  exact (trip1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 X8 k).2.2.2.2.2.2.2 E _ _ _ _ _ _ _

end Cert.KernelIdeal.Run
-- ==== Proof.IdealBody.lean ====
module

public import proofs.«01_k».proof.Proof.IdealTrips
public import proofs.«01_k».proof.Proof.Gen.KernelIdeal.Skeleton
public import proofs.«01_k».proof.Proof.Gen.KernelIdeal.Loops
public import proofs.«01_k».proof.Proof.Gen.KernelIdeal.Launch

@[expose] public section

set_option maxRecDepth 8192
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated frame kit. -/
local notation "𝕄" => MT nD τ sig Unit (Elt F) ℕ (UR sig nD τ) ℕ

/-- A disjunction from its left part. -/
theorem inl_of {P Q R : sProp 𝕄} (h : P ⊢ Q) : P ⊢ iprop(Q ∨ R) := h.trans or_intro_l
/-- A disjunction from its right part. -/
theorem inr_of {P Q R : sProp 𝕄} (h : P ⊢ R) : P ⊢ iprop(Q ∨ R) := h.trans or_intro_r

variable (c : Dev nD) (i : grid0.Coords)
    (arg3 : Memref sig .tc .vmem S1x1x256x2048 .bf16) (harg3 : arg3.IsWhole)
    (arg4 : Memref sig .tc .vmem S1x1x8192x256 .bf16) (harg4 : arg4.IsWhole)
    (arg5 : Memref sig .tc .vmem S1x1x160x8192 .bf16) (harg5 : arg5.IsWhole)
    (arg6 : Memref sig .tc .vmem S512x1024 .f32) (harg6 : arg6.IsWhole)
    (arg7 : Memref sig .tc .vmem S1x1x2048x128 .bf16) (harg7 : arg7.IsWhole)
    (arg8 : Memref sig .tc .vmem S256x4096 .bf16) (harg8 : arg8.IsWhole)
    (arg9 : Memref sig .tc .vmem S512x4096 .f32) (harg9 : arg9.IsWhole)
    (arg10 : Memref sig .tc .vmem S1x4096 .f32) (harg10 : arg10.IsWhole)
    (arg11 : Memref sig .tc .vmem S512x4096 .bf16) (harg11 : arg11.IsWhole)
    (arg12 : Memref sig .tc .vmem S512x4096 .bf16) (harg12 : arg12.IsWhole)
    (arg13 : Memref sig .tc .vmem S1x4096 .f32) (harg13 : arg13.IsWhole)
    (arg14 : Memref sig .tc .vmem S1x4096 .f32) (harg14 : arg14.IsWhole)
    (arg15 : Memref sig .tc .vmem S1x4096 .f32) (harg15 : arg15.IsWhole)
    (arg16 : Memref sig .tc .vmem S1x4096 .f32) (harg16 : arg16.IsWhole)
    (arg17 : Memref sig .tc .vmem S80x4096 .f32) (harg17 : arg17.IsWhole)

/-- THE KERNEL BODY at one grid point, run from any contents of its buffers: the output block ends at one of two contents:
    `A` where the largest jump of a running maximum was too large and the block is computed again, `B` otherwise. -/
@[irreducible] def body (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) :
    Σ' (A B : Buf (Elt F) (arg7.view.loc (c : Thread nD τ))), ∀ (E : Set ℕ),
      ((iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17)) : sProp 𝕄)
      ⊢ wp Idealize.ShloMosaic.frame (wpE (defs₀ (F := F)) Variants.none (c : Thread nD τ) none) E
          (cc0_mla_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (∃ g, (arg8.view.loc (c : Thread nD τ) ↦[arg8.view.set]{fullShare} g)) ∗ (∃ g, (arg9.view.loc (c : Thread nD τ) ↦[arg9.view.set]{fullShare} g)) ∗ (∃ g, (arg10.view.loc (c : Thread nD τ) ↦[arg10.view.set]{fullShare} g)) ∗ (∃ g, (arg11.view.loc (c : Thread nD τ) ↦[arg11.view.set]{fullShare} g)) ∗ (∃ g, (arg12.view.loc (c : Thread nD τ) ↦[arg12.view.set]{fullShare} g)) ∗ (∃ g, (arg13.view.loc (c : Thread nD τ) ↦[arg13.view.set]{fullShare} g)) ∗ (∃ g, (arg14.view.loc (c : Thread nD τ) ↦[arg14.view.set]{fullShare} g)) ∗ (∃ g, (arg15.view.loc (c : Thread nD τ) ↦[arg15.view.set]{fullShare} g)) ∗ (∃ g, (arg16.view.loc (c : Thread nD τ) ↦[arg16.view.set]{fullShare} g)) ∗ (∃ g, (arg17.view.loc (c : Thread nD τ) ↦[arg17.view.set]{fullShare} g)) ∗ ((arg7.view.loc (c : Thread nD τ) ↦[arg7.view.set]{fullShare} B) ∨ (arg7.view.loc (c : Thread nD τ) ↦[arg7.view.set]{fullShare} A))))) := by
  refine' ⟨_, _, fun E => ?run⟩
  case run =>
    sl_unfold [cc0_mla_attn]
    iintro ⟨HR3, HR4, HR5, HR6, HW7, HW8, HW9, HW10, HW11, HW12, HW13, HW14, HW15, HW16, HW17⟩

    sl_exec
    sl_for (fun k (_ : Unit) => Inv1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 X4 X5 (arg8.view.writes (Elt F) arg8.view.junk (body.sl.HW8_8 arg3 X3))
      f11 (arg12.view.writes (Elt F) arg12.view.junk body.sl.HW12_1) f13 (arg14.view.writes (Elt F) arg14.view.junk body.sl.HW14_1)
      (arg15.view.writes (Elt F) arg15.view.junk (body.sl.HW15_1 arg3 arg4 arg8 X3 X4))
      (arg16.view.writes (Elt F) arg16.view.junk body.sl.HW16_1) (arg17.view.writes (Elt F) arg17.view.junk body.sl.HW17_1) k)
      $$ [HR4 HR5 HW8 HW11 HW12 HW13 HW14 HW15 HW16 HW17]
    case region =>
      intro k _
      exact region1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 E _ _ _ _ _ _ _ _ _ _ k
    · unfold Inv1 Held st1
      isplitl [HR4]; · iexact HR4
      isplitl [HR5]; · iexact HR5
      isplitl [HW8]; · iexact HW8
      isplitl [HW11]; · iexact HW11
      isplitl [HW12]; · iexact HW12
      isplitl [HW13]; · iexact HW13
      isplitl [HW14]; · iexact HW14
      isplitl [HW15]; · iexact HW15
      isplitl [HW16]; · iexact HW16
      iexact HW17
    have htr2 : (k0_t2_loop i).trips = 0 := Nat.le_zero.mp (k0_t2_abs i).2.1
    have htr4 : (k0_t4_loop i).trips = 0 := Nat.le_zero.mp (k0_t4_abs i).2.1
    unfold Inv1 Held
    generalize hs : st1 (F := F) c i _ _ _ _ _ _ _ _ _ _ _ _ _ _ _ _ _ _ _ _ _ _ _ _ _ _ _ _ _ _ _ _ _ _ _ _ _ _ _ _ _ = s
    iintro %_ ⟨HR4, HR5, HW8, HW11, HW12, HW13, HW14, HW15, HW16, HW17⟩
    sl_exec
    by_cases hb : body.sl.v451 i arg3 arg4 arg6 arg8 arg11 arg12 arg13 arg14 arg15 arg16 arg17 X3 X4 X6 s = 1#1
    sl_exec
    sl_step
    subst hs
    isplitl [HR3]; · iexact HR3
    isplitl [HR4]; · iexact HR4
    isplitl [HR5]; · iexact HR5
    isplitl [HR6]; · iexact HR6
    isplitl [HW8]; · iexists _; iexact HW8
    isplitl [HW9]; · iexists _; iexact HW9
    isplitl [HW10]; · iexists _; iexact HW10
    isplitl [HW11]; · iexists _; iexact HW11
    isplitl [HW12]; · iexists _; iexact HW12
    isplitl [HW13]; · iexists _; iexact HW13
    isplitl [HW14]; · iexists _; iexact HW14
    isplitl [HW15]; · iexists _; iexact HW15
    isplitl [HW16]; · iexists _; iexact HW16
    isplitl [HW17]; · iexists _; iexact HW17
    refine inl_of ?_
    iintro HW7
    iexact HW7
    case neg =>
      sl_exec
      sl_step
      subst hs
      isplitl [HR3]; · iexact HR3
      isplitl [HR4]; · iexact HR4
      isplitl [HR5]; · iexact HR5
      isplitl [HR6]; · iexact HR6
      isplitl [HW8]; · iexists _; iexact HW8
      isplitl [HW9]; · iexists _; iexact HW9
      isplitl [HW10]; · iexists _; iexact HW10
      isplitl [HW11]; · iexists _; iexact HW11
      isplitl [HW12]; · iexists _; iexact HW12
      isplitl [HW13]; · iexists _; iexact HW13
      isplitl [HW14]; · iexists _; iexact HW14
      isplitl [HW15]; · iexists _; iexact HW15
      isplitl [HW16]; · iexists _; iexact HW16
      isplitl [HW17]; · iexists _; iexact HW17
      refine inr_of ?_
      iintro HW7
      iexact HW7
end Cert.KernelIdeal.Run
-- ==== Proof.IdealRun.lean ====
module

public import proofs.«01_k».proof.Proof.IdealBody
public import proofs.«01_k».proof.Proof.Gen.KernelIdeal.Skeleton
public import proofs.«01_k».proof.Proof.Gen.KernelIdeal.Loops
public import proofs.«01_k».proof.Proof.Gen.KernelIdeal.Launch

@[expose] public section

set_option maxRecDepth 8192
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated frame kit. -/
local notation "𝕄" => MT nD τ sig Unit (Elt F) ℕ (UR sig nD τ) ℕ

section
variable (c : Dev nD) (i : grid0.Coords)
    (arg3 : Memref sig .tc .vmem S1x1x256x2048 .bf16) (harg3 : arg3.IsWhole)
    (arg4 : Memref sig .tc .vmem S1x1x8192x256 .bf16) (harg4 : arg4.IsWhole)
    (arg5 : Memref sig .tc .vmem S1x1x160x8192 .bf16) (harg5 : arg5.IsWhole)
    (arg6 : Memref sig .tc .vmem S512x1024 .f32) (harg6 : arg6.IsWhole)
    (arg7 : Memref sig .tc .vmem S1x1x2048x128 .bf16) (harg7 : arg7.IsWhole)
    (arg8 : Memref sig .tc .vmem S256x4096 .bf16) (harg8 : arg8.IsWhole)
    (arg9 : Memref sig .tc .vmem S512x4096 .f32) (harg9 : arg9.IsWhole)
    (arg10 : Memref sig .tc .vmem S1x4096 .f32) (harg10 : arg10.IsWhole)
    (arg11 : Memref sig .tc .vmem S512x4096 .bf16) (harg11 : arg11.IsWhole)
    (arg12 : Memref sig .tc .vmem S512x4096 .bf16) (harg12 : arg12.IsWhole)
    (arg13 : Memref sig .tc .vmem S1x4096 .f32) (harg13 : arg13.IsWhole)
    (arg14 : Memref sig .tc .vmem S1x4096 .f32) (harg14 : arg14.IsWhole)
    (arg15 : Memref sig .tc .vmem S1x4096 .f32) (harg15 : arg15.IsWhole)
    (arg16 : Memref sig .tc .vmem S1x4096 .f32) (harg16 : arg16.IsWhole)
    (arg17 : Memref sig .tc .vmem S80x4096 .f32) (harg17 : arg17.IsWhole)

/-- What the kernel body at one grid point may leave in its output block, its four input blocks being `x3` to `x6`: one of the
    two contents that `body` names, of some contents of the buffers the body works in. -/
def Outs (x3 : S1x1x256x2048.Idx → Elt F .bf16) (x4 : S1x1x8192x256.Idx → Elt F .bf16) (x5 : S1x1x160x8192.Idx → Elt F .bf16) (x6 : S512x1024.Idx → Elt F .f32) (d : S1x1x2048x128.Idx → Elt F .bf16) : Prop :=
  ∃ (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty),
    arg3.view.read (Elt F) X3 = x3 ∧ arg4.view.read (Elt F) X4 = x4 ∧ arg5.view.read (Elt F) X5 = x5 ∧ arg6.view.read (Elt F) X6 = x6
    ∧ (d = arg7.view.read (Elt F) (body c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 X6 f7 f8 f9 f10 f11 f12 f13 f14 f15 f16 f17).1 ∨ d = arg7.view.read (Elt F) (body c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 X6 f7 f8 f9 f10 f11 f12 f13 f14 f15 f16 f17).2.1)

/-- The body from whole buffers to whole buffers: the inputs stay, the output block is one of `Outs`, the rest is left at some contents. -/
theorem kernelRun (x3 : S1x1x256x2048.Idx → Elt F .bf16) (x4 : S1x1x8192x256.Idx → Elt F .bf16) (x5 : S1x1x160x8192.Idx → Elt F .bf16) (x6 : S512x1024.Idx → Elt F .f32) :
    (iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)) : sProp 𝕄)
      ⊢ wp Idealize.ShloMosaic.frame (wpE (defs₀ (F := F)) Variants.none (c : Thread nD τ) none) Set.univ
          (cc0_mla_attn (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17)
          (fun _ => iprop(owns (c : Thread nD τ) arg3 fullShare x3 ∗ owns (c : Thread nD τ) arg4 fullShare x4 ∗ owns (c : Thread nD τ) arg5 fullShare x5 ∗ owns (c : Thread nD τ) arg6 fullShare x6 ∗ (∃ d, ⌜Outs (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 x3 x4 x5 x6 d⌝ ∗ owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d))) := by
  unfold owns
  iintro ⟨⟨%X3, %e3, H3⟩, ⟨%X4, %e4, H4⟩, ⟨%X5, %e5, H5⟩, ⟨%X6, %e6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩⟩
  iapply (wp_wand_r Idealize.ShloMosaic.frame (wpE (defs₀ (F := F)) Variants.none (c : Thread nD τ) none) Set.univ)
  isplitl [H3 H4 H5 H6 H7 H8 H9 H10 H11 H12 H13 H14 H15 H16 H17]
  · iapply ((body c i arg3 harg3 arg4 harg4 arg5 harg5 arg6 harg6 arg7 harg7 arg8 harg8 arg9 harg9 arg10 harg10 arg11 harg11 arg12 harg12 arg13 harg13 arg14 harg14 arg15 harg15 arg16 harg16 arg17 harg17 X3 X4 X5 X6 f7 f8 f9 f10 f11 f12 f13 f14 f15 f16 f17).2.2 Set.univ)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexact H17
  iintro %_ ⟨H3, H4, H5, H6, ⟨%g8, H8⟩, ⟨%g9, H9⟩, ⟨%g10, H10⟩, ⟨%g11, H11⟩, ⟨%g12, H12⟩, ⟨%g13, H13⟩, ⟨%g14, H14⟩, ⟨%g15, H15⟩, ⟨%g16, H16⟩, ⟨%g17, H17⟩, H7⟩
  isplitl [H3]
  · iexists X3; isplitr; · ipureintro; exact e3
    iexact H3
  isplitl [H4]
  · iexists X4; isplitr; · ipureintro; exact e4
    iexact H4
  isplitl [H5]
  · iexists X5; isplitr; · ipureintro; exact e5
    iexact H5
  isplitl [H6]
  · iexists X6; isplitr; · ipureintro; exact e6
    iexact H6
  isplitl [H7]
  · icases H7 with (H7 | H7)
    · iexists _; isplitr
      swap
      · iexists _; isplitr; swap; · iexact H7
        ipureintro; rfl
      ipureintro; exact ⟨X3, X4, X5, X6, f7, f8, f9, f10, f11, f12, f13, f14, f15, f16, f17, e3, e4, e5, e6, Or.inr rfl⟩
    · iexists _; isplitr
      swap
      · iexists _; isplitr; swap; · iexact H7
        ipureintro; rfl
      ipureintro; exact ⟨X3, X4, X5, X6, f7, f8, f9, f10, f11, f12, f13, f14, f15, f16, f17, e3, e4, e5, e6, Or.inl rfl⟩
  isplitl [H8]
  · iexists _; iexists g8; isplitr; swap; · iexact H8
    ipureintro; rfl
  isplitl [H9]
  · iexists _; iexists g9; isplitr; swap; · iexact H9
    ipureintro; rfl
  isplitl [H10]
  · iexists _; iexists g10; isplitr; swap; · iexact H10
    ipureintro; rfl
  isplitl [H11]
  · iexists _; iexists g11; isplitr; swap; · iexact H11
    ipureintro; rfl
  isplitl [H12]
  · iexists _; iexists g12; isplitr; swap; · iexact H12
    ipureintro; rfl
  isplitl [H13]
  · iexists _; iexists g13; isplitr; swap; · iexact H13
    ipureintro; rfl
  isplitl [H14]
  · iexists _; iexists g14; isplitr; swap; · iexact H14
    ipureintro; rfl
  isplitl [H15]
  · iexists _; iexists g15; isplitr; swap; · iexact H15
    ipureintro; rfl
  isplitl [H16]
  · iexists _; iexists g16; isplitr; swap; · iexact H16
    ipureintro; rfl
  iexists _; iexists g17; isplitr; swap; · iexact H17
  ipureintro; rfl
end

variable (m : (ℓ : Loc nD τ sig) → Buf (Elt F) ℓ) (ρ : Dev nD → PrngReg)

/-- The class invariant, conjunct by conjunct: each scratch buffer whole at some contents, the generator register at some state. -/
theorem inv_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d)) ∗ (∃ r, prngReg c r)) := by
  rw [Pipeline.ΦA, scopedRest0_eq]; simp only [owns_whole]; try rfl

end Cert.KernelIdeal.Run
-- ==== Proof.IdealFrame.lean ====
module

public import proofs.«01_k».proof.Proof.IdealRun
public import proofs.«01_k».proof.Proof.Gen.KernelIdeal.Points
public import Idealize.ShloMosaic.Lib.Pipeline.Frame

@[expose] public section

set_option maxRecDepth 8192
set_option maxHeartbeats 4000000

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated frame kit. -/
local notation "𝕄" => MT nD τ sig Unit (Elt F) ℕ (UR sig nD τ) ℕ

open Idealize.ShloMosaic.Pipeline (Dat BodyObligation)

variable (m : (ℓ : Loc nD τ sig) → Buf (Elt F) ℓ) (ρ : Dev nD → PrngReg)

/-- The output window, the last, is forgotten: the frame says nothing of what the kernel leaves in it. -/
def forgets0 : Fin 5 → Bool := ![false, false, false, false, true]

/-- The launch's proof data on core `c`: each array as the region finds it, each input block left in place, the output unnamed. -/
def fdats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => Pipeline.Dat.unnamed (cfg := cfg0) 4 t
  Φ _ := Pipeline.ΦA spec0 c
  q _ := fullShare
  owed _ := 0

theorem fA_eq (c : Dev nD) (w : Fin cfg0.W) : (fdats m 0 c).A w = V m c (Pipeline.arrRef spec0 w) := by dsimp only [fdats]

theorem fbefore_0 (c : Dev nD) (t : Fin cfg0.N) (d) : (fdats m 0 c).before 0 t d = iblk m c 0 t := before0_0_of m _ (fA_eq m c 0) (fun _ => rfl) t d
theorem fbefore_1 (c : Dev nD) (t : Fin cfg0.N) (d) : (fdats m 0 c).before 1 t d = iblk m c 1 t := before0_1_of m _ (fA_eq m c 1) (fun _ => rfl) t d
theorem fbefore_2 (c : Dev nD) (t : Fin cfg0.N) (d) : (fdats m 0 c).before 2 t d = iblk m c 2 t := before0_2_of m _ (fA_eq m c 2) (fun _ => rfl) t d
theorem fbefore_3 (c : Dev nD) (t : Fin cfg0.N) (d) : (fdats m 0 c).before 3 t d = iblk m c 3 t := before0_3_of m _ (fA_eq m c 3) (fun _ => rfl) t d

/-- What the body is called with at point `t`. -/
def fPre (c : Dev nD) (t : Fin cfg0.N) : sProp 𝕄 :=
  iprop((fdats m 0 c).Φ t.castSucc ∗ (fdats m 0 c).owesAt () t.castSucc
    ∗ (∃ d, owns (c : Thread nD τ) (st0_0 t) fullShare ((fdats m 0 c).before 0 t d))
    ∗ (∃ d, owns (c : Thread nD τ) (st0_1 t) fullShare ((fdats m 0 c).before 1 t d))
    ∗ (∃ d, owns (c : Thread nD τ) (st0_2 t) fullShare ((fdats m 0 c).before 2 t d))
    ∗ (∃ d, owns (c : Thread nD τ) (st0_3 t) fullShare ((fdats m 0 c).before 3 t d))
    ∗ (∃ d, owns (c : Thread nD τ) (st0_4 t) fullShare d))
/-- What the body returns at point `t`. -/
def fPost (c : Dev nD) (t : Fin cfg0.N) : sProp 𝕄 :=
  iprop((fdats m 0 c).Φ t.succ ∗ (fdats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ (∃ d, owns (c : Thread nD τ) (st0_4 t) fullShare d))

/-- The body at the point: the invariant opened, `kernelRun`, the invariant closed. -/
theorem fsound (c : Dev nD) (t : Fin cfg0.N) :
    fPre m c t ⊢ wp Idealize.ShloMosaic.frame (wpE (defs₀ (F := F)) Variants.none (c : Thread nD τ) none) Set.univ (bodyAt0 t) (fun _ => fPost m c t) := by
  unfold fPre fPost bodyAt0
  rw [show (fdats m 0 c).Φ t.succ = (fdats m 0 c).Φ t.castSucc from rfl,
    show (fdats m 0 c).owesAt () t.succ = (fdats m 0 c).owesAt () t.castSucc from rfl,
    show (fdats m 0 c).Φ t.castSucc = Pipeline.ΦA spec0 c from rfl, inv_eq]
  simp only [fbefore_0, fbefore_1, fbefore_2, fbefore_3]
  iintro ⟨⟨⟨S0, S1, S2, S3, S4, S5, S6, S7, S8, S9⟩, Hg⟩, HO, ⟨%d0, H0⟩, ⟨%d1, H1⟩, ⟨%d2, H2⟩, ⟨%d3, H3⟩, H4⟩
  iapply (wp_wand_r Idealize.ShloMosaic.frame (wpE (defs₀ (F := F)) Variants.none (c : Thread nD τ) none) Set.univ)
  isplitl [H0 H1 H2 H3 H4 S0 S1 S2 S3 S4 S5 S6 S7 S8 S9]
  · iapply (kernelRun (F := F) c (grid0.coords t) (win0_0.stage (cfg0.slots t 0)) (hstage0_0 ((cfg0.slots t 0).cast nbuf0_0)) (win0_1.stage (cfg0.slots t 1)) (hstage0_1 ((cfg0.slots t 1).cast nbuf0_1))
      (win0_2.stage (cfg0.slots t 2)) (hstage0_2 ((cfg0.slots t 2).cast nbuf0_2)) (win0_3.stage (cfg0.slots t 3)) (hstage0_3 ((cfg0.slots t 3).cast nbuf0_3))
      (win0_4.stage (cfg0.slots t 4)) (hstage0_4 ((cfg0.slots t 4).cast nbuf0_4)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _)
      (iblk m c 0 t) (iblk m c 1 t) (iblk m c 2 t) (iblk m c 3 t))
    isplitl [H0]; · iexact H0
    isplitl [H1]; · iexact H1
    isplitl [H2]; · iexact H2
    isplitl [H3]; · iexact H3
    isplitl [H4]; · iexact H4
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iintro %_ ⟨H0, H1, H2, H3, ⟨%d4, -, H4⟩, S0, S1, S2, S3, S4, S5, S6, S7, S8, S9⟩
  isplitl [S0 S1 S2 S3 S4 S5 S6 S7 S8 S9 Hg]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [HO]; · iexact HO
  isplitl [H0]; · iexact H0
  isplitl [H1]; · iexact H1
  isplitl [H2]; · iexact H2
  isplitl [H3]; · iexact H3
  iexists d4; iexact H4

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the output forgotten. -/
theorem fbody (c : Dev nD) : BodyObligation (fdats (F := F) m 0 c) (defs₀ (F := F)) Variants.none () Set.univ forgets0 := fun t => by
  rw [bigSep_W0, bigSep_W0, defs₀_row]
  exact triple_restated (fsound m c t) rfl .rfl fun _ => .rfl

-- the implicit arguments are found by unifying the conclusion with this statement, under plain definitions in a type
set_option backward.isDefEq.respectTransparency.types false in
/-- Every execution of @main terminates; the input arrays and everything else unscoped end as launched, the counters at zero. -/
theorem frun :
    θ_run defs (onTc (τ := τ) (main (F := F))) (s₀ m ρ)
      (fun r => Pipeline.RDat.FramePost (cfgs 0) (fun c => (fdats m 0 c).toRForget forgets0) (V m) r ∧ r.2.sem = fun _ => 0) :=
  Pipeline.θ_run_frame_forget (Q' := _) cfgs (fdats m) (0 : Fin 1) launch0 defs₀ Variants.none forgets0 m ρ main
    (hbody := fun c => (fbody m c).loose) (hshare := fun c => (fdats m 0 c).share_full fun _ => rfl)
    (howed := fun _ _ => rfl) (V := V m) (hmain := Gen.hmain m Variants.none) (hA := fA_eq m) (hΦ := fun _ _ => rfl)

/-- An input array ends as the region found it. -/
theorem fin_in (w : Fin cfg0.W) (hin : (cfg0.win w).isOut = false) (r : PUnit × MemSt nD τ sig (Elt F)) (c : Dev nD)
    (h : Pipeline.RDat.FramePost (cfgs 0) (fun c => (fdats m 0 c).toRForget forgets0) (V m) r) :
    r.2.mem ((cfg0.spec w).arr.view.loc (c.tc : Thread nD τ)) = V m c (Pipeline.arrRef spec0 w) := by
  have h' := (h c).1 w
  rw [Pipeline.RDat.ArrAt_in _ w hin] at h'
  exact h'.trans (fA_eq m c w)

/-- THE FRAME: the program runs to its end, its three argument arrays unchanged, every counter at zero. -/
theorem frame_run :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => ⟨(fin_in m 0 rfl r c h.1).trans (V_main_arg0 m c),
      (fin_in m 1 rfl r c h.1).trans (V_main_arg1 m c), (fin_in m 2 rfl r c h.1).trans (V_main_arg2 m c)⟩, h.2⟩) (frun m ρ)

end Cert.KernelIdeal.Run
-- ==== Proof.FfnMath.lean ====
/-
  The feed-forward half of the layer as plain formulas over the extended reals.

  Everything is a function of ROWS: a row of the residual stream is a function of the 1024 features, a row of the
  up-projection a function of the 5632 gate and value channels. The kernel (FfnChunk.lean onwards) and the reference
  (FfnRef.lean) are both brought to these formulas, so neither proof sees the other's way of cutting the arrays.
-/
module

public import Idealize.ShloMosaic.Lib.Pointwise

@[expose] public section

noncomputable section

namespace Cert.Ffn

open Idealize.ShloMosaic

/-- The residual row after the attention's output projection: `h + g1 * (o @ wo)`. -/
def resRow (h o g1 : Fin 1024 → EReal) (wo : Fin 1024 → Fin 1024 → EReal) (n : Fin 1024) : EReal :=
  h n + g1 n * ∑ k : Fin 1024, o k * wo k n

/-- Root mean square normalization of a row, times the gain `g`. -/
def rmsRow (x g : Fin 1024 → EReal) (n : Fin 1024) : EReal :=
  x n * Ideal.rsqrt (Ideal.div (∑ k : Fin 1024, x k * x k) (Ideal.ofBits FTy.f32 0x44800000#32)
      + Ideal.ofBits FTy.f32 0x358637BD#32) * g n

/-- The modulated normalization: `rms_norm(x, g) * (1 + scale) + shift`. -/
def modRow (x g sc sh : Fin 1024 → EReal) (n : Fin 1024) : EReal :=
  rmsRow x g n * (1 + sc n) + sh n

/-- The up-projection of a normalized row. -/
def upRow (x : Fin 1024 → EReal) (w : Fin 1024 → Fin 5632 → EReal) (j : Fin 5632) : EReal :=
  ∑ k : Fin 1024, x k * w k j

/-- The causal convolution of width three with its bias (row 3 of `c`), over the rows two before, one before and at a
    position. -/
def convRow (c : Fin 8 → Fin 5632 → EReal) (u0 u1 u2 : Fin 5632 → EReal) (j : Fin 5632) : EReal :=
  c 3 j + u0 j * c 0 j + u1 j * c 1 j + u2 j * c 2 j

/-- The gate's column of channel `f`. -/
def gateCol (f : Fin 2816) : Fin 5632 := ⟨f.val, by have := f.isLt; omega⟩

/-- The value's column of channel `f`. -/
def valCol (f : Fin 2816) : Fin 5632 := ⟨2816 + f.val, by have := f.isLt; omega⟩

/-- The gated activation of channel `f`: `silu(gate) * val`. -/
def actRow (y : Fin 5632 → EReal) (f : Fin 2816) : EReal :=
  y (gateCol f) * Ideal.div 1 (1 + Ideal.exp (- y (gateCol f))) * y (valCol f)

/-- The layer's last row: the down-projection onto the residual, and the final normalization. -/
def outRow (h1 g2 fg : Fin 1024 → EReal) (a : Fin 2816 → EReal) (w : Fin 2816 → Fin 1024 → EReal) : Fin 1024 → EReal :=
  rmsRow (fun n => h1 n + g2 n * ∑ f : Fin 2816, a f * w f n) fg

end Cert.Ffn
-- ==== Proof.FfnReads.lean ====
/-
  What the feed-forward body's loads read.

  The up-projection's scratch holds eight slabs of 528 rows and 128 columns. A store fills one slab; a load takes 512 rows
  of one slab from row `w`. So a load reads the newest store of its slab (`slab_hit`), and a store of another slab is
  passed over (`slab_skip`). The loads from the input blocks read the block at the load's offset.
-/
module

public import proofs.«01_k».proof.Proof.FfnMath
public import proofs.«01_k».proof.Proof.Gen.FfnKernelIdeal.Value
public import Idealize.ShloMosaic.Lib.WholeRead
public import Idealize.ShloMosaic.Lib.WritesUnit
public import Idealize.ShloMosaic.Lib.VecWindow

@[expose] public section

set_option maxRecDepth 16384

noncomputable section

namespace Cert.Ffn

open Idealize.ShloMosaic Cert.FfnKernelIdeal Cert.FfnKernelIdeal.Gen

/-- A load of 512 rows of the slab stored last reads the stored slab, shifted. -/
theorem slab_hit {sig : RefSig} {κ : Kind} {sp : Space} (v : View sig κ sp S8x528x128 .f32) (s w : ℕ)
    (inb : ∀ a, (![s, 0, 0] : Fin 3 → ℕ) a + S1x528x128.size a ≤ S8x528x128.size a)
    (inb' : ∀ a, (![s, w, 0] : Fin 3 → ℕ) a + S1x512x128.size a ≤ S8x528x128.size a)
    (x : S1x528x128.Idx → Elt Ideal .f32) (L : List (View.Piece (Elt Ideal) S8x528x128 .f32)) (r : Fin 512) (q : Fin 128)
    (k : Fin 528) (hk : k.val = w + r.val) :
    v.readCov (⟨Rect.unit ![s, 0, 0] S1x528x128.size inb, x⟩ :: L) (Rect.unit (s := S8x528x128) ![s, w, 0] S1x512x128.size inb').toLoadRect
      (ix3 0 r q) = x (ix3 0 k q) := by
  refine View.read_writes_cons_unit_of_mem v v.junk inb x L _ (ix3 0 k q) rfl fun a => ?_
  fin_cases a
  · rfl
  · show w + 1 * r.val = 0 + k.val
    omega
  · show 0 + 1 * q.val = 0 + q.val
    omega

/-- A store of another slab does not matter. -/
theorem slab_skip {sig : RefSig} {κ : Kind} {sp : Space} (v : View sig κ sp S8x528x128 .f32) (s s' w : ℕ) (hs : s ≠ s')
    (inb : ∀ a, (![s', 0, 0] : Fin 3 → ℕ) a + S1x528x128.size a ≤ S8x528x128.size a)
    (inb' : ∀ a, (![s, w, 0] : Fin 3 → ℕ) a + S1x512x128.size a ≤ S8x528x128.size a)
    (x : S1x528x128.Idx → Elt Ideal .f32) (L : List (View.Piece (Elt Ideal) S8x528x128 .f32)) (r : Fin 512) (q : Fin 128) :
    v.readCov (⟨Rect.unit ![s', 0, 0] S1x528x128.size inb, x⟩ :: L) (Rect.unit (s := S8x528x128) ![s, w, 0] S1x512x128.size inb').toLoadRect
      (ix3 0 r q) = v.readCov L (Rect.unit (s := S8x528x128) ![s, w, 0] S1x512x128.size inb').toLoadRect (ix3 0 r q) := by
  refine View.read_writes_cons_unit_of_not_mem v v.junk inb x L _ rfl 0 ?_
  show s + 1 * 0 < s' ∨ s' + 1 ≤ s + 1 * 0
  omega

/-- A load of 128 columns of one row of the convolution's block. -/
theorem cw_at {arg9 : Memref sig .tc .vmem S8x5632 .f32} (harg9 : arg9.IsWhole) (x : S8x5632.Idx → Elt Ideal .f32)
    (i : Fin 8) (n col : ℕ) (hn : n = i.val) (inb : ∀ a, (![n, col] : Fin 2 → ℕ) a + S1x128.size a ≤ S8x5632.size a) (q : Fin 128)
    (j : Fin 5632) (hj : j.val = col + q.val) :
    View.readAt (Elt Ideal) arg9.view (Rect.unit (s := S8x5632) ![n, col] S1x128.size inb).toLoadRect (harg9.unread x) (ix2 0 q) = x (ix2 i j) := by
  rw [Memref.IsWhole.readAt_unread]
  refine congrArg x (funext fun a => Fin.ext ?_)
  fin_cases a
  · show n + 1 * 0 = i.val
    omega
  · show col + 1 * q.val = j.val
    omega

/-- A load of 256 columns of the up-projection's block. -/
theorem win_at {arg8 : Memref sig .tc .vmem S1x1024x5632 .bf16} (harg8 : arg8.IsWhole) (x : S1x1024x5632.Idx → Elt Ideal .bf16)
    (col : ℕ) (inb : ∀ a, (![0, 0, col] : Fin 3 → ℕ) a + S1x1024x256.size a ≤ S1x1024x5632.size a) (k : Fin 1024) (q : Fin 256)
    (j : Fin 5632) (hj : j.val = col + q.val) :
    View.readAt (Elt Ideal) arg8.view (Rect.unit (s := S1x1024x5632) ![0, 0, col] S1x1024x256.size inb).toLoadRect (harg8.unread x) (ix3 0 k q)
      = x (ix3 0 k j) := by
  rw [Memref.IsWhole.readAt_unread]
  refine congrArg x (funext fun a => Fin.ext ?_)
  fin_cases a
  · rfl
  · show 0 + 1 * k.val = k.val
    omega
  · show col + 1 * q.val = j.val
    omega

/-- A load of 256 rows of the down-projection's block. -/
theorem wdn_at {arg10 : Memref sig .tc .vmem S1x2816x1024 .bf16} (harg10 : arg10.IsWhole) (x : S1x2816x1024.Idx → Elt Ideal .bf16)
    (row : ℕ) (inb : ∀ a, (![0, row, 0] : Fin 3 → ℕ) a + S1x256x1024.size a ≤ S1x2816x1024.size a) (q : Fin 256) (n : Fin 1024)
    (j : Fin 2816) (hj : j.val = row + q.val) :
    View.readAt (Elt Ideal) arg10.view (Rect.unit (s := S1x2816x1024) ![0, row, 0] S1x256x1024.size inb).toLoadRect (harg10.unread x) (ix3 0 q n)
      = x (ix3 0 j n) := by
  rw [Memref.IsWhole.readAt_unread]
  refine congrArg x (funext fun a => Fin.ext ?_)
  fin_cases a
  · rfl
  · show row + 1 * q.val = j.val
    omega
  · show 0 + 1 * n.val = n.val
    omega

end Cert.Ffn
-- ==== Proof.FfnChunk.lean ====
/-
  One chunk of 256 channels of the feed-forward body, over whole vectors and then entry by entry.

  The body works through the 2816 channels in eleven chunks. For a chunk it multiplies the normalized rows by 256 columns
  of the up-projection, split in two slabs of 128 (`upLo`, `upHi`); convolves four slabs (two of the gate, two of the
  value) along the rows (`conv`); forms the gated activation (`actChunk`); and adds its product with 256 rows of the
  down-projection to the accumulator. Each is defined here once, in the body's own operations, and read at an index.
-/
module

public import proofs.«01_k».proof.Proof.FfnReads

@[expose] public section

set_option maxRecDepth 16384

noncomputable section

namespace Cert.Ffn

open Idealize.ShloMosaic Cert.FfnKernelIdeal Cert.FfnKernelIdeal.Gen

/-- The first 128 columns of a chunk's up-projection. -/
abbrev upLo (h : Vec Ideal S528x1024 .bf16) (w : Vec Ideal S1x1024x256 .bf16) : FVec Ideal S1x528x128 .f32 := k0_pay23 h w

/-- The other 128. -/
abbrev upHi (h : Vec Ideal S528x1024 .bf16) (w : Vec Ideal S1x1024x256 .bf16) : FVec Ideal S1x528x128 .f32 := k0_pay24 h w

theorem upLo_at (h : Vec Ideal S528x1024 .bf16) (w : Vec Ideal S1x1024x256 .bf16) (W : Fin 1024 → Fin 5632 → EReal) (col : ℕ)
    (hw : ∀ (k : Fin 1024) (q : Fin 256) (j : Fin 5632), j.val = col + q.val → w (ix3 0 k q) = W k j) (k : Fin 528) (q : Fin 128)
    (j : Fin 5632) (hj : j.val = col + q.val) : upLo h w (ix3 0 k q) = upRow (fun n => h (ix2 k n)) W j := by
  unfold upRow
  pointwise [upLo, k0_pay23, k0_pay22]
  refine Finset.sum_congr rfl fun n _ => ?_
  rw [hw n _ j hj]

theorem upHi_at (h : Vec Ideal S528x1024 .bf16) (w : Vec Ideal S1x1024x256 .bf16) (W : Fin 1024 → Fin 5632 → EReal) (col : ℕ)
    (hw : ∀ (k : Fin 1024) (q : Fin 256) (j : Fin 5632), j.val = col + q.val → w (ix3 0 k q) = W k j) (k : Fin 528) (q : Fin 128)
    (j : Fin 5632) (hj : j.val = col + 128 + q.val) : upHi h w (ix3 0 k q) = upRow (fun n => h (ix2 k n)) W j := by
  unfold upRow
  pointwise [upHi, k0_pay24, k0_pay22]
  refine Finset.sum_congr rfl fun n _ => ?_
  rw [hw n _ j (by rw [hj, Nat.add_assoc])]

/-- The convolution of one slab: the bias and three taps. -/
def conv (b w0 w1 w2 : Vec Ideal S1x128 .f32) (u0 u1 u2 : Vec Ideal S1x512x128 .f32) : FVec Ideal S512x128 .f32 :=
  addf (addf (addf (broadcastTo S512x128 b broadcasts_S1x128_S512x128)
    (mulf (shapeCast S512x128 u0 shapeCasts_S1x512x128_S512x128) (broadcastTo S512x128 w0 broadcasts_S1x128_S512x128)))
    (mulf (shapeCast S512x128 u1 shapeCasts_S1x512x128_S512x128) (broadcastTo S512x128 w1 broadcasts_S1x128_S512x128)))
    (mulf (shapeCast S512x128 u2 shapeCasts_S1x512x128_S512x128) (broadcastTo S512x128 w2 broadcasts_S1x128_S512x128))

theorem conv_at (C : Fin 8 → Fin 5632 → EReal) (U : Fin 528 → Fin 5632 → EReal) (col : ℕ) {b w0 w1 w2 : Vec Ideal S1x128 .f32}
    {u0 u1 u2 : Vec Ideal S1x512x128 .f32}
    (hb : ∀ (q : Fin 128) (j : Fin 5632), j.val = col + q.val → b (ix2 0 q) = C 3 j)
    (h0 : ∀ (q : Fin 128) (j : Fin 5632), j.val = col + q.val → w0 (ix2 0 q) = C 0 j)
    (h1 : ∀ (q : Fin 128) (j : Fin 5632), j.val = col + q.val → w1 (ix2 0 q) = C 1 j)
    (h2 : ∀ (q : Fin 128) (j : Fin 5632), j.val = col + q.val → w2 (ix2 0 q) = C 2 j)
    (k0 : ∀ (r : Fin 512) (q : Fin 128) (k : Fin 528) (j : Fin 5632), k.val = 14 + r.val → j.val = col + q.val → u0 (ix3 0 r q) = U k j)
    (k1 : ∀ (r : Fin 512) (q : Fin 128) (k : Fin 528) (j : Fin 5632), k.val = 15 + r.val → j.val = col + q.val → u1 (ix3 0 r q) = U k j)
    (k2 : ∀ (r : Fin 512) (q : Fin 128) (k : Fin 528) (j : Fin 5632), k.val = 16 + r.val → j.val = col + q.val → u2 (ix3 0 r q) = U k j)
    (r : Fin 512) (q : Fin 128) (a0 a1 a2 : Fin 528) (e0 : a0.val = 14 + r.val) (e1 : a1.val = 15 + r.val) (e2 : a2.val = 16 + r.val)
    (j : Fin 5632) (hj : j.val = col + q.val) :
    conv b w0 w1 w2 u0 u1 u2 (ix2 r q) = convRow C (U a0) (U a1) (U a2) j := by
  unfold convRow
  pointwise [conv]
  rw [hb q j hj, h0 q j hj, h1 q j hj, h2 q j hj, k0 r q a0 j e0 hj, k1 r q a1 j e1 hj, k2 r q a2 j e2 hj]

/-- The gated activation of a chunk, from the convolved slabs. -/
def actChunk (g0 g1 v0 v1 : FVec Ideal S512x128 .f32) : FVec Ideal S512x256 .bf16 :=
  truncf .bf16 (mulf (k0_pay37 (concatenate S512x256 1 [⟨S512x128, g0⟩, ⟨S512x128, g1⟩] concatenates_S512x128_S512x128_S512x256_d1)
      (Scalar.ofBits .f32 0x00000000#32))
    (concatenate S512x256 1 [⟨S512x128, v0⟩, ⟨S512x128, v1⟩] concatenates_S512x128_S512x128_S512x256_d1)) bitsLt_bf16_f32

theorem actChunk_at (Y : Fin 512 → Fin 5632 → EReal) (col : ℕ) {g0 g1 v0 v1 : FVec Ideal S512x128 .f32}
    (h0 : ∀ (r : Fin 512) (q : Fin 128) (j : Fin 5632), j.val = col + q.val → g0 (ix2 r q) = Y r j)
    (h1 : ∀ (r : Fin 512) (q : Fin 128) (j : Fin 5632), j.val = col + 128 + q.val → g1 (ix2 r q) = Y r j)
    (k0 : ∀ (r : Fin 512) (q : Fin 128) (j : Fin 5632), j.val = 2816 + col + q.val → v0 (ix2 r q) = Y r j)
    (k1 : ∀ (r : Fin 512) (q : Fin 128) (j : Fin 5632), j.val = 2816 + col + 128 + q.val → v1 (ix2 r q) = Y r j)
    (r : Fin 512) (q : Fin 256) (f : Fin 2816) (hf : f.val = col + q.val) :
    actChunk g0 g1 v0 v1 (ix2 r q) = actRow (Y r) f := by
  have hq := q.isLt
  unfold actRow
  pointwise [actChunk, k0_pay37]
  by_cases hlt : q.val < 128
  · simp only [hlt, ↓reduceDIte]
    rw [h0 r ⟨q.val, hlt⟩ (gateCol f) hf, k0 r ⟨q.val, hlt⟩ (valCol f) (by show 2816 + f.val = _; rw [hf, Nat.add_assoc]), zero_sub]
  · simp only [hlt, ↓reduceDIte]
    rw [h1 r ⟨q.val - 128, by omega⟩ (gateCol f) (by show f.val = col + 128 + (q.val - 128); omega),
      k1 r ⟨q.val - 128, by omega⟩ (valCol f) (by show 2816 + f.val = 2816 + col + 128 + (q.val - 128); omega), zero_sub]

/-- The first chunk's product with the down-projection. -/
theorem down0_at (a : FVec Ideal S512x256 .bf16) (w : Vec Ideal S1x256x1024 .bf16) (r : Fin 512) (n : Fin 1024) :
    k0_pay47 a w (ix2 r n) = ∑ q : Fin 256, a (ix2 r q) * w (ix3 0 q n) := by
  pointwise [k0_pay47]

/-- A later chunk's, added to the accumulator. -/
theorem down_at (a : FVec Ideal S512x256 .bf16) (w : Vec Ideal S1x256x1024 .bf16) (x : Vec Ideal S512x1024 .f32) (r : Fin 512)
    (n : Fin 1024) : k0_pay61 a w x (ix2 r n) = x (ix2 r n) + ∑ q : Fin 256, a (ix2 r q) * w (ix3 0 q n) := by
  pointwise [k0_pay61]

end Cert.Ffn
-- ==== Proof.FfnSlabs.lean ====
/-
  What each load of the up-projection's scratch reads.

  At chunk `f` the scratch's slabs `4 (f mod 2) + t` hold, for `t` = 0, 1, the gate's 256 channels of the chunk and, for
  `t` = 2, 3, the value's; the next chunk's four slabs have usually been stored since. Theorem `slab_f_t` passes over the
  stores made after it and reads the product of the normalized rows and the up-projection's columns.
-/
module

public import proofs.«01_k».proof.Proof.FfnChunk

@[expose] public section

set_option maxRecDepth 16384

noncomputable section

namespace Cert.Ffn

open Idealize.ShloMosaic Cert.FfnKernelIdeal Cert.FfnKernelIdeal.Gen

variable (c : Dev nD) (i : grid0.Coords) (arg2 : Memref sig .tc .vmem S1x8x512x128 .bf16) (harg2 : arg2.IsWhole)
  (arg3 : Memref sig .tc .vmem S1x8x16x128 .bf16) (harg3 : arg3.IsWhole) (arg4 : Memref sig .tc .vmem S1x512x1024 .f32)
  (harg4 : arg4.IsWhole) (arg5 : Memref sig .tc .vmem S1x16x1024 .f32) (harg5 : arg5.IsWhole)
  (arg6 : Memref sig .tc .vmem S1x8x1024 .f32) (harg6 : arg6.IsWhole) (arg7 : Memref sig .tc .vmem S1024x1024 .bf16)
  (harg7 : arg7.IsWhole) (arg8 : Memref sig .tc .vmem S1x1024x5632 .bf16) (harg8 : arg8.IsWhole)
  (arg9 : Memref sig .tc .vmem S8x5632 .f32) (harg9 : arg9.IsWhole) (arg10 : Memref sig .tc .vmem S1x2816x1024 .bf16)
  (harg10 : arg10.IsWhole) (arg12 : Memref sig .tc .vmem S528x1024 .bf16) (arg14 : Memref sig .tc .vmem S512x1024 .f32)
  (arg15 : Memref sig .tc .vmem S8x528x128 .f32)
  (x0 : Vec Ideal S1x8x512x128 .bf16) (x1 : Vec Ideal S1x8x16x128 .bf16) (x2 : Vec Ideal S1x512x1024 .f32)
  (x3 : Vec Ideal S1x16x1024 .f32) (x4 : Vec Ideal S1x8x1024 .f32) (x5 : Vec Ideal S1024x1024 .bf16)
  (x6 : Vec Ideal S1x1024x5632 .bf16) (x7 : Vec Ideal S8x5632 .f32) (x8 : Vec Ideal S1x2816x1024 .bf16)

/-- The normalized rows as the body reads them back. -/
abbrev hnV : Vec Ideal S528x1024 .bf16 := kernelRun0_A.sl.v89 c i arg2 harg2 arg3 harg3 arg4 harg4 arg5 harg5 arg6 harg6 arg7 harg7 arg12 x0 x1 x2 x3 x4 x5

/-- The body's up-projection of row `k`. -/
def upV (x6 : Vec Ideal S1x1024x5632 .bf16) (h : Vec Ideal S528x1024 .bf16) (k : Fin 528) (j : Fin 5632) : EReal :=
  upRow (fun n => h (ix2 k n)) (fun n j => x6 (ix3 0 n j)) j

/-- What the body loads of chunk 0's slab 0, the gate's first 128 channels, is their up-projection. -/
theorem slab_0_0 (w : ℕ) (inb : ∀ a, (![0, w, 0] : Fin 3 → ℕ) a + S1x512x128.size a ≤ S8x528x128.size a) (r : Fin 512) (q : Fin 128)
    (k : Fin 528) (j : Fin 5632) (hk : k.val = w + r.val) (hj : j.val = 0 + q.val) :
    arg15.view.readCov (kernelRun0_A.sl.HS3_8 c i arg2 harg2 arg3 harg3 arg4 harg4 arg5 harg5 arg6 harg6 arg7 harg7 arg8 harg8 arg12 x0 x1 x2 x3 x4 x5 x6)
      (Rect.unit (s := S8x528x128) ![0, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 7 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 0 (win_at harg8 x6 0 inb_S1x1024x5632_S1x1024x256_0_0_0) k q j hj)

/-- What the body loads of chunk 0's slab 1, the gate's last 128 channels, is their up-projection. -/
theorem slab_0_1 (w : ℕ) (inb : ∀ a, (![1, w, 0] : Fin 3 → ℕ) a + S1x512x128.size a ≤ S8x528x128.size a) (r : Fin 512) (q : Fin 128)
    (k : Fin 528) (j : Fin 5632) (hk : k.val = w + r.val) (hj : j.val = 128 + q.val) :
    arg15.view.readCov (kernelRun0_A.sl.HS3_8 c i arg2 harg2 arg3 harg3 arg4 harg4 arg5 harg5 arg6 harg6 arg7 harg7 arg8 harg8 arg12 x0 x1 x2 x3 x4 x5 x6)
      (Rect.unit (s := S8x528x128) ![1, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 6 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 0 (win_at harg8 x6 0 inb_S1x1024x5632_S1x1024x256_0_0_0) k q j hj)

/-- What the body loads of chunk 0's slab 2, the value's first 128 channels, is their up-projection. -/
theorem slab_0_2 (w : ℕ) (inb : ∀ a, (![2, w, 0] : Fin 3 → ℕ) a + S1x512x128.size a ≤ S8x528x128.size a) (r : Fin 512) (q : Fin 128)
    (k : Fin 528) (j : Fin 5632) (hk : k.val = w + r.val) (hj : j.val = 2816 + q.val) :
    arg15.view.readCov (kernelRun0_A.sl.HS3_8 c i arg2 harg2 arg3 harg3 arg4 harg4 arg5 harg5 arg6 harg6 arg7 harg7 arg8 harg8 arg12 x0 x1 x2 x3 x4 x5 x6)
      (Rect.unit (s := S8x528x128) ![2, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 5 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 2816 (win_at harg8 x6 2816 inb_S1x1024x5632_S1x1024x256_0_0_2816) k q j hj)

/-- What the body loads of chunk 0's slab 3, the value's last 128 channels, is their up-projection. -/
theorem slab_0_3 (w : ℕ) (inb : ∀ a, (![3, w, 0] : Fin 3 → ℕ) a + S1x512x128.size a ≤ S8x528x128.size a) (r : Fin 512) (q : Fin 128)
    (k : Fin 528) (j : Fin 5632) (hk : k.val = w + r.val) (hj : j.val = 2944 + q.val) :
    arg15.view.readCov (kernelRun0_A.sl.HS3_8 c i arg2 harg2 arg3 harg3 arg4 harg4 arg5 harg5 arg6 harg6 arg7 harg7 arg8 harg8 arg12 x0 x1 x2 x3 x4 x5 x6)
      (Rect.unit (s := S8x528x128) ![3, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 4 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 2816 (win_at harg8 x6 2816 inb_S1x1024x5632_S1x1024x256_0_0_2816) k q j hj)

/-- What the body loads of chunk 1's slab 0, the gate's first 128 channels, is their up-projection. -/
theorem slab_1_0 (w : ℕ) (inb : ∀ a, (![4, w, 0] : Fin 3 → ℕ) a + S1x512x128.size a ≤ S8x528x128.size a) (r : Fin 512) (q : Fin 128)
    (k : Fin 528) (j : Fin 5632) (hk : k.val = w + r.val) (hj : j.val = 256 + q.val) :
    arg15.view.readCov (kernelRun0_A.sl.HS3_12 c i arg2 harg2 arg3 harg3 arg4 harg4 arg5 harg5 arg6 harg6 arg7 harg7 arg8 harg8 arg12 x0 x1 x2 x3 x4 x5 x6)
      (Rect.unit (s := S8x528x128) ![4, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 7 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 256 (win_at harg8 x6 256 inb_S1x1024x5632_S1x1024x256_0_0_256) k q j hj)

/-- What the body loads of chunk 1's slab 1, the gate's last 128 channels, is their up-projection. -/
theorem slab_1_1 (w : ℕ) (inb : ∀ a, (![5, w, 0] : Fin 3 → ℕ) a + S1x512x128.size a ≤ S8x528x128.size a) (r : Fin 512) (q : Fin 128)
    (k : Fin 528) (j : Fin 5632) (hk : k.val = w + r.val) (hj : j.val = 384 + q.val) :
    arg15.view.readCov (kernelRun0_A.sl.HS3_12 c i arg2 harg2 arg3 harg3 arg4 harg4 arg5 harg5 arg6 harg6 arg7 harg7 arg8 harg8 arg12 x0 x1 x2 x3 x4 x5 x6)
      (Rect.unit (s := S8x528x128) ![5, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 6 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 256 (win_at harg8 x6 256 inb_S1x1024x5632_S1x1024x256_0_0_256) k q j hj)

/-- What the body loads of chunk 1's slab 2, the value's first 128 channels, is their up-projection. -/
theorem slab_1_2 (w : ℕ) (inb : ∀ a, (![6, w, 0] : Fin 3 → ℕ) a + S1x512x128.size a ≤ S8x528x128.size a) (r : Fin 512) (q : Fin 128)
    (k : Fin 528) (j : Fin 5632) (hk : k.val = w + r.val) (hj : j.val = 3072 + q.val) :
    arg15.view.readCov (kernelRun0_A.sl.HS3_12 c i arg2 harg2 arg3 harg3 arg4 harg4 arg5 harg5 arg6 harg6 arg7 harg7 arg8 harg8 arg12 x0 x1 x2 x3 x4 x5 x6)
      (Rect.unit (s := S8x528x128) ![6, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 5 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 3072 (win_at harg8 x6 3072 inb_S1x1024x5632_S1x1024x256_0_0_3072) k q j hj)

/-- What the body loads of chunk 1's slab 3, the value's last 128 channels, is their up-projection. -/
theorem slab_1_3 (w : ℕ) (inb : ∀ a, (![7, w, 0] : Fin 3 → ℕ) a + S1x512x128.size a ≤ S8x528x128.size a) (r : Fin 512) (q : Fin 128)
    (k : Fin 528) (j : Fin 5632) (hk : k.val = w + r.val) (hj : j.val = 3200 + q.val) :
    arg15.view.readCov (kernelRun0_A.sl.HS3_12 c i arg2 harg2 arg3 harg3 arg4 harg4 arg5 harg5 arg6 harg6 arg7 harg7 arg8 harg8 arg12 x0 x1 x2 x3 x4 x5 x6)
      (Rect.unit (s := S8x528x128) ![7, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 4 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 3072 (win_at harg8 x6 3072 inb_S1x1024x5632_S1x1024x256_0_0_3072) k q j hj)

/-- What the body loads of chunk 2's slab 0, the gate's first 128 channels, is their up-projection. -/
theorem slab_2_0 (w : ℕ) (inb : ∀ a, (![0, w, 0] : Fin 3 → ℕ) a + S1x512x128.size a ≤ S8x528x128.size a) (r : Fin 512) (q : Fin 128)
    (k : Fin 528) (j : Fin 5632) (hk : k.val = w + r.val) (hj : j.val = 512 + q.val) :
    arg15.view.readCov (kernelRun0_A.sl.HS3_16 c i arg2 harg2 arg3 harg3 arg4 harg4 arg5 harg5 arg6 harg6 arg7 harg7 arg8 harg8 arg12 x0 x1 x2 x3 x4 x5 x6)
      (Rect.unit (s := S8x528x128) ![0, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 7 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 512 (win_at harg8 x6 512 inb_S1x1024x5632_S1x1024x256_0_0_512) k q j hj)

/-- What the body loads of chunk 2's slab 1, the gate's last 128 channels, is their up-projection. -/
theorem slab_2_1 (w : ℕ) (inb : ∀ a, (![1, w, 0] : Fin 3 → ℕ) a + S1x512x128.size a ≤ S8x528x128.size a) (r : Fin 512) (q : Fin 128)
    (k : Fin 528) (j : Fin 5632) (hk : k.val = w + r.val) (hj : j.val = 640 + q.val) :
    arg15.view.readCov (kernelRun0_A.sl.HS3_16 c i arg2 harg2 arg3 harg3 arg4 harg4 arg5 harg5 arg6 harg6 arg7 harg7 arg8 harg8 arg12 x0 x1 x2 x3 x4 x5 x6)
      (Rect.unit (s := S8x528x128) ![1, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 6 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 512 (win_at harg8 x6 512 inb_S1x1024x5632_S1x1024x256_0_0_512) k q j hj)

/-- What the body loads of chunk 2's slab 2, the value's first 128 channels, is their up-projection. -/
theorem slab_2_2 (w : ℕ) (inb : ∀ a, (![2, w, 0] : Fin 3 → ℕ) a + S1x512x128.size a ≤ S8x528x128.size a) (r : Fin 512) (q : Fin 128)
    (k : Fin 528) (j : Fin 5632) (hk : k.val = w + r.val) (hj : j.val = 3328 + q.val) :
    arg15.view.readCov (kernelRun0_A.sl.HS3_16 c i arg2 harg2 arg3 harg3 arg4 harg4 arg5 harg5 arg6 harg6 arg7 harg7 arg8 harg8 arg12 x0 x1 x2 x3 x4 x5 x6)
      (Rect.unit (s := S8x528x128) ![2, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 5 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 3328 (win_at harg8 x6 3328 inb_S1x1024x5632_S1x1024x256_0_0_3328) k q j hj)

/-- What the body loads of chunk 2's slab 3, the value's last 128 channels, is their up-projection. -/
theorem slab_2_3 (w : ℕ) (inb : ∀ a, (![3, w, 0] : Fin 3 → ℕ) a + S1x512x128.size a ≤ S8x528x128.size a) (r : Fin 512) (q : Fin 128)
    (k : Fin 528) (j : Fin 5632) (hk : k.val = w + r.val) (hj : j.val = 3456 + q.val) :
    arg15.view.readCov (kernelRun0_A.sl.HS3_16 c i arg2 harg2 arg3 harg3 arg4 harg4 arg5 harg5 arg6 harg6 arg7 harg7 arg8 harg8 arg12 x0 x1 x2 x3 x4 x5 x6)
      (Rect.unit (s := S8x528x128) ![3, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 4 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 3328 (win_at harg8 x6 3328 inb_S1x1024x5632_S1x1024x256_0_0_3328) k q j hj)

/-- What the body loads of chunk 3's slab 0, the gate's first 128 channels, is their up-projection. -/
theorem slab_3_0 (w : ℕ) (inb : ∀ a, (![4, w, 0] : Fin 3 → ℕ) a + S1x512x128.size a ≤ S8x528x128.size a) (r : Fin 512) (q : Fin 128)
    (k : Fin 528) (j : Fin 5632) (hk : k.val = w + r.val) (hj : j.val = 768 + q.val) :
    arg15.view.readCov (kernelRun0_A.sl.HS3_20 c i arg2 harg2 arg3 harg3 arg4 harg4 arg5 harg5 arg6 harg6 arg7 harg7 arg8 harg8 arg12 x0 x1 x2 x3 x4 x5 x6)
      (Rect.unit (s := S8x528x128) ![4, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 7 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 768 (win_at harg8 x6 768 inb_S1x1024x5632_S1x1024x256_0_0_768) k q j hj)

/-- What the body loads of chunk 3's slab 1, the gate's last 128 channels, is their up-projection. -/
theorem slab_3_1 (w : ℕ) (inb : ∀ a, (![5, w, 0] : Fin 3 → ℕ) a + S1x512x128.size a ≤ S8x528x128.size a) (r : Fin 512) (q : Fin 128)
    (k : Fin 528) (j : Fin 5632) (hk : k.val = w + r.val) (hj : j.val = 896 + q.val) :
    arg15.view.readCov (kernelRun0_A.sl.HS3_20 c i arg2 harg2 arg3 harg3 arg4 harg4 arg5 harg5 arg6 harg6 arg7 harg7 arg8 harg8 arg12 x0 x1 x2 x3 x4 x5 x6)
      (Rect.unit (s := S8x528x128) ![5, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 6 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 768 (win_at harg8 x6 768 inb_S1x1024x5632_S1x1024x256_0_0_768) k q j hj)

/-- What the body loads of chunk 3's slab 2, the value's first 128 channels, is their up-projection. -/
theorem slab_3_2 (w : ℕ) (inb : ∀ a, (![6, w, 0] : Fin 3 → ℕ) a + S1x512x128.size a ≤ S8x528x128.size a) (r : Fin 512) (q : Fin 128)
    (k : Fin 528) (j : Fin 5632) (hk : k.val = w + r.val) (hj : j.val = 3584 + q.val) :
    arg15.view.readCov (kernelRun0_A.sl.HS3_20 c i arg2 harg2 arg3 harg3 arg4 harg4 arg5 harg5 arg6 harg6 arg7 harg7 arg8 harg8 arg12 x0 x1 x2 x3 x4 x5 x6)
      (Rect.unit (s := S8x528x128) ![6, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 5 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 3584 (win_at harg8 x6 3584 inb_S1x1024x5632_S1x1024x256_0_0_3584) k q j hj)

/-- What the body loads of chunk 3's slab 3, the value's last 128 channels, is their up-projection. -/
theorem slab_3_3 (w : ℕ) (inb : ∀ a, (![7, w, 0] : Fin 3 → ℕ) a + S1x512x128.size a ≤ S8x528x128.size a) (r : Fin 512) (q : Fin 128)
    (k : Fin 528) (j : Fin 5632) (hk : k.val = w + r.val) (hj : j.val = 3712 + q.val) :
    arg15.view.readCov (kernelRun0_A.sl.HS3_20 c i arg2 harg2 arg3 harg3 arg4 harg4 arg5 harg5 arg6 harg6 arg7 harg7 arg8 harg8 arg12 x0 x1 x2 x3 x4 x5 x6)
      (Rect.unit (s := S8x528x128) ![7, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 4 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 3584 (win_at harg8 x6 3584 inb_S1x1024x5632_S1x1024x256_0_0_3584) k q j hj)

/-- What the body loads of chunk 4's slab 0, the gate's first 128 channels, is their up-projection. -/
theorem slab_4_0 (w : ℕ) (inb : ∀ a, (![0, w, 0] : Fin 3 → ℕ) a + S1x512x128.size a ≤ S8x528x128.size a) (r : Fin 512) (q : Fin 128)
    (k : Fin 528) (j : Fin 5632) (hk : k.val = w + r.val) (hj : j.val = 1024 + q.val) :
    arg15.view.readCov (kernelRun0_A.sl.HS3_24 c i arg2 harg2 arg3 harg3 arg4 harg4 arg5 harg5 arg6 harg6 arg7 harg7 arg8 harg8 arg12 x0 x1 x2 x3 x4 x5 x6)
      (Rect.unit (s := S8x528x128) ![0, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 7 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 1024 (win_at harg8 x6 1024 inb_S1x1024x5632_S1x1024x256_0_0_1024) k q j hj)

/-- What the body loads of chunk 4's slab 1, the gate's last 128 channels, is their up-projection. -/
theorem slab_4_1 (w : ℕ) (inb : ∀ a, (![1, w, 0] : Fin 3 → ℕ) a + S1x512x128.size a ≤ S8x528x128.size a) (r : Fin 512) (q : Fin 128)
    (k : Fin 528) (j : Fin 5632) (hk : k.val = w + r.val) (hj : j.val = 1152 + q.val) :
    arg15.view.readCov (kernelRun0_A.sl.HS3_24 c i arg2 harg2 arg3 harg3 arg4 harg4 arg5 harg5 arg6 harg6 arg7 harg7 arg8 harg8 arg12 x0 x1 x2 x3 x4 x5 x6)
      (Rect.unit (s := S8x528x128) ![1, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 6 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 1024 (win_at harg8 x6 1024 inb_S1x1024x5632_S1x1024x256_0_0_1024) k q j hj)

/-- What the body loads of chunk 4's slab 2, the value's first 128 channels, is their up-projection. -/
theorem slab_4_2 (w : ℕ) (inb : ∀ a, (![2, w, 0] : Fin 3 → ℕ) a + S1x512x128.size a ≤ S8x528x128.size a) (r : Fin 512) (q : Fin 128)
    (k : Fin 528) (j : Fin 5632) (hk : k.val = w + r.val) (hj : j.val = 3840 + q.val) :
    arg15.view.readCov (kernelRun0_A.sl.HS3_24 c i arg2 harg2 arg3 harg3 arg4 harg4 arg5 harg5 arg6 harg6 arg7 harg7 arg8 harg8 arg12 x0 x1 x2 x3 x4 x5 x6)
      (Rect.unit (s := S8x528x128) ![2, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 5 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 3840 (win_at harg8 x6 3840 inb_S1x1024x5632_S1x1024x256_0_0_3840) k q j hj)

/-- What the body loads of chunk 4's slab 3, the value's last 128 channels, is their up-projection. -/
theorem slab_4_3 (w : ℕ) (inb : ∀ a, (![3, w, 0] : Fin 3 → ℕ) a + S1x512x128.size a ≤ S8x528x128.size a) (r : Fin 512) (q : Fin 128)
    (k : Fin 528) (j : Fin 5632) (hk : k.val = w + r.val) (hj : j.val = 3968 + q.val) :
    arg15.view.readCov (kernelRun0_A.sl.HS3_24 c i arg2 harg2 arg3 harg3 arg4 harg4 arg5 harg5 arg6 harg6 arg7 harg7 arg8 harg8 arg12 x0 x1 x2 x3 x4 x5 x6)
      (Rect.unit (s := S8x528x128) ![3, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 4 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 3840 (win_at harg8 x6 3840 inb_S1x1024x5632_S1x1024x256_0_0_3840) k q j hj)

/-- What the body loads of chunk 5's slab 0, the gate's first 128 channels, is their up-projection. -/
theorem slab_5_0 (w : ℕ) (inb : ∀ a, (![4, w, 0] : Fin 3 → ℕ) a + S1x512x128.size a ≤ S8x528x128.size a) (r : Fin 512) (q : Fin 128)
    (k : Fin 528) (j : Fin 5632) (hk : k.val = w + r.val) (hj : j.val = 1280 + q.val) :
    arg15.view.readCov (kernelRun0_A.sl.HS3_28 c i arg2 harg2 arg3 harg3 arg4 harg4 arg5 harg5 arg6 harg6 arg7 harg7 arg8 harg8 arg12 x0 x1 x2 x3 x4 x5 x6)
      (Rect.unit (s := S8x528x128) ![4, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 7 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 1280 (win_at harg8 x6 1280 inb_S1x1024x5632_S1x1024x256_0_0_1280) k q j hj)

/-- What the body loads of chunk 5's slab 1, the gate's last 128 channels, is their up-projection. -/
theorem slab_5_1 (w : ℕ) (inb : ∀ a, (![5, w, 0] : Fin 3 → ℕ) a + S1x512x128.size a ≤ S8x528x128.size a) (r : Fin 512) (q : Fin 128)
    (k : Fin 528) (j : Fin 5632) (hk : k.val = w + r.val) (hj : j.val = 1408 + q.val) :
    arg15.view.readCov (kernelRun0_A.sl.HS3_28 c i arg2 harg2 arg3 harg3 arg4 harg4 arg5 harg5 arg6 harg6 arg7 harg7 arg8 harg8 arg12 x0 x1 x2 x3 x4 x5 x6)
      (Rect.unit (s := S8x528x128) ![5, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 6 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 1280 (win_at harg8 x6 1280 inb_S1x1024x5632_S1x1024x256_0_0_1280) k q j hj)

/-- What the body loads of chunk 5's slab 2, the value's first 128 channels, is their up-projection. -/
theorem slab_5_2 (w : ℕ) (inb : ∀ a, (![6, w, 0] : Fin 3 → ℕ) a + S1x512x128.size a ≤ S8x528x128.size a) (r : Fin 512) (q : Fin 128)
    (k : Fin 528) (j : Fin 5632) (hk : k.val = w + r.val) (hj : j.val = 4096 + q.val) :
    arg15.view.readCov (kernelRun0_A.sl.HS3_28 c i arg2 harg2 arg3 harg3 arg4 harg4 arg5 harg5 arg6 harg6 arg7 harg7 arg8 harg8 arg12 x0 x1 x2 x3 x4 x5 x6)
      (Rect.unit (s := S8x528x128) ![6, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 5 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 4096 (win_at harg8 x6 4096 inb_S1x1024x5632_S1x1024x256_0_0_4096) k q j hj)

/-- What the body loads of chunk 5's slab 3, the value's last 128 channels, is their up-projection. -/
theorem slab_5_3 (w : ℕ) (inb : ∀ a, (![7, w, 0] : Fin 3 → ℕ) a + S1x512x128.size a ≤ S8x528x128.size a) (r : Fin 512) (q : Fin 128)
    (k : Fin 528) (j : Fin 5632) (hk : k.val = w + r.val) (hj : j.val = 4224 + q.val) :
    arg15.view.readCov (kernelRun0_A.sl.HS3_28 c i arg2 harg2 arg3 harg3 arg4 harg4 arg5 harg5 arg6 harg6 arg7 harg7 arg8 harg8 arg12 x0 x1 x2 x3 x4 x5 x6)
      (Rect.unit (s := S8x528x128) ![7, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 4 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 4096 (win_at harg8 x6 4096 inb_S1x1024x5632_S1x1024x256_0_0_4096) k q j hj)

/-- What the body loads of chunk 6's slab 0, the gate's first 128 channels, is their up-projection. -/
theorem slab_6_0 (w : ℕ) (inb : ∀ a, (![0, w, 0] : Fin 3 → ℕ) a + S1x512x128.size a ≤ S8x528x128.size a) (r : Fin 512) (q : Fin 128)
    (k : Fin 528) (j : Fin 5632) (hk : k.val = w + r.val) (hj : j.val = 1536 + q.val) :
    arg15.view.readCov (kernelRun0_A.sl.HS3_32 c i arg2 harg2 arg3 harg3 arg4 harg4 arg5 harg5 arg6 harg6 arg7 harg7 arg8 harg8 arg12 x0 x1 x2 x3 x4 x5 x6)
      (Rect.unit (s := S8x528x128) ![0, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 7 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 1536 (win_at harg8 x6 1536 inb_S1x1024x5632_S1x1024x256_0_0_1536) k q j hj)

/-- What the body loads of chunk 6's slab 1, the gate's last 128 channels, is their up-projection. -/
theorem slab_6_1 (w : ℕ) (inb : ∀ a, (![1, w, 0] : Fin 3 → ℕ) a + S1x512x128.size a ≤ S8x528x128.size a) (r : Fin 512) (q : Fin 128)
    (k : Fin 528) (j : Fin 5632) (hk : k.val = w + r.val) (hj : j.val = 1664 + q.val) :
    arg15.view.readCov (kernelRun0_A.sl.HS3_32 c i arg2 harg2 arg3 harg3 arg4 harg4 arg5 harg5 arg6 harg6 arg7 harg7 arg8 harg8 arg12 x0 x1 x2 x3 x4 x5 x6)
      (Rect.unit (s := S8x528x128) ![1, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 6 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 1536 (win_at harg8 x6 1536 inb_S1x1024x5632_S1x1024x256_0_0_1536) k q j hj)

/-- What the body loads of chunk 6's slab 2, the value's first 128 channels, is their up-projection. -/
theorem slab_6_2 (w : ℕ) (inb : ∀ a, (![2, w, 0] : Fin 3 → ℕ) a + S1x512x128.size a ≤ S8x528x128.size a) (r : Fin 512) (q : Fin 128)
    (k : Fin 528) (j : Fin 5632) (hk : k.val = w + r.val) (hj : j.val = 4352 + q.val) :
    arg15.view.readCov (kernelRun0_A.sl.HS3_32 c i arg2 harg2 arg3 harg3 arg4 harg4 arg5 harg5 arg6 harg6 arg7 harg7 arg8 harg8 arg12 x0 x1 x2 x3 x4 x5 x6)
      (Rect.unit (s := S8x528x128) ![2, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 5 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 4352 (win_at harg8 x6 4352 inb_S1x1024x5632_S1x1024x256_0_0_4352) k q j hj)

/-- What the body loads of chunk 6's slab 3, the value's last 128 channels, is their up-projection. -/
theorem slab_6_3 (w : ℕ) (inb : ∀ a, (![3, w, 0] : Fin 3 → ℕ) a + S1x512x128.size a ≤ S8x528x128.size a) (r : Fin 512) (q : Fin 128)
    (k : Fin 528) (j : Fin 5632) (hk : k.val = w + r.val) (hj : j.val = 4480 + q.val) :
    arg15.view.readCov (kernelRun0_A.sl.HS3_32 c i arg2 harg2 arg3 harg3 arg4 harg4 arg5 harg5 arg6 harg6 arg7 harg7 arg8 harg8 arg12 x0 x1 x2 x3 x4 x5 x6)
      (Rect.unit (s := S8x528x128) ![3, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 4 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 4352 (win_at harg8 x6 4352 inb_S1x1024x5632_S1x1024x256_0_0_4352) k q j hj)

/-- What the body loads of chunk 7's slab 0, the gate's first 128 channels, is their up-projection. -/
theorem slab_7_0 (w : ℕ) (inb : ∀ a, (![4, w, 0] : Fin 3 → ℕ) a + S1x512x128.size a ≤ S8x528x128.size a) (r : Fin 512) (q : Fin 128)
    (k : Fin 528) (j : Fin 5632) (hk : k.val = w + r.val) (hj : j.val = 1792 + q.val) :
    arg15.view.readCov (kernelRun0_A.sl.HS3_36 c i arg2 harg2 arg3 harg3 arg4 harg4 arg5 harg5 arg6 harg6 arg7 harg7 arg8 harg8 arg12 x0 x1 x2 x3 x4 x5 x6)
      (Rect.unit (s := S8x528x128) ![4, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 7 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 1792 (win_at harg8 x6 1792 inb_S1x1024x5632_S1x1024x256_0_0_1792) k q j hj)

/-- What the body loads of chunk 7's slab 1, the gate's last 128 channels, is their up-projection. -/
theorem slab_7_1 (w : ℕ) (inb : ∀ a, (![5, w, 0] : Fin 3 → ℕ) a + S1x512x128.size a ≤ S8x528x128.size a) (r : Fin 512) (q : Fin 128)
    (k : Fin 528) (j : Fin 5632) (hk : k.val = w + r.val) (hj : j.val = 1920 + q.val) :
    arg15.view.readCov (kernelRun0_A.sl.HS3_36 c i arg2 harg2 arg3 harg3 arg4 harg4 arg5 harg5 arg6 harg6 arg7 harg7 arg8 harg8 arg12 x0 x1 x2 x3 x4 x5 x6)
      (Rect.unit (s := S8x528x128) ![5, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 6 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 1792 (win_at harg8 x6 1792 inb_S1x1024x5632_S1x1024x256_0_0_1792) k q j hj)

/-- What the body loads of chunk 7's slab 2, the value's first 128 channels, is their up-projection. -/
theorem slab_7_2 (w : ℕ) (inb : ∀ a, (![6, w, 0] : Fin 3 → ℕ) a + S1x512x128.size a ≤ S8x528x128.size a) (r : Fin 512) (q : Fin 128)
    (k : Fin 528) (j : Fin 5632) (hk : k.val = w + r.val) (hj : j.val = 4608 + q.val) :
    arg15.view.readCov (kernelRun0_A.sl.HS3_36 c i arg2 harg2 arg3 harg3 arg4 harg4 arg5 harg5 arg6 harg6 arg7 harg7 arg8 harg8 arg12 x0 x1 x2 x3 x4 x5 x6)
      (Rect.unit (s := S8x528x128) ![6, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 5 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 4608 (win_at harg8 x6 4608 inb_S1x1024x5632_S1x1024x256_0_0_4608) k q j hj)

/-- What the body loads of chunk 7's slab 3, the value's last 128 channels, is their up-projection. -/
theorem slab_7_3 (w : ℕ) (inb : ∀ a, (![7, w, 0] : Fin 3 → ℕ) a + S1x512x128.size a ≤ S8x528x128.size a) (r : Fin 512) (q : Fin 128)
    (k : Fin 528) (j : Fin 5632) (hk : k.val = w + r.val) (hj : j.val = 4736 + q.val) :
    arg15.view.readCov (kernelRun0_A.sl.HS3_36 c i arg2 harg2 arg3 harg3 arg4 harg4 arg5 harg5 arg6 harg6 arg7 harg7 arg8 harg8 arg12 x0 x1 x2 x3 x4 x5 x6)
      (Rect.unit (s := S8x528x128) ![7, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 4 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 4608 (win_at harg8 x6 4608 inb_S1x1024x5632_S1x1024x256_0_0_4608) k q j hj)

/-- What the body loads of chunk 8's slab 0, the gate's first 128 channels, is their up-projection. -/
theorem slab_8_0 (w : ℕ) (inb : ∀ a, (![0, w, 0] : Fin 3 → ℕ) a + S1x512x128.size a ≤ S8x528x128.size a) (r : Fin 512) (q : Fin 128)
    (k : Fin 528) (j : Fin 5632) (hk : k.val = w + r.val) (hj : j.val = 2048 + q.val) :
    arg15.view.readCov (kernelRun0_A.sl.HS3_40 c i arg2 harg2 arg3 harg3 arg4 harg4 arg5 harg5 arg6 harg6 arg7 harg7 arg8 harg8 arg12 x0 x1 x2 x3 x4 x5 x6)
      (Rect.unit (s := S8x528x128) ![0, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 7 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 2048 (win_at harg8 x6 2048 inb_S1x1024x5632_S1x1024x256_0_0_2048) k q j hj)

/-- What the body loads of chunk 8's slab 1, the gate's last 128 channels, is their up-projection. -/
theorem slab_8_1 (w : ℕ) (inb : ∀ a, (![1, w, 0] : Fin 3 → ℕ) a + S1x512x128.size a ≤ S8x528x128.size a) (r : Fin 512) (q : Fin 128)
    (k : Fin 528) (j : Fin 5632) (hk : k.val = w + r.val) (hj : j.val = 2176 + q.val) :
    arg15.view.readCov (kernelRun0_A.sl.HS3_40 c i arg2 harg2 arg3 harg3 arg4 harg4 arg5 harg5 arg6 harg6 arg7 harg7 arg8 harg8 arg12 x0 x1 x2 x3 x4 x5 x6)
      (Rect.unit (s := S8x528x128) ![1, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 6 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 2048 (win_at harg8 x6 2048 inb_S1x1024x5632_S1x1024x256_0_0_2048) k q j hj)

/-- What the body loads of chunk 8's slab 2, the value's first 128 channels, is their up-projection. -/
theorem slab_8_2 (w : ℕ) (inb : ∀ a, (![2, w, 0] : Fin 3 → ℕ) a + S1x512x128.size a ≤ S8x528x128.size a) (r : Fin 512) (q : Fin 128)
    (k : Fin 528) (j : Fin 5632) (hk : k.val = w + r.val) (hj : j.val = 4864 + q.val) :
    arg15.view.readCov (kernelRun0_A.sl.HS3_40 c i arg2 harg2 arg3 harg3 arg4 harg4 arg5 harg5 arg6 harg6 arg7 harg7 arg8 harg8 arg12 x0 x1 x2 x3 x4 x5 x6)
      (Rect.unit (s := S8x528x128) ![2, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 5 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 4864 (win_at harg8 x6 4864 inb_S1x1024x5632_S1x1024x256_0_0_4864) k q j hj)

/-- What the body loads of chunk 8's slab 3, the value's last 128 channels, is their up-projection. -/
theorem slab_8_3 (w : ℕ) (inb : ∀ a, (![3, w, 0] : Fin 3 → ℕ) a + S1x512x128.size a ≤ S8x528x128.size a) (r : Fin 512) (q : Fin 128)
    (k : Fin 528) (j : Fin 5632) (hk : k.val = w + r.val) (hj : j.val = 4992 + q.val) :
    arg15.view.readCov (kernelRun0_A.sl.HS3_40 c i arg2 harg2 arg3 harg3 arg4 harg4 arg5 harg5 arg6 harg6 arg7 harg7 arg8 harg8 arg12 x0 x1 x2 x3 x4 x5 x6)
      (Rect.unit (s := S8x528x128) ![3, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 4 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 4864 (win_at harg8 x6 4864 inb_S1x1024x5632_S1x1024x256_0_0_4864) k q j hj)

/-- What the body loads of chunk 9's slab 0, the gate's first 128 channels, is their up-projection. -/
theorem slab_9_0 (w : ℕ) (inb : ∀ a, (![4, w, 0] : Fin 3 → ℕ) a + S1x512x128.size a ≤ S8x528x128.size a) (r : Fin 512) (q : Fin 128)
    (k : Fin 528) (j : Fin 5632) (hk : k.val = w + r.val) (hj : j.val = 2304 + q.val) :
    arg15.view.readCov (kernelRun0_A.sl.HS3_44 c i arg2 harg2 arg3 harg3 arg4 harg4 arg5 harg5 arg6 harg6 arg7 harg7 arg8 harg8 arg12 x0 x1 x2 x3 x4 x5 x6)
      (Rect.unit (s := S8x528x128) ![4, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 7 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 2304 (win_at harg8 x6 2304 inb_S1x1024x5632_S1x1024x256_0_0_2304) k q j hj)

/-- What the body loads of chunk 9's slab 1, the gate's last 128 channels, is their up-projection. -/
theorem slab_9_1 (w : ℕ) (inb : ∀ a, (![5, w, 0] : Fin 3 → ℕ) a + S1x512x128.size a ≤ S8x528x128.size a) (r : Fin 512) (q : Fin 128)
    (k : Fin 528) (j : Fin 5632) (hk : k.val = w + r.val) (hj : j.val = 2432 + q.val) :
    arg15.view.readCov (kernelRun0_A.sl.HS3_44 c i arg2 harg2 arg3 harg3 arg4 harg4 arg5 harg5 arg6 harg6 arg7 harg7 arg8 harg8 arg12 x0 x1 x2 x3 x4 x5 x6)
      (Rect.unit (s := S8x528x128) ![5, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 6 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 2304 (win_at harg8 x6 2304 inb_S1x1024x5632_S1x1024x256_0_0_2304) k q j hj)

/-- What the body loads of chunk 9's slab 2, the value's first 128 channels, is their up-projection. -/
theorem slab_9_2 (w : ℕ) (inb : ∀ a, (![6, w, 0] : Fin 3 → ℕ) a + S1x512x128.size a ≤ S8x528x128.size a) (r : Fin 512) (q : Fin 128)
    (k : Fin 528) (j : Fin 5632) (hk : k.val = w + r.val) (hj : j.val = 5120 + q.val) :
    arg15.view.readCov (kernelRun0_A.sl.HS3_44 c i arg2 harg2 arg3 harg3 arg4 harg4 arg5 harg5 arg6 harg6 arg7 harg7 arg8 harg8 arg12 x0 x1 x2 x3 x4 x5 x6)
      (Rect.unit (s := S8x528x128) ![6, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 5 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 5120 (win_at harg8 x6 5120 inb_S1x1024x5632_S1x1024x256_0_0_5120) k q j hj)

/-- What the body loads of chunk 9's slab 3, the value's last 128 channels, is their up-projection. -/
theorem slab_9_3 (w : ℕ) (inb : ∀ a, (![7, w, 0] : Fin 3 → ℕ) a + S1x512x128.size a ≤ S8x528x128.size a) (r : Fin 512) (q : Fin 128)
    (k : Fin 528) (j : Fin 5632) (hk : k.val = w + r.val) (hj : j.val = 5248 + q.val) :
    arg15.view.readCov (kernelRun0_A.sl.HS3_44 c i arg2 harg2 arg3 harg3 arg4 harg4 arg5 harg5 arg6 harg6 arg7 harg7 arg8 harg8 arg12 x0 x1 x2 x3 x4 x5 x6)
      (Rect.unit (s := S8x528x128) ![7, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 4 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 5120 (win_at harg8 x6 5120 inb_S1x1024x5632_S1x1024x256_0_0_5120) k q j hj)

/-- What the body loads of chunk 10's slab 0, the gate's first 128 channels, is their up-projection. -/
theorem slab_10_0 (w : ℕ) (inb : ∀ a, (![0, w, 0] : Fin 3 → ℕ) a + S1x512x128.size a ≤ S8x528x128.size a) (r : Fin 512) (q : Fin 128)
    (k : Fin 528) (j : Fin 5632) (hk : k.val = w + r.val) (hj : j.val = 2560 + q.val) :
    arg15.view.readCov (kernelRun0_A.sl.HS3_44 c i arg2 harg2 arg3 harg3 arg4 harg4 arg5 harg5 arg6 harg6 arg7 harg7 arg8 harg8 arg12 x0 x1 x2 x3 x4 x5 x6)
      (Rect.unit (s := S8x528x128) ![0, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 3 refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 2560 (win_at harg8 x6 2560 inb_S1x1024x5632_S1x1024x256_0_0_2560) k q j hj)

/-- What the body loads of chunk 10's slab 1, the gate's last 128 channels, is their up-projection. -/
theorem slab_10_1 (w : ℕ) (inb : ∀ a, (![1, w, 0] : Fin 3 → ℕ) a + S1x512x128.size a ≤ S8x528x128.size a) (r : Fin 512) (q : Fin 128)
    (k : Fin 528) (j : Fin 5632) (hk : k.val = w + r.val) (hj : j.val = 2688 + q.val) :
    arg15.view.readCov (kernelRun0_A.sl.HS3_44 c i arg2 harg2 arg3 harg3 arg4 harg4 arg5 harg5 arg6 harg6 arg7 harg7 arg8 harg8 arg12 x0 x1 x2 x3 x4 x5 x6)
      (Rect.unit (s := S8x528x128) ![1, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  iterate 2 refine (slab_skip _ _ _ _ (by decide) _ _ _ _ _ _).trans ?_
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 2560 (win_at harg8 x6 2560 inb_S1x1024x5632_S1x1024x256_0_0_2560) k q j hj)

/-- What the body loads of chunk 10's slab 2, the value's first 128 channels, is their up-projection. -/
theorem slab_10_2 (w : ℕ) (inb : ∀ a, (![2, w, 0] : Fin 3 → ℕ) a + S1x512x128.size a ≤ S8x528x128.size a) (r : Fin 512) (q : Fin 128)
    (k : Fin 528) (j : Fin 5632) (hk : k.val = w + r.val) (hj : j.val = 5376 + q.val) :
    arg15.view.readCov (kernelRun0_A.sl.HS3_44 c i arg2 harg2 arg3 harg3 arg4 harg4 arg5 harg5 arg6 harg6 arg7 harg7 arg8 harg8 arg12 x0 x1 x2 x3 x4 x5 x6)
      (Rect.unit (s := S8x528x128) ![2, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  refine (slab_skip _ _ _ _ (by decide) _ _ _ _ _ _).trans ?_
  exact (slab_hit _ _ _ _ _ _ _ _ _ k hk).trans
    (upLo_at (kernelRun0_A.sl.v89 c i arg2 harg2 arg3 harg3 arg4 harg4 arg5 harg5 arg6 harg6 arg7 harg7 arg12 x0 x1 x2 x3 x4 x5) _ _ 5376 (win_at harg8 x6 5376 inb_S1x1024x5632_S1x1024x256_0_0_5376) k q j hj)

/-- What the body loads of chunk 10's slab 3, the value's last 128 channels, is their up-projection. -/
theorem slab_10_3 (w : ℕ) (inb : ∀ a, (![3, w, 0] : Fin 3 → ℕ) a + S1x512x128.size a ≤ S8x528x128.size a) (r : Fin 512) (q : Fin 128)
    (k : Fin 528) (j : Fin 5632) (hk : k.val = w + r.val) (hj : j.val = 5504 + q.val) :
    arg15.view.readCov (kernelRun0_A.sl.HS3_44 c i arg2 harg2 arg3 harg3 arg4 harg4 arg5 harg5 arg6 harg6 arg7 harg7 arg8 harg8 arg12 x0 x1 x2 x3 x4 x5 x6)
      (Rect.unit (s := S8x528x128) ![3, w, 0] S1x512x128.size inb).toLoadRect (ix3 0 r q) = upV x6 (kernelRun0_A.sl.v89 c i arg2 harg2 arg3 harg3 arg4 harg4 arg5 harg5 arg6 harg6 arg7 harg7 arg12 x0 x1 x2 x3 x4 x5) k j := by
  exact (slab_hit _ _ _ _ _ _ _ _ _ k hk).trans
    (upHi_at (kernelRun0_A.sl.v89 c i arg2 harg2 arg3 harg3 arg4 harg4 arg5 harg5 arg6 harg6 arg7 harg7 arg12 x0 x1 x2 x3 x4 x5) _ _ 5376 (win_at harg8 x6 5376 inb_S1x1024x5632_S1x1024x256_0_0_5376) k q j hj)

end Cert.Ffn
-- ==== Proof.FfnActs.lean ====
/-
  The gated activation of each chunk, entry by entry.

  Theorem `act_f` reads the activation of chunk `f` at row `r` and channel `256 f + q`: the convolution of the three
  up-projected rows `14 + r`, `15 + r`, `16 + r` and its gate.
-/
module

public import proofs.«01_k».proof.Proof.FfnSlabs

@[expose] public section

set_option maxRecDepth 16384

noncomputable section

namespace Cert.Ffn

open Idealize.ShloMosaic Cert.FfnKernelIdeal Cert.FfnKernelIdeal.Gen

variable (c : Dev nD) (i : grid0.Coords) (arg2 : Memref sig .tc .vmem S1x8x512x128 .bf16) (harg2 : arg2.IsWhole)
  (arg3 : Memref sig .tc .vmem S1x8x16x128 .bf16) (harg3 : arg3.IsWhole) (arg4 : Memref sig .tc .vmem S1x512x1024 .f32)
  (harg4 : arg4.IsWhole) (arg5 : Memref sig .tc .vmem S1x16x1024 .f32) (harg5 : arg5.IsWhole)
  (arg6 : Memref sig .tc .vmem S1x8x1024 .f32) (harg6 : arg6.IsWhole) (arg7 : Memref sig .tc .vmem S1024x1024 .bf16)
  (harg7 : arg7.IsWhole) (arg8 : Memref sig .tc .vmem S1x1024x5632 .bf16) (harg8 : arg8.IsWhole)
  (arg9 : Memref sig .tc .vmem S8x5632 .f32) (harg9 : arg9.IsWhole) (arg10 : Memref sig .tc .vmem S1x2816x1024 .bf16)
  (harg10 : arg10.IsWhole) (arg12 : Memref sig .tc .vmem S528x1024 .bf16) (arg14 : Memref sig .tc .vmem S512x1024 .f32)
  (arg15 : Memref sig .tc .vmem S8x528x128 .f32)
  (x0 : Vec Ideal S1x8x512x128 .bf16) (x1 : Vec Ideal S1x8x16x128 .bf16) (x2 : Vec Ideal S1x512x1024 .f32)
  (x3 : Vec Ideal S1x16x1024 .f32) (x4 : Vec Ideal S1x8x1024 .f32) (x5 : Vec Ideal S1024x1024 .bf16)
  (x6 : Vec Ideal S1x1024x5632 .bf16) (x7 : Vec Ideal S8x5632 .f32) (x8 : Vec Ideal S1x2816x1024 .bf16)

/-- The convolved row `r` of the block. -/
def convV (x7 : Vec Ideal S8x5632 .f32) (x6 : Vec Ideal S1x1024x5632 .bf16) (h : Vec Ideal S528x1024 .bf16) (r : Fin 512) :
    Fin 5632 → EReal :=
  convRow (fun i j => x7 (ix2 i j)) (upV x6 h ⟨14 + r.val, by omega⟩) (upV x6 h ⟨15 + r.val, by omega⟩) (upV x6 h ⟨16 + r.val, by omega⟩)

/-- The activation of chunk 9, which the body forms in one expression with its product. -/
def act9 : FVec Ideal S512x256 .bf16 :=
  actChunk
    (conv (View.readAt (Elt Ideal) arg9.view (Rect.unit (s := S8x5632) ![3, 2304] S1x128.size inb_S8x5632_S1x128_3_2304).toLoadRect (harg9.unread x7)) (View.readAt (Elt Ideal) arg9.view (Rect.unit (s := S8x5632) ![0, 2304] S1x128.size inb_S8x5632_S1x128_0_2304).toLoadRect (harg9.unread x7)) (View.readAt (Elt Ideal) arg9.view (Rect.unit (s := S8x5632) ![1, 2304] S1x128.size inb_S8x5632_S1x128_1_2304).toLoadRect (harg9.unread x7)) (View.readAt (Elt Ideal) arg9.view (Rect.unit (s := S8x5632) ![2, 2304] S1x128.size inb_S8x5632_S1x128_2_2304).toLoadRect (harg9.unread x7))
      (arg15.view.readCov (kernelRun0_A.sl.HS3_44 c i arg2 harg2 arg3 harg3 arg4 harg4 arg5 harg5 arg6 harg6 arg7 harg7 arg8 harg8 arg12 x0 x1 x2 x3 x4 x5 x6) (Rect.unit (s := S8x528x128) ![4, 14, 0] S1x512x128.size inb_S8x528x128_S1x512x128_4_14_0).toLoadRect)
      (arg15.view.readCov (kernelRun0_A.sl.HS3_44 c i arg2 harg2 arg3 harg3 arg4 harg4 arg5 harg5 arg6 harg6 arg7 harg7 arg8 harg8 arg12 x0 x1 x2 x3 x4 x5 x6) (Rect.unit (s := S8x528x128) ![4, 15, 0] S1x512x128.size inb_S8x528x128_S1x512x128_4_15_0).toLoadRect)
      (arg15.view.readCov (kernelRun0_A.sl.HS3_44 c i arg2 harg2 arg3 harg3 arg4 harg4 arg5 harg5 arg6 harg6 arg7 harg7 arg8 harg8 arg12 x0 x1 x2 x3 x4 x5 x6) (Rect.unit (s := S8x528x128) ![4, 16, 0] S1x512x128.size inb_S8x528x128_S1x512x128_4_16_0).toLoadRect))
    (conv (View.readAt (Elt Ideal) arg9.view (Rect.unit (s := S8x5632) ![3, 2432] S1x128.size inb_S8x5632_S1x128_3_2432).toLoadRect (harg9.unread x7)) (View.readAt (Elt Ideal) arg9.view (Rect.unit (s := S8x5632) ![0, 2432] S1x128.size inb_S8x5632_S1x128_0_2432).toLoadRect (harg9.unread x7)) (View.readAt (Elt Ideal) arg9.view (Rect.unit (s := S8x5632) ![1, 2432] S1x128.size inb_S8x5632_S1x128_1_2432).toLoadRect (harg9.unread x7)) (View.readAt (Elt Ideal) arg9.view (Rect.unit (s := S8x5632) ![2, 2432] S1x128.size inb_S8x5632_S1x128_2_2432).toLoadRect (harg9.unread x7))
      (arg15.view.readCov (kernelRun0_A.sl.HS3_44 c i arg2 harg2 arg3 harg3 arg4 harg4 arg5 harg5 arg6 harg6 arg7 harg7 arg8 harg8 arg12 x0 x1 x2 x3 x4 x5 x6) (Rect.unit (s := S8x528x128) ![5, 14, 0] S1x512x128.size inb_S8x528x128_S1x512x128_5_14_0).toLoadRect)
      (arg15.view.readCov (kernelRun0_A.sl.HS3_44 c i arg2 harg2 arg3 harg3 arg4 harg4 arg5 harg5 arg6 harg6 arg7 harg7 arg8 harg8 arg12 x0 x1 x2 x3 x4 x5 x6) (Rect.unit (s := S8x528x128) ![5, 15, 0] S1x512x128.size inb_S8x528x128_S1x512x128_5_15_0).toLoadRect)
      (arg15.view.readCov (kernelRun0_A.sl.HS3_44 c i arg2 harg2 arg3 harg3 arg4 harg4 arg5 harg5 arg6 harg6 arg7 harg7 arg8 harg8 arg12 x0 x1 x2 x3 x4 x5 x6) (Rect.unit (s := S8x528x128) ![5, 16, 0] S1x512x128.size inb_S8x528x128_S1x512x128_5_16_0).toLoadRect))
    (conv (View.readAt (Elt Ideal) arg9.view (Rect.unit (s := S8x5632) ![3, 5120] S1x128.size inb_S8x5632_S1x128_3_5120).toLoadRect (harg9.unread x7)) (View.readAt (Elt Ideal) arg9.view (Rect.unit (s := S8x5632) ![0, 5120] S1x128.size inb_S8x5632_S1x128_0_5120).toLoadRect (harg9.unread x7)) (View.readAt (Elt Ideal) arg9.view (Rect.unit (s := S8x5632) ![1, 5120] S1x128.size inb_S8x5632_S1x128_1_5120).toLoadRect (harg9.unread x7)) (View.readAt (Elt Ideal) arg9.view (Rect.unit (s := S8x5632) ![2, 5120] S1x128.size inb_S8x5632_S1x128_2_5120).toLoadRect (harg9.unread x7))
      (arg15.view.readCov (kernelRun0_A.sl.HS3_44 c i arg2 harg2 arg3 harg3 arg4 harg4 arg5 harg5 arg6 harg6 arg7 harg7 arg8 harg8 arg12 x0 x1 x2 x3 x4 x5 x6) (Rect.unit (s := S8x528x128) ![6, 14, 0] S1x512x128.size inb_S8x528x128_S1x512x128_6_14_0).toLoadRect)
      (arg15.view.readCov (kernelRun0_A.sl.HS3_44 c i arg2 harg2 arg3 harg3 arg4 harg4 arg5 harg5 arg6 harg6 arg7 harg7 arg8 harg8 arg12 x0 x1 x2 x3 x4 x5 x6) (Rect.unit (s := S8x528x128) ![6, 15, 0] S1x512x128.size inb_S8x528x128_S1x512x128_6_15_0).toLoadRect)
      (arg15.view.readCov (kernelRun0_A.sl.HS3_44 c i arg2 harg2 arg3 harg3 arg4 harg4 arg5 harg5 arg6 harg6 arg7 harg7 arg8 harg8 arg12 x0 x1 x2 x3 x4 x5 x6) (Rect.unit (s := S8x528x128) ![6, 16, 0] S1x512x128.size inb_S8x528x128_S1x512x128_6_16_0).toLoadRect))
    (conv (View.readAt (Elt Ideal) arg9.view (Rect.unit (s := S8x5632) ![3, 5248] S1x128.size inb_S8x5632_S1x128_3_5248).toLoadRect (harg9.unread x7)) (View.readAt (Elt Ideal) arg9.view (Rect.unit (s := S8x5632) ![0, 5248] S1x128.size inb_S8x5632_S1x128_0_5248).toLoadRect (harg9.unread x7)) (View.readAt (Elt Ideal) arg9.view (Rect.unit (s := S8x5632) ![1, 5248] S1x128.size inb_S8x5632_S1x128_1_5248).toLoadRect (harg9.unread x7)) (View.readAt (Elt Ideal) arg9.view (Rect.unit (s := S8x5632) ![2, 5248] S1x128.size inb_S8x5632_S1x128_2_5248).toLoadRect (harg9.unread x7))
      (arg15.view.readCov (kernelRun0_A.sl.HS3_44 c i arg2 harg2 arg3 harg3 arg4 harg4 arg5 harg5 arg6 harg6 arg7 harg7 arg8 harg8 arg12 x0 x1 x2 x3 x4 x5 x6) (Rect.unit (s := S8x528x128) ![7, 14, 0] S1x512x128.size inb_S8x528x128_S1x512x128_7_14_0).toLoadRect)
      (arg15.view.readCov (kernelRun0_A.sl.HS3_44 c i arg2 harg2 arg3 harg3 arg4 harg4 arg5 harg5 arg6 harg6 arg7 harg7 arg8 harg8 arg12 x0 x1 x2 x3 x4 x5 x6) (Rect.unit (s := S8x528x128) ![7, 15, 0] S1x512x128.size inb_S8x528x128_S1x512x128_7_15_0).toLoadRect)
      (arg15.view.readCov (kernelRun0_A.sl.HS3_44 c i arg2 harg2 arg3 harg3 arg4 harg4 arg5 harg5 arg6 harg6 arg7 harg7 arg8 harg8 arg12 x0 x1 x2 x3 x4 x5 x6) (Rect.unit (s := S8x528x128) ![7, 16, 0] S1x512x128.size inb_S8x528x128_S1x512x128_7_16_0).toLoadRect))

/-- The activation of chunk 0. -/
theorem act_0 (r : Fin 512) (q : Fin 256) (j : Fin 2816) (hj : j.val = 0 + q.val) :
    (kernelRun0_A.sl.r_8 c i arg2 harg2 arg3 harg3 arg4 harg4 arg5 harg5 arg6 harg6 arg7 harg7 arg8 harg8 arg9 harg9 arg12 arg15 x0 x1 x2 x3 x4 x5 x6 x7) (ix2 r q)
      = actRow (convV x7 x6 (kernelRun0_A.sl.v89 c i arg2 harg2 arg3 harg3 arg4 harg4 arg5 harg5 arg6 harg6 arg7 harg7 arg12 x0 x1 x2 x3 x4 x5) r) j := by
  have h := actChunk_at (convV x7 x6 (kernelRun0_A.sl.v89 c i arg2 harg2 arg3 harg3 arg4 harg4 arg5 harg5 arg6 harg6 arg7 harg7 arg12 x0 x1 x2 x3 x4 x5)) 0
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 0
      (cw_at harg9 x7 3 3 0 rfl inb_S8x5632_S1x128_3_0)
      (cw_at harg9 x7 0 0 0 rfl inb_S8x5632_S1x128_0_0)
      (cw_at harg9 x7 1 1 0 rfl inb_S8x5632_S1x128_1_0)
      (cw_at harg9 x7 2 2 0 rfl inb_S8x5632_S1x128_2_0)
      (slab_0_0 c i arg2 harg2 arg3 harg3 arg4 harg4 arg5 harg5 arg6 harg6 arg7 harg7 arg8 harg8 arg12 arg15 x0 x1 x2 x3 x4 x5 x6 14 inb_S8x528x128_S1x512x128_0_14_0)
      (slab_0_0 c i arg2 harg2 arg3 harg3 arg4 harg4 arg5 harg5 arg6 harg6 arg7 harg7 arg8 harg8 arg12 arg15 x0 x1 x2 x3 x4 x5 x6 15 inb_S8x528x128_S1x512x128_0_15_0)
      (slab_0_0 c i arg2 harg2 arg3 harg3 arg4 harg4 arg5 harg5 arg6 harg6 arg7 harg7 arg8 harg8 arg12 arg15 x0 x1 x2 x3 x4 x5 x6 16 inb_S8x528x128_S1x512x128_0_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 128
      (cw_at harg9 x7 3 3 128 rfl inb_S8x5632_S1x128_3_128)
      (cw_at harg9 x7 0 0 128 rfl inb_S8x5632_S1x128_0_128)
      (cw_at harg9 x7 1 1 128 rfl inb_S8x5632_S1x128_1_128)
      (cw_at harg9 x7 2 2 128 rfl inb_S8x5632_S1x128_2_128)
      (slab_0_1 c i arg2 harg2 arg3 harg3 arg4 harg4 arg5 harg5 arg6 harg6 arg7 harg7 arg8 harg8 arg12 arg15 x0 x1 x2 x3 x4 x5 x6 14 inb_S8x528x128_S1x512x128_1_14_0)
      (slab_0_1 c i arg2 harg2 arg3 harg3 arg4 harg4 arg5 harg5 arg6 harg6 arg7 harg7 arg8 harg8 arg12 arg15 x0 x1 x2 x3 x4 x5 x6 15 inb_S8x528x128_S1x512x128_1_15_0)
      (slab_0_1 c i arg2 harg2 arg3 harg3 arg4 harg4 arg5 harg5 arg6 harg6 arg7 harg7 arg8 harg8 arg12 arg15 x0 x1 x2 x3 x4 x5 x6 16 inb_S8x528x128_S1x512x128_1_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 2816
      (cw_at harg9 x7 3 3 2816 rfl inb_S8x5632_S1x128_3_2816)
      (cw_at harg9 x7 0 0 2816 rfl inb_S8x5632_S1x128_0_2816)
      (cw_at harg9 x7 1 1 2816 rfl inb_S8x5632_S1x128_1_2816)
      (cw_at harg9 x7 2 2 2816 rfl inb_S8x5632_S1x128_2_2816)
      (slab_0_2 c i arg2 harg2 arg3 harg3 arg4 harg4 arg5 harg5 arg6 harg6 arg7 harg7 arg8 harg8 arg12 arg15 x0 x1 x2 x3 x4 x5 x6 14 inb_S8x528x128_S1x512x128_2_14_0)
      (slab_0_2 c i arg2 harg2 arg3 harg3 arg4 harg4 arg5 harg5 arg6 harg6 arg7 harg7 arg8 harg8 arg12 arg15 x0 x1 x2 x3 x4 x5 x6 15 inb_S8x528x128_S1x512x128_2_15_0)
      (slab_0_2 c i arg2 harg2 arg3 harg3 arg4 harg4 arg5 harg5 arg6 harg6 arg7 harg7 arg8 harg8 arg12 arg15 x0 x1 x2 x3 x4 x5 x6 16 inb_S8x528x128_S1x512x128_2_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 2944
      (cw_at harg9 x7 3 3 2944 rfl inb_S8x5632_S1x128_3_2944)
      (cw_at harg9 x7 0 0 2944 rfl inb_S8x5632_S1x128_0_2944)
      (cw_at harg9 x7 1 1 2944 rfl inb_S8x5632_S1x128_1_2944)
      (cw_at harg9 x7 2 2 2944 rfl inb_S8x5632_S1x128_2_2944)
      (slab_0_3 c i arg2 harg2 arg3 harg3 arg4 harg4 arg5 harg5 arg6 harg6 arg7 harg7 arg8 harg8 arg12 arg15 x0 x1 x2 x3 x4 x5 x6 14 inb_S8x528x128_S1x512x128_3_14_0)
      (slab_0_3 c i arg2 harg2 arg3 harg3 arg4 harg4 arg5 harg5 arg6 harg6 arg7 harg7 arg8 harg8 arg12 arg15 x0 x1 x2 x3 x4 x5 x6 15 inb_S8x528x128_S1x512x128_3_15_0)
      (slab_0_3 c i arg2 harg2 arg3 harg3 arg4 harg4 arg5 harg5 arg6 harg6 arg7 harg7 arg8 harg8 arg12 arg15 x0 x1 x2 x3 x4 x5 x6 16 inb_S8x528x128_S1x512x128_3_16_0)
      r q _ _ _ rfl rfl rfl j hj)
    r q j hj
  exact h

/-- The activation of chunk 1. -/
theorem act_1 (r : Fin 512) (q : Fin 256) (j : Fin 2816) (hj : j.val = 256 + q.val) :
    (kernelRun0_A.sl.r_15 c i arg2 harg2 arg3 harg3 arg4 harg4 arg5 harg5 arg6 harg6 arg7 harg7 arg8 harg8 arg9 harg9 arg12 arg15 x0 x1 x2 x3 x4 x5 x6 x7) (ix2 r q)
      = actRow (convV x7 x6 (kernelRun0_A.sl.v89 c i arg2 harg2 arg3 harg3 arg4 harg4 arg5 harg5 arg6 harg6 arg7 harg7 arg12 x0 x1 x2 x3 x4 x5) r) j := by
  have h := actChunk_at (convV x7 x6 (kernelRun0_A.sl.v89 c i arg2 harg2 arg3 harg3 arg4 harg4 arg5 harg5 arg6 harg6 arg7 harg7 arg12 x0 x1 x2 x3 x4 x5)) 256
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 256
      (cw_at harg9 x7 3 3 256 rfl inb_S8x5632_S1x128_3_256)
      (cw_at harg9 x7 0 0 256 rfl inb_S8x5632_S1x128_0_256)
      (cw_at harg9 x7 1 1 256 rfl inb_S8x5632_S1x128_1_256)
      (cw_at harg9 x7 2 2 256 rfl inb_S8x5632_S1x128_2_256)
      (slab_1_0 c i arg2 harg2 arg3 harg3 arg4 harg4 arg5 harg5 arg6 harg6 arg7 harg7 arg8 harg8 arg12 arg15 x0 x1 x2 x3 x4 x5 x6 14 inb_S8x528x128_S1x512x128_4_14_0)
      (slab_1_0 c i arg2 harg2 arg3 harg3 arg4 harg4 arg5 harg5 arg6 harg6 arg7 harg7 arg8 harg8 arg12 arg15 x0 x1 x2 x3 x4 x5 x6 15 inb_S8x528x128_S1x512x128_4_15_0)
      (slab_1_0 c i arg2 harg2 arg3 harg3 arg4 harg4 arg5 harg5 arg6 harg6 arg7 harg7 arg8 harg8 arg12 arg15 x0 x1 x2 x3 x4 x5 x6 16 inb_S8x528x128_S1x512x128_4_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 384
      (cw_at harg9 x7 3 3 384 rfl inb_S8x5632_S1x128_3_384)
      (cw_at harg9 x7 0 0 384 rfl inb_S8x5632_S1x128_0_384)
      (cw_at harg9 x7 1 1 384 rfl inb_S8x5632_S1x128_1_384)
      (cw_at harg9 x7 2 2 384 rfl inb_S8x5632_S1x128_2_384)
      (slab_1_1 c i arg2 harg2 arg3 harg3 arg4 harg4 arg5 harg5 arg6 harg6 arg7 harg7 arg8 harg8 arg12 arg15 x0 x1 x2 x3 x4 x5 x6 14 inb_S8x528x128_S1x512x128_5_14_0)
      (slab_1_1 c i arg2 harg2 arg3 harg3 arg4 harg4 arg5 harg5 arg6 harg6 arg7 harg7 arg8 harg8 arg12 arg15 x0 x1 x2 x3 x4 x5 x6 15 inb_S8x528x128_S1x512x128_5_15_0)
      (slab_1_1 c i arg2 harg2 arg3 harg3 arg4 harg4 arg5 harg5 arg6 harg6 arg7 harg7 arg8 harg8 arg12 arg15 x0 x1 x2 x3 x4 x5 x6 16 inb_S8x528x128_S1x512x128_5_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 3072
      (cw_at harg9 x7 3 3 3072 rfl inb_S8x5632_S1x128_3_3072)
      (cw_at harg9 x7 0 0 3072 rfl inb_S8x5632_S1x128_0_3072)
      (cw_at harg9 x7 1 1 3072 rfl inb_S8x5632_S1x128_1_3072)
      (cw_at harg9 x7 2 2 3072 rfl inb_S8x5632_S1x128_2_3072)
      (slab_1_2 c i arg2 harg2 arg3 harg3 arg4 harg4 arg5 harg5 arg6 harg6 arg7 harg7 arg8 harg8 arg12 arg15 x0 x1 x2 x3 x4 x5 x6 14 inb_S8x528x128_S1x512x128_6_14_0)
      (slab_1_2 c i arg2 harg2 arg3 harg3 arg4 harg4 arg5 harg5 arg6 harg6 arg7 harg7 arg8 harg8 arg12 arg15 x0 x1 x2 x3 x4 x5 x6 15 inb_S8x528x128_S1x512x128_6_15_0)
      (slab_1_2 c i arg2 harg2 arg3 harg3 arg4 harg4 arg5 harg5 arg6 harg6 arg7 harg7 arg8 harg8 arg12 arg15 x0 x1 x2 x3 x4 x5 x6 16 inb_S8x528x128_S1x512x128_6_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 3200
      (cw_at harg9 x7 3 3 3200 rfl inb_S8x5632_S1x128_3_3200)
      (cw_at harg9 x7 0 0 3200 rfl inb_S8x5632_S1x128_0_3200)
      (cw_at harg9 x7 1 1 3200 rfl inb_S8x5632_S1x128_1_3200)
      (cw_at harg9 x7 2 2 3200 rfl inb_S8x5632_S1x128_2_3200)
      (slab_1_3 c i arg2 harg2 arg3 harg3 arg4 harg4 arg5 harg5 arg6 harg6 arg7 harg7 arg8 harg8 arg12 arg15 x0 x1 x2 x3 x4 x5 x6 14 inb_S8x528x128_S1x512x128_7_14_0)
      (slab_1_3 c i arg2 harg2 arg3 harg3 arg4 harg4 arg5 harg5 arg6 harg6 arg7 harg7 arg8 harg8 arg12 arg15 x0 x1 x2 x3 x4 x5 x6 15 inb_S8x528x128_S1x512x128_7_15_0)
      (slab_1_3 c i arg2 harg2 arg3 harg3 arg4 harg4 arg5 harg5 arg6 harg6 arg7 harg7 arg8 harg8 arg12 arg15 x0 x1 x2 x3 x4 x5 x6 16 inb_S8x528x128_S1x512x128_7_16_0)
      r q _ _ _ rfl rfl rfl j hj)
    r q j hj
  exact h

/-- The activation of chunk 2. -/
theorem act_2 (r : Fin 512) (q : Fin 256) (j : Fin 2816) (hj : j.val = 512 + q.val) :
    (kernelRun0_A.sl.r_25 c i arg2 harg2 arg3 harg3 arg4 harg4 arg5 harg5 arg6 harg6 arg7 harg7 arg8 harg8 arg9 harg9 arg12 arg15 x0 x1 x2 x3 x4 x5 x6 x7) (ix2 r q)
      = actRow (convV x7 x6 (kernelRun0_A.sl.v89 c i arg2 harg2 arg3 harg3 arg4 harg4 arg5 harg5 arg6 harg6 arg7 harg7 arg12 x0 x1 x2 x3 x4 x5) r) j := by
  have h := actChunk_at (convV x7 x6 (kernelRun0_A.sl.v89 c i arg2 harg2 arg3 harg3 arg4 harg4 arg5 harg5 arg6 harg6 arg7 harg7 arg12 x0 x1 x2 x3 x4 x5)) 512
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 512
      (cw_at harg9 x7 3 3 512 rfl inb_S8x5632_S1x128_3_512)
      (cw_at harg9 x7 0 0 512 rfl inb_S8x5632_S1x128_0_512)
      (cw_at harg9 x7 1 1 512 rfl inb_S8x5632_S1x128_1_512)
      (cw_at harg9 x7 2 2 512 rfl inb_S8x5632_S1x128_2_512)
      (slab_2_0 c i arg2 harg2 arg3 harg3 arg4 harg4 arg5 harg5 arg6 harg6 arg7 harg7 arg8 harg8 arg12 arg15 x0 x1 x2 x3 x4 x5 x6 14 inb_S8x528x128_S1x512x128_0_14_0)
      (slab_2_0 c i arg2 harg2 arg3 harg3 arg4 harg4 arg5 harg5 arg6 harg6 arg7 harg7 arg8 harg8 arg12 arg15 x0 x1 x2 x3 x4 x5 x6 15 inb_S8x528x128_S1x512x128_0_15_0)
      (slab_2_0 c i arg2 harg2 arg3 harg3 arg4 harg4 arg5 harg5 arg6 harg6 arg7 harg7 arg8 harg8 arg12 arg15 x0 x1 x2 x3 x4 x5 x6 16 inb_S8x528x128_S1x512x128_0_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 640
      (cw_at harg9 x7 3 3 640 rfl inb_S8x5632_S1x128_3_640)
      (cw_at harg9 x7 0 0 640 rfl inb_S8x5632_S1x128_0_640)
      (cw_at harg9 x7 1 1 640 rfl inb_S8x5632_S1x128_1_640)
      (cw_at harg9 x7 2 2 640 rfl inb_S8x5632_S1x128_2_640)
      (slab_2_1 c i arg2 harg2 arg3 harg3 arg4 harg4 arg5 harg5 arg6 harg6 arg7 harg7 arg8 harg8 arg12 arg15 x0 x1 x2 x3 x4 x5 x6 14 inb_S8x528x128_S1x512x128_1_14_0)
      (slab_2_1 c i arg2 harg2 arg3 harg3 arg4 harg4 arg5 harg5 arg6 harg6 arg7 harg7 arg8 harg8 arg12 arg15 x0 x1 x2 x3 x4 x5 x6 15 inb_S8x528x128_S1x512x128_1_15_0)
      (slab_2_1 c i arg2 harg2 arg3 harg3 arg4 harg4 arg5 harg5 arg6 harg6 arg7 harg7 arg8 harg8 arg12 arg15 x0 x1 x2 x3 x4 x5 x6 16 inb_S8x528x128_S1x512x128_1_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 3328
      (cw_at harg9 x7 3 3 3328 rfl inb_S8x5632_S1x128_3_3328)
      (cw_at harg9 x7 0 0 3328 rfl inb_S8x5632_S1x128_0_3328)
      (cw_at harg9 x7 1 1 3328 rfl inb_S8x5632_S1x128_1_3328)
      (cw_at harg9 x7 2 2 3328 rfl inb_S8x5632_S1x128_2_3328)
      (slab_2_2 c i arg2 harg2 arg3 harg3 arg4 harg4 arg5 harg5 arg6 harg6 arg7 harg7 arg8 harg8 arg12 arg15 x0 x1 x2 x3 x4 x5 x6 14 inb_S8x528x128_S1x512x128_2_14_0)
      (slab_2_2 c i arg2 harg2 arg3 harg3 arg4 harg4 arg5 harg5 arg6 harg6 arg7 harg7 arg8 harg8 arg12 arg15 x0 x1 x2 x3 x4 x5 x6 15 inb_S8x528x128_S1x512x128_2_15_0)
      (slab_2_2 c i arg2 harg2 arg3 harg3 arg4 harg4 arg5 harg5 arg6 harg6 arg7 harg7 arg8 harg8 arg12 arg15 x0 x1 x2 x3 x4 x5 x6 16 inb_S8x528x128_S1x512x128_2_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 3456
      (cw_at harg9 x7 3 3 3456 rfl inb_S8x5632_S1x128_3_3456)
      (cw_at harg9 x7 0 0 3456 rfl inb_S8x5632_S1x128_0_3456)
      (cw_at harg9 x7 1 1 3456 rfl inb_S8x5632_S1x128_1_3456)
      (cw_at harg9 x7 2 2 3456 rfl inb_S8x5632_S1x128_2_3456)
      (slab_2_3 c i arg2 harg2 arg3 harg3 arg4 harg4 arg5 harg5 arg6 harg6 arg7 harg7 arg8 harg8 arg12 arg15 x0 x1 x2 x3 x4 x5 x6 14 inb_S8x528x128_S1x512x128_3_14_0)
      (slab_2_3 c i arg2 harg2 arg3 harg3 arg4 harg4 arg5 harg5 arg6 harg6 arg7 harg7 arg8 harg8 arg12 arg15 x0 x1 x2 x3 x4 x5 x6 15 inb_S8x528x128_S1x512x128_3_15_0)
      (slab_2_3 c i arg2 harg2 arg3 harg3 arg4 harg4 arg5 harg5 arg6 harg6 arg7 harg7 arg8 harg8 arg12 arg15 x0 x1 x2 x3 x4 x5 x6 16 inb_S8x528x128_S1x512x128_3_16_0)
      r q _ _ _ rfl rfl rfl j hj)
    r q j hj
  exact h

/-- The activation of chunk 3. -/
theorem act_3 (r : Fin 512) (q : Fin 256) (j : Fin 2816) (hj : j.val = 768 + q.val) :
    (kernelRun0_A.sl.r_30 c i arg2 harg2 arg3 harg3 arg4 harg4 arg5 harg5 arg6 harg6 arg7 harg7 arg8 harg8 arg9 harg9 arg12 arg15 x0 x1 x2 x3 x4 x5 x6 x7) (ix2 r q)
      = actRow (convV x7 x6 (kernelRun0_A.sl.v89 c i arg2 harg2 arg3 harg3 arg4 harg4 arg5 harg5 arg6 harg6 arg7 harg7 arg12 x0 x1 x2 x3 x4 x5) r) j := by
  have h := actChunk_at (convV x7 x6 (kernelRun0_A.sl.v89 c i arg2 harg2 arg3 harg3 arg4 harg4 arg5 harg5 arg6 harg6 arg7 harg7 arg12 x0 x1 x2 x3 x4 x5)) 768
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 768
      (cw_at harg9 x7 3 3 768 rfl inb_S8x5632_S1x128_3_768)
      (cw_at harg9 x7 0 0 768 rfl inb_S8x5632_S1x128_0_768)
      (cw_at harg9 x7 1 1 768 rfl inb_S8x5632_S1x128_1_768)
      (cw_at harg9 x7 2 2 768 rfl inb_S8x5632_S1x128_2_768)
      (slab_3_0 c i arg2 harg2 arg3 harg3 arg4 harg4 arg5 harg5 arg6 harg6 arg7 harg7 arg8 harg8 arg12 arg15 x0 x1 x2 x3 x4 x5 x6 14 inb_S8x528x128_S1x512x128_4_14_0)
      (slab_3_0 c i arg2 harg2 arg3 harg3 arg4 harg4 arg5 harg5 arg6 harg6 arg7 harg7 arg8 harg8 arg12 arg15 x0 x1 x2 x3 x4 x5 x6 15 inb_S8x528x128_S1x512x128_4_15_0)
      (slab_3_0 c i arg2 harg2 arg3 harg3 arg4 harg4 arg5 harg5 arg6 harg6 arg7 harg7 arg8 harg8 arg12 arg15 x0 x1 x2 x3 x4 x5 x6 16 inb_S8x528x128_S1x512x128_4_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 896
      (cw_at harg9 x7 3 3 896 rfl inb_S8x5632_S1x128_3_896)
      (cw_at harg9 x7 0 0 896 rfl inb_S8x5632_S1x128_0_896)
      (cw_at harg9 x7 1 1 896 rfl inb_S8x5632_S1x128_1_896)
      (cw_at harg9 x7 2 2 896 rfl inb_S8x5632_S1x128_2_896)
      (slab_3_1 c i arg2 harg2 arg3 harg3 arg4 harg4 arg5 harg5 arg6 harg6 arg7 harg7 arg8 harg8 arg12 arg15 x0 x1 x2 x3 x4 x5 x6 14 inb_S8x528x128_S1x512x128_5_14_0)
      (slab_3_1 c i arg2 harg2 arg3 harg3 arg4 harg4 arg5 harg5 arg6 harg6 arg7 harg7 arg8 harg8 arg12 arg15 x0 x1 x2 x3 x4 x5 x6 15 inb_S8x528x128_S1x512x128_5_15_0)
      (slab_3_1 c i arg2 harg2 arg3 harg3 arg4 harg4 arg5 harg5 arg6 harg6 arg7 harg7 arg8 harg8 arg12 arg15 x0 x1 x2 x3 x4 x5 x6 16 inb_S8x528x128_S1x512x128_5_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 3584
      (cw_at harg9 x7 3 3 3584 rfl inb_S8x5632_S1x128_3_3584)
      (cw_at harg9 x7 0 0 3584 rfl inb_S8x5632_S1x128_0_3584)
      (cw_at harg9 x7 1 1 3584 rfl inb_S8x5632_S1x128_1_3584)
      (cw_at harg9 x7 2 2 3584 rfl inb_S8x5632_S1x128_2_3584)
      (slab_3_2 c i arg2 harg2 arg3 harg3 arg4 harg4 arg5 harg5 arg6 harg6 arg7 harg7 arg8 harg8 arg12 arg15 x0 x1 x2 x3 x4 x5 x6 14 inb_S8x528x128_S1x512x128_6_14_0)
      (slab_3_2 c i arg2 harg2 arg3 harg3 arg4 harg4 arg5 harg5 arg6 harg6 arg7 harg7 arg8 harg8 arg12 arg15 x0 x1 x2 x3 x4 x5 x6 15 inb_S8x528x128_S1x512x128_6_15_0)
      (slab_3_2 c i arg2 harg2 arg3 harg3 arg4 harg4 arg5 harg5 arg6 harg6 arg7 harg7 arg8 harg8 arg12 arg15 x0 x1 x2 x3 x4 x5 x6 16 inb_S8x528x128_S1x512x128_6_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 3712
      (cw_at harg9 x7 3 3 3712 rfl inb_S8x5632_S1x128_3_3712)
      (cw_at harg9 x7 0 0 3712 rfl inb_S8x5632_S1x128_0_3712)
      (cw_at harg9 x7 1 1 3712 rfl inb_S8x5632_S1x128_1_3712)
      (cw_at harg9 x7 2 2 3712 rfl inb_S8x5632_S1x128_2_3712)
      (slab_3_3 c i arg2 harg2 arg3 harg3 arg4 harg4 arg5 harg5 arg6 harg6 arg7 harg7 arg8 harg8 arg12 arg15 x0 x1 x2 x3 x4 x5 x6 14 inb_S8x528x128_S1x512x128_7_14_0)
      (slab_3_3 c i arg2 harg2 arg3 harg3 arg4 harg4 arg5 harg5 arg6 harg6 arg7 harg7 arg8 harg8 arg12 arg15 x0 x1 x2 x3 x4 x5 x6 15 inb_S8x528x128_S1x512x128_7_15_0)
      (slab_3_3 c i arg2 harg2 arg3 harg3 arg4 harg4 arg5 harg5 arg6 harg6 arg7 harg7 arg8 harg8 arg12 arg15 x0 x1 x2 x3 x4 x5 x6 16 inb_S8x528x128_S1x512x128_7_16_0)
      r q _ _ _ rfl rfl rfl j hj)
    r q j hj
  exact h

/-- The activation of chunk 4. -/
theorem act_4 (r : Fin 512) (q : Fin 256) (j : Fin 2816) (hj : j.val = 1024 + q.val) :
    (kernelRun0_A.sl.r_36 c i arg2 harg2 arg3 harg3 arg4 harg4 arg5 harg5 arg6 harg6 arg7 harg7 arg8 harg8 arg9 harg9 arg12 arg15 x0 x1 x2 x3 x4 x5 x6 x7) (ix2 r q)
      = actRow (convV x7 x6 (kernelRun0_A.sl.v89 c i arg2 harg2 arg3 harg3 arg4 harg4 arg5 harg5 arg6 harg6 arg7 harg7 arg12 x0 x1 x2 x3 x4 x5) r) j := by
  have h := actChunk_at (convV x7 x6 (kernelRun0_A.sl.v89 c i arg2 harg2 arg3 harg3 arg4 harg4 arg5 harg5 arg6 harg6 arg7 harg7 arg12 x0 x1 x2 x3 x4 x5)) 1024
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 1024
      (cw_at harg9 x7 3 3 1024 rfl inb_S8x5632_S1x128_3_1024)
      (cw_at harg9 x7 0 0 1024 rfl inb_S8x5632_S1x128_0_1024)
      (cw_at harg9 x7 1 1 1024 rfl inb_S8x5632_S1x128_1_1024)
      (cw_at harg9 x7 2 2 1024 rfl inb_S8x5632_S1x128_2_1024)
      (slab_4_0 c i arg2 harg2 arg3 harg3 arg4 harg4 arg5 harg5 arg6 harg6 arg7 harg7 arg8 harg8 arg12 arg15 x0 x1 x2 x3 x4 x5 x6 14 inb_S8x528x128_S1x512x128_0_14_0)
      (slab_4_0 c i arg2 harg2 arg3 harg3 arg4 harg4 arg5 harg5 arg6 harg6 arg7 harg7 arg8 harg8 arg12 arg15 x0 x1 x2 x3 x4 x5 x6 15 inb_S8x528x128_S1x512x128_0_15_0)
      (slab_4_0 c i arg2 harg2 arg3 harg3 arg4 harg4 arg5 harg5 arg6 harg6 arg7 harg7 arg8 harg8 arg12 arg15 x0 x1 x2 x3 x4 x5 x6 16 inb_S8x528x128_S1x512x128_0_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 1152
      (cw_at harg9 x7 3 3 1152 rfl inb_S8x5632_S1x128_3_1152)
      (cw_at harg9 x7 0 0 1152 rfl inb_S8x5632_S1x128_0_1152)
      (cw_at harg9 x7 1 1 1152 rfl inb_S8x5632_S1x128_1_1152)
      (cw_at harg9 x7 2 2 1152 rfl inb_S8x5632_S1x128_2_1152)
      (slab_4_1 c i arg2 harg2 arg3 harg3 arg4 harg4 arg5 harg5 arg6 harg6 arg7 harg7 arg8 harg8 arg12 arg15 x0 x1 x2 x3 x4 x5 x6 14 inb_S8x528x128_S1x512x128_1_14_0)
      (slab_4_1 c i arg2 harg2 arg3 harg3 arg4 harg4 arg5 harg5 arg6 harg6 arg7 harg7 arg8 harg8 arg12 arg15 x0 x1 x2 x3 x4 x5 x6 15 inb_S8x528x128_S1x512x128_1_15_0)
      (slab_4_1 c i arg2 harg2 arg3 harg3 arg4 harg4 arg5 harg5 arg6 harg6 arg7 harg7 arg8 harg8 arg12 arg15 x0 x1 x2 x3 x4 x5 x6 16 inb_S8x528x128_S1x512x128_1_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 3840
      (cw_at harg9 x7 3 3 3840 rfl inb_S8x5632_S1x128_3_3840)
      (cw_at harg9 x7 0 0 3840 rfl inb_S8x5632_S1x128_0_3840)
      (cw_at harg9 x7 1 1 3840 rfl inb_S8x5632_S1x128_1_3840)
      (cw_at harg9 x7 2 2 3840 rfl inb_S8x5632_S1x128_2_3840)
      (slab_4_2 c i arg2 harg2 arg3 harg3 arg4 harg4 arg5 harg5 arg6 harg6 arg7 harg7 arg8 harg8 arg12 arg15 x0 x1 x2 x3 x4 x5 x6 14 inb_S8x528x128_S1x512x128_2_14_0)
      (slab_4_2 c i arg2 harg2 arg3 harg3 arg4 harg4 arg5 harg5 arg6 harg6 arg7 harg7 arg8 harg8 arg12 arg15 x0 x1 x2 x3 x4 x5 x6 15 inb_S8x528x128_S1x512x128_2_15_0)
      (slab_4_2 c i arg2 harg2 arg3 harg3 arg4 harg4 arg5 harg5 arg6 harg6 arg7 harg7 arg8 harg8 arg12 arg15 x0 x1 x2 x3 x4 x5 x6 16 inb_S8x528x128_S1x512x128_2_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 3968
      (cw_at harg9 x7 3 3 3968 rfl inb_S8x5632_S1x128_3_3968)
      (cw_at harg9 x7 0 0 3968 rfl inb_S8x5632_S1x128_0_3968)
      (cw_at harg9 x7 1 1 3968 rfl inb_S8x5632_S1x128_1_3968)
      (cw_at harg9 x7 2 2 3968 rfl inb_S8x5632_S1x128_2_3968)
      (slab_4_3 c i arg2 harg2 arg3 harg3 arg4 harg4 arg5 harg5 arg6 harg6 arg7 harg7 arg8 harg8 arg12 arg15 x0 x1 x2 x3 x4 x5 x6 14 inb_S8x528x128_S1x512x128_3_14_0)
      (slab_4_3 c i arg2 harg2 arg3 harg3 arg4 harg4 arg5 harg5 arg6 harg6 arg7 harg7 arg8 harg8 arg12 arg15 x0 x1 x2 x3 x4 x5 x6 15 inb_S8x528x128_S1x512x128_3_15_0)
      (slab_4_3 c i arg2 harg2 arg3 harg3 arg4 harg4 arg5 harg5 arg6 harg6 arg7 harg7 arg8 harg8 arg12 arg15 x0 x1 x2 x3 x4 x5 x6 16 inb_S8x528x128_S1x512x128_3_16_0)
      r q _ _ _ rfl rfl rfl j hj)
    r q j hj
  exact h

/-- The activation of chunk 5. -/
theorem act_5 (r : Fin 512) (q : Fin 256) (j : Fin 2816) (hj : j.val = 1280 + q.val) :
    (kernelRun0_A.sl.r_46 c i arg2 harg2 arg3 harg3 arg4 harg4 arg5 harg5 arg6 harg6 arg7 harg7 arg8 harg8 arg9 harg9 arg12 arg15 x0 x1 x2 x3 x4 x5 x6 x7) (ix2 r q)
      = actRow (convV x7 x6 (kernelRun0_A.sl.v89 c i arg2 harg2 arg3 harg3 arg4 harg4 arg5 harg5 arg6 harg6 arg7 harg7 arg12 x0 x1 x2 x3 x4 x5) r) j := by
  have h := actChunk_at (convV x7 x6 (kernelRun0_A.sl.v89 c i arg2 harg2 arg3 harg3 arg4 harg4 arg5 harg5 arg6 harg6 arg7 harg7 arg12 x0 x1 x2 x3 x4 x5)) 1280
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 1280
      (cw_at harg9 x7 3 3 1280 rfl inb_S8x5632_S1x128_3_1280)
      (cw_at harg9 x7 0 0 1280 rfl inb_S8x5632_S1x128_0_1280)
      (cw_at harg9 x7 1 1 1280 rfl inb_S8x5632_S1x128_1_1280)
      (cw_at harg9 x7 2 2 1280 rfl inb_S8x5632_S1x128_2_1280)
      (slab_5_0 c i arg2 harg2 arg3 harg3 arg4 harg4 arg5 harg5 arg6 harg6 arg7 harg7 arg8 harg8 arg12 arg15 x0 x1 x2 x3 x4 x5 x6 14 inb_S8x528x128_S1x512x128_4_14_0)
      (slab_5_0 c i arg2 harg2 arg3 harg3 arg4 harg4 arg5 harg5 arg6 harg6 arg7 harg7 arg8 harg8 arg12 arg15 x0 x1 x2 x3 x4 x5 x6 15 inb_S8x528x128_S1x512x128_4_15_0)
      (slab_5_0 c i arg2 harg2 arg3 harg3 arg4 harg4 arg5 harg5 arg6 harg6 arg7 harg7 arg8 harg8 arg12 arg15 x0 x1 x2 x3 x4 x5 x6 16 inb_S8x528x128_S1x512x128_4_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 1408
      (cw_at harg9 x7 3 3 1408 rfl inb_S8x5632_S1x128_3_1408)
      (cw_at harg9 x7 0 0 1408 rfl inb_S8x5632_S1x128_0_1408)
      (cw_at harg9 x7 1 1 1408 rfl inb_S8x5632_S1x128_1_1408)
      (cw_at harg9 x7 2 2 1408 rfl inb_S8x5632_S1x128_2_1408)
      (slab_5_1 c i arg2 harg2 arg3 harg3 arg4 harg4 arg5 harg5 arg6 harg6 arg7 harg7 arg8 harg8 arg12 arg15 x0 x1 x2 x3 x4 x5 x6 14 inb_S8x528x128_S1x512x128_5_14_0)
      (slab_5_1 c i arg2 harg2 arg3 harg3 arg4 harg4 arg5 harg5 arg6 harg6 arg7 harg7 arg8 harg8 arg12 arg15 x0 x1 x2 x3 x4 x5 x6 15 inb_S8x528x128_S1x512x128_5_15_0)
      (slab_5_1 c i arg2 harg2 arg3 harg3 arg4 harg4 arg5 harg5 arg6 harg6 arg7 harg7 arg8 harg8 arg12 arg15 x0 x1 x2 x3 x4 x5 x6 16 inb_S8x528x128_S1x512x128_5_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 4096
      (cw_at harg9 x7 3 3 4096 rfl inb_S8x5632_S1x128_3_4096)
      (cw_at harg9 x7 0 0 4096 rfl inb_S8x5632_S1x128_0_4096)
      (cw_at harg9 x7 1 1 4096 rfl inb_S8x5632_S1x128_1_4096)
      (cw_at harg9 x7 2 2 4096 rfl inb_S8x5632_S1x128_2_4096)
      (slab_5_2 c i arg2 harg2 arg3 harg3 arg4 harg4 arg5 harg5 arg6 harg6 arg7 harg7 arg8 harg8 arg12 arg15 x0 x1 x2 x3 x4 x5 x6 14 inb_S8x528x128_S1x512x128_6_14_0)
      (slab_5_2 c i arg2 harg2 arg3 harg3 arg4 harg4 arg5 harg5 arg6 harg6 arg7 harg7 arg8 harg8 arg12 arg15 x0 x1 x2 x3 x4 x5 x6 15 inb_S8x528x128_S1x512x128_6_15_0)
      (slab_5_2 c i arg2 harg2 arg3 harg3 arg4 harg4 arg5 harg5 arg6 harg6 arg7 harg7 arg8 harg8 arg12 arg15 x0 x1 x2 x3 x4 x5 x6 16 inb_S8x528x128_S1x512x128_6_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 4224
      (cw_at harg9 x7 3 3 4224 rfl inb_S8x5632_S1x128_3_4224)
      (cw_at harg9 x7 0 0 4224 rfl inb_S8x5632_S1x128_0_4224)
      (cw_at harg9 x7 1 1 4224 rfl inb_S8x5632_S1x128_1_4224)
      (cw_at harg9 x7 2 2 4224 rfl inb_S8x5632_S1x128_2_4224)
      (slab_5_3 c i arg2 harg2 arg3 harg3 arg4 harg4 arg5 harg5 arg6 harg6 arg7 harg7 arg8 harg8 arg12 arg15 x0 x1 x2 x3 x4 x5 x6 14 inb_S8x528x128_S1x512x128_7_14_0)
      (slab_5_3 c i arg2 harg2 arg3 harg3 arg4 harg4 arg5 harg5 arg6 harg6 arg7 harg7 arg8 harg8 arg12 arg15 x0 x1 x2 x3 x4 x5 x6 15 inb_S8x528x128_S1x512x128_7_15_0)
      (slab_5_3 c i arg2 harg2 arg3 harg3 arg4 harg4 arg5 harg5 arg6 harg6 arg7 harg7 arg8 harg8 arg12 arg15 x0 x1 x2 x3 x4 x5 x6 16 inb_S8x528x128_S1x512x128_7_16_0)
      r q _ _ _ rfl rfl rfl j hj)
    r q j hj
  exact h

/-- The activation of chunk 6. -/
theorem act_6 (r : Fin 512) (q : Fin 256) (j : Fin 2816) (hj : j.val = 1536 + q.val) :
    (kernelRun0_A.sl.r_57 c i arg2 harg2 arg3 harg3 arg4 harg4 arg5 harg5 arg6 harg6 arg7 harg7 arg8 harg8 arg9 harg9 arg12 arg15 x0 x1 x2 x3 x4 x5 x6 x7) (ix2 r q)
      = actRow (convV x7 x6 (kernelRun0_A.sl.v89 c i arg2 harg2 arg3 harg3 arg4 harg4 arg5 harg5 arg6 harg6 arg7 harg7 arg12 x0 x1 x2 x3 x4 x5) r) j := by
  have h := actChunk_at (convV x7 x6 (kernelRun0_A.sl.v89 c i arg2 harg2 arg3 harg3 arg4 harg4 arg5 harg5 arg6 harg6 arg7 harg7 arg12 x0 x1 x2 x3 x4 x5)) 1536
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 1536
      (cw_at harg9 x7 3 3 1536 rfl inb_S8x5632_S1x128_3_1536)
      (cw_at harg9 x7 0 0 1536 rfl inb_S8x5632_S1x128_0_1536)
      (cw_at harg9 x7 1 1 1536 rfl inb_S8x5632_S1x128_1_1536)
      (cw_at harg9 x7 2 2 1536 rfl inb_S8x5632_S1x128_2_1536)
      (slab_6_0 c i arg2 harg2 arg3 harg3 arg4 harg4 arg5 harg5 arg6 harg6 arg7 harg7 arg8 harg8 arg12 arg15 x0 x1 x2 x3 x4 x5 x6 14 inb_S8x528x128_S1x512x128_0_14_0)
      (slab_6_0 c i arg2 harg2 arg3 harg3 arg4 harg4 arg5 harg5 arg6 harg6 arg7 harg7 arg8 harg8 arg12 arg15 x0 x1 x2 x3 x4 x5 x6 15 inb_S8x528x128_S1x512x128_0_15_0)
      (slab_6_0 c i arg2 harg2 arg3 harg3 arg4 harg4 arg5 harg5 arg6 harg6 arg7 harg7 arg8 harg8 arg12 arg15 x0 x1 x2 x3 x4 x5 x6 16 inb_S8x528x128_S1x512x128_0_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 1664
      (cw_at harg9 x7 3 3 1664 rfl inb_S8x5632_S1x128_3_1664)
      (cw_at harg9 x7 0 0 1664 rfl inb_S8x5632_S1x128_0_1664)
      (cw_at harg9 x7 1 1 1664 rfl inb_S8x5632_S1x128_1_1664)
      (cw_at harg9 x7 2 2 1664 rfl inb_S8x5632_S1x128_2_1664)
      (slab_6_1 c i arg2 harg2 arg3 harg3 arg4 harg4 arg5 harg5 arg6 harg6 arg7 harg7 arg8 harg8 arg12 arg15 x0 x1 x2 x3 x4 x5 x6 14 inb_S8x528x128_S1x512x128_1_14_0)
      (slab_6_1 c i arg2 harg2 arg3 harg3 arg4 harg4 arg5 harg5 arg6 harg6 arg7 harg7 arg8 harg8 arg12 arg15 x0 x1 x2 x3 x4 x5 x6 15 inb_S8x528x128_S1x512x128_1_15_0)
      (slab_6_1 c i arg2 harg2 arg3 harg3 arg4 harg4 arg5 harg5 arg6 harg6 arg7 harg7 arg8 harg8 arg12 arg15 x0 x1 x2 x3 x4 x5 x6 16 inb_S8x528x128_S1x512x128_1_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 4352
      (cw_at harg9 x7 3 3 4352 rfl inb_S8x5632_S1x128_3_4352)
      (cw_at harg9 x7 0 0 4352 rfl inb_S8x5632_S1x128_0_4352)
      (cw_at harg9 x7 1 1 4352 rfl inb_S8x5632_S1x128_1_4352)
      (cw_at harg9 x7 2 2 4352 rfl inb_S8x5632_S1x128_2_4352)
      (slab_6_2 c i arg2 harg2 arg3 harg3 arg4 harg4 arg5 harg5 arg6 harg6 arg7 harg7 arg8 harg8 arg12 arg15 x0 x1 x2 x3 x4 x5 x6 14 inb_S8x528x128_S1x512x128_2_14_0)
      (slab_6_2 c i arg2 harg2 arg3 harg3 arg4 harg4 arg5 harg5 arg6 harg6 arg7 harg7 arg8 harg8 arg12 arg15 x0 x1 x2 x3 x4 x5 x6 15 inb_S8x528x128_S1x512x128_2_15_0)
      (slab_6_2 c i arg2 harg2 arg3 harg3 arg4 harg4 arg5 harg5 arg6 harg6 arg7 harg7 arg8 harg8 arg12 arg15 x0 x1 x2 x3 x4 x5 x6 16 inb_S8x528x128_S1x512x128_2_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 4480
      (cw_at harg9 x7 3 3 4480 rfl inb_S8x5632_S1x128_3_4480)
      (cw_at harg9 x7 0 0 4480 rfl inb_S8x5632_S1x128_0_4480)
      (cw_at harg9 x7 1 1 4480 rfl inb_S8x5632_S1x128_1_4480)
      (cw_at harg9 x7 2 2 4480 rfl inb_S8x5632_S1x128_2_4480)
      (slab_6_3 c i arg2 harg2 arg3 harg3 arg4 harg4 arg5 harg5 arg6 harg6 arg7 harg7 arg8 harg8 arg12 arg15 x0 x1 x2 x3 x4 x5 x6 14 inb_S8x528x128_S1x512x128_3_14_0)
      (slab_6_3 c i arg2 harg2 arg3 harg3 arg4 harg4 arg5 harg5 arg6 harg6 arg7 harg7 arg8 harg8 arg12 arg15 x0 x1 x2 x3 x4 x5 x6 15 inb_S8x528x128_S1x512x128_3_15_0)
      (slab_6_3 c i arg2 harg2 arg3 harg3 arg4 harg4 arg5 harg5 arg6 harg6 arg7 harg7 arg8 harg8 arg12 arg15 x0 x1 x2 x3 x4 x5 x6 16 inb_S8x528x128_S1x512x128_3_16_0)
      r q _ _ _ rfl rfl rfl j hj)
    r q j hj
  exact h

/-- The activation of chunk 7. -/
theorem act_7 (r : Fin 512) (q : Fin 256) (j : Fin 2816) (hj : j.val = 1792 + q.val) :
    (kernelRun0_A.sl.r_65 c i arg2 harg2 arg3 harg3 arg4 harg4 arg5 harg5 arg6 harg6 arg7 harg7 arg8 harg8 arg9 harg9 arg12 arg15 x0 x1 x2 x3 x4 x5 x6 x7) (ix2 r q)
      = actRow (convV x7 x6 (kernelRun0_A.sl.v89 c i arg2 harg2 arg3 harg3 arg4 harg4 arg5 harg5 arg6 harg6 arg7 harg7 arg12 x0 x1 x2 x3 x4 x5) r) j := by
  have h := actChunk_at (convV x7 x6 (kernelRun0_A.sl.v89 c i arg2 harg2 arg3 harg3 arg4 harg4 arg5 harg5 arg6 harg6 arg7 harg7 arg12 x0 x1 x2 x3 x4 x5)) 1792
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 1792
      (cw_at harg9 x7 3 3 1792 rfl inb_S8x5632_S1x128_3_1792)
      (cw_at harg9 x7 0 0 1792 rfl inb_S8x5632_S1x128_0_1792)
      (cw_at harg9 x7 1 1 1792 rfl inb_S8x5632_S1x128_1_1792)
      (cw_at harg9 x7 2 2 1792 rfl inb_S8x5632_S1x128_2_1792)
      (slab_7_0 c i arg2 harg2 arg3 harg3 arg4 harg4 arg5 harg5 arg6 harg6 arg7 harg7 arg8 harg8 arg12 arg15 x0 x1 x2 x3 x4 x5 x6 14 inb_S8x528x128_S1x512x128_4_14_0)
      (slab_7_0 c i arg2 harg2 arg3 harg3 arg4 harg4 arg5 harg5 arg6 harg6 arg7 harg7 arg8 harg8 arg12 arg15 x0 x1 x2 x3 x4 x5 x6 15 inb_S8x528x128_S1x512x128_4_15_0)
      (slab_7_0 c i arg2 harg2 arg3 harg3 arg4 harg4 arg5 harg5 arg6 harg6 arg7 harg7 arg8 harg8 arg12 arg15 x0 x1 x2 x3 x4 x5 x6 16 inb_S8x528x128_S1x512x128_4_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 1920
      (cw_at harg9 x7 3 3 1920 rfl inb_S8x5632_S1x128_3_1920)
      (cw_at harg9 x7 0 0 1920 rfl inb_S8x5632_S1x128_0_1920)
      (cw_at harg9 x7 1 1 1920 rfl inb_S8x5632_S1x128_1_1920)
      (cw_at harg9 x7 2 2 1920 rfl inb_S8x5632_S1x128_2_1920)
      (slab_7_1 c i arg2 harg2 arg3 harg3 arg4 harg4 arg5 harg5 arg6 harg6 arg7 harg7 arg8 harg8 arg12 arg15 x0 x1 x2 x3 x4 x5 x6 14 inb_S8x528x128_S1x512x128_5_14_0)
      (slab_7_1 c i arg2 harg2 arg3 harg3 arg4 harg4 arg5 harg5 arg6 harg6 arg7 harg7 arg8 harg8 arg12 arg15 x0 x1 x2 x3 x4 x5 x6 15 inb_S8x528x128_S1x512x128_5_15_0)
      (slab_7_1 c i arg2 harg2 arg3 harg3 arg4 harg4 arg5 harg5 arg6 harg6 arg7 harg7 arg8 harg8 arg12 arg15 x0 x1 x2 x3 x4 x5 x6 16 inb_S8x528x128_S1x512x128_5_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 4608
      (cw_at harg9 x7 3 3 4608 rfl inb_S8x5632_S1x128_3_4608)
      (cw_at harg9 x7 0 0 4608 rfl inb_S8x5632_S1x128_0_4608)
      (cw_at harg9 x7 1 1 4608 rfl inb_S8x5632_S1x128_1_4608)
      (cw_at harg9 x7 2 2 4608 rfl inb_S8x5632_S1x128_2_4608)
      (slab_7_2 c i arg2 harg2 arg3 harg3 arg4 harg4 arg5 harg5 arg6 harg6 arg7 harg7 arg8 harg8 arg12 arg15 x0 x1 x2 x3 x4 x5 x6 14 inb_S8x528x128_S1x512x128_6_14_0)
      (slab_7_2 c i arg2 harg2 arg3 harg3 arg4 harg4 arg5 harg5 arg6 harg6 arg7 harg7 arg8 harg8 arg12 arg15 x0 x1 x2 x3 x4 x5 x6 15 inb_S8x528x128_S1x512x128_6_15_0)
      (slab_7_2 c i arg2 harg2 arg3 harg3 arg4 harg4 arg5 harg5 arg6 harg6 arg7 harg7 arg8 harg8 arg12 arg15 x0 x1 x2 x3 x4 x5 x6 16 inb_S8x528x128_S1x512x128_6_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 4736
      (cw_at harg9 x7 3 3 4736 rfl inb_S8x5632_S1x128_3_4736)
      (cw_at harg9 x7 0 0 4736 rfl inb_S8x5632_S1x128_0_4736)
      (cw_at harg9 x7 1 1 4736 rfl inb_S8x5632_S1x128_1_4736)
      (cw_at harg9 x7 2 2 4736 rfl inb_S8x5632_S1x128_2_4736)
      (slab_7_3 c i arg2 harg2 arg3 harg3 arg4 harg4 arg5 harg5 arg6 harg6 arg7 harg7 arg8 harg8 arg12 arg15 x0 x1 x2 x3 x4 x5 x6 14 inb_S8x528x128_S1x512x128_7_14_0)
      (slab_7_3 c i arg2 harg2 arg3 harg3 arg4 harg4 arg5 harg5 arg6 harg6 arg7 harg7 arg8 harg8 arg12 arg15 x0 x1 x2 x3 x4 x5 x6 15 inb_S8x528x128_S1x512x128_7_15_0)
      (slab_7_3 c i arg2 harg2 arg3 harg3 arg4 harg4 arg5 harg5 arg6 harg6 arg7 harg7 arg8 harg8 arg12 arg15 x0 x1 x2 x3 x4 x5 x6 16 inb_S8x528x128_S1x512x128_7_16_0)
      r q _ _ _ rfl rfl rfl j hj)
    r q j hj
  exact h

/-- The activation of chunk 8. -/
theorem act_8 (r : Fin 512) (q : Fin 256) (j : Fin 2816) (hj : j.val = 2048 + q.val) :
    (kernelRun0_A.sl.r_76 c i arg2 harg2 arg3 harg3 arg4 harg4 arg5 harg5 arg6 harg6 arg7 harg7 arg8 harg8 arg9 harg9 arg12 arg15 x0 x1 x2 x3 x4 x5 x6 x7) (ix2 r q)
      = actRow (convV x7 x6 (kernelRun0_A.sl.v89 c i arg2 harg2 arg3 harg3 arg4 harg4 arg5 harg5 arg6 harg6 arg7 harg7 arg12 x0 x1 x2 x3 x4 x5) r) j := by
  have h := actChunk_at (convV x7 x6 (kernelRun0_A.sl.v89 c i arg2 harg2 arg3 harg3 arg4 harg4 arg5 harg5 arg6 harg6 arg7 harg7 arg12 x0 x1 x2 x3 x4 x5)) 2048
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 2048
      (cw_at harg9 x7 3 3 2048 rfl inb_S8x5632_S1x128_3_2048)
      (cw_at harg9 x7 0 0 2048 rfl inb_S8x5632_S1x128_0_2048)
      (cw_at harg9 x7 1 1 2048 rfl inb_S8x5632_S1x128_1_2048)
      (cw_at harg9 x7 2 2 2048 rfl inb_S8x5632_S1x128_2_2048)
      (slab_8_0 c i arg2 harg2 arg3 harg3 arg4 harg4 arg5 harg5 arg6 harg6 arg7 harg7 arg8 harg8 arg12 arg15 x0 x1 x2 x3 x4 x5 x6 14 inb_S8x528x128_S1x512x128_0_14_0)
      (slab_8_0 c i arg2 harg2 arg3 harg3 arg4 harg4 arg5 harg5 arg6 harg6 arg7 harg7 arg8 harg8 arg12 arg15 x0 x1 x2 x3 x4 x5 x6 15 inb_S8x528x128_S1x512x128_0_15_0)
      (slab_8_0 c i arg2 harg2 arg3 harg3 arg4 harg4 arg5 harg5 arg6 harg6 arg7 harg7 arg8 harg8 arg12 arg15 x0 x1 x2 x3 x4 x5 x6 16 inb_S8x528x128_S1x512x128_0_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 2176
      (cw_at harg9 x7 3 3 2176 rfl inb_S8x5632_S1x128_3_2176)
      (cw_at harg9 x7 0 0 2176 rfl inb_S8x5632_S1x128_0_2176)
      (cw_at harg9 x7 1 1 2176 rfl inb_S8x5632_S1x128_1_2176)
      (cw_at harg9 x7 2 2 2176 rfl inb_S8x5632_S1x128_2_2176)
      (slab_8_1 c i arg2 harg2 arg3 harg3 arg4 harg4 arg5 harg5 arg6 harg6 arg7 harg7 arg8 harg8 arg12 arg15 x0 x1 x2 x3 x4 x5 x6 14 inb_S8x528x128_S1x512x128_1_14_0)
      (slab_8_1 c i arg2 harg2 arg3 harg3 arg4 harg4 arg5 harg5 arg6 harg6 arg7 harg7 arg8 harg8 arg12 arg15 x0 x1 x2 x3 x4 x5 x6 15 inb_S8x528x128_S1x512x128_1_15_0)
      (slab_8_1 c i arg2 harg2 arg3 harg3 arg4 harg4 arg5 harg5 arg6 harg6 arg7 harg7 arg8 harg8 arg12 arg15 x0 x1 x2 x3 x4 x5 x6 16 inb_S8x528x128_S1x512x128_1_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 4864
      (cw_at harg9 x7 3 3 4864 rfl inb_S8x5632_S1x128_3_4864)
      (cw_at harg9 x7 0 0 4864 rfl inb_S8x5632_S1x128_0_4864)
      (cw_at harg9 x7 1 1 4864 rfl inb_S8x5632_S1x128_1_4864)
      (cw_at harg9 x7 2 2 4864 rfl inb_S8x5632_S1x128_2_4864)
      (slab_8_2 c i arg2 harg2 arg3 harg3 arg4 harg4 arg5 harg5 arg6 harg6 arg7 harg7 arg8 harg8 arg12 arg15 x0 x1 x2 x3 x4 x5 x6 14 inb_S8x528x128_S1x512x128_2_14_0)
      (slab_8_2 c i arg2 harg2 arg3 harg3 arg4 harg4 arg5 harg5 arg6 harg6 arg7 harg7 arg8 harg8 arg12 arg15 x0 x1 x2 x3 x4 x5 x6 15 inb_S8x528x128_S1x512x128_2_15_0)
      (slab_8_2 c i arg2 harg2 arg3 harg3 arg4 harg4 arg5 harg5 arg6 harg6 arg7 harg7 arg8 harg8 arg12 arg15 x0 x1 x2 x3 x4 x5 x6 16 inb_S8x528x128_S1x512x128_2_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 4992
      (cw_at harg9 x7 3 3 4992 rfl inb_S8x5632_S1x128_3_4992)
      (cw_at harg9 x7 0 0 4992 rfl inb_S8x5632_S1x128_0_4992)
      (cw_at harg9 x7 1 1 4992 rfl inb_S8x5632_S1x128_1_4992)
      (cw_at harg9 x7 2 2 4992 rfl inb_S8x5632_S1x128_2_4992)
      (slab_8_3 c i arg2 harg2 arg3 harg3 arg4 harg4 arg5 harg5 arg6 harg6 arg7 harg7 arg8 harg8 arg12 arg15 x0 x1 x2 x3 x4 x5 x6 14 inb_S8x528x128_S1x512x128_3_14_0)
      (slab_8_3 c i arg2 harg2 arg3 harg3 arg4 harg4 arg5 harg5 arg6 harg6 arg7 harg7 arg8 harg8 arg12 arg15 x0 x1 x2 x3 x4 x5 x6 15 inb_S8x528x128_S1x512x128_3_15_0)
      (slab_8_3 c i arg2 harg2 arg3 harg3 arg4 harg4 arg5 harg5 arg6 harg6 arg7 harg7 arg8 harg8 arg12 arg15 x0 x1 x2 x3 x4 x5 x6 16 inb_S8x528x128_S1x512x128_3_16_0)
      r q _ _ _ rfl rfl rfl j hj)
    r q j hj
  exact h

/-- The activation of chunk 9. -/
theorem act_9 (r : Fin 512) (q : Fin 256) (j : Fin 2816) (hj : j.val = 2304 + q.val) :
    (act9 c i arg2 harg2 arg3 harg3 arg4 harg4 arg5 harg5 arg6 harg6 arg7 harg7 arg8 harg8 arg9 harg9 arg12 arg15 x0 x1 x2 x3 x4 x5 x6 x7) (ix2 r q)
      = actRow (convV x7 x6 (kernelRun0_A.sl.v89 c i arg2 harg2 arg3 harg3 arg4 harg4 arg5 harg5 arg6 harg6 arg7 harg7 arg12 x0 x1 x2 x3 x4 x5) r) j := by
  have h := actChunk_at (convV x7 x6 (kernelRun0_A.sl.v89 c i arg2 harg2 arg3 harg3 arg4 harg4 arg5 harg5 arg6 harg6 arg7 harg7 arg12 x0 x1 x2 x3 x4 x5)) 2304
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 2304
      (cw_at harg9 x7 3 3 2304 rfl inb_S8x5632_S1x128_3_2304)
      (cw_at harg9 x7 0 0 2304 rfl inb_S8x5632_S1x128_0_2304)
      (cw_at harg9 x7 1 1 2304 rfl inb_S8x5632_S1x128_1_2304)
      (cw_at harg9 x7 2 2 2304 rfl inb_S8x5632_S1x128_2_2304)
      (slab_9_0 c i arg2 harg2 arg3 harg3 arg4 harg4 arg5 harg5 arg6 harg6 arg7 harg7 arg8 harg8 arg12 arg15 x0 x1 x2 x3 x4 x5 x6 14 inb_S8x528x128_S1x512x128_4_14_0)
      (slab_9_0 c i arg2 harg2 arg3 harg3 arg4 harg4 arg5 harg5 arg6 harg6 arg7 harg7 arg8 harg8 arg12 arg15 x0 x1 x2 x3 x4 x5 x6 15 inb_S8x528x128_S1x512x128_4_15_0)
      (slab_9_0 c i arg2 harg2 arg3 harg3 arg4 harg4 arg5 harg5 arg6 harg6 arg7 harg7 arg8 harg8 arg12 arg15 x0 x1 x2 x3 x4 x5 x6 16 inb_S8x528x128_S1x512x128_4_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 2432
      (cw_at harg9 x7 3 3 2432 rfl inb_S8x5632_S1x128_3_2432)
      (cw_at harg9 x7 0 0 2432 rfl inb_S8x5632_S1x128_0_2432)
      (cw_at harg9 x7 1 1 2432 rfl inb_S8x5632_S1x128_1_2432)
      (cw_at harg9 x7 2 2 2432 rfl inb_S8x5632_S1x128_2_2432)
      (slab_9_1 c i arg2 harg2 arg3 harg3 arg4 harg4 arg5 harg5 arg6 harg6 arg7 harg7 arg8 harg8 arg12 arg15 x0 x1 x2 x3 x4 x5 x6 14 inb_S8x528x128_S1x512x128_5_14_0)
      (slab_9_1 c i arg2 harg2 arg3 harg3 arg4 harg4 arg5 harg5 arg6 harg6 arg7 harg7 arg8 harg8 arg12 arg15 x0 x1 x2 x3 x4 x5 x6 15 inb_S8x528x128_S1x512x128_5_15_0)
      (slab_9_1 c i arg2 harg2 arg3 harg3 arg4 harg4 arg5 harg5 arg6 harg6 arg7 harg7 arg8 harg8 arg12 arg15 x0 x1 x2 x3 x4 x5 x6 16 inb_S8x528x128_S1x512x128_5_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 5120
      (cw_at harg9 x7 3 3 5120 rfl inb_S8x5632_S1x128_3_5120)
      (cw_at harg9 x7 0 0 5120 rfl inb_S8x5632_S1x128_0_5120)
      (cw_at harg9 x7 1 1 5120 rfl inb_S8x5632_S1x128_1_5120)
      (cw_at harg9 x7 2 2 5120 rfl inb_S8x5632_S1x128_2_5120)
      (slab_9_2 c i arg2 harg2 arg3 harg3 arg4 harg4 arg5 harg5 arg6 harg6 arg7 harg7 arg8 harg8 arg12 arg15 x0 x1 x2 x3 x4 x5 x6 14 inb_S8x528x128_S1x512x128_6_14_0)
      (slab_9_2 c i arg2 harg2 arg3 harg3 arg4 harg4 arg5 harg5 arg6 harg6 arg7 harg7 arg8 harg8 arg12 arg15 x0 x1 x2 x3 x4 x5 x6 15 inb_S8x528x128_S1x512x128_6_15_0)
      (slab_9_2 c i arg2 harg2 arg3 harg3 arg4 harg4 arg5 harg5 arg6 harg6 arg7 harg7 arg8 harg8 arg12 arg15 x0 x1 x2 x3 x4 x5 x6 16 inb_S8x528x128_S1x512x128_6_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 5248
      (cw_at harg9 x7 3 3 5248 rfl inb_S8x5632_S1x128_3_5248)
      (cw_at harg9 x7 0 0 5248 rfl inb_S8x5632_S1x128_0_5248)
      (cw_at harg9 x7 1 1 5248 rfl inb_S8x5632_S1x128_1_5248)
      (cw_at harg9 x7 2 2 5248 rfl inb_S8x5632_S1x128_2_5248)
      (slab_9_3 c i arg2 harg2 arg3 harg3 arg4 harg4 arg5 harg5 arg6 harg6 arg7 harg7 arg8 harg8 arg12 arg15 x0 x1 x2 x3 x4 x5 x6 14 inb_S8x528x128_S1x512x128_7_14_0)
      (slab_9_3 c i arg2 harg2 arg3 harg3 arg4 harg4 arg5 harg5 arg6 harg6 arg7 harg7 arg8 harg8 arg12 arg15 x0 x1 x2 x3 x4 x5 x6 15 inb_S8x528x128_S1x512x128_7_15_0)
      (slab_9_3 c i arg2 harg2 arg3 harg3 arg4 harg4 arg5 harg5 arg6 harg6 arg7 harg7 arg8 harg8 arg12 arg15 x0 x1 x2 x3 x4 x5 x6 16 inb_S8x528x128_S1x512x128_7_16_0)
      r q _ _ _ rfl rfl rfl j hj)
    r q j hj
  exact h

/-- The activation of chunk 10. -/
theorem act_10 (r : Fin 512) (q : Fin 256) (j : Fin 2816) (hj : j.val = 2560 + q.val) :
    (kernelRun0_A.sl.r_91 c i arg2 harg2 arg3 harg3 arg4 harg4 arg5 harg5 arg6 harg6 arg7 harg7 arg8 harg8 arg9 harg9 arg12 arg15 x0 x1 x2 x3 x4 x5 x6 x7) (ix2 r q)
      = actRow (convV x7 x6 (kernelRun0_A.sl.v89 c i arg2 harg2 arg3 harg3 arg4 harg4 arg5 harg5 arg6 harg6 arg7 harg7 arg12 x0 x1 x2 x3 x4 x5) r) j := by
  have h := actChunk_at (convV x7 x6 (kernelRun0_A.sl.v89 c i arg2 harg2 arg3 harg3 arg4 harg4 arg5 harg5 arg6 harg6 arg7 harg7 arg12 x0 x1 x2 x3 x4 x5)) 2560
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 2560
      (cw_at harg9 x7 3 3 2560 rfl inb_S8x5632_S1x128_3_2560)
      (cw_at harg9 x7 0 0 2560 rfl inb_S8x5632_S1x128_0_2560)
      (cw_at harg9 x7 1 1 2560 rfl inb_S8x5632_S1x128_1_2560)
      (cw_at harg9 x7 2 2 2560 rfl inb_S8x5632_S1x128_2_2560)
      (slab_10_0 c i arg2 harg2 arg3 harg3 arg4 harg4 arg5 harg5 arg6 harg6 arg7 harg7 arg8 harg8 arg12 arg15 x0 x1 x2 x3 x4 x5 x6 14 inb_S8x528x128_S1x512x128_0_14_0)
      (slab_10_0 c i arg2 harg2 arg3 harg3 arg4 harg4 arg5 harg5 arg6 harg6 arg7 harg7 arg8 harg8 arg12 arg15 x0 x1 x2 x3 x4 x5 x6 15 inb_S8x528x128_S1x512x128_0_15_0)
      (slab_10_0 c i arg2 harg2 arg3 harg3 arg4 harg4 arg5 harg5 arg6 harg6 arg7 harg7 arg8 harg8 arg12 arg15 x0 x1 x2 x3 x4 x5 x6 16 inb_S8x528x128_S1x512x128_0_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 2688
      (cw_at harg9 x7 3 3 2688 rfl inb_S8x5632_S1x128_3_2688)
      (cw_at harg9 x7 0 0 2688 rfl inb_S8x5632_S1x128_0_2688)
      (cw_at harg9 x7 1 1 2688 rfl inb_S8x5632_S1x128_1_2688)
      (cw_at harg9 x7 2 2 2688 rfl inb_S8x5632_S1x128_2_2688)
      (slab_10_1 c i arg2 harg2 arg3 harg3 arg4 harg4 arg5 harg5 arg6 harg6 arg7 harg7 arg8 harg8 arg12 arg15 x0 x1 x2 x3 x4 x5 x6 14 inb_S8x528x128_S1x512x128_1_14_0)
      (slab_10_1 c i arg2 harg2 arg3 harg3 arg4 harg4 arg5 harg5 arg6 harg6 arg7 harg7 arg8 harg8 arg12 arg15 x0 x1 x2 x3 x4 x5 x6 15 inb_S8x528x128_S1x512x128_1_15_0)
      (slab_10_1 c i arg2 harg2 arg3 harg3 arg4 harg4 arg5 harg5 arg6 harg6 arg7 harg7 arg8 harg8 arg12 arg15 x0 x1 x2 x3 x4 x5 x6 16 inb_S8x528x128_S1x512x128_1_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 5376
      (cw_at harg9 x7 3 3 5376 rfl inb_S8x5632_S1x128_3_5376)
      (cw_at harg9 x7 0 0 5376 rfl inb_S8x5632_S1x128_0_5376)
      (cw_at harg9 x7 1 1 5376 rfl inb_S8x5632_S1x128_1_5376)
      (cw_at harg9 x7 2 2 5376 rfl inb_S8x5632_S1x128_2_5376)
      (slab_10_2 c i arg2 harg2 arg3 harg3 arg4 harg4 arg5 harg5 arg6 harg6 arg7 harg7 arg8 harg8 arg12 arg15 x0 x1 x2 x3 x4 x5 x6 14 inb_S8x528x128_S1x512x128_2_14_0)
      (slab_10_2 c i arg2 harg2 arg3 harg3 arg4 harg4 arg5 harg5 arg6 harg6 arg7 harg7 arg8 harg8 arg12 arg15 x0 x1 x2 x3 x4 x5 x6 15 inb_S8x528x128_S1x512x128_2_15_0)
      (slab_10_2 c i arg2 harg2 arg3 harg3 arg4 harg4 arg5 harg5 arg6 harg6 arg7 harg7 arg8 harg8 arg12 arg15 x0 x1 x2 x3 x4 x5 x6 16 inb_S8x528x128_S1x512x128_2_16_0)
      r q _ _ _ rfl rfl rfl j hj)
    (fun r q j hj => conv_at (fun i j => x7 (ix2 i j)) (upV x6 (kernelRun0_A.sl.v89 c i arg2 harg2 arg3 harg3 arg4 harg4 arg5 harg5 arg6 harg6 arg7 harg7 arg12 x0 x1 x2 x3 x4 x5)) 5504
      (cw_at harg9 x7 3 3 5504 rfl inb_S8x5632_S1x128_3_5504)
      (cw_at harg9 x7 0 0 5504 rfl inb_S8x5632_S1x128_0_5504)
      (cw_at harg9 x7 1 1 5504 rfl inb_S8x5632_S1x128_1_5504)
      (cw_at harg9 x7 2 2 5504 rfl inb_S8x5632_S1x128_2_5504)
      (slab_10_3 c i arg2 harg2 arg3 harg3 arg4 harg4 arg5 harg5 arg6 harg6 arg7 harg7 arg8 harg8 arg12 arg15 x0 x1 x2 x3 x4 x5 x6 14 inb_S8x528x128_S1x512x128_3_14_0)
      (slab_10_3 c i arg2 harg2 arg3 harg3 arg4 harg4 arg5 harg5 arg6 harg6 arg7 harg7 arg8 harg8 arg12 arg15 x0 x1 x2 x3 x4 x5 x6 15 inb_S8x528x128_S1x512x128_3_15_0)
      (slab_10_3 c i arg2 harg2 arg3 harg3 arg4 harg4 arg5 harg5 arg6 harg6 arg7 harg7 arg8 harg8 arg12 arg15 x0 x1 x2 x3 x4 x5 x6 16 inb_S8x528x128_S1x512x128_3_16_0)
      r q _ _ _ rfl rfl rfl j hj)
    r q j hj
  exact h

end Cert.Ffn
-- ==== Proof.FfnAcc.lean ====
/-
  The accumulator: after chunk `f` it holds the sum over the first `256 (f + 1)` channels, and after the last chunk the
  whole down-projection.
-/
module

public import proofs.«01_k».proof.Proof.FfnActs

@[expose] public section

set_option maxRecDepth 16384

noncomputable section

namespace Cert.Ffn

open Idealize.ShloMosaic Cert.FfnKernelIdeal Cert.FfnKernelIdeal.Gen

/-- Channel `j`'s term of the down-projection, zero past the last channel. -/
def term (x8 : Vec Ideal S1x2816x1024 .bf16) (a : Fin 2816 → EReal) (n : Fin 1024) (j : ℕ) : EReal :=
  if h : j < 2816 then a ⟨j, h⟩ * x8 (ix3 0 ⟨j, h⟩ n) else 0

theorem part_sum (x8 : Vec Ideal S1x2816x1024 .bf16) (a : Fin 2816 → EReal) (n : Fin 1024) (f : ℕ) (hf : f + 256 ≤ 2816)
    (v : Fin 256 → EReal) (w : Fin 256 → EReal) (hv : ∀ (q : Fin 256) (j : Fin 2816), j.val = f + q.val → v q = a j)
    (hw : ∀ (q : Fin 256) (j : Fin 2816), j.val = f + q.val → w q = x8 (ix3 0 j n)) :
    ∑ q : Fin 256, v q * w q = ∑ j ∈ Finset.range 256, term x8 a n (f + j) := by
  rw [Finset.sum_range]
  refine Finset.sum_congr rfl fun q _ => ?_
  have h : f + q.val < 2816 := by omega
  unfold term
  rw [dif_pos h, hv q ⟨f + q.val, h⟩ rfl, hw q ⟨f + q.val, h⟩ rfl]

/-- One chunk's step. -/
theorem acc_step (x8 : Vec Ideal S1x2816x1024 .bf16) (A : Fin 512 → Fin 2816 → EReal) (f : ℕ) (hf : f + 256 ≤ 2816)
    (a : FVec Ideal S512x256 .bf16) (w : Vec Ideal S1x256x1024 .bf16) (x : Vec Ideal S512x1024 .f32)
    (ha : ∀ (r : Fin 512) (q : Fin 256) (j : Fin 2816), j.val = f + q.val → a (ix2 r q) = A r j)
    (hw : ∀ (q : Fin 256) (n : Fin 1024) (j : Fin 2816), j.val = f + q.val → w (ix3 0 q n) = x8 (ix3 0 j n)) (r : Fin 512) (n : Fin 1024)
    (hx : x (ix2 r n) = ∑ j ∈ Finset.range f, term x8 (A r) n j) :
    k0_pay61 a w x (ix2 r n) = ∑ j ∈ Finset.range (f + 256), term x8 (A r) n j := by
  rw [down_at, hx, Finset.sum_range_add, part_sum x8 (A r) n f hf (fun q => a (ix2 r q)) (fun q => w (ix3 0 q n)) (ha r) (fun q j => hw q n j)]

variable (c : Dev nD) (i : grid0.Coords) (arg2 : Memref sig .tc .vmem S1x8x512x128 .bf16) (harg2 : arg2.IsWhole)
  (arg3 : Memref sig .tc .vmem S1x8x16x128 .bf16) (harg3 : arg3.IsWhole) (arg4 : Memref sig .tc .vmem S1x512x1024 .f32)
  (harg4 : arg4.IsWhole) (arg5 : Memref sig .tc .vmem S1x16x1024 .f32) (harg5 : arg5.IsWhole)
  (arg6 : Memref sig .tc .vmem S1x8x1024 .f32) (harg6 : arg6.IsWhole) (arg7 : Memref sig .tc .vmem S1024x1024 .bf16)
  (harg7 : arg7.IsWhole) (arg8 : Memref sig .tc .vmem S1x1024x5632 .bf16) (harg8 : arg8.IsWhole)
  (arg9 : Memref sig .tc .vmem S8x5632 .f32) (harg9 : arg9.IsWhole) (arg10 : Memref sig .tc .vmem S1x2816x1024 .bf16)
  (harg10 : arg10.IsWhole) (arg12 : Memref sig .tc .vmem S528x1024 .bf16) (arg14 : Memref sig .tc .vmem S512x1024 .f32)
  (arg15 : Memref sig .tc .vmem S8x528x128 .f32)
  (x0 : Vec Ideal S1x8x512x128 .bf16) (x1 : Vec Ideal S1x8x16x128 .bf16) (x2 : Vec Ideal S1x512x1024 .f32)
  (x3 : Vec Ideal S1x16x1024 .f32) (x4 : Vec Ideal S1x8x1024 .f32) (x5 : Vec Ideal S1024x1024 .bf16)
  (x6 : Vec Ideal S1x1024x5632 .bf16) (x7 : Vec Ideal S8x5632 .f32) (x8 : Vec Ideal S1x2816x1024 .bf16)

/-- The accumulator after chunk 0: the products of the chunks so far. -/
theorem acc_0 (r : Fin 512) (n : Fin 1024) : (kernelRun0_A.sl.v378 c i arg2 harg2 arg3 harg3 arg4 harg4 arg5 harg5 arg6 harg6 arg7 harg7 arg8 harg8 arg9 harg9 arg10 harg10 arg12 arg14 arg15 x0 x1 x2 x3 x4 x5 x6 x7 x8) (ix2 r n)
    = ∑ j ∈ Finset.range 256, term x8 (actRow (convV x7 x6 (kernelRun0_A.sl.v89 c i arg2 harg2 arg3 harg3 arg4 harg4 arg5 harg5 arg6 harg6 arg7 harg7 arg12 x0 x1 x2 x3 x4 x5) r)) n j := by
  have e : (kernelRun0_A.sl.v378 c i arg2 harg2 arg3 harg3 arg4 harg4 arg5 harg5 arg6 harg6 arg7 harg7 arg8 harg8 arg9 harg9 arg10 harg10 arg12 arg14 arg15 x0 x1 x2 x3 x4 x5 x6 x7 x8) = k0_pay47 (kernelRun0_A.sl.r_8 c i arg2 harg2 arg3 harg3 arg4 harg4 arg5 harg5 arg6 harg6 arg7 harg7 arg8 harg8 arg9 harg9 arg12 arg15 x0 x1 x2 x3 x4 x5 x6 x7)
      (View.readAt (Elt Ideal) arg10.view (Rect.unit (s := S1x2816x1024) ![0, 0, 0] S1x256x1024.size inb_S1x2816x1024_S1x256x1024_0_0_0).toLoadRect (harg10.unread x8)) := View.readCov_full _ _ _ _ _
  rw [e, down0_at]
  refine (part_sum x8 (actRow (convV x7 x6 (kernelRun0_A.sl.v89 c i arg2 harg2 arg3 harg3 arg4 harg4 arg5 harg5 arg6 harg6 arg7 harg7 arg12 x0 x1 x2 x3 x4 x5) r)) n 0 (by omega) _ _ (act_0 c i arg2 harg2 arg3 harg3 arg4 harg4 arg5 harg5 arg6 harg6 arg7 harg7 arg8 harg8 arg9 harg9 arg12 arg15 x0 x1 x2 x3 x4 x5 x6 x7 r)
    (fun q j => wdn_at harg10 x8 0 _ q n j)).trans ?_
  simp only [zero_add]

/-- The accumulator after chunk 1: the products of the chunks so far. -/
theorem acc_1 (r : Fin 512) (n : Fin 1024) : (kernelRun0_A.sl.v502 c i arg2 harg2 arg3 harg3 arg4 harg4 arg5 harg5 arg6 harg6 arg7 harg7 arg8 harg8 arg9 harg9 arg10 harg10 arg12 arg14 arg15 x0 x1 x2 x3 x4 x5 x6 x7 x8) (ix2 r n)
    = ∑ j ∈ Finset.range 512, term x8 (actRow (convV x7 x6 (kernelRun0_A.sl.v89 c i arg2 harg2 arg3 harg3 arg4 harg4 arg5 harg5 arg6 harg6 arg7 harg7 arg12 x0 x1 x2 x3 x4 x5) r)) n j := by
  have e : (kernelRun0_A.sl.v502 c i arg2 harg2 arg3 harg3 arg4 harg4 arg5 harg5 arg6 harg6 arg7 harg7 arg8 harg8 arg9 harg9 arg10 harg10 arg12 arg14 arg15 x0 x1 x2 x3 x4 x5 x6 x7 x8) = k0_pay61 (kernelRun0_A.sl.r_15 c i arg2 harg2 arg3 harg3 arg4 harg4 arg5 harg5 arg6 harg6 arg7 harg7 arg8 harg8 arg9 harg9 arg12 arg15 x0 x1 x2 x3 x4 x5 x6 x7)
      (View.readAt (Elt Ideal) arg10.view (Rect.unit (s := S1x2816x1024) ![0, 256, 0] S1x256x1024.size inb_S1x2816x1024_S1x256x1024_0_256_0).toLoadRect (harg10.unread x8)) (kernelRun0_A.sl.v378 c i arg2 harg2 arg3 harg3 arg4 harg4 arg5 harg5 arg6 harg6 arg7 harg7 arg8 harg8 arg9 harg9 arg10 harg10 arg12 arg14 arg15 x0 x1 x2 x3 x4 x5 x6 x7 x8) := View.readCov_full _ _ _ _ _
  rw [e]
  exact acc_step x8 (fun r => actRow (convV x7 x6 (kernelRun0_A.sl.v89 c i arg2 harg2 arg3 harg3 arg4 harg4 arg5 harg5 arg6 harg6 arg7 harg7 arg12 x0 x1 x2 x3 x4 x5) r)) 256 (by omega) _ _ _
    (act_1 c i arg2 harg2 arg3 harg3 arg4 harg4 arg5 harg5 arg6 harg6 arg7 harg7 arg8 harg8 arg9 harg9 arg12 arg15 x0 x1 x2 x3 x4 x5 x6 x7) (wdn_at harg10 x8 256 _) r n
    (acc_0 c i arg2 harg2 arg3 harg3 arg4 harg4 arg5 harg5 arg6 harg6 arg7 harg7 arg8 harg8 arg9 harg9 arg10 harg10 arg12 arg14 arg15 x0 x1 x2 x3 x4 x5 x6 x7 x8 r n)

/-- The accumulator after chunk 2: the products of the chunks so far. -/
theorem acc_2 (r : Fin 512) (n : Fin 1024) : (kernelRun0_A.sl.v626 c i arg2 harg2 arg3 harg3 arg4 harg4 arg5 harg5 arg6 harg6 arg7 harg7 arg8 harg8 arg9 harg9 arg10 harg10 arg12 arg14 arg15 x0 x1 x2 x3 x4 x5 x6 x7 x8) (ix2 r n)
    = ∑ j ∈ Finset.range 768, term x8 (actRow (convV x7 x6 (kernelRun0_A.sl.v89 c i arg2 harg2 arg3 harg3 arg4 harg4 arg5 harg5 arg6 harg6 arg7 harg7 arg12 x0 x1 x2 x3 x4 x5) r)) n j := by
  have e : (kernelRun0_A.sl.v626 c i arg2 harg2 arg3 harg3 arg4 harg4 arg5 harg5 arg6 harg6 arg7 harg7 arg8 harg8 arg9 harg9 arg10 harg10 arg12 arg14 arg15 x0 x1 x2 x3 x4 x5 x6 x7 x8) = k0_pay61 (kernelRun0_A.sl.r_25 c i arg2 harg2 arg3 harg3 arg4 harg4 arg5 harg5 arg6 harg6 arg7 harg7 arg8 harg8 arg9 harg9 arg12 arg15 x0 x1 x2 x3 x4 x5 x6 x7)
      (View.readAt (Elt Ideal) arg10.view (Rect.unit (s := S1x2816x1024) ![0, 512, 0] S1x256x1024.size inb_S1x2816x1024_S1x256x1024_0_512_0).toLoadRect (harg10.unread x8)) (kernelRun0_A.sl.v502 c i arg2 harg2 arg3 harg3 arg4 harg4 arg5 harg5 arg6 harg6 arg7 harg7 arg8 harg8 arg9 harg9 arg10 harg10 arg12 arg14 arg15 x0 x1 x2 x3 x4 x5 x6 x7 x8) := View.readCov_full _ _ _ _ _
  rw [e]
  exact acc_step x8 (fun r => actRow (convV x7 x6 (kernelRun0_A.sl.v89 c i arg2 harg2 arg3 harg3 arg4 harg4 arg5 harg5 arg6 harg6 arg7 harg7 arg12 x0 x1 x2 x3 x4 x5) r)) 512 (by omega) _ _ _
    (act_2 c i arg2 harg2 arg3 harg3 arg4 harg4 arg5 harg5 arg6 harg6 arg7 harg7 arg8 harg8 arg9 harg9 arg12 arg15 x0 x1 x2 x3 x4 x5 x6 x7) (wdn_at harg10 x8 512 _) r n
    (acc_1 c i arg2 harg2 arg3 harg3 arg4 harg4 arg5 harg5 arg6 harg6 arg7 harg7 arg8 harg8 arg9 harg9 arg10 harg10 arg12 arg14 arg15 x0 x1 x2 x3 x4 x5 x6 x7 x8 r n)

/-- The accumulator after chunk 3: the products of the chunks so far. -/
theorem acc_3 (r : Fin 512) (n : Fin 1024) : (kernelRun0_A.sl.v750 c i arg2 harg2 arg3 harg3 arg4 harg4 arg5 harg5 arg6 harg6 arg7 harg7 arg8 harg8 arg9 harg9 arg10 harg10 arg12 arg14 arg15 x0 x1 x2 x3 x4 x5 x6 x7 x8) (ix2 r n)
    = ∑ j ∈ Finset.range 1024, term x8 (actRow (convV x7 x6 (kernelRun0_A.sl.v89 c i arg2 harg2 arg3 harg3 arg4 harg4 arg5 harg5 arg6 harg6 arg7 harg7 arg12 x0 x1 x2 x3 x4 x5) r)) n j := by
  have e : (kernelRun0_A.sl.v750 c i arg2 harg2 arg3 harg3 arg4 harg4 arg5 harg5 arg6 harg6 arg7 harg7 arg8 harg8 arg9 harg9 arg10 harg10 arg12 arg14 arg15 x0 x1 x2 x3 x4 x5 x6 x7 x8) = k0_pay61 (kernelRun0_A.sl.r_30 c i arg2 harg2 arg3 harg3 arg4 harg4 arg5 harg5 arg6 harg6 arg7 harg7 arg8 harg8 arg9 harg9 arg12 arg15 x0 x1 x2 x3 x4 x5 x6 x7)
      (View.readAt (Elt Ideal) arg10.view (Rect.unit (s := S1x2816x1024) ![0, 768, 0] S1x256x1024.size inb_S1x2816x1024_S1x256x1024_0_768_0).toLoadRect (harg10.unread x8)) (kernelRun0_A.sl.v626 c i arg2 harg2 arg3 harg3 arg4 harg4 arg5 harg5 arg6 harg6 arg7 harg7 arg8 harg8 arg9 harg9 arg10 harg10 arg12 arg14 arg15 x0 x1 x2 x3 x4 x5 x6 x7 x8) := View.readCov_full _ _ _ _ _
  rw [e]
  exact acc_step x8 (fun r => actRow (convV x7 x6 (kernelRun0_A.sl.v89 c i arg2 harg2 arg3 harg3 arg4 harg4 arg5 harg5 arg6 harg6 arg7 harg7 arg12 x0 x1 x2 x3 x4 x5) r)) 768 (by omega) _ _ _
    (act_3 c i arg2 harg2 arg3 harg3 arg4 harg4 arg5 harg5 arg6 harg6 arg7 harg7 arg8 harg8 arg9 harg9 arg12 arg15 x0 x1 x2 x3 x4 x5 x6 x7) (wdn_at harg10 x8 768 _) r n
    (acc_2 c i arg2 harg2 arg3 harg3 arg4 harg4 arg5 harg5 arg6 harg6 arg7 harg7 arg8 harg8 arg9 harg9 arg10 harg10 arg12 arg14 arg15 x0 x1 x2 x3 x4 x5 x6 x7 x8 r n)

/-- The accumulator after chunk 4: the products of the chunks so far. -/
theorem acc_4 (r : Fin 512) (n : Fin 1024) : (kernelRun0_A.sl.v874 c i arg2 harg2 arg3 harg3 arg4 harg4 arg5 harg5 arg6 harg6 arg7 harg7 arg8 harg8 arg9 harg9 arg10 harg10 arg12 arg14 arg15 x0 x1 x2 x3 x4 x5 x6 x7 x8) (ix2 r n)
    = ∑ j ∈ Finset.range 1280, term x8 (actRow (convV x7 x6 (kernelRun0_A.sl.v89 c i arg2 harg2 arg3 harg3 arg4 harg4 arg5 harg5 arg6 harg6 arg7 harg7 arg12 x0 x1 x2 x3 x4 x5) r)) n j := by
  have e : (kernelRun0_A.sl.v874 c i arg2 harg2 arg3 harg3 arg4 harg4 arg5 harg5 arg6 harg6 arg7 harg7 arg8 harg8 arg9 harg9 arg10 harg10 arg12 arg14 arg15 x0 x1 x2 x3 x4 x5 x6 x7 x8) = k0_pay61 (kernelRun0_A.sl.r_36 c i arg2 harg2 arg3 harg3 arg4 harg4 arg5 harg5 arg6 harg6 arg7 harg7 arg8 harg8 arg9 harg9 arg12 arg15 x0 x1 x2 x3 x4 x5 x6 x7)
      (View.readAt (Elt Ideal) arg10.view (Rect.unit (s := S1x2816x1024) ![0, 1024, 0] S1x256x1024.size inb_S1x2816x1024_S1x256x1024_0_1024_0).toLoadRect (harg10.unread x8)) (kernelRun0_A.sl.v750 c i arg2 harg2 arg3 harg3 arg4 harg4 arg5 harg5 arg6 harg6 arg7 harg7 arg8 harg8 arg9 harg9 arg10 harg10 arg12 arg14 arg15 x0 x1 x2 x3 x4 x5 x6 x7 x8) := View.readCov_full _ _ _ _ _
  rw [e]
  exact acc_step x8 (fun r => actRow (convV x7 x6 (kernelRun0_A.sl.v89 c i arg2 harg2 arg3 harg3 arg4 harg4 arg5 harg5 arg6 harg6 arg7 harg7 arg12 x0 x1 x2 x3 x4 x5) r)) 1024 (by omega) _ _ _
    (act_4 c i arg2 harg2 arg3 harg3 arg4 harg4 arg5 harg5 arg6 harg6 arg7 harg7 arg8 harg8 arg9 harg9 arg12 arg15 x0 x1 x2 x3 x4 x5 x6 x7) (wdn_at harg10 x8 1024 _) r n
    (acc_3 c i arg2 harg2 arg3 harg3 arg4 harg4 arg5 harg5 arg6 harg6 arg7 harg7 arg8 harg8 arg9 harg9 arg10 harg10 arg12 arg14 arg15 x0 x1 x2 x3 x4 x5 x6 x7 x8 r n)

/-- The accumulator after chunk 5: the products of the chunks so far. -/
theorem acc_5 (r : Fin 512) (n : Fin 1024) : (kernelRun0_A.sl.v998 c i arg2 harg2 arg3 harg3 arg4 harg4 arg5 harg5 arg6 harg6 arg7 harg7 arg8 harg8 arg9 harg9 arg10 harg10 arg12 arg14 arg15 x0 x1 x2 x3 x4 x5 x6 x7 x8) (ix2 r n)
    = ∑ j ∈ Finset.range 1536, term x8 (actRow (convV x7 x6 (kernelRun0_A.sl.v89 c i arg2 harg2 arg3 harg3 arg4 harg4 arg5 harg5 arg6 harg6 arg7 harg7 arg12 x0 x1 x2 x3 x4 x5) r)) n j := by
  have e : (kernelRun0_A.sl.v998 c i arg2 harg2 arg3 harg3 arg4 harg4 arg5 harg5 arg6 harg6 arg7 harg7 arg8 harg8 arg9 harg9 arg10 harg10 arg12 arg14 arg15 x0 x1 x2 x3 x4 x5 x6 x7 x8) = k0_pay61 (kernelRun0_A.sl.r_46 c i arg2 harg2 arg3 harg3 arg4 harg4 arg5 harg5 arg6 harg6 arg7 harg7 arg8 harg8 arg9 harg9 arg12 arg15 x0 x1 x2 x3 x4 x5 x6 x7)
      (View.readAt (Elt Ideal) arg10.view (Rect.unit (s := S1x2816x1024) ![0, 1280, 0] S1x256x1024.size inb_S1x2816x1024_S1x256x1024_0_1280_0).toLoadRect (harg10.unread x8)) (kernelRun0_A.sl.v874 c i arg2 harg2 arg3 harg3 arg4 harg4 arg5 harg5 arg6 harg6 arg7 harg7 arg8 harg8 arg9 harg9 arg10 harg10 arg12 arg14 arg15 x0 x1 x2 x3 x4 x5 x6 x7 x8) := View.readCov_full _ _ _ _ _
  rw [e]
  exact acc_step x8 (fun r => actRow (convV x7 x6 (kernelRun0_A.sl.v89 c i arg2 harg2 arg3 harg3 arg4 harg4 arg5 harg5 arg6 harg6 arg7 harg7 arg12 x0 x1 x2 x3 x4 x5) r)) 1280 (by omega) _ _ _
    (act_5 c i arg2 harg2 arg3 harg3 arg4 harg4 arg5 harg5 arg6 harg6 arg7 harg7 arg8 harg8 arg9 harg9 arg12 arg15 x0 x1 x2 x3 x4 x5 x6 x7) (wdn_at harg10 x8 1280 _) r n
    (acc_4 c i arg2 harg2 arg3 harg3 arg4 harg4 arg5 harg5 arg6 harg6 arg7 harg7 arg8 harg8 arg9 harg9 arg10 harg10 arg12 arg14 arg15 x0 x1 x2 x3 x4 x5 x6 x7 x8 r n)

/-- The accumulator after chunk 6: the products of the chunks so far. -/
theorem acc_6 (r : Fin 512) (n : Fin 1024) : (kernelRun0_A.sl.v1122 c i arg2 harg2 arg3 harg3 arg4 harg4 arg5 harg5 arg6 harg6 arg7 harg7 arg8 harg8 arg9 harg9 arg10 harg10 arg12 arg14 arg15 x0 x1 x2 x3 x4 x5 x6 x7 x8) (ix2 r n)
    = ∑ j ∈ Finset.range 1792, term x8 (actRow (convV x7 x6 (kernelRun0_A.sl.v89 c i arg2 harg2 arg3 harg3 arg4 harg4 arg5 harg5 arg6 harg6 arg7 harg7 arg12 x0 x1 x2 x3 x4 x5) r)) n j := by
  have e : (kernelRun0_A.sl.v1122 c i arg2 harg2 arg3 harg3 arg4 harg4 arg5 harg5 arg6 harg6 arg7 harg7 arg8 harg8 arg9 harg9 arg10 harg10 arg12 arg14 arg15 x0 x1 x2 x3 x4 x5 x6 x7 x8) = k0_pay61 (kernelRun0_A.sl.r_57 c i arg2 harg2 arg3 harg3 arg4 harg4 arg5 harg5 arg6 harg6 arg7 harg7 arg8 harg8 arg9 harg9 arg12 arg15 x0 x1 x2 x3 x4 x5 x6 x7)
      (View.readAt (Elt Ideal) arg10.view (Rect.unit (s := S1x2816x1024) ![0, 1536, 0] S1x256x1024.size inb_S1x2816x1024_S1x256x1024_0_1536_0).toLoadRect (harg10.unread x8)) (kernelRun0_A.sl.v998 c i arg2 harg2 arg3 harg3 arg4 harg4 arg5 harg5 arg6 harg6 arg7 harg7 arg8 harg8 arg9 harg9 arg10 harg10 arg12 arg14 arg15 x0 x1 x2 x3 x4 x5 x6 x7 x8) := View.readCov_full _ _ _ _ _
  rw [e]
  exact acc_step x8 (fun r => actRow (convV x7 x6 (kernelRun0_A.sl.v89 c i arg2 harg2 arg3 harg3 arg4 harg4 arg5 harg5 arg6 harg6 arg7 harg7 arg12 x0 x1 x2 x3 x4 x5) r)) 1536 (by omega) _ _ _
    (act_6 c i arg2 harg2 arg3 harg3 arg4 harg4 arg5 harg5 arg6 harg6 arg7 harg7 arg8 harg8 arg9 harg9 arg12 arg15 x0 x1 x2 x3 x4 x5 x6 x7) (wdn_at harg10 x8 1536 _) r n
    (acc_5 c i arg2 harg2 arg3 harg3 arg4 harg4 arg5 harg5 arg6 harg6 arg7 harg7 arg8 harg8 arg9 harg9 arg10 harg10 arg12 arg14 arg15 x0 x1 x2 x3 x4 x5 x6 x7 x8 r n)

/-- The accumulator after chunk 7: the products of the chunks so far. -/
theorem acc_7 (r : Fin 512) (n : Fin 1024) : (kernelRun0_A.sl.v1246 c i arg2 harg2 arg3 harg3 arg4 harg4 arg5 harg5 arg6 harg6 arg7 harg7 arg8 harg8 arg9 harg9 arg10 harg10 arg12 arg14 arg15 x0 x1 x2 x3 x4 x5 x6 x7 x8) (ix2 r n)
    = ∑ j ∈ Finset.range 2048, term x8 (actRow (convV x7 x6 (kernelRun0_A.sl.v89 c i arg2 harg2 arg3 harg3 arg4 harg4 arg5 harg5 arg6 harg6 arg7 harg7 arg12 x0 x1 x2 x3 x4 x5) r)) n j := by
  have e : (kernelRun0_A.sl.v1246 c i arg2 harg2 arg3 harg3 arg4 harg4 arg5 harg5 arg6 harg6 arg7 harg7 arg8 harg8 arg9 harg9 arg10 harg10 arg12 arg14 arg15 x0 x1 x2 x3 x4 x5 x6 x7 x8) = k0_pay61 (kernelRun0_A.sl.r_65 c i arg2 harg2 arg3 harg3 arg4 harg4 arg5 harg5 arg6 harg6 arg7 harg7 arg8 harg8 arg9 harg9 arg12 arg15 x0 x1 x2 x3 x4 x5 x6 x7)
      (View.readAt (Elt Ideal) arg10.view (Rect.unit (s := S1x2816x1024) ![0, 1792, 0] S1x256x1024.size inb_S1x2816x1024_S1x256x1024_0_1792_0).toLoadRect (harg10.unread x8)) (kernelRun0_A.sl.v1122 c i arg2 harg2 arg3 harg3 arg4 harg4 arg5 harg5 arg6 harg6 arg7 harg7 arg8 harg8 arg9 harg9 arg10 harg10 arg12 arg14 arg15 x0 x1 x2 x3 x4 x5 x6 x7 x8) := View.readCov_full _ _ _ _ _
  rw [e]
  exact acc_step x8 (fun r => actRow (convV x7 x6 (kernelRun0_A.sl.v89 c i arg2 harg2 arg3 harg3 arg4 harg4 arg5 harg5 arg6 harg6 arg7 harg7 arg12 x0 x1 x2 x3 x4 x5) r)) 1792 (by omega) _ _ _
    (act_7 c i arg2 harg2 arg3 harg3 arg4 harg4 arg5 harg5 arg6 harg6 arg7 harg7 arg8 harg8 arg9 harg9 arg12 arg15 x0 x1 x2 x3 x4 x5 x6 x7) (wdn_at harg10 x8 1792 _) r n
    (acc_6 c i arg2 harg2 arg3 harg3 arg4 harg4 arg5 harg5 arg6 harg6 arg7 harg7 arg8 harg8 arg9 harg9 arg10 harg10 arg12 arg14 arg15 x0 x1 x2 x3 x4 x5 x6 x7 x8 r n)

/-- The accumulator after chunk 8: the products of the chunks so far. -/
theorem acc_8 (r : Fin 512) (n : Fin 1024) : (kernelRun0_A.sl.v1346 c i arg2 harg2 arg3 harg3 arg4 harg4 arg5 harg5 arg6 harg6 arg7 harg7 arg8 harg8 arg9 harg9 arg10 harg10 arg12 arg14 arg15 x0 x1 x2 x3 x4 x5 x6 x7 x8) (ix2 r n)
    = ∑ j ∈ Finset.range 2304, term x8 (actRow (convV x7 x6 (kernelRun0_A.sl.v89 c i arg2 harg2 arg3 harg3 arg4 harg4 arg5 harg5 arg6 harg6 arg7 harg7 arg12 x0 x1 x2 x3 x4 x5) r)) n j := by
  have e : (kernelRun0_A.sl.v1346 c i arg2 harg2 arg3 harg3 arg4 harg4 arg5 harg5 arg6 harg6 arg7 harg7 arg8 harg8 arg9 harg9 arg10 harg10 arg12 arg14 arg15 x0 x1 x2 x3 x4 x5 x6 x7 x8) = k0_pay61 (kernelRun0_A.sl.r_76 c i arg2 harg2 arg3 harg3 arg4 harg4 arg5 harg5 arg6 harg6 arg7 harg7 arg8 harg8 arg9 harg9 arg12 arg15 x0 x1 x2 x3 x4 x5 x6 x7)
      (View.readAt (Elt Ideal) arg10.view (Rect.unit (s := S1x2816x1024) ![0, 2048, 0] S1x256x1024.size inb_S1x2816x1024_S1x256x1024_0_2048_0).toLoadRect (harg10.unread x8)) (kernelRun0_A.sl.v1246 c i arg2 harg2 arg3 harg3 arg4 harg4 arg5 harg5 arg6 harg6 arg7 harg7 arg8 harg8 arg9 harg9 arg10 harg10 arg12 arg14 arg15 x0 x1 x2 x3 x4 x5 x6 x7 x8) := View.readCov_full _ _ _ _ _
  rw [e]
  exact acc_step x8 (fun r => actRow (convV x7 x6 (kernelRun0_A.sl.v89 c i arg2 harg2 arg3 harg3 arg4 harg4 arg5 harg5 arg6 harg6 arg7 harg7 arg12 x0 x1 x2 x3 x4 x5) r)) 2048 (by omega) _ _ _
    (act_8 c i arg2 harg2 arg3 harg3 arg4 harg4 arg5 harg5 arg6 harg6 arg7 harg7 arg8 harg8 arg9 harg9 arg12 arg15 x0 x1 x2 x3 x4 x5 x6 x7) (wdn_at harg10 x8 2048 _) r n
    (acc_7 c i arg2 harg2 arg3 harg3 arg4 harg4 arg5 harg5 arg6 harg6 arg7 harg7 arg8 harg8 arg9 harg9 arg10 harg10 arg12 arg14 arg15 x0 x1 x2 x3 x4 x5 x6 x7 x8 r n)

/-- The accumulator after chunk 9: the products of the chunks so far. -/
theorem acc_9 (r : Fin 512) (n : Fin 1024) : (kernelRun0_A.sl.v1446 c i arg2 harg2 arg3 harg3 arg4 harg4 arg5 harg5 arg6 harg6 arg7 harg7 arg8 harg8 arg9 harg9 arg10 harg10 arg12 arg14 arg15 x0 x1 x2 x3 x4 x5 x6 x7 x8) (ix2 r n)
    = ∑ j ∈ Finset.range 2560, term x8 (actRow (convV x7 x6 (kernelRun0_A.sl.v89 c i arg2 harg2 arg3 harg3 arg4 harg4 arg5 harg5 arg6 harg6 arg7 harg7 arg12 x0 x1 x2 x3 x4 x5) r)) n j := by
  have e : (kernelRun0_A.sl.v1446 c i arg2 harg2 arg3 harg3 arg4 harg4 arg5 harg5 arg6 harg6 arg7 harg7 arg8 harg8 arg9 harg9 arg10 harg10 arg12 arg14 arg15 x0 x1 x2 x3 x4 x5 x6 x7 x8) = k0_pay61 (act9 c i arg2 harg2 arg3 harg3 arg4 harg4 arg5 harg5 arg6 harg6 arg7 harg7 arg8 harg8 arg9 harg9 arg12 arg15 x0 x1 x2 x3 x4 x5 x6 x7)
      (View.readAt (Elt Ideal) arg10.view (Rect.unit (s := S1x2816x1024) ![0, 2304, 0] S1x256x1024.size inb_S1x2816x1024_S1x256x1024_0_2304_0).toLoadRect (harg10.unread x8)) (kernelRun0_A.sl.v1346 c i arg2 harg2 arg3 harg3 arg4 harg4 arg5 harg5 arg6 harg6 arg7 harg7 arg8 harg8 arg9 harg9 arg10 harg10 arg12 arg14 arg15 x0 x1 x2 x3 x4 x5 x6 x7 x8) := View.readCov_full _ _ _ _ _
  rw [e]
  exact acc_step x8 (fun r => actRow (convV x7 x6 (kernelRun0_A.sl.v89 c i arg2 harg2 arg3 harg3 arg4 harg4 arg5 harg5 arg6 harg6 arg7 harg7 arg12 x0 x1 x2 x3 x4 x5) r)) 2304 (by omega) _ _ _
    (act_9 c i arg2 harg2 arg3 harg3 arg4 harg4 arg5 harg5 arg6 harg6 arg7 harg7 arg8 harg8 arg9 harg9 arg12 arg15 x0 x1 x2 x3 x4 x5 x6 x7) (wdn_at harg10 x8 2304 _) r n
    (acc_8 c i arg2 harg2 arg3 harg3 arg4 harg4 arg5 harg5 arg6 harg6 arg7 harg7 arg8 harg8 arg9 harg9 arg10 harg10 arg12 arg14 arg15 x0 x1 x2 x3 x4 x5 x6 x7 x8 r n)

/-- The accumulator after chunk 10: the products of the chunks so far. -/
theorem acc_10 (r : Fin 512) (n : Fin 1024) : (kernelRun0_A.sl.v1452 c i arg2 harg2 arg3 harg3 arg4 harg4 arg5 harg5 arg6 harg6 arg7 harg7 arg8 harg8 arg9 harg9 arg10 harg10 arg12 arg14 arg15 x0 x1 x2 x3 x4 x5 x6 x7 x8) (ix2 r n)
    = ∑ j ∈ Finset.range 2816, term x8 (actRow (convV x7 x6 (kernelRun0_A.sl.v89 c i arg2 harg2 arg3 harg3 arg4 harg4 arg5 harg5 arg6 harg6 arg7 harg7 arg12 x0 x1 x2 x3 x4 x5) r)) n j := by
  have e : (kernelRun0_A.sl.v1452 c i arg2 harg2 arg3 harg3 arg4 harg4 arg5 harg5 arg6 harg6 arg7 harg7 arg8 harg8 arg9 harg9 arg10 harg10 arg12 arg14 arg15 x0 x1 x2 x3 x4 x5 x6 x7 x8) = k0_pay61 (kernelRun0_A.sl.r_91 c i arg2 harg2 arg3 harg3 arg4 harg4 arg5 harg5 arg6 harg6 arg7 harg7 arg8 harg8 arg9 harg9 arg12 arg15 x0 x1 x2 x3 x4 x5 x6 x7)
      (View.readAt (Elt Ideal) arg10.view (Rect.unit (s := S1x2816x1024) ![0, 2560, 0] S1x256x1024.size inb_S1x2816x1024_S1x256x1024_0_2560_0).toLoadRect (harg10.unread x8)) (kernelRun0_A.sl.v1446 c i arg2 harg2 arg3 harg3 arg4 harg4 arg5 harg5 arg6 harg6 arg7 harg7 arg8 harg8 arg9 harg9 arg10 harg10 arg12 arg14 arg15 x0 x1 x2 x3 x4 x5 x6 x7 x8) := View.readCov_full _ _ _ _ _
  rw [e]
  exact acc_step x8 (fun r => actRow (convV x7 x6 (kernelRun0_A.sl.v89 c i arg2 harg2 arg3 harg3 arg4 harg4 arg5 harg5 arg6 harg6 arg7 harg7 arg12 x0 x1 x2 x3 x4 x5) r)) 2560 (by omega) _ _ _
    (act_10 c i arg2 harg2 arg3 harg3 arg4 harg4 arg5 harg5 arg6 harg6 arg7 harg7 arg8 harg8 arg9 harg9 arg12 arg15 x0 x1 x2 x3 x4 x5 x6 x7) (wdn_at harg10 x8 2560 _) r n
    (acc_9 c i arg2 harg2 arg3 harg3 arg4 harg4 arg5 harg5 arg6 harg6 arg7 harg7 arg8 harg8 arg9 harg9 arg10 harg10 arg12 arg14 arg15 x0 x1 x2 x3 x4 x5 x6 x7 x8 r n)

/-- The down-projection's whole row. -/
theorem acc_all (r : Fin 512) (n : Fin 1024) : (kernelRun0_A.sl.v1452 c i arg2 harg2 arg3 harg3 arg4 harg4 arg5 harg5 arg6 harg6 arg7 harg7 arg8 harg8 arg9 harg9 arg10 harg10 arg12 arg14 arg15 x0 x1 x2 x3 x4 x5 x6 x7 x8) (ix2 r n)
    = ∑ j : Fin 2816, actRow (convV x7 x6 (kernelRun0_A.sl.v89 c i arg2 harg2 arg3 harg3 arg4 harg4 arg5 harg5 arg6 harg6 arg7 harg7 arg12 x0 x1 x2 x3 x4 x5) r) j * x8 (ix3 0 j n) := by
  rw [acc_10, Finset.sum_range]
  refine Finset.sum_congr rfl fun j _ => ?_
  unfold term
  rw [dif_pos j.isLt]

end Cert.Ffn
-- ==== Proof.FfnRows.lean ====
/-
  The rows the feed-forward body works on, from its blocks.

  A block has 528 rows: 16 rows before the tile (from the second windows of the attention's output and of the residual
  stream) and the tile's 512. The residual row, its normalization and the block's result are read here at an index. In
  the first tile of a sequence the 16 rows before it are set to zero.
-/
module

public import proofs.«01_k».proof.Proof.FfnAcc

@[expose] public section

set_option maxRecDepth 16384

noncomputable section

namespace Cert.Ffn

open Idealize.ShloMosaic Cert.FfnKernelIdeal Cert.FfnKernelIdeal.Gen

/-- A row of the attention's output, its heads side by side. -/
def oBlk (x0 : Vec Ideal S1x8x512x128 .bf16) (x1 : Vec Ideal S1x8x16x128 .bf16) (k : Fin 528) (m : Fin 1024) : EReal :=
  if h : k.val < 16 then x1 (ix4 0 ⟨m.val / 128, by omega⟩ ⟨k.val, h⟩ ⟨m.val % 128, by omega⟩)
  else x0 (ix4 0 ⟨m.val / 128, by omega⟩ ⟨k.val - 16, by omega⟩ ⟨m.val % 128, by omega⟩)

/-- A row of the residual stream. -/
def hBlk (x2 : Vec Ideal S1x512x1024 .f32) (x3 : Vec Ideal S1x16x1024 .f32) (k : Fin 528) (n : Fin 1024) : EReal :=
  if h : k.val < 16 then x3 (ix3 0 ⟨k.val, h⟩ n) else x2 (ix3 0 ⟨k.val - 16, by omega⟩ n)

/-- The residual row after the attention's projection. -/
def h1Blk (x0 : Vec Ideal S1x8x512x128 .bf16) (x1 : Vec Ideal S1x8x16x128 .bf16) (x2 : Vec Ideal S1x512x1024 .f32)
    (x3 : Vec Ideal S1x16x1024 .f32) (x4 : Vec Ideal S1x8x1024 .f32) (x5 : Vec Ideal S1024x1024 .bf16) (k : Fin 528) :
    Fin 1024 → EReal :=
  resRow (hBlk x2 x3 k) (oBlk x0 x1 k) (fun n => x4 (ix3 0 0 n)) (fun k n => x5 (ix2 k n))

/-- … normalized and modulated, with the rows before the sequence zero. -/
def hnBlk (p : ℕ) (x0 : Vec Ideal S1x8x512x128 .bf16) (x1 : Vec Ideal S1x8x16x128 .bf16) (x2 : Vec Ideal S1x512x1024 .f32)
    (x3 : Vec Ideal S1x16x1024 .f32) (x4 : Vec Ideal S1x8x1024 .f32) (x5 : Vec Ideal S1024x1024 .bf16) (k : Fin 528) (n : Fin 1024) :
    EReal :=
  if k.val < 16 ∧ p = 0 then 0
  else modRow (h1Blk x0 x1 x2 x3 x4 x5 k) (fun n => x4 (ix3 0 1 n)) (fun n => x4 (ix3 0 3 n)) (fun n => x4 (ix3 0 2 n)) n

/-- A load of one head of the tile's attention output. -/
theorem head_at {arg2 : Memref sig .tc .vmem S1x8x512x128 .bf16} (harg2 : arg2.IsWhole) (x : Vec Ideal S1x8x512x128 .bf16) (hd : ℕ)
    (inb : ∀ a, (![0, hd, 0, 0] : Fin 4 → ℕ) a + S1x1x512x128.size a ≤ S1x8x512x128.size a) (r : Fin 512) (d : Fin 128) (m : Fin 1024)
    (hm : m.val = 128 * hd + d.val) :
    View.readAt (Elt Ideal) arg2.view (Rect.unit (s := S1x8x512x128) ![0, hd, 0, 0] S1x1x512x128.size inb).toLoadRect (harg2.unread x)
      (ix4 0 0 r d) = x (ix4 0 ⟨m.val / 128, by omega⟩ r ⟨m.val % 128, by omega⟩) := by
  rw [Memref.IsWhole.readAt_unread]
  refine congrArg x (funext fun a => Fin.ext ?_)
  fin_cases a
  · rfl
  · show hd + 1 * 0 = m.val / 128
    omega
  · show 0 + 1 * r.val = r.val
    omega
  · show 0 + 1 * d.val = m.val % 128
    omega

/-- The same of the 16 rows before the tile. -/
theorem head'_at {arg3 : Memref sig .tc .vmem S1x8x16x128 .bf16} (harg3 : arg3.IsWhole) (x : Vec Ideal S1x8x16x128 .bf16) (hd : ℕ)
    (inb : ∀ a, (![0, hd, 0, 0] : Fin 4 → ℕ) a + S1x1x16x128.size a ≤ S1x8x16x128.size a) (r : Fin 16) (d : Fin 128) (m : Fin 1024)
    (hm : m.val = 128 * hd + d.val) :
    View.readAt (Elt Ideal) arg3.view (Rect.unit (s := S1x8x16x128) ![0, hd, 0, 0] S1x1x16x128.size inb).toLoadRect (harg3.unread x)
      (ix4 0 0 r d) = x (ix4 0 ⟨m.val / 128, by omega⟩ r ⟨m.val % 128, by omega⟩) := by
  rw [Memref.IsWhole.readAt_unread]
  refine congrArg x (funext fun a => Fin.ext ?_)
  fin_cases a
  · rfl
  · show hd + 1 * 0 = m.val / 128
    omega
  · show 0 + 1 * r.val = r.val
    omega
  · show 0 + 1 * d.val = m.val % 128
    omega

/-- A load of a whole block of rank three. -/
theorem whole3_at {A B C : ℕ} {e : EltTy} {m : Memref sig .tc .vmem (⟨3, ![A, B, C]⟩ : Shape) e} (hm : m.IsWhole)
    (x : (⟨3, ![A, B, C]⟩ : Shape).Idx → Elt Ideal e)
    (inb : ∀ a, (![0, 0, 0] : Fin 3 → ℕ) a + (⟨3, ![A, B, C]⟩ : Shape).size a ≤ (⟨3, ![A, B, C]⟩ : Shape).size a)
    (j : (⟨3, ![A, B, C]⟩ : Shape).Idx) :
    View.readAt (Elt Ideal) m.view (Rect.unit (s := ⟨3, ![A, B, C]⟩) ![0, 0, 0] (⟨3, ![A, B, C]⟩ : Shape).size inb).toLoadRect
      (hm.unread x) j = x j := by
  rw [Memref.IsWhole.readAt_unread]
  refine congrArg x (funext fun a => Fin.ext ?_)
  fin_cases a
  · show 0 + 1 * (j 0).val = (j 0).val
    omega
  · show 0 + 1 * (j 1).val = (j 1).val
    omega
  · show 0 + 1 * (j 2).val = (j 2).val
    omega

/-- The same of rank two. -/
theorem whole2_at {A B : ℕ} {e : EltTy} {m : Memref sig .tc .vmem (⟨2, ![A, B]⟩ : Shape) e} (hm : m.IsWhole)
    (x : (⟨2, ![A, B]⟩ : Shape).Idx → Elt Ideal e)
    (inb : ∀ a, (![0, 0] : Fin 2 → ℕ) a + (⟨2, ![A, B]⟩ : Shape).size a ≤ (⟨2, ![A, B]⟩ : Shape).size a)
    (j : (⟨2, ![A, B]⟩ : Shape).Idx) :
    View.readAt (Elt Ideal) m.view (Rect.unit (s := ⟨2, ![A, B]⟩) ![0, 0] (⟨2, ![A, B]⟩ : Shape).size inb).toLoadRect
      (hm.unread x) j = x j := by
  rw [Memref.IsWhole.readAt_unread]
  refine congrArg x (funext fun a => Fin.ext ?_)
  fin_cases a
  · show 0 + 1 * (j 0).val = (j 0).val
    omega
  · show 0 + 1 * (j 1).val = (j 1).val
    omega

section

variable (c : Dev nD) (i : grid0.Coords) (arg2 : Memref sig .tc .vmem S1x8x512x128 .bf16) (harg2 : arg2.IsWhole)
  (arg3 : Memref sig .tc .vmem S1x8x16x128 .bf16) (harg3 : arg3.IsWhole) (arg5 : Memref sig .tc .vmem S1x16x1024 .f32)
  (harg5 : arg5.IsWhole) (arg6 : Memref sig .tc .vmem S1x8x1024 .f32) (harg6 : arg6.IsWhole)
  (x0 : Vec Ideal S1x8x512x128 .bf16) (x1 : Vec Ideal S1x8x16x128 .bf16) (x3 : Vec Ideal S1x16x1024 .f32)
  (x4 : Vec Ideal S1x8x1024 .f32)

theorem v24_at (r : Fin 16) (m : Fin 1024) : kernelRun0_A.sl.v24 (F := Ideal) c arg3 harg3 x1 (ix2 r m)
    = x1 (ix4 0 ⟨m.val / 128, by omega⟩ r ⟨m.val % 128, by omega⟩) := by
  have e1 : ∀ (d : Fin 128) (m : Fin 1024), m.val = 128 * 1 + d.val → kernelRun0_A.sl.v11 (F := Ideal) c arg3 harg3 x1 (ix2 r d)
      = x1 (ix4 0 ⟨m.val / 128, by omega⟩ r ⟨m.val % 128, by omega⟩) := fun d m hm => by
    unfold kernelRun0_A.sl.v11
    pointwise []
    exact head'_at harg3 x1 1 _ r d m hm
  have e2 : ∀ (d : Fin 128) (m : Fin 1024), m.val = 128 * 2 + d.val → kernelRun0_A.sl.v13 (F := Ideal) c arg3 harg3 x1 (ix2 r d)
      = x1 (ix4 0 ⟨m.val / 128, by omega⟩ r ⟨m.val % 128, by omega⟩) := fun d m hm => by
    unfold kernelRun0_A.sl.v13
    pointwise []
    exact head'_at harg3 x1 2 _ r d m hm
  have e3 : ∀ (d : Fin 128) (m : Fin 1024), m.val = 128 * 3 + d.val → kernelRun0_A.sl.v15 (F := Ideal) c arg3 harg3 x1 (ix2 r d)
      = x1 (ix4 0 ⟨m.val / 128, by omega⟩ r ⟨m.val % 128, by omega⟩) := fun d m hm => by
    unfold kernelRun0_A.sl.v15
    pointwise []
    exact head'_at harg3 x1 3 _ r d m hm
  have e4 : ∀ (d : Fin 128) (m : Fin 1024), m.val = 128 * 4 + d.val → kernelRun0_A.sl.v17 (F := Ideal) c arg3 harg3 x1 (ix2 r d)
      = x1 (ix4 0 ⟨m.val / 128, by omega⟩ r ⟨m.val % 128, by omega⟩) := fun d m hm => by
    unfold kernelRun0_A.sl.v17
    pointwise []
    exact head'_at harg3 x1 4 _ r d m hm
  have e5 : ∀ (d : Fin 128) (m : Fin 1024), m.val = 128 * 5 + d.val → kernelRun0_A.sl.v19 (F := Ideal) c arg3 harg3 x1 (ix2 r d)
      = x1 (ix4 0 ⟨m.val / 128, by omega⟩ r ⟨m.val % 128, by omega⟩) := fun d m hm => by
    unfold kernelRun0_A.sl.v19
    pointwise []
    exact head'_at harg3 x1 5 _ r d m hm
  have e6 : ∀ (d : Fin 128) (m : Fin 1024), m.val = 128 * 6 + d.val → kernelRun0_A.sl.v21 (F := Ideal) c arg3 harg3 x1 (ix2 r d)
      = x1 (ix4 0 ⟨m.val / 128, by omega⟩ r ⟨m.val % 128, by omega⟩) := fun d m hm => by
    unfold kernelRun0_A.sl.v21
    pointwise []
    exact head'_at harg3 x1 6 _ r d m hm
  have e7 : ∀ (d : Fin 128) (m : Fin 1024), m.val = 128 * 7 + d.val → kernelRun0_A.sl.v23 (F := Ideal) c arg3 harg3 x1 (ix2 r d)
      = x1 (ix4 0 ⟨m.val / 128, by omega⟩ r ⟨m.val % 128, by omega⟩) := fun d m hm => by
    unfold kernelRun0_A.sl.v23
    pointwise []
    exact head'_at harg3 x1 7 _ r d m hm
  unfold kernelRun0_A.sl.v24
  have hm := m.isLt
  pointwise [kernelRun0_A.sl.v9]
  by_cases c0 : m.val < 128
  · rw [dif_pos c0]
    exact head'_at harg3 x1 0 _ r _ m (by show m.val = 128 * 0 + (m.val); omega)
  rw [dif_neg c0]
  by_cases c1 : m.val - 128 < 128
  · rw [dif_pos c1]
    exact e1 _ m (by show m.val = 128 * 1 + (m.val - 128); omega)
  rw [dif_neg c1]
  by_cases c2 : m.val - 128 - 128 < 128
  · rw [dif_pos c2]
    exact e2 _ m (by show m.val = 128 * 2 + (m.val - 128 - 128); omega)
  rw [dif_neg c2]
  by_cases c3 : m.val - 128 - 128 - 128 < 128
  · rw [dif_pos c3]
    exact e3 _ m (by show m.val = 128 * 3 + (m.val - 128 - 128 - 128); omega)
  rw [dif_neg c3]
  by_cases c4 : m.val - 128 - 128 - 128 - 128 < 128
  · rw [dif_pos c4]
    exact e4 _ m (by show m.val = 128 * 4 + (m.val - 128 - 128 - 128 - 128); omega)
  rw [dif_neg c4]
  by_cases c5 : m.val - 128 - 128 - 128 - 128 - 128 < 128
  · rw [dif_pos c5]
    exact e5 _ m (by show m.val = 128 * 5 + (m.val - 128 - 128 - 128 - 128 - 128); omega)
  rw [dif_neg c5]
  by_cases c6 : m.val - 128 - 128 - 128 - 128 - 128 - 128 < 128
  · rw [dif_pos c6]
    exact e6 _ m (by show m.val = 128 * 6 + (m.val - 128 - 128 - 128 - 128 - 128 - 128); omega)
  rw [dif_neg c6]
  exact e7 _ m (by show m.val = 128 * 7 + (m.val - 128 - 128 - 128 - 128 - 128 - 128 - 128); omega)

theorem v41_at (r : Fin 512) (m : Fin 1024) : kernelRun0_A.sl.v41 (F := Ideal) c arg2 harg2 x0 (ix2 r m)
    = x0 (ix4 0 ⟨m.val / 128, by omega⟩ r ⟨m.val % 128, by omega⟩) := by
  have e1 : ∀ (d : Fin 128) (m : Fin 1024), m.val = 128 * 1 + d.val → kernelRun0_A.sl.v28 (F := Ideal) c arg2 harg2 x0 (ix2 r d)
      = x0 (ix4 0 ⟨m.val / 128, by omega⟩ r ⟨m.val % 128, by omega⟩) := fun d m hm => by
    unfold kernelRun0_A.sl.v28
    pointwise []
    exact head_at harg2 x0 1 _ r d m hm
  have e2 : ∀ (d : Fin 128) (m : Fin 1024), m.val = 128 * 2 + d.val → kernelRun0_A.sl.v30 (F := Ideal) c arg2 harg2 x0 (ix2 r d)
      = x0 (ix4 0 ⟨m.val / 128, by omega⟩ r ⟨m.val % 128, by omega⟩) := fun d m hm => by
    unfold kernelRun0_A.sl.v30
    pointwise []
    exact head_at harg2 x0 2 _ r d m hm
  have e3 : ∀ (d : Fin 128) (m : Fin 1024), m.val = 128 * 3 + d.val → kernelRun0_A.sl.v32 (F := Ideal) c arg2 harg2 x0 (ix2 r d)
      = x0 (ix4 0 ⟨m.val / 128, by omega⟩ r ⟨m.val % 128, by omega⟩) := fun d m hm => by
    unfold kernelRun0_A.sl.v32
    pointwise []
    exact head_at harg2 x0 3 _ r d m hm
  have e4 : ∀ (d : Fin 128) (m : Fin 1024), m.val = 128 * 4 + d.val → kernelRun0_A.sl.v34 (F := Ideal) c arg2 harg2 x0 (ix2 r d)
      = x0 (ix4 0 ⟨m.val / 128, by omega⟩ r ⟨m.val % 128, by omega⟩) := fun d m hm => by
    unfold kernelRun0_A.sl.v34
    pointwise []
    exact head_at harg2 x0 4 _ r d m hm
  have e5 : ∀ (d : Fin 128) (m : Fin 1024), m.val = 128 * 5 + d.val → kernelRun0_A.sl.v36 (F := Ideal) c arg2 harg2 x0 (ix2 r d)
      = x0 (ix4 0 ⟨m.val / 128, by omega⟩ r ⟨m.val % 128, by omega⟩) := fun d m hm => by
    unfold kernelRun0_A.sl.v36
    pointwise []
    exact head_at harg2 x0 5 _ r d m hm
  have e6 : ∀ (d : Fin 128) (m : Fin 1024), m.val = 128 * 6 + d.val → kernelRun0_A.sl.v38 (F := Ideal) c arg2 harg2 x0 (ix2 r d)
      = x0 (ix4 0 ⟨m.val / 128, by omega⟩ r ⟨m.val % 128, by omega⟩) := fun d m hm => by
    unfold kernelRun0_A.sl.v38
    pointwise []
    exact head_at harg2 x0 6 _ r d m hm
  have e7 : ∀ (d : Fin 128) (m : Fin 1024), m.val = 128 * 7 + d.val → kernelRun0_A.sl.v40 (F := Ideal) c arg2 harg2 x0 (ix2 r d)
      = x0 (ix4 0 ⟨m.val / 128, by omega⟩ r ⟨m.val % 128, by omega⟩) := fun d m hm => by
    unfold kernelRun0_A.sl.v40
    pointwise []
    exact head_at harg2 x0 7 _ r d m hm
  unfold kernelRun0_A.sl.v41
  have hm := m.isLt
  pointwise [kernelRun0_A.sl.v26]
  by_cases c0 : m.val < 128
  · rw [dif_pos c0]
    exact head_at harg2 x0 0 _ r _ m (by show m.val = 128 * 0 + (m.val); omega)
  rw [dif_neg c0]
  by_cases c1 : m.val - 128 < 128
  · rw [dif_pos c1]
    exact e1 _ m (by show m.val = 128 * 1 + (m.val - 128); omega)
  rw [dif_neg c1]
  by_cases c2 : m.val - 128 - 128 < 128
  · rw [dif_pos c2]
    exact e2 _ m (by show m.val = 128 * 2 + (m.val - 128 - 128); omega)
  rw [dif_neg c2]
  by_cases c3 : m.val - 128 - 128 - 128 < 128
  · rw [dif_pos c3]
    exact e3 _ m (by show m.val = 128 * 3 + (m.val - 128 - 128 - 128); omega)
  rw [dif_neg c3]
  by_cases c4 : m.val - 128 - 128 - 128 - 128 < 128
  · rw [dif_pos c4]
    exact e4 _ m (by show m.val = 128 * 4 + (m.val - 128 - 128 - 128 - 128); omega)
  rw [dif_neg c4]
  by_cases c5 : m.val - 128 - 128 - 128 - 128 - 128 < 128
  · rw [dif_pos c5]
    exact e5 _ m (by show m.val = 128 * 5 + (m.val - 128 - 128 - 128 - 128 - 128); omega)
  rw [dif_neg c5]
  by_cases c6 : m.val - 128 - 128 - 128 - 128 - 128 - 128 < 128
  · rw [dif_pos c6]
    exact e6 _ m (by show m.val = 128 * 6 + (m.val - 128 - 128 - 128 - 128 - 128 - 128); omega)
  rw [dif_neg c6]
  exact e7 _ m (by show m.val = 128 * 7 + (m.val - 128 - 128 - 128 - 128 - 128 - 128 - 128); omega)

/-- The block's attention output. -/
theorem v42_at (k : Fin 528) (m : Fin 1024) : kernelRun0_A.sl.v42 (F := Ideal) c arg2 harg2 arg3 harg3 x0 x1 (ix2 k m) = oBlk x0 x1 k m := by
  unfold kernelRun0_A.sl.v42 oBlk
  pointwise []
  simp only [v24_at, v41_at]

theorem v44_at (r : Fin 16) (n : Fin 1024) : kernelRun0_A.sl.v44 (F := Ideal) c arg5 harg5 x3 (ix2 r n) = x3 (ix3 0 r n) := by
  unfold kernelRun0_A.sl.v44
  pointwise []
  exact whole3_at harg5 x3 _ _

theorem v2_at (n : Fin 1024) : kernelRun0_A.sl.v2 (F := Ideal) c arg6 harg6 x4 (ix2 0 n) = x4 (ix3 0 0 n) := by
  unfold kernelRun0_A.sl.v2 kernelRun0_A.sl.v1
  pointwise []
  exact whole3_at harg6 x4 _ _

theorem v3_at (n : Fin 1024) : kernelRun0_A.sl.v3 (F := Ideal) c arg6 harg6 x4 (ix2 0 n) = x4 (ix3 0 1 n) := by
  unfold kernelRun0_A.sl.v3 kernelRun0_A.sl.v1
  pointwise []
  exact whole3_at harg6 x4 _ _

theorem v4_at (n : Fin 1024) : kernelRun0_A.sl.v4 (F := Ideal) c arg6 harg6 x4 (ix2 0 n) = x4 (ix3 0 2 n) := by
  unfold kernelRun0_A.sl.v4 kernelRun0_A.sl.v1
  pointwise []
  exact whole3_at harg6 x4 _ _

theorem v5_at (n : Fin 1024) : kernelRun0_A.sl.v5 (F := Ideal) c arg6 harg6 x4 (ix2 0 n) = x4 (ix3 0 3 n) := by
  unfold kernelRun0_A.sl.v5 kernelRun0_A.sl.v1
  pointwise []
  exact whole3_at harg6 x4 _ _

theorem v6_at (n : Fin 1024) : kernelRun0_A.sl.v6 (F := Ideal) c arg6 harg6 x4 (ix2 0 n) = x4 (ix3 0 4 n) := by
  unfold kernelRun0_A.sl.v6 kernelRun0_A.sl.v1
  pointwise []
  exact whole3_at harg6 x4 _ _

theorem v7_at (n : Fin 1024) : kernelRun0_A.sl.v7 (F := Ideal) c arg6 harg6 x4 (ix2 0 n) = x4 (ix3 0 5 n) := by
  unfold kernelRun0_A.sl.v7 kernelRun0_A.sl.v1
  pointwise []
  exact whole3_at harg6 x4 _ _

end

/-- The body's residual row, from its parts. -/
theorem pay19_at (v2 : FVec Ideal S1x1024 .f32) (v42 : FVec Ideal S528x1024 .bf16) (v44 : FVec Ideal S16x1024 .f32)
    (v45 : Vec Ideal S1x512x1024 .f32) (v48 : Vec Ideal S1024x1024 .bf16) (x0 : Vec Ideal S1x8x512x128 .bf16)
    (x1 : Vec Ideal S1x8x16x128 .bf16) (x2 : Vec Ideal S1x512x1024 .f32) (x3 : Vec Ideal S1x16x1024 .f32)
    (x4 : Vec Ideal S1x8x1024 .f32) (x5 : Vec Ideal S1024x1024 .bf16) (h2 : ∀ n : Fin 1024, v2 (ix2 0 n) = x4 (ix3 0 0 n))
    (h42 : ∀ (k : Fin 528) (m : Fin 1024), v42 (ix2 k m) = oBlk x0 x1 k m)
    (h44 : ∀ (r : Fin 16) (n : Fin 1024), v44 (ix2 r n) = x3 (ix3 0 r n)) (h45 : ∀ j, v45 j = x2 j) (h48 : ∀ j, v48 j = x5 j)
    (k : Fin 528) (n : Fin 1024) : k0_pay19 v2 v42 v44 v45 v48 (ix2 k n) = h1Blk x0 x1 x2 x3 x4 x5 k n := by
  unfold h1Blk resRow hBlk
  pointwise [k0_pay19]
  simp only [h2, h42, h44, h45, h48]

/-- The body's normalized row, from the residual row. -/
theorem pay20_at (p : ℕ) (hp : p < 16) (v2 v3 v4 v5 : FVec Ideal S1x1024 .f32) (v42 : FVec Ideal S528x1024 .bf16) (v44 : FVec Ideal S16x1024 .f32)
    (v45 : Vec Ideal S1x512x1024 .f32) (v48 : Vec Ideal S1024x1024 .bf16) (x0 : Vec Ideal S1x8x512x128 .bf16)
    (x1 : Vec Ideal S1x8x16x128 .bf16) (x2 : Vec Ideal S1x512x1024 .f32) (x3 : Vec Ideal S1x16x1024 .f32)
    (x4 : Vec Ideal S1x8x1024 .f32) (x5 : Vec Ideal S1024x1024 .bf16)
    (h3 : ∀ n : Fin 1024, v3 (ix2 0 n) = x4 (ix3 0 1 n)) (h4 : ∀ n : Fin 1024, v4 (ix2 0 n) = x4 (ix3 0 2 n))
    (h5 : ∀ n : Fin 1024, v5 (ix2 0 n) = x4 (ix3 0 3 n))
    (h19 : ∀ (k : Fin 528) (n : Fin 1024), k0_pay19 v2 v42 v44 v45 v48 (ix2 k n) = h1Blk x0 x1 x2 x3 x4 x5 k n)
    (k : Fin 528) (n : Fin 1024) :
    k0_pay20 (BitVec.ofNat 32 p) v2 v3 v4 v5 v42 v44 v45 v48 (ix2 k n) = hnBlk p x0 x1 x2 x3 x4 x5 k n := by
  unfold hnBlk modRow rmsRow k0_pay20
  revert h19
  generalize k0_pay19 v2 v42 v44 v45 v48 = h
  intro h19
  pointwise []
  simp only [h3, h4, h5, h19]
  rw [show IntOp.cmpi CmpIPredicate.slt (BitVec.ofNat 32 k.val) 16#32 = BitVec.ofBool (decide (k.val < 16)) from
      Idealize.ShloMosaic.WordCmp.cmpi_slt_ofNat (by have := k.isLt; omega) (by decide),
    show Scalar.cmpi CmpIPredicate.eq (BitVec.ofNat 32 p) 0#32 = BitVec.ofBool (decide (p = 0)) from
      (Idealize.ShloMosaic.WordCmp.cmpi_eq_ofNat (by omega) (by decide))]
  by_cases c1 : k.val < 16 <;> by_cases c2 : p = 0 <;> simp [c1, c2, IntOp.andi, Scalar.select]

/-- The body's result row, from the residual row and the down-projection. -/
theorem pay2_at (v6 v7 : FVec Ideal S1x1024 .f32) (v1451 v1452 : Vec Ideal S512x1024 .f32) (r : Fin 512) (n : Fin 1024)
    (h1 : Fin 1024 → EReal) (x4 : Vec Ideal S1x8x1024 .f32) (a : Fin 2816 → EReal) (w : Fin 2816 → Fin 1024 → EReal)
    (h6 : ∀ n : Fin 1024, v6 (ix2 0 n) = x4 (ix3 0 4 n)) (h7 : ∀ n : Fin 1024, v7 (ix2 0 n) = x4 (ix3 0 5 n))
    (h51 : ∀ n : Fin 1024, v1451 (ix2 r n) = h1 n) (h52 : ∀ n : Fin 1024, v1452 (ix2 r n) = ∑ j : Fin 2816, a j * w j n) :
    k0_pay2 v6 v7 v1451 v1452 (ix3 0 r n) = outRow h1 (fun n => x4 (ix3 0 4 n)) (fun n => x4 (ix3 0 5 n)) a w n := by
  unfold outRow rmsRow
  pointwise [k0_pay2]
  simp only [h6, h7, h51, h52]

end Cert.Ffn
-- ==== Proof.FfnBlock.lean ====
/-
  The block a grid point writes, entry by entry.
-/
module

public import proofs.«01_k».proof.Proof.FfnRows

@[expose] public section

set_option maxRecDepth 16384

noncomputable section

namespace Cert.Ffn

open Idealize.ShloMosaic Cert.FfnKernelIdeal Cert.FfnKernelIdeal.Gen

variable (c : Dev nD) (i : grid0.Coords) (arg2 : Memref sig .tc .vmem S1x8x512x128 .bf16) (harg2 : arg2.IsWhole)
  (arg3 : Memref sig .tc .vmem S1x8x16x128 .bf16) (harg3 : arg3.IsWhole) (arg4 : Memref sig .tc .vmem S1x512x1024 .f32)
  (harg4 : arg4.IsWhole) (arg5 : Memref sig .tc .vmem S1x16x1024 .f32) (harg5 : arg5.IsWhole)
  (arg6 : Memref sig .tc .vmem S1x8x1024 .f32) (harg6 : arg6.IsWhole) (arg7 : Memref sig .tc .vmem S1024x1024 .bf16)
  (harg7 : arg7.IsWhole) (arg8 : Memref sig .tc .vmem S1x1024x5632 .bf16) (harg8 : arg8.IsWhole)
  (arg9 : Memref sig .tc .vmem S8x5632 .f32) (harg9 : arg9.IsWhole) (arg10 : Memref sig .tc .vmem S1x2816x1024 .bf16)
  (harg10 : arg10.IsWhole) (arg11 : Memref sig .tc .vmem S1x512x1024 .f32) (harg11 : arg11.IsWhole) (arg12 : Memref sig .tc .vmem S528x1024 .bf16)
  (harg12 : arg12.IsWhole) (arg13 : Memref sig .tc .vmem S512x1024 .f32) (harg13 : arg13.IsWhole)
  (arg14 : Memref sig .tc .vmem S512x1024 .f32) (harg14 : arg14.IsWhole)
  (arg15 : Memref sig .tc .vmem S8x528x128 .f32) (harg15 : arg15.IsWhole)
  (x0 : Vec Ideal S1x8x512x128 .bf16) (x1 : Vec Ideal S1x8x16x128 .bf16) (x2 : Vec Ideal S1x512x1024 .f32)
  (x3 : Vec Ideal S1x16x1024 .f32) (x4 : Vec Ideal S1x8x1024 .f32) (x5 : Vec Ideal S1024x1024 .bf16)
  (x6 : Vec Ideal S1x1024x5632 .bf16) (x7 : Vec Ideal S8x5632 .f32) (x8 : Vec Ideal S1x2816x1024 .bf16)

theorem res_at (k : Fin 528) (n : Fin 1024) : k0_pay19 (kernelRun0_A.sl.v2 (F := Ideal) c arg6 harg6 x4) (kernelRun0_A.sl.v42 (F := Ideal) c arg2 harg2 arg3 harg3 x0 x1) (kernelRun0_A.sl.v44 (F := Ideal) c arg5 harg5 x3)
    (View.readAt (Elt Ideal) arg4.view (Rect.unit (s := S1x512x1024) ![0, 0, 0] S1x512x1024.size inb_S1x512x1024_S1x512x1024_0_0_0).toLoadRect (harg4.unread x2))
    (View.readAt (Elt Ideal) arg7.view (Rect.unit (s := S1024x1024) ![0, 0] S1024x1024.size inb_S1024x1024_S1024x1024_0_0).toLoadRect (harg7.unread x5))
    (ix2 k n) = h1Blk x0 x1 x2 x3 x4 x5 k n :=
  pay19_at _ _ _ _ _ x0 x1 x2 x3 x4 x5 (v2_at c arg6 harg6 x4) (v42_at c arg2 harg2 arg3 harg3 x0 x1) (v44_at c arg5 harg5 x3)
    (whole3_at harg4 x2 _) (whole2_at harg7 x5 _) k n

/-- The normalized rows the body reads back. -/
theorem v89_at (k : Fin 528) (n : Fin 1024) : (kernelRun0_A.sl.v89 c i arg2 harg2 arg3 harg3 arg4 harg4 arg5 harg5 arg6 harg6 arg7 harg7 arg12 x0 x1 x2 x3 x4 x5) (ix2 k n) = hnBlk (i 1).val x0 x1 x2 x3 x4 x5 k n := by
  have e : (kernelRun0_A.sl.v89 c i arg2 harg2 arg3 harg3 arg4 harg4 arg5 harg5 arg6 harg6 arg7 harg7 arg12 x0 x1 x2 x3 x4 x5) = k0_pay20 (BitVec.ofNat 32 (i 1).val) (kernelRun0_A.sl.v2 (F := Ideal) c arg6 harg6 x4) (kernelRun0_A.sl.v3 (F := Ideal) c arg6 harg6 x4) (kernelRun0_A.sl.v4 (F := Ideal) c arg6 harg6 x4) (kernelRun0_A.sl.v5 (F := Ideal) c arg6 harg6 x4) (kernelRun0_A.sl.v42 (F := Ideal) c arg2 harg2 arg3 harg3 x0 x1) (kernelRun0_A.sl.v44 (F := Ideal) c arg5 harg5 x3)
      (View.readAt (Elt Ideal) arg4.view (Rect.unit (s := S1x512x1024) ![0, 0, 0] S1x512x1024.size inb_S1x512x1024_S1x512x1024_0_0_0).toLoadRect (harg4.unread x2))
      (View.readAt (Elt Ideal) arg7.view (Rect.unit (s := S1024x1024) ![0, 0] S1024x1024.size inb_S1024x1024_S1024x1024_0_0).toLoadRect (harg7.unread x5)) := View.readCov_full _ _ _ _ _
  rw [e]
  exact pay20_at _ (i 1).isLt _ _ _ _ _ _ _ _ x0 x1 x2 x3 x4 x5 (v3_at c arg6 harg6 x4) (v4_at c arg6 harg6 x4)
    (v5_at c arg6 harg6 x4) (res_at c arg2 harg2 arg3 harg3 arg4 harg4 arg5 harg5 arg6 harg6 arg7 harg7 x0 x1 x2 x3 x4 x5) k n

/-- The residual rows the body reads back. -/
theorem v1451_at (r : Fin 512) (n : Fin 1024) : (kernelRun0_A.sl.v1451 c arg2 harg2 arg3 harg3 arg4 harg4 arg5 harg5 arg6 harg6 arg7 harg7 arg13 x0 x1 x2 x3 x4 x5) (ix2 r n)
    = h1Blk x0 x1 x2 x3 x4 x5 ⟨16 + r.val, by omega⟩ n := by
  have e : (kernelRun0_A.sl.v1451 c arg2 harg2 arg3 harg3 arg4 harg4 arg5 harg5 arg6 harg6 arg7 harg7 arg13 x0 x1 x2 x3 x4 x5) = k0_pay21 (kernelRun0_A.sl.v2 (F := Ideal) c arg6 harg6 x4) (kernelRun0_A.sl.v42 (F := Ideal) c arg2 harg2 arg3 harg3 x0 x1) (kernelRun0_A.sl.v44 (F := Ideal) c arg5 harg5 x3)
      (View.readAt (Elt Ideal) arg4.view (Rect.unit (s := S1x512x1024) ![0, 0, 0] S1x512x1024.size inb_S1x512x1024_S1x512x1024_0_0_0).toLoadRect (harg4.unread x2))
      (View.readAt (Elt Ideal) arg7.view (Rect.unit (s := S1024x1024) ![0, 0] S1024x1024.size inb_S1024x1024_S1024x1024_0_0).toLoadRect (harg7.unread x5)) := View.readCov_full _ _ _ _ _
  have h := res_at c arg2 harg2 arg3 harg3 arg4 harg4 arg5 harg5 arg6 harg6 arg7 harg7 x0 x1 x2 x3 x4 x5 ⟨16 + r.val, by omega⟩ n
  rw [e]
  unfold k0_pay21
  revert h
  generalize k0_pay19 (kernelRun0_A.sl.v2 (F := Ideal) c arg6 harg6 x4) (kernelRun0_A.sl.v42 (F := Ideal) c arg2 harg2 arg3 harg3 x0 x1) (kernelRun0_A.sl.v44 (F := Ideal) c arg5 harg5 x3)
      (View.readAt (Elt Ideal) arg4.view (Rect.unit (s := S1x512x1024) ![0, 0, 0] S1x512x1024.size inb_S1x512x1024_S1x512x1024_0_0_0).toLoadRect (harg4.unread x2))
      (View.readAt (Elt Ideal) arg7.view (Rect.unit (s := S1024x1024) ![0, 0] S1024x1024.size inb_S1024x1024_S1024x1024_0_0).toLoadRect (harg7.unread x5)) = y
  intro h
  pointwise []
  exact h

/-- The block's result. -/
theorem out_at_block (r : Fin 512) (n : Fin 1024) :
    out0_A_9 (F := Ideal) c i arg2 harg2 arg3 harg3 arg4 harg4 arg5 harg5 arg6 harg6 arg7 harg7 arg8 harg8 arg9 harg9 arg10 harg10
      arg11 harg11 arg12 harg12 arg13 harg13 arg14 harg14 arg15 harg15 x0 x1 x2 x3 x4 x5 x6 x7 x8 (ix3 0 r n)
    = outRow (h1Blk x0 x1 x2 x3 x4 x5 ⟨16 + r.val, by omega⟩) (fun n => x4 (ix3 0 4 n)) (fun n => x4 (ix3 0 5 n))
        (actRow (convV x7 x6 (kernelRun0_A.sl.v89 c i arg2 harg2 arg3 harg3 arg4 harg4 arg5 harg5 arg6 harg6 arg7 harg7 arg12 x0 x1 x2 x3 x4 x5) r)) (fun j n => x8 (ix3 0 j n)) n := by
  have e : out0_A_9 (F := Ideal) c i arg2 harg2 arg3 harg3 arg4 harg4 arg5 harg5 arg6 harg6 arg7 harg7 arg8 harg8 arg9 harg9 arg10 harg10
      arg11 harg11 arg12 harg12 arg13 harg13 arg14 harg14 arg15 harg15 x0 x1 x2 x3 x4 x5 x6 x7 x8 (ix3 0 r n)
      = k0_pay2 (kernelRun0_A.sl.v6 (F := Ideal) c arg6 harg6 x4) (kernelRun0_A.sl.v7 (F := Ideal) c arg6 harg6 x4) (kernelRun0_A.sl.v1451 c arg2 harg2 arg3 harg3 arg4 harg4 arg5 harg5 arg6 harg6 arg7 harg7 arg13 x0 x1 x2 x3 x4 x5)
        (kernelRun0_A.sl.v1452 c i arg2 harg2 arg3 harg3 arg4 harg4 arg5 harg5 arg6 harg6 arg7 harg7 arg8 harg8 arg9 harg9 arg10 harg10 arg12 arg14 arg15 x0 x1 x2 x3 x4 x5 x6 x7 x8) (ix3 0 r n) := by
    refine View.read_writes_cons_unit_of_mem VO0_9 VO0_9.junk inb_S1x512x1024_S1x512x1024_0_0_0 _ [] (ix3 0 r n) (ix3 0 r n) rfl fun a => ?_
    fin_cases a
    · rfl
    · show r.val = 0 + r.val
      omega
    · show n.val = 0 + n.val
      omega
  rw [e]
  exact pay2_at _ _ _ _ r n _ x4 _ (fun j n => x8 (ix3 0 j n)) (v6_at c arg6 harg6 x4) (v7_at c arg6 harg6 x4)
    (v1451_at c arg2 harg2 arg3 harg3 arg4 harg4 arg5 harg5 arg6 harg6 arg7 harg7 arg13 x0 x1 x2 x3 x4 x5 r)
    (acc_all c i arg2 harg2 arg3 harg3 arg4 harg4 arg5 harg5 arg6 harg6 arg7 harg7 arg8 harg8 arg9 harg9 arg10 harg10 arg12 arg14 arg15 x0 x1 x2 x3 x4 x5 x6 x7 x8 r)

end Cert.Ffn
-- ==== Proof.FfnWins.lean ====
/-
  What each grid point's input blocks hold, as entries of the arguments.

  Grid point `t` is batch row `b` and tile `p`. Its blocks are the tile's 512 positions of the attention's output and of
  the residual stream, the 16 positions before the tile (for the first tile, its own first 16), the batch row's vectors
  and the second layer's weights.
-/
module

public import proofs.«01_k».proof.Proof.FfnBlock
public import Idealize.ShloMosaic.Lib.Pipeline.ValueKit.Point

@[expose] public section

set_option maxRecDepth 16384

noncomputable section

namespace Cert.Ffn

open Idealize.ShloMosaic Cert.FfnKernelIdeal Cert.FfnKernelIdeal.Gen

/-- The batch row of a grid point. -/
def bOf (t : Fin cfg0.N) : Fin 2 := ⟨(grid0.coords t 0).val, (grid0.coords t 0).isLt⟩

/-- The tile of a grid point. -/
def pOf (t : Fin cfg0.N) : Fin 16 := ⟨(grid0.coords t 1).val, (grid0.coords t 1).isLt⟩

theorem idx0 : ∀ t : Fin cfg0.N, win0_0.index t = ![(bOf t).val, 0, (pOf t).val, 0] :=
  (by decide +kernel : ∀ t : Fin grid0.N, win0_0.index t = ![(bOf t).val, 0, (pOf t).val, 0])
theorem idx1 : ∀ t : Fin cfg0.N, win0_1.index t = ![(bOf t).val, 0, (pOf t).val * 32 - 1, 0] :=
  (by decide +kernel : ∀ t : Fin grid0.N, win0_1.index t = ![(bOf t).val, 0, (pOf t).val * 32 - 1, 0])
theorem idx2 : ∀ t : Fin cfg0.N, win0_2.index t = ![(bOf t).val, (pOf t).val, 0] :=
  (by decide +kernel : ∀ t : Fin grid0.N, win0_2.index t = ![(bOf t).val, (pOf t).val, 0])
theorem idx3 : ∀ t : Fin cfg0.N, win0_3.index t = ![(bOf t).val, (pOf t).val * 32 - 1, 0] :=
  (by decide +kernel : ∀ t : Fin grid0.N, win0_3.index t = ![(bOf t).val, (pOf t).val * 32 - 1, 0])
theorem idx4 : ∀ t : Fin cfg0.N, win0_4.index t = ![(bOf t).val, 0, 0] :=
  (by decide +kernel : ∀ t : Fin grid0.N, win0_4.index t = ![(bOf t).val, 0, 0])
theorem idx5 : ∀ t : Fin cfg0.N, win0_5.index t = ![0, 0] := (by decide +kernel : ∀ t : Fin grid0.N, win0_5.index t = ![0, 0])
theorem idx6 : ∀ t : Fin cfg0.N, win0_6.index t = ![1, 0, 0] := (by decide +kernel : ∀ t : Fin grid0.N, win0_6.index t = ![1, 0, 0])
theorem idx7 : ∀ t : Fin cfg0.N, win0_7.index t = ![0, 0] := (by decide +kernel : ∀ t : Fin grid0.N, win0_7.index t = ![0, 0])
theorem idx8 : ∀ t : Fin cfg0.N, win0_8.index t = ![1, 0, 0] := (by decide +kernel : ∀ t : Fin grid0.N, win0_8.index t = ![1, 0, 0])
theorem idx9 : ∀ t : Fin cfg0.N, win0_9.index t = ![(bOf t).val, (pOf t).val, 0] :=
  (by decide +kernel : ∀ t : Fin grid0.N, win0_9.index t = ![(bOf t).val, (pOf t).val, 0])

variable (m : (ℓ : Loc nD τ sig) → Buf (Elt Ideal) ℓ) (c : Dev nD) (t : Fin cfg0.N)

/-- The arguments, as arrays. -/
abbrev argO : Vec Ideal S2x8x8192x128 .bf16 := V m c main_arg0
abbrev argH : Vec Ideal S2x8192x1024 .f32 := V m c main_arg1
abbrev argV : Vec Ideal S2x8x1024 .f32 := V m c main_arg2
abbrev argWO : Vec Ideal S1024x1024 .bf16 := V m c main_arg3
abbrev argWI : Vec Ideal S2x1024x5632 .bf16 := V m c main_arg4
abbrev argC : Vec Ideal S8x5632 .f32 := V m c main_arg5
abbrev argWD : Vec Ideal S2x2816x1024 .bf16 := V m c main_arg6

/-- The blocks, as vectors. -/
abbrev b0 : Vec Ideal S1x8x512x128 .bf16 := iblk m c 0 t
abbrev b1 : Vec Ideal S1x8x16x128 .bf16 := iblk m c 1 t
abbrev b2 : Vec Ideal S1x512x1024 .f32 := iblk m c 2 t
abbrev b3 : Vec Ideal S1x16x1024 .f32 := iblk m c 3 t
abbrev b4 : Vec Ideal S1x8x1024 .f32 := iblk m c 4 t
abbrev b5 : Vec Ideal S1024x1024 .bf16 := iblk m c 5 t
abbrev b6 : Vec Ideal S1x1024x5632 .bf16 := iblk m c 6 t
abbrev b7 : Vec Ideal S8x5632 .f32 := iblk m c 7 t
abbrev b8 : Vec Ideal S1x2816x1024 .bf16 := iblk m c 8 t

theorem b0_at (h : Fin 8) (r : Fin 512) (d : Fin 128) (s : Fin 8192) (hs : s.val = (pOf t).val * 512 + r.val) :
    b0 m c t (ix4 0 h r d) = argO m c (ix4 (bOf t) h s d) := by
  blk_simp [iblk]
  blk_ext [idx0 t]

theorem b1_at (h : Fin 8) (r : Fin 16) (d : Fin 128) (s : Fin 8192) (hs : s.val = ((pOf t).val * 32 - 1) * 16 + r.val) :
    b1 m c t (ix4 0 h r d) = argO m c (ix4 (bOf t) h s d) := by
  blk_simp [iblk]
  blk_ext [idx1 t]

theorem b2_at (r : Fin 512) (n : Fin 1024) (s : Fin 8192) (hs : s.val = (pOf t).val * 512 + r.val) :
    b2 m c t (ix3 0 r n) = argH m c (ix3 (bOf t) s n) := by
  blk_simp [iblk]
  blk_ext [idx2 t]

theorem b3_at (r : Fin 16) (n : Fin 1024) (s : Fin 8192) (hs : s.val = ((pOf t).val * 32 - 1) * 16 + r.val) :
    b3 m c t (ix3 0 r n) = argH m c (ix3 (bOf t) s n) := by
  blk_simp [iblk]
  blk_ext [idx3 t]

theorem b4_at (k : Fin 8) (n : Fin 1024) : b4 m c t (ix3 0 k n) = argV m c (ix3 (bOf t) k n) := by
  blk_simp [iblk]
  blk_ext [idx4 t]

theorem b5_at (k n : Fin 1024) : b5 m c t (ix2 k n) = argWO m c (ix2 k n) := by
  blk_simp [iblk]
  blk_ext [idx5 t]

theorem b6_at (k : Fin 1024) (j : Fin 5632) : b6 m c t (ix3 0 k j) = argWI m c (ix3 1 k j) := by
  blk_simp [iblk]
  blk_ext [idx6 t]

theorem b7_at (k : Fin 8) (j : Fin 5632) : b7 m c t (ix2 k j) = argC m c (ix2 k j) := by
  blk_simp [iblk]
  blk_ext [idx7 t]

theorem b8_at (f : Fin 2816) (n : Fin 1024) : b8 m c t (ix3 0 f n) = argWD m c (ix3 1 f n) := by
  blk_simp [iblk]
  blk_ext [idx8 t]

end Cert.Ffn
-- ==== Proof.FfnSpec.lean ====
/-
  The end of the layer as one formula of the seven arguments, entry by entry.

  `O` is the attention's output by head, `H` the residual stream, `V` the modulation rows, `WO`, `WI`, `WD` the output,
  up and down projections, `C` the convolution's taps and bias. `outAt` is the layer's result at a batch entry, position
  and feature.
-/
module

public import proofs.«01_k».proof.Proof.FfnMath

@[expose] public section

noncomputable section

namespace Cert.Ffn

open Idealize.ShloMosaic

/-- The attention's output, as one row of 1024 features: head `n / 128`, channel `n % 128`. -/
def attnRow (O : (⟨4, ![2, 8, 8192, 128]⟩ : Shape).Idx → EReal) (b : Fin 2) (t : Fin 8192) (n : Fin 1024) : EReal :=
  O (ix4 b ⟨n.val / 128, by have := n.isLt; omega⟩ t ⟨n.val % 128, by omega⟩)

variable (O : (⟨4, ![2, 8, 8192, 128]⟩ : Shape).Idx → EReal) (H : (⟨3, ![2, 8192, 1024]⟩ : Shape).Idx → EReal)
  (V : (⟨3, ![2, 8, 1024]⟩ : Shape).Idx → EReal) (WO : (⟨2, ![1024, 1024]⟩ : Shape).Idx → EReal)
  (WI : (⟨3, ![2, 1024, 5632]⟩ : Shape).Idx → EReal) (C : (⟨2, ![8, 5632]⟩ : Shape).Idx → EReal)
  (WD : (⟨3, ![2, 2816, 1024]⟩ : Shape).Idx → EReal)

/-- The residual stream after the attention's projection. -/
def h1Row (b : Fin 2) (t : Fin 8192) : Fin 1024 → EReal :=
  resRow (fun n => H (ix3 b t n)) (attnRow O b t) (fun n => V (ix3 b 0 n)) (fun k n => WO (ix2 k n))

/-- … normalized and modulated. -/
def hnRow (b : Fin 2) (t : Fin 8192) : Fin 1024 → EReal :=
  modRow (h1Row O H V WO b t) (fun n => V (ix3 b 1 n)) (fun n => V (ix3 b 3 n)) (fun n => V (ix3 b 2 n))

/-- The up-projection at position `s - 2`, zero before the sequence begins. -/
def uAt (b : Fin 2) (s : ℕ) (j : Fin 5632) : EReal :=
  if h : 2 ≤ s ∧ s - 2 < 8192 then upRow (hnRow O H V WO b ⟨s - 2, h.2⟩) (fun k j => WI (ix3 1 k j)) j else 0

/-- The convolved up-projection. -/
def yRow (b : Fin 2) (t : Fin 8192) : Fin 5632 → EReal :=
  convRow (fun i j => C (ix2 i j)) (uAt O H V WO WI b t.val) (uAt O H V WO WI b (1 + t.val)) (uAt O H V WO WI b (2 + t.val))

/-- The layer's result. -/
def outAt (b : Fin 2) (t : Fin 8192) : Fin 1024 → EReal :=
  outRow (h1Row O H V WO b t) (fun n => V (ix3 b 4 n)) (fun n => V (ix3 b 5 n)) (actRow (yRow O H V WO WI C b t))
    (fun f n => WD (ix3 1 f n))

end Cert.Ffn
-- ==== Proof.FfnArray.lean ====
/-
  The array the feed-forward call leaves is the layer's result, entry by entry.

  A grid point's rows are rows of the argument: row `k` of the block is position `512 p + k - 16` of the sequence. The
  rows before the sequence were set to zero, so their up-projection is zero, which is what the reference's padding gives.
-/
module

public import proofs.«01_k».proof.Proof.FfnWins
public import proofs.«01_k».proof.Proof.FfnSpec

@[expose] public section

set_option maxRecDepth 16384

noncomputable section

namespace Cert.Ffn

open Idealize.ShloMosaic Cert.FfnKernelIdeal Cert.FfnKernelIdeal.Gen

variable (m : (ℓ : Loc nD τ sig) → Buf (Elt Ideal) ℓ) (c : Dev nD) (t : Fin cfg0.N)

theorem hBlk_at (k : Fin 528) (n : Fin 1024) (s : Fin 8192) (hs : s.val + 16 = (pOf t).val * 512 + k.val) :
    hBlk (b2 m c t) (b3 m c t) k n = argH m c (ix3 (bOf t) s n) := by
  unfold hBlk
  by_cases h : k.val < 16
  · rw [dif_pos h]
    exact b3_at m c t ⟨k.val, h⟩ n s (by show s.val = ((pOf t).val * 32 - 1) * 16 + k.val; omega)
  · rw [dif_neg h]
    exact b2_at m c t ⟨k.val - 16, by omega⟩ n s (by show s.val = (pOf t).val * 512 + (k.val - 16); omega)

theorem oBlk_at (k : Fin 528) (n : Fin 1024) (s : Fin 8192) (hs : s.val + 16 = (pOf t).val * 512 + k.val) :
    oBlk (b0 m c t) (b1 m c t) k n = attnRow (argO m c) (bOf t) s n := by
  unfold oBlk attnRow
  by_cases h : k.val < 16
  · rw [dif_pos h]
    exact b1_at m c t _ ⟨k.val, h⟩ _ s (by show s.val = ((pOf t).val * 32 - 1) * 16 + k.val; omega)
  · rw [dif_neg h]
    exact b0_at m c t _ ⟨k.val - 16, by omega⟩ _ s (by show s.val = (pOf t).val * 512 + (k.val - 16); omega)

/-- The residual row at its position. -/
theorem h1Blk_at (k : Fin 528) (s : Fin 8192) (hs : s.val + 16 = (pOf t).val * 512 + k.val) :
    h1Blk (b0 m c t) (b1 m c t) (b2 m c t) (b3 m c t) (b4 m c t) (b5 m c t) k
      = h1Row (argO m c) (argH m c) (argV m c) (argWO m c) (bOf t) s := by
  funext n
  unfold h1Blk h1Row resRow
  dsimp only
  rw [hBlk_at m c t k n s hs, b4_at m c t 0 n]
  refine congrArg₂ (· + ·) rfl (congrArg₂ (· * ·) rfl (Finset.sum_congr rfl fun x _ => ?_))
  rw [oBlk_at m c t k x s hs, b5_at m c t x n]

/-- The normalized row at its position. -/
theorem hnBlk_at (k : Fin 528) (s : Fin 8192) (hs : s.val + 16 = (pOf t).val * 512 + k.val) (n : Fin 1024) :
    hnBlk (pOf t).val (b0 m c t) (b1 m c t) (b2 m c t) (b3 m c t) (b4 m c t) (b5 m c t) k n
      = hnRow (argO m c) (argH m c) (argV m c) (argWO m c) (bOf t) s n := by
  unfold hnBlk hnRow
  rw [if_neg (by omega), h1Blk_at m c t k s hs]
  simp only [b4_at]

/-- The normalized rows the body of point `t` reads back. -/
abbrev hnT : Vec Ideal S528x1024 .bf16 :=
  kernelRun0_A.sl.v89 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (b0 m c t) (b1 m c t) (b2 m c t) (b3 m c t) (b4 m c t) (b5 m c t)

theorem hnT_at (k : Fin 528) (n : Fin 1024) : hnT m c t (ix2 k n)
    = hnBlk (pOf t).val (b0 m c t) (b1 m c t) (b2 m c t) (b3 m c t) (b4 m c t) (b5 m c t) k n :=
  v89_at c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (b0 m c t) (b1 m c t) (b2 m c t) (b3 m c t) (b4 m c t) (b5 m c t) k n

/-- The up-projection of a row of the block is the reference's, with its padding: whatever the up-projection's matrix `x6`,
    as long as it is the second of the stack `WI`. -/
theorem upV_at (x6 : Vec Ideal S1x1024x5632 .bf16) (WI : Vec Ideal S2x1024x5632 .bf16)
    (h6 : ∀ (k : Fin 1024) (j : Fin 5632), x6 (ix3 0 k j) = WI (ix3 1 k j)) (k : Fin 528) (s : ℕ)
    (hs : s + 14 = (pOf t).val * 512 + k.val) :
    upV x6 (hnT m c t) k = uAt (argO m c) (argH m c) (argV m c) (argWO m c) WI (bOf t) s := by
  have hk := k.isLt
  have hp := (pOf t).isLt
  funext j
  unfold upV uAt upRow
  by_cases h : 2 ≤ s ∧ s - 2 < 8192
  · rw [dif_pos h]
    refine Finset.sum_congr rfl fun n _ => ?_
    dsimp only
    rw [hnT_at, hnBlk_at m c t k ⟨s - 2, h.2⟩ (by show s - 2 + 16 = _; omega) n, h6 n j]
  · rw [dif_neg h]
    refine Finset.sum_eq_zero fun n _ => ?_
    dsimp only
    rw [hnT_at]
    unfold hnBlk
    rw [if_pos (by omega), zero_mul]

/-- The convolved row at its position. -/
theorem convV_at (x6 : Vec Ideal S1x1024x5632 .bf16) (WI : Vec Ideal S2x1024x5632 .bf16)
    (h6 : ∀ (k : Fin 1024) (j : Fin 5632), x6 (ix3 0 k j) = WI (ix3 1 k j)) (r : Fin 512) (s : Fin 8192)
    (hs : s.val = (pOf t).val * 512 + r.val) :
    convV (b7 m c t) x6 (hnT m c t) r
      = yRow (argO m c) (argH m c) (argV m c) (argWO m c) WI (argC m c) (bOf t) s := by
  unfold convV yRow
  rw [upV_at m c t x6 WI h6 ⟨14 + r.val, by omega⟩ s.val (by show _ = _ + (14 + r.val); omega),
    upV_at m c t x6 WI h6 ⟨15 + r.val, by omega⟩ (1 + s.val) (by show _ = _ + (15 + r.val); omega),
    upV_at m c t x6 WI h6 ⟨16 + r.val, by omega⟩ (2 + s.val) (by show _ = _ + (16 + r.val); omega)]
  simp only [b7_at]

/-- What point `t` leaves in the output's block. -/
theorem outs_at (r : Fin 512) (n : Fin 1024) (s : Fin 8192) (hs : s.val = (pOf t).val * 512 + r.val) :
    out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (ix3 0 r n)
      = outAt (argO m c) (argH m c) (argV m c) (argWO m c) (argWI m c) (argC m c) (argWD m c) (bOf t) s n := by
  refine (out_at_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) scM0_2 (Memref.isWhole_whole _) scM0_3 (Memref.isWhole_whole _) (b0 m c t) (b1 m c t) (b2 m c t) (b3 m c t) (b4 m c t) (b5 m c t) (b6 m c t) (b7 m c t) (b8 m c t) r n).trans ?_
  unfold outAt
  rw [h1Blk_at m c t ⟨16 + r.val, by omega⟩ s (by show _ = _ + (16 + r.val); omega)]
  have e := convV_at m c t (b6 m c t) (argWI m c) (b6_at m c t) r s hs
  unfold hnT at e
  rw [e]
  simp only [b4_at, b8_at]

/-- The layer's result, as an array of its arguments. -/
def outArr (O : Vec Ideal S2x8x8192x128 .bf16) (H : Vec Ideal S2x8192x1024 .f32) (W : Vec Ideal S2x8x1024 .f32)
    (WO : Vec Ideal S1024x1024 .bf16) (WI : Vec Ideal S2x1024x5632 .bf16) (C : Vec Ideal S8x5632 .f32)
    (WD : Vec Ideal S2x2816x1024 .bf16) : Vec Ideal S2x8192x1024 .f32 :=
  fun i => outAt O H W WO WI C WD (i 0) (i 1) (i 2)

/-- The array after the last grid point. -/
theorem final : (dats m 0 c).arrAt 9 cfg0.N
    = outArr (argO m c) (argH m c) (argV m c) (argWO m c) (argWI m c) (argC m c) (argWD m c) := by
  refine (dats m 0 c).arrAt_eq_of_covers 9 _ (by decide +kernel) fun t hf y => ?_
  blk_simp
  rw [after0_9]
  have hp := (pOf t).isLt
  have h1 : (y 1).val < 512 := (y 1).isLt
  have ey : y = ix3 0 ⟨(y 1).val, h1⟩ ⟨(y 2).val, (y 2).isLt⟩ := by
    refine funext fun a => Fin.ext ?_
    fin_cases a
    · exact Nat.lt_one_iff.1 (y 0).isLt
    · rfl
    · rfl
  have es : (win0_9.blk t).view.emb y
      = ix3 (bOf t) ⟨(pOf t).val * 512 + (y 1).val, by omega⟩ ⟨(y 2).val, (y 2).isLt⟩ := by
    blk_ext [idx9 t]
  refine (congrArg (outsAt0 m c t) ey).trans (Eq.trans ?_ (congrArg
    (outArr (argO m c) (argH m c) (argV m c) (argWO m c) (argWI m c) (argC m c) (argWD m c)) es).symm)
  simp only [outsAt0]
  exact outs_at m c t ⟨(y 1).val, h1⟩ ⟨(y 2).val, (y 2).isLt⟩ ⟨(pOf t).val * 512 + (y 1).val, by omega⟩ rfl

end Cert.Ffn
-- ==== Proof.FfnRef.lean ====
/-
  The reference's result is the layer's formula: its operations, read at an index stage by stage.
-/
module

public import proofs.«01_k».proof.Proof.FfnSpec
public import proofs.«01_k».proof.Proof.Gen.FfnReferenceIdeal.Read

@[expose] public section

set_option maxRecDepth 16384

noncomputable section

namespace Cert.Ffn.Ref

open Idealize.ShloMosaic Cert.FfnReferenceIdeal Cert.FfnReferenceIdeal.Gen Cert.FfnReferenceIdeal.Read

variable (x0 : (⟨S2x8x8192x128, .bf16⟩ : BufTy).Contents (Elt Ideal)) (x1 : (⟨S2x8192x1024, .f32⟩ : BufTy).Contents (Elt Ideal))
  (x2 : (⟨S2x8x1024, .f32⟩ : BufTy).Contents (Elt Ideal)) (x3 : (⟨S1024x1024, .bf16⟩ : BufTy).Contents (Elt Ideal))
  (x4 : (⟨S2x1024x5632, .bf16⟩ : BufTy).Contents (Elt Ideal)) (x5 : (⟨S8x5632, .f32⟩ : BufTy).Contents (Elt Ideal))
  (x6 : (⟨S2x2816x1024, .bf16⟩ : BufTy).Contents (Elt Ideal))

theorem h1_at (b : Fin 2) (t : Fin 8192) (n : Fin 1024) :
    val_main_v28 (F := Ideal) x0 x1 x2 x3 (ix3 b t n) = h1Row x0 x1 x2 x3 b t n := by
  unfold val_main_v28 val_main_v27 val_main_v26 val_main_v25 val_main_v24 val_main_v23 val_main_v22 val_main_v21 val_main_v2
    val_main_v1 val_main_v0
  pointwise []
  rfl

theorem hn_at (b : Fin 2) (t : Fin 8192) (n : Fin 1024) :
    val_main_v46 (F := Ideal) x0 x1 x2 x3 (ix3 b t n) = hnRow x0 x1 x2 x3 b t n := by
  unfold val_main_v46 val_main_v45 val_main_v44 val_main_v43 val_main_v42 val_main_v41 val_main_v40 val_main_v39 val_main_v38
    val_main_v37 val_main_v36 val_main_v35 val_main_v34 val_main_v33 val_main_v32 val_main_v31 val_main_v30 val_main_v29
    val_main_cst val_main_cst_0 val_main_cst_1 val_main_cst_2 val_main_v5 val_main_v4 val_main_v3 val_main_v8 val_main_v7
    val_main_v6 val_main_v11 val_main_v10 val_main_v9
  have e : ∀ k, val_main_v28 (F := Ideal) x0 x1 x2 x3 (ix3 b t k) = h1Row x0 x1 x2 x3 b t k := h1_at x0 x1 x2 x3 b t
  revert e
  generalize val_main_v28 (F := Ideal) x0 x1 x2 x3 = h
  intro e
  pointwise []
  simp only [e]
  rfl

theorem u_at (b : Fin 2) (t : Fin 8192) (j : Fin 5632) :
    val_main_v50 (F := Ideal) x0 x1 x2 x3 x4 (ix3 b t j) = upRow (hnRow x0 x1 x2 x3 b t) (fun k j => x4 (ix3 1 k j)) j := by
  unfold val_main_v50 val_main_v49 val_main_v48 val_main_v47
  have e : ∀ k, val_main_v46 (F := Ideal) x0 x1 x2 x3 (ix3 b t k) = hnRow x0 x1 x2 x3 b t k := hn_at x0 x1 x2 x3 b t
  revert e
  generalize val_main_v46 (F := Ideal) x0 x1 x2 x3 = h
  intro e
  pointwise []
  simp only [e]
  rfl

theorem tap_at (s : ℕ) (b : Fin 2) (j : Fin 5632) (h : (⟨3, ![2, 8192, 5632]⟩ : Shape).Idx → EReal)
    (e : ∀ t, h (ix3 b t j) = upRow (hnRow x0 x1 x2 x3 b t) (fun k j => x4 (ix3 1 k j)) j) :
    (if h' : 2 ≤ s ∧ s - 2 < 8192 then h (ix3 b ⟨s - 2, h'.2⟩ j) else FloatOps.sitofp (F := Ideal) FTy.f32 0#32)
      = uAt x0 x1 x2 x3 x4 b s j := by
  unfold uAt
  split
  · rw [e]
  · show (((0#32 : BitVec 32).toInt : ℝ) : EReal) = 0
    simp

theorem tap0_at (b : Fin 2) (t : Fin 8192) (j : Fin 5632) :
    val_main_v52 (F := Ideal) x0 x1 x2 x3 x4 (ix3 b t j) = uAt x0 x1 x2 x3 x4 b t.val j := by
  unfold val_main_v52 val_main_v51 val_main_call0_v0 val_main_c
  have e := fun t => u_at x0 x1 x2 x3 x4 b t j
  revert e
  generalize val_main_v50 (F := Ideal) x0 x1 x2 x3 x4 = h
  intro e
  pointwise []
  exact tap_at x0 x1 x2 x3 x4 _ b j h e

theorem tap1_at (b : Fin 2) (t : Fin 8192) (j : Fin 5632) :
    val_main_v61 (F := Ideal) x0 x1 x2 x3 x4 (ix3 b t j) = uAt x0 x1 x2 x3 x4 b (1 + t.val) j := by
  unfold val_main_v61 val_main_v51 val_main_call0_v0 val_main_c
  have e := fun t => u_at x0 x1 x2 x3 x4 b t j
  revert e
  generalize val_main_v50 (F := Ideal) x0 x1 x2 x3 x4 = h
  intro e
  pointwise []
  exact tap_at x0 x1 x2 x3 x4 _ b j h e

theorem tap2_at (b : Fin 2) (t : Fin 8192) (j : Fin 5632) :
    val_main_v68 (F := Ideal) x0 x1 x2 x3 x4 (ix3 b t j) = uAt x0 x1 x2 x3 x4 b (2 + t.val) j := by
  unfold val_main_v68 val_main_v51 val_main_call0_v0 val_main_c
  have e := fun t => u_at x0 x1 x2 x3 x4 b t j
  revert e
  generalize val_main_v50 (F := Ideal) x0 x1 x2 x3 x4 = h
  intro e
  pointwise []
  rw [e]
  have ht := t.isLt
  unfold uAt
  rw [dif_pos ⟨by omega, by omega⟩]
  congr 2
  exact Fin.ext (by show t.val = 2 + t.val - 2; omega)

theorem y_at (b : Fin 2) (t : Fin 8192) (j : Fin 5632) :
    val_main_v74 (F := Ideal) x0 x1 x2 x3 x4 x5 (ix3 b t j) = yRow x0 x1 x2 x3 x4 x5 b t j := by
  unfold val_main_v74 val_main_v73 val_main_v72 val_main_v71 val_main_v70 val_main_v69 val_main_v67 val_main_v66 val_main_v65
    val_main_v64 val_main_v63 val_main_v62 val_main_v60 val_main_v59 val_main_v58 val_main_v57 val_main_v56 val_main_v55
    val_main_v54 val_main_v53 val_main_v20 val_main_v19 val_main_v18
  have e0 := tap0_at x0 x1 x2 x3 x4 b t j
  have e1 := tap1_at x0 x1 x2 x3 x4 b t j
  have e2 := tap2_at x0 x1 x2 x3 x4 b t j
  revert e0 e1 e2
  generalize val_main_v52 (F := Ideal) x0 x1 x2 x3 x4 = u0
  generalize val_main_v61 (F := Ideal) x0 x1 x2 x3 x4 = u1
  generalize val_main_v68 (F := Ideal) x0 x1 x2 x3 x4 = u2
  intro e0 e1 e2
  pointwise []
  simp only [e0, e1, e2]
  rfl

theorem act_at (b : Fin 2) (t : Fin 8192) (f : Fin 2816) :
    val_main_v84 (F := Ideal) x0 x1 x2 x3 x4 x5 (ix3 b t f) = actRow (yRow x0 x1 x2 x3 x4 x5 b t) f := by
  unfold val_main_v84 val_main_v83 val_main_v82 val_main_v81 val_main_v80 val_main_v79 val_main_v78 val_main_v77 val_main_v76
    val_main_v75 val_main_cst_3 val_main_cst_4
  have e := y_at x0 x1 x2 x3 x4 x5 b t
  revert e
  generalize val_main_v74 (F := Ideal) x0 x1 x2 x3 x4 x5 = h
  intro e
  pointwise []
  simp only [e]
  rfl

theorem h2_at (b : Fin 2) (t : Fin 8192) (n : Fin 1024) :
    val_main_v91 (F := Ideal) x0 x1 x2 x3 x4 x5 x6 (ix3 b t n)
      = h1Row x0 x1 x2 x3 b t n + x2 (ix3 b 4 n) * ∑ f : Fin 2816, actRow (yRow x0 x1 x2 x3 x4 x5 b t) f * x6 (ix3 1 f n) := by
  unfold val_main_v91 val_main_v90 val_main_v89 val_main_v88 val_main_v87 val_main_v86 val_main_v85 val_main_v14 val_main_v13
    val_main_v12
  have e1 := h1_at x0 x1 x2 x3 b t n
  have e2 := act_at x0 x1 x2 x3 x4 x5 b t
  revert e1 e2
  generalize val_main_v84 (F := Ideal) x0 x1 x2 x3 x4 x5 = h
  generalize val_main_v28 (F := Ideal) x0 x1 x2 x3 = h1
  intro e1 e2
  pointwise []
  simp only [e1, e2]

/-- The reference's result, entry by entry. -/
theorem out_at (b : Fin 2) (t : Fin 8192) (n : Fin 1024) :
    val_main_v103 (F := Ideal) x0 x1 x2 x3 x4 x5 x6 (ix3 b t n) = outAt x0 x1 x2 x3 x4 x5 x6 b t n := by
  unfold val_main_v103 val_main_v102 val_main_v101 val_main_v100 val_main_v99 val_main_v98 val_main_v97 val_main_v96
    val_main_v95 val_main_v94 val_main_v93 val_main_v92 val_main_v17 val_main_v16 val_main_v15 val_main_cst_5 val_main_cst_6
    val_main_cst_7
  have e := h2_at x0 x1 x2 x3 x4 x5 x6 b t
  revert e
  generalize val_main_v91 (F := Ideal) x0 x1 x2 x3 x4 x5 x6 = h
  intro e
  pointwise []
  simp only [e]
  rfl

end Cert.Ffn.Ref
-- ==== Proof.Ffn0Block.lean ====
/-
  What the first layer's call leaves in the output's block at a grid point.

  Its body is the last call's up to the two arrays it ends with, the residual rows and the accumulated down-projection: the
  generated definitions unfold to the same terms. So the facts of the last call's body (`FfnBlock`) are read for it; only
  the ending, which is without the final normalization, is its own.
-/
module

public import proofs.«01_k».proof.Proof.FfnBlock
public import proofs.«01_k».proof.Proof.Gen.Ffn0KernelIdeal.Value

@[expose] public section

set_option maxRecDepth 16384

noncomputable section

namespace Cert.Ffn0

open Idealize.ShloMosaic Cert.FfnKernelIdeal Cert.FfnKernelIdeal.Gen Cert.Ffn

variable (c : Dev nD) (i : grid0.Coords) (arg2 : Memref sig .tc .vmem S1x8x512x128 .bf16) (harg2 : arg2.IsWhole)
  (arg3 : Memref sig .tc .vmem S1x8x16x128 .bf16) (harg3 : arg3.IsWhole) (arg4 : Memref sig .tc .vmem S1x512x1024 .f32)
  (harg4 : arg4.IsWhole) (arg5 : Memref sig .tc .vmem S1x16x1024 .f32) (harg5 : arg5.IsWhole)
  (arg6 : Memref sig .tc .vmem S1x8x1024 .f32) (harg6 : arg6.IsWhole) (arg7 : Memref sig .tc .vmem S1024x1024 .bf16)
  (harg7 : arg7.IsWhole) (arg8 : Memref sig .tc .vmem S1x1024x5632 .bf16) (harg8 : arg8.IsWhole)
  (arg9 : Memref sig .tc .vmem S8x5632 .f32) (harg9 : arg9.IsWhole) (arg10 : Memref sig .tc .vmem S1x2816x1024 .bf16)
  (harg10 : arg10.IsWhole) (arg11 : Memref sig .tc .vmem S1x512x1024 .f32) (harg11 : arg11.IsWhole) (arg12 : Memref sig .tc .vmem S528x1024 .bf16)
  (harg12 : arg12.IsWhole) (arg13 : Memref sig .tc .vmem S512x1024 .f32) (harg13 : arg13.IsWhole)
  (arg14 : Memref sig .tc .vmem S512x1024 .f32) (harg14 : arg14.IsWhole)
  (arg15 : Memref sig .tc .vmem S8x528x128 .f32) (harg15 : arg15.IsWhole)
  (x0 : Vec Ideal S1x8x512x128 .bf16) (x1 : Vec Ideal S1x8x16x128 .bf16) (x2 : Vec Ideal S1x512x1024 .f32)
  (x3 : Vec Ideal S1x16x1024 .f32) (x4 : Vec Ideal S1x8x1024 .f32) (x5 : Vec Ideal S1024x1024 .bf16)
  (x6 : Vec Ideal S1x1024x5632 .bf16) (x7 : Vec Ideal S8x5632 .f32) (x8 : Vec Ideal S1x2816x1024 .bf16)

/-- The body's result row, from the residual row and the down-projection. -/
theorem pay2_at (v6 : FVec Ideal S1x1024 .f32) (v1450 v1451 : Vec Ideal S512x1024 .f32) (r : Fin 512) (n : Fin 1024) :
    Cert.Ffn0KernelIdeal.Gen.k0_pay2 v6 v1450 v1451 (ix3 0 r n) = v1450 (ix2 r n) + v6 (ix2 0 n) * v1451 (ix2 r n) := by
  pointwise [Cert.Ffn0KernelIdeal.Gen.k0_pay2]

/-- The residual rows are the last call's. -/
theorem res_eq : Cert.Ffn0KernelIdeal.Gen.kernelRun0_A.sl.v1450 (F := Ideal) c arg2 harg2 arg3 harg3 arg4 harg4 arg5 harg5 arg6 harg6 arg7 harg7 arg13 x0 x1 x2 x3 x4 x5
    = kernelRun0_A.sl.v1451 (F := Ideal) c arg2 harg2 arg3 harg3 arg4 harg4 arg5 harg5 arg6 harg6 arg7 harg7 arg13 x0 x1 x2 x3 x4 x5 := rfl

/-- … and the accumulated down-projection. -/
theorem acc_eq : Cert.Ffn0KernelIdeal.Gen.kernelRun0_A.sl.v1451 (F := Ideal) c i arg2 harg2 arg3 harg3 arg4 harg4 arg5 harg5 arg6 harg6 arg7 harg7 arg8 harg8 arg9 harg9 arg10 harg10 arg12 arg14 arg15 x0 x1 x2 x3 x4 x5 x6 x7 x8
    = kernelRun0_A.sl.v1452 (F := Ideal) c i arg2 harg2 arg3 harg3 arg4 harg4 arg5 harg5 arg6 harg6 arg7 harg7 arg8 harg8 arg9 harg9 arg10 harg10 arg12 arg14 arg15 x0 x1 x2 x3 x4 x5 x6 x7 x8 := rfl

/-- The block's result. -/
theorem out_at_block (r : Fin 512) (n : Fin 1024) :
    Cert.Ffn0KernelIdeal.Gen.out0_A_9 (F := Ideal) c i arg2 harg2 arg3 harg3 arg4 harg4 arg5 harg5 arg6 harg6 arg7 harg7 arg8 harg8 arg9 harg9 arg10 harg10
      arg11 harg11 arg12 harg12 arg13 harg13 arg14 harg14 arg15 harg15 x0 x1 x2 x3 x4 x5 x6 x7 x8 (ix3 0 r n)
    = h1Blk x0 x1 x2 x3 x4 x5 ⟨16 + r.val, by omega⟩ n + x4 (ix3 0 4 n) *
        ∑ j : Fin 2816, actRow (convV x7 x6 (kernelRun0_A.sl.v89 c i arg2 harg2 arg3 harg3 arg4 harg4 arg5 harg5 arg6 harg6 arg7 harg7 arg12 x0 x1 x2 x3 x4 x5) r) j * x8 (ix3 0 j n) := by
  have e : Cert.Ffn0KernelIdeal.Gen.out0_A_9 (F := Ideal) c i arg2 harg2 arg3 harg3 arg4 harg4 arg5 harg5 arg6 harg6 arg7 harg7 arg8 harg8 arg9 harg9 arg10 harg10
      arg11 harg11 arg12 harg12 arg13 harg13 arg14 harg14 arg15 harg15 x0 x1 x2 x3 x4 x5 x6 x7 x8 (ix3 0 r n)
      = Cert.Ffn0KernelIdeal.Gen.k0_pay2 (kernelRun0_A.sl.v6 (F := Ideal) c arg6 harg6 x4)
        (Cert.Ffn0KernelIdeal.Gen.kernelRun0_A.sl.v1450 c arg2 harg2 arg3 harg3 arg4 harg4 arg5 harg5 arg6 harg6 arg7 harg7 arg13 x0 x1 x2 x3 x4 x5)
        (Cert.Ffn0KernelIdeal.Gen.kernelRun0_A.sl.v1451 c i arg2 harg2 arg3 harg3 arg4 harg4 arg5 harg5 arg6 harg6 arg7 harg7 arg8 harg8 arg9 harg9 arg10 harg10 arg12 arg14 arg15 x0 x1 x2 x3 x4 x5 x6 x7 x8) (ix3 0 r n) := by
    refine View.read_writes_cons_unit_of_mem Cert.Ffn0KernelIdeal.Gen.VO0_9 Cert.Ffn0KernelIdeal.Gen.VO0_9.junk inb_S1x512x1024_S1x512x1024_0_0_0 _ [] (ix3 0 r n) (ix3 0 r n) rfl fun a => ?_
    fin_cases a
    · rfl
    · show r.val = 0 + r.val
      omega
    · show n.val = 0 + n.val
      omega
  rw [e, pay2_at, res_eq, acc_eq, v6_at c arg6 harg6 x4 n,
    v1451_at c arg2 harg2 arg3 harg3 arg4 harg4 arg5 harg5 arg6 harg6 arg7 harg7 arg13 x0 x1 x2 x3 x4 x5 r n,
    acc_all c i arg2 harg2 arg3 harg3 arg4 harg4 arg5 harg5 arg6 harg6 arg7 harg7 arg8 harg8 arg9 harg9 arg10 harg10 arg12 arg14 arg15 x0 x1 x2 x3 x4 x5 x6 x7 x8 r n]

end Cert.Ffn0
-- ==== Proof.Ffn0Spec.lean ====
/-
  The end of the first layer as one formula of the seven arguments, entry by entry: the second layer's (`FfnSpec`) with the
  first of each stack of weights, and without the final normalization.
-/
module

public import proofs.«01_k».proof.Proof.FfnSpec

@[expose] public section

noncomputable section

namespace Cert.Ffn0

open Idealize.ShloMosaic Cert.Ffn

/-- A stack of two matrices with the first in the second's place too. -/
def firstOf {A B : ℕ} (w : (⟨3, ![2, A, B]⟩ : Shape).Idx → EReal) : (⟨3, ![2, A, B]⟩ : Shape).Idx → EReal :=
  fun i => w (ix3 0 (i 1) (i 2))

variable (O : (⟨4, ![2, 8, 8192, 128]⟩ : Shape).Idx → EReal) (H : (⟨3, ![2, 8192, 1024]⟩ : Shape).Idx → EReal)
  (V : (⟨3, ![2, 8, 1024]⟩ : Shape).Idx → EReal) (WO : (⟨2, ![1024, 1024]⟩ : Shape).Idx → EReal)
  (WI : (⟨3, ![2, 1024, 5632]⟩ : Shape).Idx → EReal) (C : (⟨2, ![8, 5632]⟩ : Shape).Idx → EReal)
  (WD : (⟨3, ![2, 2816, 1024]⟩ : Shape).Idx → EReal)

/-- The residual stream after the layer. -/
def outAt (b : Fin 2) (t : Fin 8192) (n : Fin 1024) : EReal :=
  h1Row O H V WO b t n + V (ix3 b 4 n) * ∑ f : Fin 2816, actRow (yRow O H V WO (firstOf WI) C b t) f * WD (ix3 0 f n)

end Cert.Ffn0
-- ==== Proof.Ffn0Array.lean ====
/-
  The array the first layer's call leaves is the layer's result, entry by entry.

  Its grid, its arguments and its blocks are the last call's, except that the up- and down-projections' blocks are the first
  of their stacks. So the positions of the rows (`FfnArray`) are read for it.
-/
module

public import proofs.«01_k».proof.Proof.Ffn0Block
public import proofs.«01_k».proof.Proof.Ffn0Spec
public import proofs.«01_k».proof.Proof.FfnArray

@[expose] public section

set_option maxRecDepth 16384

noncomputable section

namespace Cert.Ffn0

open Idealize.ShloMosaic Cert.FfnKernelIdeal Cert.FfnKernelIdeal.Gen Cert.Ffn

/-- The up- and down-projections' blocks are the first of their stacks, at every grid point. -/
theorem idx6 : ∀ t : Fin cfg0.N, Cert.Ffn0KernelIdeal.win0_6.index t = ![0, 0, 0] :=
  (by decide +kernel : ∀ t : Fin grid0.N, Cert.Ffn0KernelIdeal.win0_6.index t = ![0, 0, 0])
theorem idx8 : ∀ t : Fin cfg0.N, Cert.Ffn0KernelIdeal.win0_8.index t = ![0, 0, 0] :=
  (by decide +kernel : ∀ t : Fin grid0.N, Cert.Ffn0KernelIdeal.win0_8.index t = ![0, 0, 0])

/-- The output's block is the last call's. -/
theorem idx9 : ∀ t : Fin cfg0.N, Cert.Ffn0KernelIdeal.win0_9.index t = ![(bOf t).val, (pOf t).val, 0] :=
  (by decide +kernel : ∀ t : Fin grid0.N, Cert.Ffn0KernelIdeal.win0_9.index t = ![(bOf t).val, (pOf t).val, 0])

variable (m : (ℓ : Loc nD τ sig) → Buf (Elt Ideal) ℓ) (c : Dev nD) (t : Fin cfg0.N)

/-- The two blocks, as vectors. -/
abbrev w6 : Vec Ideal S1x1024x5632 .bf16 := Cert.Ffn0KernelIdeal.Gen.iblk (F := Ideal) m c 6 t
abbrev w8 : Vec Ideal S1x2816x1024 .bf16 := Cert.Ffn0KernelIdeal.Gen.iblk (F := Ideal) m c 8 t

theorem w6_at (k : Fin 1024) (j : Fin 5632) : w6 m c t (ix3 0 k j) = argWI m c (ix3 0 k j) := by
  blk_simp [Cert.Ffn0KernelIdeal.Gen.iblk]
  blk_ext [idx6 t]

theorem w8_at (f : Fin 2816) (n : Fin 1024) : w8 m c t (ix3 0 f n) = argWD m c (ix3 0 f n) := by
  blk_simp [Cert.Ffn0KernelIdeal.Gen.iblk]
  blk_ext [idx8 t]

/-- What point `t` leaves in the output's block. -/
theorem outs_at (r : Fin 512) (n : Fin 1024) (s : Fin 8192) (hs : s.val = (pOf t).val * 512 + r.val) :
    Cert.Ffn0KernelIdeal.Gen.outsAt0 (F := Ideal) m c t (ix3 0 r n)
      = outAt (argO m c) (argH m c) (argV m c) (argWO m c) (argWI m c) (argC m c) (argWD m c) (bOf t) s n := by
  refine (out_at_block c (grid0.coords t) (Cert.Ffn0KernelIdeal.Gen.ms0_0 t) (Cert.Ffn0KernelIdeal.Gen.hs0_0 t) (Cert.Ffn0KernelIdeal.Gen.ms0_1 t) (Cert.Ffn0KernelIdeal.Gen.hs0_1 t) (Cert.Ffn0KernelIdeal.Gen.ms0_2 t) (Cert.Ffn0KernelIdeal.Gen.hs0_2 t) (Cert.Ffn0KernelIdeal.Gen.ms0_3 t) (Cert.Ffn0KernelIdeal.Gen.hs0_3 t) (Cert.Ffn0KernelIdeal.Gen.ms0_4 t) (Cert.Ffn0KernelIdeal.Gen.hs0_4 t) (Cert.Ffn0KernelIdeal.Gen.ms0_5 t) (Cert.Ffn0KernelIdeal.Gen.hs0_5 t) (Cert.Ffn0KernelIdeal.Gen.ms0_6 t) (Cert.Ffn0KernelIdeal.Gen.hs0_6 t) (Cert.Ffn0KernelIdeal.Gen.ms0_7 t) (Cert.Ffn0KernelIdeal.Gen.hs0_7 t) (Cert.Ffn0KernelIdeal.Gen.ms0_8 t) (Cert.Ffn0KernelIdeal.Gen.hs0_8 t) (Cert.Ffn0KernelIdeal.Gen.ms0_9 t) (Cert.Ffn0KernelIdeal.Gen.hs0_9 t) Cert.Ffn0KernelIdeal.Gen.scM0_0 (Memref.isWhole_whole _) Cert.Ffn0KernelIdeal.Gen.scM0_1 (Memref.isWhole_whole _) Cert.Ffn0KernelIdeal.Gen.scM0_2 (Memref.isWhole_whole _) Cert.Ffn0KernelIdeal.Gen.scM0_3 (Memref.isWhole_whole _) (b0 m c t) (b1 m c t) (b2 m c t) (b3 m c t) (b4 m c t) (b5 m c t) (w6 m c t) (b7 m c t) (w8 m c t) r n).trans ?_
  unfold outAt
  rw [h1Blk_at m c t ⟨16 + r.val, by omega⟩ s (by show _ = _ + (16 + r.val); omega)]
  have e := convV_at m c t (w6 m c t) (firstOf (argWI m c)) (w6_at m c t) r s hs
  unfold hnT at e
  refine congrArg₂ (· + ·) rfl (congrArg₂ (· * ·) (b4_at m c t 4 n) (Finset.sum_congr rfl fun f _ => ?_))
  exact congrArg₂ (· * ·) (congrArg (fun y => actRow y f) e) (w8_at m c t f n)

/-- The layer's result, as an array of its arguments. -/
def outArr (O : Vec Ideal S2x8x8192x128 .bf16) (H : Vec Ideal S2x8192x1024 .f32) (W : Vec Ideal S2x8x1024 .f32)
    (WO : Vec Ideal S1024x1024 .bf16) (WI : Vec Ideal S2x1024x5632 .bf16) (C : Vec Ideal S8x5632 .f32)
    (WD : Vec Ideal S2x2816x1024 .bf16) : Vec Ideal S2x8192x1024 .f32 :=
  fun i => outAt O H W WO WI C WD (i 0) (i 1) (i 2)

/-- The array after the last grid point. -/
theorem final : (Cert.Ffn0KernelIdeal.Gen.dats (F := Ideal) m 0 c).arrAt 9 Cert.Ffn0KernelIdeal.cfg0.N
    = outArr (argO m c) (argH m c) (argV m c) (argWO m c) (argWI m c) (argC m c) (argWD m c) := by
  refine (Cert.Ffn0KernelIdeal.Gen.dats (F := Ideal) m 0 c).arrAt_eq_of_covers 9 _ (by decide +kernel) fun t hf y => ?_
  blk_simp
  rw [Cert.Ffn0KernelIdeal.Gen.after0_9]
  have hp := (pOf t).isLt
  have h1 : (y 1).val < 512 := (y 1).isLt
  have ey : y = ix3 0 ⟨(y 1).val, h1⟩ ⟨(y 2).val, (y 2).isLt⟩ := by
    refine funext fun a => Fin.ext ?_
    fin_cases a
    · exact Nat.lt_one_iff.1 (y 0).isLt
    · rfl
    · rfl
  have es : (Cert.Ffn0KernelIdeal.win0_9.blk t).view.emb y
      = ix3 (bOf t) ⟨(pOf t).val * 512 + (y 1).val, by omega⟩ ⟨(y 2).val, (y 2).isLt⟩ := by
    blk_ext [idx9 t]
  refine (congrArg (Cert.Ffn0KernelIdeal.Gen.outsAt0 m c t) ey).trans (Eq.trans ?_ (congrArg
    (outArr (argO m c) (argH m c) (argV m c) (argWO m c) (argWI m c) (argC m c) (argWD m c)) es).symm)
  exact outs_at m c t ⟨(y 1).val, h1⟩ ⟨(y 2).val, (y 2).isLt⟩ ⟨(pOf t).val * 512 + (y 1).val, by omega⟩ rfl

end Cert.Ffn0
-- ==== Proof.Ffn0Ref.lean ====
/-
  The first layer's reference is the formula. Its operations are those of the second layer's reference up to the second
  residual, except that each stack of weights is read at its first matrix; so it is that reference's second residual of the
  stacks with the first matrix in the second's place.
-/
module

public import proofs.«01_k».proof.Proof.Ffn0Spec
public import proofs.«01_k».proof.Proof.FfnRef
public import proofs.«01_k».proof.Proof.Gen.Ffn0ReferenceIdeal.Read

@[expose] public section

set_option maxRecDepth 16384

noncomputable section

namespace Cert.Ffn0.Ref

open Idealize.ShloMosaic Cert.FfnReferenceIdeal Cert.FfnReferenceIdeal.Gen Cert.Ffn

variable (x0 : (⟨S2x8x8192x128, .bf16⟩ : BufTy).Contents (Elt Ideal)) (x1 : (⟨S2x8192x1024, .f32⟩ : BufTy).Contents (Elt Ideal))
  (x2 : (⟨S2x8x1024, .f32⟩ : BufTy).Contents (Elt Ideal)) (x3 : (⟨S1024x1024, .bf16⟩ : BufTy).Contents (Elt Ideal))
  (x4 : (⟨S2x1024x5632, .bf16⟩ : BufTy).Contents (Elt Ideal)) (x5 : (⟨S8x5632, .f32⟩ : BufTy).Contents (Elt Ideal))
  (x6 : (⟨S2x2816x1024, .bf16⟩ : BufTy).Contents (Elt Ideal))

/-- The first up-projection is the second of the stack that has the first in its place. -/
theorem up_eq : Cert.Ffn0ReferenceIdeal.Read.val_main_v44 (F := Ideal) x4 = Read.val_main_v47 (F := Ideal) (firstOf x4) := by
  funext i
  refine (Cert.Ffn0ReferenceIdeal.Read.val_main_v44_apply x4 i).trans (Eq.trans ?_ (Read.val_main_v47_apply _ i).symm)
  refine congrArg x4 (funext fun a => Fin.ext ?_)
  fin_cases a
  · exact Nat.lt_one_iff.1 (i 0).isLt
  · rfl
  · rfl

/-- … and the down-projection. -/
theorem down_eq : Cert.Ffn0ReferenceIdeal.Read.val_main_v82 (F := Ideal) x6 = Read.val_main_v85 (F := Ideal) (firstOf x6) := by
  funext i
  refine (Cert.Ffn0ReferenceIdeal.Read.val_main_v82_apply x6 i).trans (Eq.trans ?_ (Read.val_main_v85_apply _ i).symm)
  refine congrArg x6 (funext fun a => Fin.ext ?_)
  fin_cases a
  · exact Nat.lt_one_iff.1 (i 0).isLt
  · rfl
  · rfl

/-- The normalized rows are the second layer's operations. -/
theorem hn_eq : Cert.Ffn0ReferenceIdeal.Read.val_main_v43 (F := Ideal) x0 x1 x2 x3 = Read.val_main_v46 (F := Ideal) x0 x1 x2 x3 := rfl

/-- … and the first residual. -/
theorem h1_eq : Cert.Ffn0ReferenceIdeal.Read.val_main_v25 (F := Ideal) x0 x1 x2 x3 = Read.val_main_v28 (F := Ideal) x0 x1 x2 x3 := rfl

/-- The up-projected rows. -/
theorem u_eq : Cert.Ffn0ReferenceIdeal.Read.val_main_v47 (F := Ideal) x0 x1 x2 x3 x4
    = Read.val_main_v50 (F := Ideal) x0 x1 x2 x3 (firstOf x4) := by
  unfold Cert.Ffn0ReferenceIdeal.Read.val_main_v47 Cert.Ffn0ReferenceIdeal.Read.val_main_v46
    Cert.Ffn0ReferenceIdeal.Read.val_main_v45 Read.val_main_v50 Read.val_main_v49 Read.val_main_v48
  rw [up_eq, hn_eq]
  rfl

/-- The up-projected rows with the two zero rows before them. -/
theorem padded_eq : Cert.Ffn0ReferenceIdeal.Read.val_main_v48 (F := Ideal) x0 x1 x2 x3 x4
    = Read.val_main_v51 (F := Ideal) x0 x1 x2 x3 (firstOf x4) := by
  unfold Cert.Ffn0ReferenceIdeal.Read.val_main_v48
  rw [u_eq]
  rfl

/-- The convolved rows. -/
theorem y_eq : Cert.Ffn0ReferenceIdeal.Read.val_main_v71 (F := Ideal) x0 x1 x2 x3 x4 x5
    = Read.val_main_v74 (F := Ideal) x0 x1 x2 x3 (firstOf x4) x5 := by
  unfold Cert.Ffn0ReferenceIdeal.Read.val_main_v71 Cert.Ffn0ReferenceIdeal.Read.val_main_v70
    Cert.Ffn0ReferenceIdeal.Read.val_main_v65 Cert.Ffn0ReferenceIdeal.Read.val_main_v64
    Cert.Ffn0ReferenceIdeal.Read.val_main_v63 Cert.Ffn0ReferenceIdeal.Read.val_main_v58
    Cert.Ffn0ReferenceIdeal.Read.val_main_v57 Cert.Ffn0ReferenceIdeal.Read.val_main_v54
    Cert.Ffn0ReferenceIdeal.Read.val_main_v49
  rw [padded_eq]
  rfl

/-- The gated rows. -/
theorem act_eq : Cert.Ffn0ReferenceIdeal.Read.val_main_v81 (F := Ideal) x0 x1 x2 x3 x4 x5
    = Read.val_main_v84 (F := Ideal) x0 x1 x2 x3 (firstOf x4) x5 := by
  unfold Cert.Ffn0ReferenceIdeal.Read.val_main_v81 Cert.Ffn0ReferenceIdeal.Read.val_main_v80
    Cert.Ffn0ReferenceIdeal.Read.val_main_v79 Cert.Ffn0ReferenceIdeal.Read.val_main_v77
    Cert.Ffn0ReferenceIdeal.Read.val_main_v75 Cert.Ffn0ReferenceIdeal.Read.val_main_v74
    Cert.Ffn0ReferenceIdeal.Read.val_main_v73 Cert.Ffn0ReferenceIdeal.Read.val_main_v72
  rw [y_eq]
  rfl

/-- The second residual. -/
theorem h2_eq : Cert.Ffn0ReferenceIdeal.Read.val_main_v88 (F := Ideal) x0 x1 x2 x3 x4 x5 x6
    = Read.val_main_v91 (F := Ideal) x0 x1 x2 x3 (firstOf x4) x5 (firstOf x6) := by
  unfold Cert.Ffn0ReferenceIdeal.Read.val_main_v88 Cert.Ffn0ReferenceIdeal.Read.val_main_v87
    Cert.Ffn0ReferenceIdeal.Read.val_main_v85 Cert.Ffn0ReferenceIdeal.Read.val_main_v84
    Cert.Ffn0ReferenceIdeal.Read.val_main_v83
  rw [h1_eq, act_eq, down_eq]
  rfl

/-- The reference's result is the formula. -/
theorem out_at (b : Fin 2) (t : Fin 8192) (n : Fin 1024) :
    Cert.Ffn0ReferenceIdeal.Read.val_main_v88 (F := Ideal) x0 x1 x2 x3 x4 x5 x6 (ix3 b t n) = outAt x0 x1 x2 x3 x4 x5 x6 b t n := by
  rw [h2_eq]
  exact Cert.Ffn.Ref.h2_at x0 x1 x2 x3 (firstOf x4) x5 (firstOf x6) b t n

end Cert.Ffn0.Ref
-- ==== Proof.QkvSpec.lean ====
/-
  The first layer's queries, keys and values as formulas of the call's arguments, entry by entry: a row of the input is
  normalized and modulated, and a column of the weights is its product. Columns 0 to 1023 are the queries', then the keys',
  then the values'; a pair of heads has 128 of them.
-/
module

public import proofs.«01_k».proof.Proof.FfnMath

@[expose] public section

noncomputable section

namespace Cert.Qkv

open Idealize.ShloMosaic Cert.Ffn

/-- The column of channel `d` of the pair `p` in the part that begins at column `base`. -/
def col (base : ℕ) (hb : base ≤ 2048) (p : Fin 8) (d : Fin 128) : Fin 3072 :=
  ⟨base + (p.val * 128 + d.val), by have := p.isLt; have := d.isLt; omega⟩

variable (X : (⟨3, ![2, 8192, 1024]⟩ : Shape).Idx → EReal) (V : (⟨3, ![2, 8, 1024]⟩ : Shape).Idx → EReal)
  (W : (⟨2, ![1024, 3072]⟩ : Shape).Idx → EReal)

/-- The product of the normalized and modulated row `t` of batch `b` with a column of the weights. -/
def projAt (b : Fin 2) (t : Fin 8192) (j : Fin 3072) : EReal :=
  ∑ k : Fin 1024, modRow (fun n => X (ix3 b t n)) (fun n => V (ix3 b 0 n)) (fun n => V (ix3 b 2 n)) (fun n => V (ix3 b 1 n)) k
    * W (ix2 k j)

/-- The queries, with the scores' scale. -/
def qAt (b : Fin 2) (p : Fin 8) (d : Fin 128) (t : Fin 8192) : EReal :=
  projAt X V W b t (col 0 (by decide) p d) * Ideal.ofBits FTy.f32 0x3E38AA3B#32

/-- The keys. -/
def kAt (b : Fin 2) (p : Fin 8) (t : Fin 8192) (d : Fin 128) : EReal := projAt X V W b t (col 1024 (by decide) p d)

/-- The values. -/
def vAt (b : Fin 2) (p : Fin 8) (d : Fin 128) (t : Fin 8192) : EReal := projAt X V W b t (col 2048 (by decide) p d)

end Cert.Qkv
-- ==== Proof.QkvBlock.lean ====
/-
  The pieces the first layer's projections store at a grid point, entry by entry.

  The body normalizes its 1024 rows once and then goes through the pairs of heads two at a time: one product with 256 columns
  of the weights for the queries, one for the keys and one for the values, each cut into its two pairs. So one lemma reads
  each kind of stored piece, and one (`pairs`) puts two of them on top of the pieces before.
-/
module

public import proofs.«01_k».proof.Proof.FfnRows
public import proofs.«01_k».proof.Proof.QkvSpec
public import proofs.«01_k».proof.Proof.Gen.QkvKernelIdeal.Value
public import Idealize.ShloMosaic.Lib.WholeRead
public import Idealize.ShloMosaic.Lib.WritesUnit

@[expose] public section

set_option maxRecDepth 16384

noncomputable section

namespace Cert.Qkv

open Idealize.ShloMosaic Cert.QkvKernelIdeal Cert.QkvKernelIdeal.Gen Cert.Ffn

/-- The product of a row of the block with a column of the weights. -/
def dotAt (h : Vec Ideal S1024x1024 .bf16) (x2 : Vec Ideal S1024x3072 .bf16) (r : Fin 1024) (j : Fin 3072) : EReal :=
  ∑ k : Fin 1024, h (ix2 r k) * x2 (ix2 k j)

/-- A load of 256 columns of the weights. -/
theorem w_at {arg4 : Memref sig .tc .vmem S1024x3072 .bf16} (harg4 : arg4.IsWhole) (x2 : Vec Ideal S1024x3072 .bf16) (col : ℕ)
    (inb : ∀ a, (![0, col] : Fin 2 → ℕ) a + S1024x256.size a ≤ S1024x3072.size a) (k : Fin 1024) (q : Fin 256) (j : Fin 3072)
    (hj : j.val = col + q.val) :
    View.readAt (Elt Ideal) arg4.view (Rect.unit (s := S1024x3072) ![0, col] S1024x256.size inb).toLoadRect (harg4.unread x2) (ix2 k q)
      = x2 (ix2 k j) := by
  rw [Memref.IsWhole.readAt_unread]
  refine congrArg x2 (funext fun a => Fin.ext ?_)
  fin_cases a
  · show 0 + 1 * k.val = k.val
    omega
  · show col + 1 * q.val = j.val
    omega

section

variable (h : Vec Ideal S1024x1024 .bf16) (w : Vec Ideal S1024x256 .bf16) (x2 : Vec Ideal S1024x3072 .bf16) (c : ℕ)
  (hw : ∀ (k : Fin 1024) (q : Fin 256) (j : Fin 3072), j.val = c + q.val → w (ix2 k q) = x2 (ix2 k j))
  (r : Fin 1024) (d : Fin 128) (j : Fin 3072)

include hw

/-- The queries of the first of two pairs. -/
theorem qLo_at (hj : j.val = c + d.val) :
    k0_pay10 (k0_pay7 h w) (ix4 0 0 d r) = dotAt h x2 r j * Ideal.ofBits FTy.f32 0x3E38AA3B#32 := by
  unfold dotAt
  pointwise [k0_pay10, k0_pay7]
  refine congrArg (· * _) (Finset.sum_congr rfl fun n _ => ?_)
  rw [hw n _ j hj]

/-- … of the second. -/
theorem qHi_at (hj : j.val = c + 128 + d.val) :
    k0_pay13 (k0_pay7 h w) (ix4 0 0 d r) = dotAt h x2 r j * Ideal.ofBits FTy.f32 0x3E38AA3B#32 := by
  unfold dotAt
  pointwise [k0_pay13, k0_pay7]
  refine congrArg (· * _) (Finset.sum_congr rfl fun n _ => ?_)
  rw [hw n _ j (by rw [hj, Nat.add_assoc])]

/-- The keys of the first of two pairs. -/
theorem kLo_at (hj : j.val = c + d.val) : k0_pay11 h w (ix4 0 0 r d) = dotAt h x2 r j := by
  unfold dotAt
  pointwise [k0_pay11, k0_pay8]
  refine Finset.sum_congr rfl fun n _ => ?_
  rw [hw n _ j hj]

/-- … of the second. -/
theorem kHi_at (hj : j.val = c + 128 + d.val) : k0_pay15 (k0_pay14 h w) (ix4 0 0 r d) = dotAt h x2 r j := by
  unfold dotAt
  pointwise [k0_pay15, k0_pay14, k0_pay8]
  refine Finset.sum_congr rfl fun n _ => ?_
  rw [hw n _ j (by rw [hj, Nat.add_assoc])]

/-- The values of the first of two pairs. -/
theorem vLo_at (hj : j.val = c + d.val) : k0_pay12 h w (ix4 0 0 d r) = dotAt h x2 r j := by
  unfold dotAt
  pointwise [k0_pay12, k0_pay9]
  refine Finset.sum_congr rfl fun n _ => ?_
  rw [hw n _ j hj]

/-- … of the second. -/
theorem vHi_at (hj : j.val = c + 128 + d.val) : k0_pay16 (k0_pay9 h w) (ix4 0 0 d r) = dotAt h x2 r j := by
  unfold dotAt
  pointwise [k0_pay16, k0_pay9]
  refine Finset.sum_congr rfl fun n _ => ?_
  rw [hw n _ j (by rw [hj, Nat.add_assoc])]

end

/-- Two more pairs on top of the pieces before: if the first `n` pairs read as `f` says, and the two pieces are `f` at `n` and
    `n + 1`, then the first `n + 2` do. -/
theorem pairs {A B : ℕ} {e : EltTy} {sig : RefSig} {κ : Kind} {sp : Space} (v : View sig κ sp (⟨4, ![1, 8, A, B]⟩ : Shape) e)
    (g : v.ty.Contents (Elt Ideal)) (n : ℕ) (f : Fin 8 → Fin A → Fin B → Elt Ideal e)
    (inb : ∀ a, (![0, n, 0, 0] : Fin 4 → ℕ) a + (![1, 1, A, B] : Fin 4 → ℕ) a ≤ (⟨4, ![1, 8, A, B]⟩ : Shape).size a)
    (inb' : ∀ a, (![0, n + 1, 0, 0] : Fin 4 → ℕ) a + (![1, 1, A, B] : Fin 4 → ℕ) a ≤ (⟨4, ![1, 8, A, B]⟩ : Shape).size a)
    (lo hi : (⟨4, ![1, 1, A, B]⟩ : Shape).Idx → Elt Ideal e) (L : List (View.Piece (Elt Ideal) (⟨4, ![1, 8, A, B]⟩ : Shape) e))
    (hlo : ∀ (p : Fin 8) (x : Fin A) (y : Fin B), p.val = n → lo (ix4 0 0 x y) = f p x y)
    (hhi : ∀ (p : Fin 8) (x : Fin A) (y : Fin B), p.val = n + 1 → hi (ix4 0 0 x y) = f p x y)
    (hL : ∀ (p : Fin 8) (x : Fin A) (y : Fin B), p.val < n → v.read (Elt Ideal) (v.writes (Elt Ideal) g L) (ix4 0 p x y) = f p x y)
    (p : Fin 8) (x : Fin A) (y : Fin B) (hp : p.val < n + 2) :
    v.read (Elt Ideal) (v.writes (Elt Ideal) g (⟨Rect.unit ![0, n + 1, 0, 0] ![1, 1, A, B] inb', hi⟩
      :: ⟨Rect.unit ![0, n, 0, 0] ![1, 1, A, B] inb, lo⟩ :: L)) (ix4 0 p x y) = f p x y := by
  by_cases h1 : p.val = n + 1
  · refine (View.read_writes_cons_unit_of_mem v g inb' hi _ _ (ix4 0 0 x y) rfl fun a => ?_).trans (hhi p x y h1)
    fin_cases a
    · rfl
    · show p.val = n + 1 + 0
      omega
    · show x.val = 0 + x.val
      omega
    · show y.val = 0 + y.val
      omega
  refine (View.read_writes_cons_unit_of_not_mem v g inb' hi _ _ rfl 1 (by show p.val < n + 1 ∨ n + 1 + 1 ≤ p.val; omega)).trans ?_
  by_cases h0 : p.val = n
  · refine (View.read_writes_cons_unit_of_mem v g inb lo _ _ (ix4 0 0 x y) rfl fun a => ?_).trans (hlo p x y h0)
    fin_cases a
    · rfl
    · show p.val = n + 0
      omega
    · show x.val = 0 + x.val
      omega
    · show y.val = 0 + y.val
      omega
  refine (View.read_writes_cons_unit_of_not_mem v g inb lo _ _ rfl 1 (by show p.val < n ∨ n + 1 ≤ p.val; omega)).trans ?_
  exact hL p x y (by omega)

end Cert.Qkv
-- ==== Proof.QkvOut.lean ====
/-
  What the first layer's projections leave in the three output blocks at a grid point: the pieces (`QkvBlock`) put together,
  and the rows the body normalizes.
-/
module

public import proofs.«01_k».proof.Proof.QkvBlock

@[expose] public section

set_option maxRecDepth 16384

noncomputable section

namespace Cert.Qkv

open Idealize.ShloMosaic Cert.QkvKernelIdeal Cert.QkvKernelIdeal.Gen Cert.Ffn

/-- The normalized and modulated rows of a block. -/
theorem pay6_at (v0 : Vec Ideal S1x8x1024 .f32) (v2 : Vec Ideal S1x1024x1024 .f32) (r n : Fin 1024) :
    k0_pay6 v0 v2 (ix2 r n)
      = modRow (fun n => v2 (ix3 0 r n)) (fun n => v0 (ix3 0 0 n)) (fun n => v0 (ix3 0 2 n)) (fun n => v0 (ix3 0 1 n)) n := by
  pointwise [k0_pay6]
  rfl

section

variable (h : Vec Ideal S1024x1024 .bf16) (x2 : Vec Ideal S1024x3072 .bf16)

/-- Two more pairs of the queries. -/
theorem qStep (n : ℕ)
    (inb : ∀ a, (![0, n, 0, 0] : Fin 4 → ℕ) a + (![1, 1, 128, 1024] : Fin 4 → ℕ) a ≤ (⟨4, ![1, 8, 128, 1024]⟩ : Shape).size a)
    (inb' : ∀ a, (![0, n + 1, 0, 0] : Fin 4 → ℕ) a + (![1, 1, 128, 1024] : Fin 4 → ℕ) a ≤ (⟨4, ![1, 8, 128, 1024]⟩ : Shape).size a)
    (w : Vec Ideal S1024x256 .bf16)
    (hw : ∀ (k : Fin 1024) (q : Fin 256) (j : Fin 3072), j.val = 0 + n * 128 + q.val → w (ix2 k q) = x2 (ix2 k j))
    (L : List (View.Piece (Elt Ideal) (⟨4, ![1, 8, 128, 1024]⟩ : Shape) .bf16))
    (hL : ∀ (p : Fin 8) (d : Fin 128) (r : Fin 1024), p.val < n →
      VO0_3.read (Elt Ideal) (VO0_3.writes (Elt Ideal) VO0_3.junk L) (ix4 0 p d r) = dotAt h x2 r (col 0 (by decide) p d) * Ideal.ofBits FTy.f32 0x3E38AA3B#32)
    (p : Fin 8) (d : Fin 128) (r : Fin 1024) (hp : p.val < n + 2) :
    VO0_3.read (Elt Ideal) (VO0_3.writes (Elt Ideal) VO0_3.junk
      (⟨Rect.unit ![0, n + 1, 0, 0] ![1, 1, 128, 1024] inb', k0_pay13 (k0_pay7 h w)⟩
        :: ⟨Rect.unit ![0, n, 0, 0] ![1, 1, 128, 1024] inb, k0_pay10 (k0_pay7 h w)⟩ :: L)) (ix4 0 p d r) = dotAt h x2 r (col 0 (by decide) p d) * Ideal.ofBits FTy.f32 0x3E38AA3B#32 :=
  pairs VO0_3 VO0_3.junk n (fun p d r => dotAt h x2 r (col 0 (by decide) p d) * Ideal.ofBits FTy.f32 0x3E38AA3B#32) inb inb' _ _ L
    (fun p d r h0 => qLo_at h w x2 (0 + n * 128) hw r d (col 0 (by decide) p d)
      (by show 0 + (p.val * 128 + d.val) = _; rw [h0]; omega))
    (fun p d r h1 => qHi_at h w x2 (0 + n * 128) hw r d (col 0 (by decide) p d)
      (by show 0 + (p.val * 128 + d.val) = _; rw [h1]; omega)) hL p d r hp

/-- Two more pairs of the keys. -/
theorem kStep (n : ℕ)
    (inb : ∀ a, (![0, n, 0, 0] : Fin 4 → ℕ) a + (![1, 1, 1024, 128] : Fin 4 → ℕ) a ≤ (⟨4, ![1, 8, 1024, 128]⟩ : Shape).size a)
    (inb' : ∀ a, (![0, n + 1, 0, 0] : Fin 4 → ℕ) a + (![1, 1, 1024, 128] : Fin 4 → ℕ) a ≤ (⟨4, ![1, 8, 1024, 128]⟩ : Shape).size a)
    (w : Vec Ideal S1024x256 .bf16)
    (hw : ∀ (k : Fin 1024) (q : Fin 256) (j : Fin 3072), j.val = 1024 + n * 128 + q.val → w (ix2 k q) = x2 (ix2 k j))
    (L : List (View.Piece (Elt Ideal) (⟨4, ![1, 8, 1024, 128]⟩ : Shape) .bf16))
    (hL : ∀ (p : Fin 8) (r : Fin 1024) (d : Fin 128), p.val < n →
      VO0_4.read (Elt Ideal) (VO0_4.writes (Elt Ideal) VO0_4.junk L) (ix4 0 p r d) = dotAt h x2 r (col 1024 (by decide) p d))
    (p : Fin 8) (r : Fin 1024) (d : Fin 128) (hp : p.val < n + 2) :
    VO0_4.read (Elt Ideal) (VO0_4.writes (Elt Ideal) VO0_4.junk
      (⟨Rect.unit ![0, n + 1, 0, 0] ![1, 1, 1024, 128] inb', k0_pay15 (k0_pay14 h w)⟩
        :: ⟨Rect.unit ![0, n, 0, 0] ![1, 1, 1024, 128] inb, k0_pay11 h w⟩ :: L)) (ix4 0 p r d) = dotAt h x2 r (col 1024 (by decide) p d) :=
  pairs VO0_4 VO0_4.junk n (fun p r d => dotAt h x2 r (col 1024 (by decide) p d)) inb inb' _ _ L
    (fun p r d h0 => kLo_at h w x2 (1024 + n * 128) hw r d (col 1024 (by decide) p d)
      (by show 1024 + (p.val * 128 + d.val) = _; rw [h0]; omega))
    (fun p r d h1 => kHi_at h w x2 (1024 + n * 128) hw r d (col 1024 (by decide) p d)
      (by show 1024 + (p.val * 128 + d.val) = _; rw [h1]; omega)) hL p r d hp

/-- Two more pairs of the values. -/
theorem vStep (n : ℕ)
    (inb : ∀ a, (![0, n, 0, 0] : Fin 4 → ℕ) a + (![1, 1, 128, 1024] : Fin 4 → ℕ) a ≤ (⟨4, ![1, 8, 128, 1024]⟩ : Shape).size a)
    (inb' : ∀ a, (![0, n + 1, 0, 0] : Fin 4 → ℕ) a + (![1, 1, 128, 1024] : Fin 4 → ℕ) a ≤ (⟨4, ![1, 8, 128, 1024]⟩ : Shape).size a)
    (w : Vec Ideal S1024x256 .bf16)
    (hw : ∀ (k : Fin 1024) (q : Fin 256) (j : Fin 3072), j.val = 2048 + n * 128 + q.val → w (ix2 k q) = x2 (ix2 k j))
    (L : List (View.Piece (Elt Ideal) (⟨4, ![1, 8, 128, 1024]⟩ : Shape) .bf16))
    (hL : ∀ (p : Fin 8) (d : Fin 128) (r : Fin 1024), p.val < n →
      VO0_5.read (Elt Ideal) (VO0_5.writes (Elt Ideal) VO0_5.junk L) (ix4 0 p d r) = dotAt h x2 r (col 2048 (by decide) p d))
    (p : Fin 8) (d : Fin 128) (r : Fin 1024) (hp : p.val < n + 2) :
    VO0_5.read (Elt Ideal) (VO0_5.writes (Elt Ideal) VO0_5.junk
      (⟨Rect.unit ![0, n + 1, 0, 0] ![1, 1, 128, 1024] inb', k0_pay16 (k0_pay9 h w)⟩
        :: ⟨Rect.unit ![0, n, 0, 0] ![1, 1, 128, 1024] inb, k0_pay12 h w⟩ :: L)) (ix4 0 p d r) = dotAt h x2 r (col 2048 (by decide) p d) :=
  pairs VO0_5 VO0_5.junk n (fun p d r => dotAt h x2 r (col 2048 (by decide) p d)) inb inb' _ _ L
    (fun p d r h0 => vLo_at h w x2 (2048 + n * 128) hw r d (col 2048 (by decide) p d)
      (by show 2048 + (p.val * 128 + d.val) = _; rw [h0]; omega))
    (fun p d r h1 => vHi_at h w x2 (2048 + n * 128) hw r d (col 2048 (by decide) p d)
      (by show 2048 + (p.val * 128 + d.val) = _; rw [h1]; omega)) hL p d r hp

end

variable (c : Dev nD) (i : grid0.Coords) (arg2 : Memref sig .tc .vmem S1x1024x1024 .f32) (harg2 : arg2.IsWhole)
  (arg3 : Memref sig .tc .vmem S1x8x1024 .f32) (harg3 : arg3.IsWhole) (arg4 : Memref sig .tc .vmem S1024x3072 .bf16)
  (harg4 : arg4.IsWhole) (arg5 : Memref sig .tc .vmem S1x8x128x1024 .bf16) (harg5 : arg5.IsWhole)
  (arg6 : Memref sig .tc .vmem S1x8x1024x128 .bf16) (harg6 : arg6.IsWhole) (arg7 : Memref sig .tc .vmem S1x8x128x1024 .bf16)
  (harg7 : arg7.IsWhole) (arg8 : Memref sig .tc .vmem S1024x1024 .bf16) (harg8 : arg8.IsWhole)
  (x0 : Vec Ideal S1x1024x1024 .f32) (x1 : Vec Ideal S1x8x1024 .f32) (x2 : Vec Ideal S1024x3072 .bf16)

/-- The rows the body reads back. -/
abbrev hB : Vec Ideal S1024x1024 .bf16 := kernelRun0_A.sl.v29 (F := Ideal) c arg2 harg2 arg3 harg3 arg8 x0 x1

/-- They are the normalized rows of the block. -/
theorem hB_at (r n : Fin 1024) : hB c arg2 harg2 arg3 harg3 arg8 x0 x1 (ix2 r n)
    = modRow (fun n => x0 (ix3 0 r n)) (fun n => x1 (ix3 0 0 n)) (fun n => x1 (ix3 0 2 n)) (fun n => x1 (ix3 0 1 n)) n := by
  have e1 : View.readAt (Elt Ideal) arg3.view (Rect.unit (s := S1x8x1024) ![0, 0, 0] S1x8x1024.size inb_S1x8x1024_S1x8x1024_0_0_0).toLoadRect (harg3.unread x1) = x1 := by
    funext y
    rw [Memref.IsWhole.readAt_unread]
    refine congrArg x1 (funext fun a => Fin.ext ?_)
    fin_cases a <;> show 0 + 1 * _ = _ <;> omega
  have e0 : View.readAt (Elt Ideal) arg2.view (Rect.unit (s := S1x1024x1024) ![0, 0, 0] S1x1024x1024.size inb_S1x1024x1024_S1x1024x1024_0_0_0).toLoadRect (harg2.unread x0) = x0 := by
    funext y
    rw [Memref.IsWhole.readAt_unread]
    refine congrArg x0 (funext fun a => Fin.ext ?_)
    fin_cases a <;> show 0 + 1 * _ = _ <;> omega
  have e : hB c arg2 harg2 arg3 harg3 arg8 x0 x1 = k0_pay6
      (View.readAt (Elt Ideal) arg3.view (Rect.unit (s := S1x8x1024) ![0, 0, 0] S1x8x1024.size inb_S1x8x1024_S1x8x1024_0_0_0).toLoadRect (harg3.unread x1))
      (View.readAt (Elt Ideal) arg2.view (Rect.unit (s := S1x1024x1024) ![0, 0, 0] S1x1024x1024.size inb_S1x1024x1024_S1x1024x1024_0_0_0).toLoadRect (harg2.unread x0)) :=
    View.readCov_full _ _ _ _ _
  rw [e, e1, e0, pay6_at]

/-- The block of the queries. -/
theorem q_at (p : Fin 8) (d : Fin 128) (r : Fin 1024) :
    out0_A_3 (F := Ideal) c i arg2 harg2 arg3 harg3 arg4 harg4 arg5 harg5 arg6 harg6 arg7 harg7 arg8 harg8 x0 x1 x2 (ix4 0 p d r)
      = dotAt (hB c arg2 harg2 arg3 harg3 arg8 x0 x1) x2 r (col 0 (by decide) p d) * Ideal.ofBits FTy.f32 0x3E38AA3B#32 :=
  qStep (hB c arg2 harg2 arg3 harg3 arg8 x0 x1) x2 6 (by decide) (by decide) _ (w_at harg4 x2 768 (by decide)) _
      (qStep (hB c arg2 harg2 arg3 harg3 arg8 x0 x1) x2 4 (by decide) (by decide) _ (w_at harg4 x2 512 (by decide)) _
      (qStep (hB c arg2 harg2 arg3 harg3 arg8 x0 x1) x2 2 (by decide) (by decide) _ (w_at harg4 x2 256 (by decide)) _
      (qStep (hB c arg2 harg2 arg3 harg3 arg8 x0 x1) x2 0 (by decide) (by decide) _ (w_at harg4 x2 0 (by decide)) _
      (fun p _ _ h => absurd h (Nat.not_lt_zero _))))) p d r p.isLt

/-- The block of the keys. -/
theorem k_at (p : Fin 8) (r : Fin 1024) (d : Fin 128) :
    out0_A_4 (F := Ideal) c i arg2 harg2 arg3 harg3 arg4 harg4 arg5 harg5 arg6 harg6 arg7 harg7 arg8 harg8 x0 x1 x2 (ix4 0 p r d)
      = dotAt (hB c arg2 harg2 arg3 harg3 arg8 x0 x1) x2 r (col 1024 (by decide) p d) :=
  kStep (hB c arg2 harg2 arg3 harg3 arg8 x0 x1) x2 6 (by decide) (by decide) _ (w_at harg4 x2 1792 (by decide)) _
      (kStep (hB c arg2 harg2 arg3 harg3 arg8 x0 x1) x2 4 (by decide) (by decide) _ (w_at harg4 x2 1536 (by decide)) _
      (kStep (hB c arg2 harg2 arg3 harg3 arg8 x0 x1) x2 2 (by decide) (by decide) _ (w_at harg4 x2 1280 (by decide)) _
      (kStep (hB c arg2 harg2 arg3 harg3 arg8 x0 x1) x2 0 (by decide) (by decide) _ (w_at harg4 x2 1024 (by decide)) _
      (fun p _ _ h => absurd h (Nat.not_lt_zero _))))) p r d p.isLt

/-- The block of the values. -/
theorem v_at (p : Fin 8) (d : Fin 128) (r : Fin 1024) :
    out0_A_5 (F := Ideal) c i arg2 harg2 arg3 harg3 arg4 harg4 arg5 harg5 arg6 harg6 arg7 harg7 arg8 harg8 x0 x1 x2 (ix4 0 p d r)
      = dotAt (hB c arg2 harg2 arg3 harg3 arg8 x0 x1) x2 r (col 2048 (by decide) p d) :=
  vStep (hB c arg2 harg2 arg3 harg3 arg8 x0 x1) x2 6 (by decide) (by decide) _ (w_at harg4 x2 2816 (by decide)) _
      (vStep (hB c arg2 harg2 arg3 harg3 arg8 x0 x1) x2 4 (by decide) (by decide) _ (w_at harg4 x2 2560 (by decide)) _
      (vStep (hB c arg2 harg2 arg3 harg3 arg8 x0 x1) x2 2 (by decide) (by decide) _ (w_at harg4 x2 2304 (by decide)) _
      (vStep (hB c arg2 harg2 arg3 harg3 arg8 x0 x1) x2 0 (by decide) (by decide) _ (w_at harg4 x2 2048 (by decide)) _
      (fun p _ _ h => absurd h (Nat.not_lt_zero _))))) p d r p.isLt

end Cert.Qkv
-- ==== Proof.QkvArray.lean ====
/-
  The three arrays the first layer's projections leave are the queries, the keys and the values, entry by entry.

  Grid point `t` is batch row `b` and tile `p` of 1024 positions; its blocks are those positions of the input and of the
  outputs, the batch row's vectors and the whole of the weights.
-/
module

public import proofs.«01_k».proof.Proof.QkvOut
public import Idealize.ShloMosaic.Lib.Pipeline.ValueKit.Point

@[expose] public section

set_option maxRecDepth 16384

noncomputable section

namespace Cert.Qkv

open Idealize.ShloMosaic Cert.QkvKernelIdeal Cert.QkvKernelIdeal.Gen Cert.Ffn

/-- The batch row of a grid point. -/
def bOf (t : Fin cfg0.N) : Fin 2 := ⟨(grid0.coords t 0).val, (grid0.coords t 0).isLt⟩

/-- The tile of a grid point. -/
def pOf (t : Fin cfg0.N) : Fin 8 := ⟨(grid0.coords t 1).val, (grid0.coords t 1).isLt⟩

theorem idx0 : ∀ t : Fin cfg0.N, win0_0.index t = ![(bOf t).val, (pOf t).val, 0] :=
  (by decide +kernel : ∀ t : Fin grid0.N, win0_0.index t = ![(bOf t).val, (pOf t).val, 0])
theorem idx1 : ∀ t : Fin cfg0.N, win0_1.index t = ![(bOf t).val, 0, 0] :=
  (by decide +kernel : ∀ t : Fin grid0.N, win0_1.index t = ![(bOf t).val, 0, 0])
theorem idx2 : ∀ t : Fin cfg0.N, win0_2.index t = ![0, 0] := (by decide +kernel : ∀ t : Fin grid0.N, win0_2.index t = ![0, 0])
theorem idx3 : ∀ t : Fin cfg0.N, win0_3.index t = ![(bOf t).val, 0, 0, (pOf t).val] :=
  (by decide +kernel : ∀ t : Fin grid0.N, win0_3.index t = ![(bOf t).val, 0, 0, (pOf t).val])
theorem idx4 : ∀ t : Fin cfg0.N, win0_4.index t = ![(bOf t).val, 0, (pOf t).val, 0] :=
  (by decide +kernel : ∀ t : Fin grid0.N, win0_4.index t = ![(bOf t).val, 0, (pOf t).val, 0])
theorem idx5 : ∀ t : Fin cfg0.N, win0_5.index t = ![(bOf t).val, 0, 0, (pOf t).val] :=
  (by decide +kernel : ∀ t : Fin grid0.N, win0_5.index t = ![(bOf t).val, 0, 0, (pOf t).val])

variable (m : (ℓ : Loc nD τ sig) → Buf (Elt Ideal) ℓ) (c : Dev nD) (t : Fin cfg0.N)

/-- The arguments, as arrays. -/
abbrev argX : Vec Ideal S2x8192x1024 .f32 := V m c main_arg0
abbrev argV : Vec Ideal S2x8x1024 .f32 := V m c main_arg1
abbrev argW : Vec Ideal S1024x3072 .bf16 := V m c main_arg2

/-- The blocks, as vectors. -/
abbrev b0 : Vec Ideal S1x1024x1024 .f32 := iblk m c 0 t
abbrev b1 : Vec Ideal S1x8x1024 .f32 := iblk m c 1 t
abbrev b2 : Vec Ideal S1024x3072 .bf16 := iblk m c 2 t

theorem b0_at (r n : Fin 1024) (s : Fin 8192) (hs : s.val = (pOf t).val * 1024 + r.val) :
    b0 m c t (ix3 0 r n) = argX m c (ix3 (bOf t) s n) := by
  blk_simp [iblk]
  blk_ext [idx0 t]

theorem b1_at (j : Fin 8) (n : Fin 1024) : b1 m c t (ix3 0 j n) = argV m c (ix3 (bOf t) j n) := by
  blk_simp [iblk]
  blk_ext [idx1 t]

theorem b2_at (k : Fin 1024) (j : Fin 3072) : b2 m c t (ix2 k j) = argW m c (ix2 k j) := by
  blk_simp [iblk]
  blk_ext [idx2 t]

/-- The rows the body of point `t` reads back. -/
abbrev hT : Vec Ideal S1024x1024 .bf16 := hB c (ms0_0 t) (hs0_0 t) (ms0_1 t) (hs0_1 t) scM0_0 (b0 m c t) (b1 m c t)

/-- A product at point `t` is the product at the position. -/
theorem dot_at (r : Fin 1024) (s : Fin 8192) (hs : s.val = (pOf t).val * 1024 + r.val) (j : Fin 3072) :
    dotAt (hT m c t) (b2 m c t) r j = projAt (argX m c) (argV m c) (argW m c) (bOf t) s j := by
  unfold dotAt projAt
  refine Finset.sum_congr rfl fun k _ => ?_
  unfold hT
  rw [hB_at, b2_at]
  simp only [b0_at m c t r _ s hs, b1_at]

/-- The three results, as arrays of the arguments. -/
def qArr (X : Vec Ideal S2x8192x1024 .f32) (W : Vec Ideal S2x8x1024 .f32) (P : Vec Ideal S1024x3072 .bf16) :
    Vec Ideal S2x8x128x8192 .bf16 := fun i => qAt X W P (i 0) (i 1) (i 2) (i 3)
def kArr (X : Vec Ideal S2x8192x1024 .f32) (W : Vec Ideal S2x8x1024 .f32) (P : Vec Ideal S1024x3072 .bf16) :
    Vec Ideal S2x8x8192x128 .bf16 := fun i => kAt X W P (i 0) (i 1) (i 2) (i 3)
def vArr (X : Vec Ideal S2x8192x1024 .f32) (W : Vec Ideal S2x8x1024 .f32) (P : Vec Ideal S1024x3072 .bf16) :
    Vec Ideal S2x8x128x8192 .bf16 := fun i => vAt X W P (i 0) (i 1) (i 2) (i 3)

/-- The array of the queries after the last grid point. -/
theorem qFinal : (dats m 0 c).arrAt 3 cfg0.N = qArr (argX m c) (argV m c) (argW m c) := by
  refine (dats m 0 c).arrAt_eq_of_covers 3 _ (by decide +kernel) fun t hf y => ?_
  blk_simp
  rw [after0_3]
  have hp := (pOf t).isLt
  have ht : (y 3).val < 1024 := (y 3).isLt
  have ey : y = ix4 0 ⟨(y 1).val, (y 1).isLt⟩ ⟨(y 2).val, (y 2).isLt⟩ ⟨(y 3).val, ht⟩ := by
    refine funext fun a => Fin.ext ?_
    fin_cases a
    · exact Nat.lt_one_iff.1 (y 0).isLt
    all_goals rfl
  have es : (win0_3.blk t).view.emb y = ix4 (bOf t) ⟨(y 1).val, (y 1).isLt⟩ ⟨(y 2).val, (y 2).isLt⟩ ⟨(pOf t).val * 1024 + (y 3).val, by omega⟩ := by
    blk_ext [idx3 t]
  refine (congrArg (outsAt0 m c t).1 ey).trans (Eq.trans ?_ (congrArg (qArr (argX m c) (argV m c) (argW m c)) es).symm)
  simp only [outsAt0]
  refine (q_at c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (b0 m c t) (b1 m c t) (b2 m c t) _ _ _).trans ?_
  rw [dot_at m c t ⟨(y 3).val, ht⟩ ⟨(pOf t).val * 1024 + (y 3).val, by omega⟩ rfl]
  rfl

/-- The array of the keys after the last grid point. -/
theorem kFinal : (dats m 0 c).arrAt 4 cfg0.N = kArr (argX m c) (argV m c) (argW m c) := by
  refine (dats m 0 c).arrAt_eq_of_covers 4 _ (by decide +kernel) fun t hf y => ?_
  blk_simp
  rw [after0_4]
  have hp := (pOf t).isLt
  have ht : (y 2).val < 1024 := (y 2).isLt
  have ey : y = ix4 0 ⟨(y 1).val, (y 1).isLt⟩ ⟨(y 2).val, ht⟩ ⟨(y 3).val, (y 3).isLt⟩ := by
    refine funext fun a => Fin.ext ?_
    fin_cases a
    · exact Nat.lt_one_iff.1 (y 0).isLt
    all_goals rfl
  have es : (win0_4.blk t).view.emb y = ix4 (bOf t) ⟨(y 1).val, (y 1).isLt⟩ ⟨(pOf t).val * 1024 + (y 2).val, by omega⟩ ⟨(y 3).val, (y 3).isLt⟩ := by
    blk_ext [idx4 t]
  refine (congrArg (outsAt0 m c t).2.1 ey).trans (Eq.trans ?_ (congrArg (kArr (argX m c) (argV m c) (argW m c)) es).symm)
  simp only [outsAt0]
  refine (k_at c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (b0 m c t) (b1 m c t) (b2 m c t) _ _ _).trans ?_
  rw [dot_at m c t ⟨(y 2).val, ht⟩ ⟨(pOf t).val * 1024 + (y 2).val, by omega⟩ rfl]
  rfl

/-- The array of the values after the last grid point. -/
theorem vFinal : (dats m 0 c).arrAt 5 cfg0.N = vArr (argX m c) (argV m c) (argW m c) := by
  refine (dats m 0 c).arrAt_eq_of_covers 5 _ (by decide +kernel) fun t hf y => ?_
  blk_simp
  rw [after0_5]
  have hp := (pOf t).isLt
  have ht : (y 3).val < 1024 := (y 3).isLt
  have ey : y = ix4 0 ⟨(y 1).val, (y 1).isLt⟩ ⟨(y 2).val, (y 2).isLt⟩ ⟨(y 3).val, ht⟩ := by
    refine funext fun a => Fin.ext ?_
    fin_cases a
    · exact Nat.lt_one_iff.1 (y 0).isLt
    all_goals rfl
  have es : (win0_5.blk t).view.emb y = ix4 (bOf t) ⟨(y 1).val, (y 1).isLt⟩ ⟨(y 2).val, (y 2).isLt⟩ ⟨(pOf t).val * 1024 + (y 3).val, by omega⟩ := by
    blk_ext [idx5 t]
  refine (congrArg (outsAt0 m c t).2.2 ey).trans (Eq.trans ?_ (congrArg (vArr (argX m c) (argV m c) (argW m c)) es).symm)
  simp only [outsAt0]
  refine (v_at c (grid0.coords t) (ms0_0 t) (hs0_0 t) (ms0_1 t) (hs0_1 t) (ms0_2 t) (hs0_2 t) (ms0_3 t) (hs0_3 t) (ms0_4 t) (hs0_4 t)
    (ms0_5 t) (hs0_5 t) scM0_0 (Memref.isWhole_whole _) (b0 m c t) (b1 m c t) (b2 m c t) _ _ _).trans ?_
  rw [dot_at m c t ⟨(y 3).val, ht⟩ ⟨(pOf t).val * 1024 + (y 3).val, by omega⟩ rfl]
  rfl

end Cert.Qkv
-- ==== Proof.QkvRef.lean ====
/-
  The reference of the first layer's projections computes the formulas.
-/
module

public import proofs.«01_k».proof.Proof.QkvSpec
public import proofs.«01_k».proof.Proof.Gen.QkvReferenceIdeal.Read

@[expose] public section

set_option maxRecDepth 16384

noncomputable section

namespace Cert.Qkv.Ref

open Idealize.ShloMosaic Cert.QkvReferenceIdeal Cert.QkvReferenceIdeal.Gen Cert.QkvReferenceIdeal.Read Cert.Ffn

variable (x0 : (⟨S2x8192x1024, .f32⟩ : BufTy).Contents (Elt Ideal)) (x1 : (⟨S2x8x1024, .f32⟩ : BufTy).Contents (Elt Ideal))
  (x2 : (⟨S1024x3072, .bf16⟩ : BufTy).Contents (Elt Ideal))

/-- The normalized and modulated rows. -/
theorem hn_at (b : Fin 2) (t : Fin 8192) (n : Fin 1024) :
    val_main_v26 (F := Ideal) x0 x1 (ix3 b t n)
      = modRow (fun n => x0 (ix3 b t n)) (fun n => x1 (ix3 b 0 n)) (fun n => x1 (ix3 b 2 n)) (fun n => x1 (ix3 b 1 n)) n := by
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
    val_main_cst val_main_cst_0 val_main_cst_1 val_main_cst_2
  pointwise []
  rfl

/-- Their products with the weights. -/
theorem proj_at (b : Fin 2) (t : Fin 8192) (j : Fin 3072) :
    val_main_v28 (F := Ideal) x0 x1 x2 (ix3 b t j) = projAt x0 x1 x2 b t j := by
  unfold val_main_v28 val_main_v27 projAt
  have e : ∀ k, val_main_v26 (F := Ideal) x0 x1 (ix3 b t k) = _ := hn_at x0 x1 b t
  revert e
  generalize val_main_v26 (F := Ideal) x0 x1 = h
  intro e
  pointwise []
  simp only [e]

/-- A part of the products, cut into pairs of heads. -/
theorem heads_at (h : (⟨3, ![2, 8192, 1024]⟩ : Shape).Idx → EReal) (b : Fin 2) (t : Fin 8192) (p : Fin 8) (d : Fin 128) :
    (shapeCast S2x8192x8x128 (show Vec Ideal S2x8192x1024 .f32 from h) shapeCasts_S2x8192x1024_S2x8192x8x128) (ix4 b t p d)
      = h (ix3 b t ⟨p.val * 128 + d.val, by have := p.isLt; have := d.isLt; omega⟩) := by
  refine shapeCast_apply _ _ _ _ ?_
  rewrite [Shape.rowMajor_val_three, Shape.rowMajor_val_four]
  show (b.val * 8192 + t.val) * 1024 + (p.val * 128 + d.val) = ((b.val * 8192 + t.val) * 8 + p.val) * 128 + d.val
  omega

/-- The queries, as the reference's entries. -/
theorem q_at (b : Fin 2) (p : Fin 8) (d : Fin 128) (t : Fin 8192) :
    val_main_v38 (F := Ideal) x0 x1 x2 (ix4 b p d t) = qAt x0 x1 x2 b p d t := by
  unfold val_main_v38 val_main_v37 val_main_v36 val_main_v35 val_main_v32 val_main_v29 val_main_cst_3 qAt
  have e : ∀ j, val_main_v28 (F := Ideal) x0 x1 x2 (ix3 b t j) = _ := proj_at x0 x1 x2 b t
  revert e
  generalize val_main_v28 (F := Ideal) x0 x1 x2 = h
  intro e
  pointwise [heads_at]
  rw [← e]
  exact congrArg (fun j => h (ix3 b t j) * _) (Fin.ext (Nat.zero_add _).symm)

/-- … the keys. -/
theorem k_at (b : Fin 2) (p : Fin 8) (t : Fin 8192) (d : Fin 128) :
    val_main_v40 (F := Ideal) x0 x1 x2 (ix4 b p t d) = kAt x0 x1 x2 b p t d := by
  unfold val_main_v40 val_main_v39 val_main_v33 val_main_v30 kAt
  have e : ∀ j, val_main_v28 (F := Ideal) x0 x1 x2 (ix3 b t j) = _ := proj_at x0 x1 x2 b t
  revert e
  generalize val_main_v28 (F := Ideal) x0 x1 x2 = h
  intro e
  pointwise [heads_at]
  rw [← e]
  rfl

/-- … the values. -/
theorem v_at (b : Fin 2) (p : Fin 8) (d : Fin 128) (t : Fin 8192) :
    val_main_v42 (F := Ideal) x0 x1 x2 (ix4 b p d t) = vAt x0 x1 x2 b p d t := by
  unfold val_main_v42 val_main_v41 val_main_v34 val_main_v31 vAt
  have e : ∀ j, val_main_v28 (F := Ideal) x0 x1 x2 (ix3 b t j) = _ := proj_at x0 x1 x2 b t
  revert e
  generalize val_main_v28 (F := Ideal) x0 x1 x2 = h
  intro e
  pointwise [heads_at]
  rw [← e]
  rfl

end Cert.Qkv.Ref
-- ==== Proof.QSpec.lean ====
/-
  The second layer's queries as a formula of the call's arguments, entry by entry.

  A row of the input is normalized and modulated, projected to 384 channels and normalized again. The columns of the second
  product come in four groups of 768, a group for two pairs of heads: 256 columns without rotation, 256 with, and those 256
  with the halves of each head exchanged. A pair's 256 channels are 128 without rotation and 128 with.
-/
module

public import proofs.«01_k».proof.Proof.FfnMath

@[expose] public section

noncomputable section

namespace Cert.Q

open Idealize.ShloMosaic Cert.Ffn

/-- The normalization of a row of 384 channels. -/
def rmsRow384 (x g : Fin 384 → EReal) (n : Fin 384) : EReal :=
  x n * Ideal.rsqrt (Ideal.div (∑ k : Fin 384, x k * x k) (Ideal.ofBits FTy.f32 0x43C00000#32)
      + Ideal.ofBits FTy.f32 0x358637BD#32) * g n

/-- Channel `e` of one of a group's two pairs (`u`), from the group's products `T` and the rotation's 32 cosines and sines. -/
def pairAt (T : Fin 768 → EReal) (C S : Fin 32 → EReal) (u : Fin 2) (e : Fin 256) : EReal :=
  (if h : e.val < 128 then T ⟨u.val * 128 + e.val, by have := u.isLt; omega⟩
    else T ⟨256 + u.val * 128 + (e.val - 128), by have := u.isLt; have := e.isLt; omega⟩ * C ⟨(e.val - 128) % 32, Nat.mod_lt _ (by decide)⟩
      + T ⟨512 + u.val * 128 + (e.val - 128), by have := u.isLt; have := e.isLt; omega⟩ * S ⟨(e.val - 128) % 32, Nat.mod_lt _ (by decide)⟩)
    * Ideal.ofBits FTy.f32 0x3E16C740#32

/-- A group's column of the second product. -/
def groupCol (p : Fin 8) (j : Fin 768) : Fin 3072 := ⟨p.val / 2 * 768 + j.val, by have := p.isLt; have := j.isLt; omega⟩

/-- Which of its group's two pairs a pair is. -/
def inGroup (p : Fin 8) : Fin 2 := ⟨p.val % 2, Nat.mod_lt _ (by decide)⟩

/-- The second product at a row, from the row, its modulation's vectors and the two matrices. -/
def prodRow (x g sc sh : Fin 1024 → EReal) (qg : Fin 384 → EReal) (wd : Fin 1024 → Fin 384 → EReal)
    (wq : Fin 384 → Fin 3072 → EReal) (j : Fin 3072) : EReal :=
  ∑ k : Fin 384, rmsRow384 (fun n => ∑ i : Fin 1024, modRow x g sc sh i * wd i n) qg k * wq k j

/-- The queries. -/
def qAt (H : (⟨3, ![2, 8192, 1024]⟩ : Shape).Idx → EReal) (V : (⟨3, ![2, 8, 1024]⟩ : Shape).Idx → EReal)
    (G : (⟨2, ![8, 384]⟩ : Shape).Idx → EReal) (WD : (⟨2, ![1024, 384]⟩ : Shape).Idx → EReal)
    (WQ : (⟨2, ![384, 3072]⟩ : Shape).Idx → EReal) (C S : (⟨3, ![2, 8192, 32]⟩ : Shape).Idx → EReal)
    (b : Fin 2) (p : Fin 8) (e : Fin 256) (t : Fin 8192) : EReal :=
  pairAt (fun j => prodRow (fun n => H (ix3 b t n)) (fun n => V (ix3 b 0 n)) (fun n => V (ix3 b 2 n)) (fun n => V (ix3 b 1 n))
      (fun n => G (ix2 0 n)) (fun i n => WD (ix2 i n)) (fun k j => WQ (ix2 k j)) (groupCol p j))
    (fun d => C (ix3 b t d)) (fun d => S (ix3 b t d)) (inGroup p) e

end Cert.Q
-- ==== Proof.QBlock.lean ====
/-
  What the second layer's queries leave in the output block at a grid point, entry by entry.

  Each of the eight stored pieces is one of two shapes, the first and the second pair of a group; so one lemma reads each.
-/
module

public import proofs.«01_k».proof.Proof.QSpec
public import proofs.«01_k».proof.Proof.Gen.QKernelIdeal.Value
public import Idealize.ShloMosaic.Lib.Pipeline.ValueKit.Tiles

@[expose] public section

set_option maxRecDepth 16384

noncomputable section

namespace Cert.Q

open Idealize.ShloMosaic Cert.QKernelIdeal Cert.QKernelIdeal.Gen Cert.Ffn

/-- The cosines' 32 channels, laid side by side four times. -/
theorem cos_at (v : Vec Ideal S1x1024x32 .f32) (r : Fin 1024) (d : Fin 128) :
    k0_pay6 v (ix2 r d) = v (ix3 0 r ⟨d.val % 32, Nat.mod_lt _ (by decide)⟩) := by
  have hd := d.isLt
  pointwise [k0_pay6]
  split_ifs <;> refine congrArg (fun j => v (ix3 0 r j)) (Fin.ext ?_) <;> simp only [] <;> omega

/-- … the sines'. -/
theorem sin_at (v : Vec Ideal S1x1024x32 .f32) (r : Fin 1024) (d : Fin 128) :
    k0_pay7 v (ix2 r d) = v (ix3 0 r ⟨d.val % 32, Nat.mod_lt _ (by decide)⟩) := cos_at v r d

/-- The first pair of a group. -/
theorem lo_at (v5 v6 : Vec Ideal S1x1024x32 .f32) (T : FVec Ideal S1024x768 .f32) (e : Fin 256) (r : Fin 1024) :
    k0_pay14 (k0_pay6 v5) (k0_pay7 v6) T (ix4 0 0 e r)
      = pairAt (fun j => T (ix2 r j)) (fun d => v5 (ix3 0 r d)) (fun d => v6 (ix3 0 r d)) 0 e := by
  have eC := cos_at v5 r
  have eS := sin_at v6 r
  revert eC eS
  generalize k0_pay6 v5 = C
  generalize k0_pay7 v6 = S
  intro eC eS
  unfold pairAt
  pointwise [k0_pay14]
  refine congrArg (· * _) ?_
  by_cases h : e.val < 128
  · rw [dif_pos h, dif_pos h]
  · rw [dif_neg h, dif_neg h, eC, eS]

/-- The second pair of a group. -/
theorem hi_at (v5 v6 : Vec Ideal S1x1024x32 .f32) (T : FVec Ideal S1024x768 .f32) (e : Fin 256) (r : Fin 1024) :
    k0_pay15 (k0_pay6 v5) (k0_pay7 v6) T (ix4 0 0 e r)
      = pairAt (fun j => T (ix2 r j)) (fun d => v5 (ix3 0 r d)) (fun d => v6 (ix3 0 r d)) 1 e := by
  have eC := cos_at v5 r
  have eS := sin_at v6 r
  revert eC eS
  generalize k0_pay6 v5 = C
  generalize k0_pay7 v6 = S
  intro eC eS
  unfold pairAt
  pointwise [k0_pay15]
  refine congrArg (· * _) ?_
  by_cases h : e.val < 128
  · rw [dif_pos h, dif_pos h]
  · rw [dif_neg h, dif_neg h, eC, eS]
    refine congrArg₂ (· + ·) (congrArg (· * _) (congrArg (fun j => T (ix2 r j)) (Fin.ext ?_)))
      (congrArg (· * _) (congrArg (fun j => T (ix2 r j)) (Fin.ext ?_)))
    · exact (Nat.add_assoc 256 128 (e.val - 128)).symm
    · exact (Nat.add_assoc 512 128 (e.val - 128)).symm

/-- The twice normalized rows. -/
theorem cq_at (v0 : Vec Ideal S1x8x1024 .f32) (v2 : Vec Ideal S1x1024x1024 .f32) (v26 : Vec Ideal S1024x384 .bf16)
    (v28 : Vec Ideal S1x384 .f32) (r : Fin 1024) (n : Fin 384) :
    k0_pay5 (k0_pay3 v0 v2 v26) (k0_pay4 v28) (ix2 r n)
      = rmsRow384 (fun n => ∑ i : Fin 1024, modRow (fun n => v2 (ix3 0 r n)) (fun n => v0 (ix3 0 0 n)) (fun n => v0 (ix3 0 2 n))
          (fun n => v0 (ix3 0 1 n)) i * v26 (ix2 i n)) (fun n => v28 (ix2 0 n)) n := by
  pointwise [k0_pay5, k0_pay4, k0_pay3]
  rfl

/-- The product with a group's columns. -/
theorem prod_at (h : FVec Ideal S1024x384 .bf16) (w : Vec Ideal S384x768 .bf16) (r : Fin 1024) (j : Fin 768) :
    k0_pay13 h w (ix2 r j) = ∑ k : Fin 384, h (ix2 r k) * w (ix2 k j) := by
  pointwise [k0_pay13]

end Cert.Q
-- ==== Proof.QOut.lean ====
/-
  The output block of the second layer's queries at a grid point, put together from its eight pieces (`QBlock`).
-/
module

public import proofs.«01_k».proof.Proof.QBlock

@[expose] public section

set_option maxRecDepth 16384

noncomputable section

namespace Cert.Q

open Idealize.ShloMosaic Cert.QKernelIdeal Cert.QKernelIdeal.Gen Cert.Ffn

variable (x0 : Vec Ideal S1x1024x1024 .f32) (x1 : Vec Ideal S1x8x1024 .f32) (x2 : Vec Ideal S8x384 .f32)
  (x3 : Vec Ideal S1024x384 .bf16) (x4 : Vec Ideal S384x3072 .bf16) (x5 x6 : Vec Ideal S1x1024x32 .f32)

/-- The block's entries, as the formula. -/
def blockAt (p : Fin 8) (e : Fin 256) (r : Fin 1024) : EReal :=
  pairAt (fun j => prodRow (fun n => x0 (ix3 0 r n)) (fun n => x1 (ix3 0 0 n)) (fun n => x1 (ix3 0 2 n)) (fun n => x1 (ix3 0 1 n))
      (fun n => x2 (ix2 0 n)) (fun i n => x3 (ix2 i n)) (fun k j => x4 (ix2 k j)) (groupCol p j))
    (fun d => x5 (ix3 0 r d)) (fun d => x6 (ix3 0 r d)) (inGroup p) e

/-- … as an array. -/
def blockArr : Vec Ideal S1x8x256x1024 .bf16 := fun y => blockAt x0 x1 x2 x3 x4 x5 x6 (y 1) (y 2) (y 3)

/-- The twice normalized rows, from the blocks. -/
def rowsOf : FVec Ideal S1024x384 .bf16 :=
  k0_pay5 (k0_pay3 (View.ld x1 r0_0) (View.ld x0 r0_1) (View.ld x3 r0_2)) (k0_pay4 (View.ld x2 r0_3))

/-- A block read whole is the block. -/
theorem whole3 {a b c : ℕ} {e : EltTy} (x : Vec Ideal (⟨3, ![a, b, c]⟩ : Shape) e)
    (inb : ∀ i, (![0, 0, 0] : Fin 3 → ℕ) i + (![a, b, c] : Fin 3 → ℕ) i ≤ (⟨3, ![a, b, c]⟩ : Shape).size i)
    (i : Fin a) (j : Fin b) (k : Fin c) :
    View.ld x (Rect.unit (s := ⟨3, ![a, b, c]⟩) ![0, 0, 0] ![a, b, c] inb) (ix3 i j k) = x (ix3 i j k) :=
  View.ld_unit_apply_of x _ _ _ _ _ (by intro q; fin_cases q <;> exact (Nat.zero_add _).symm)

/-- … of two axes, the first rows of it. -/
theorem whole2 {a a' b : ℕ} {e : EltTy} (x : Vec Ideal (⟨2, ![a, b]⟩ : Shape) e)
    (inb : ∀ i, (![0, 0] : Fin 2 → ℕ) i + (![a', b] : Fin 2 → ℕ) i ≤ (⟨2, ![a, b]⟩ : Shape).size i)
    (i : Fin a') (i' : Fin a) (hi : i'.val = i.val) (j : Fin b) :
    View.ld x (Rect.unit (s := ⟨2, ![a, b]⟩) ![0, 0] ![a', b] inb) (ix2 i j) = x (ix2 i' j) :=
  View.ld_unit_apply_of x _ _ _ _ _ (by
    intro q
    fin_cases q
    · exact hi.trans (Nat.zero_add _).symm
    · exact (Nat.zero_add _).symm)

/-- A group of columns read from the weights. -/
theorem w_at (o : ℕ) (inb : ∀ i, (![0, o] : Fin 2 → ℕ) i + S384x768.size i ≤ S384x3072.size i)
    (k : Fin 384) (q : Fin 768) (j : Fin 3072) (hj : j.val = o + q.val) :
    View.ld x4 (Rect.unit (s := S384x3072) ![0, o] S384x768.size inb) (ix2 k q) = x4 (ix2 k j) :=
  View.ld_unit_apply_of x4 _ _ _ _ _ (by
    intro a
    fin_cases a
    · exact (Nat.zero_add _).symm
    · exact hj)

theorem rows_at (r : Fin 1024) (n : Fin 384) :
    rowsOf x0 x1 x2 x3 (ix2 r n)
      = rmsRow384 (fun n => ∑ i : Fin 1024, modRow (fun n => x0 (ix3 0 r n)) (fun n => x1 (ix3 0 0 n)) (fun n => x1 (ix3 0 2 n))
          (fun n => x1 (ix3 0 1 n)) i * x3 (ix2 i n)) (fun n => x2 (ix2 0 n)) n := by
  unfold rowsOf
  rw [cq_at]
  have e0 : ∀ i j k, View.ld x1 r0_0 (ix3 i j k) = x1 (ix3 i j k) := whole3 x1 _
  have e1 : ∀ i j k, View.ld x0 r0_1 (ix3 i j k) = x0 (ix3 i j k) := whole3 x0 _
  have e2 : ∀ i j, View.ld x3 r0_2 (ix2 i j) = x3 (ix2 i j) := fun i j => whole2 x3 _ i i rfl j
  have e3 : ∀ j, View.ld x2 r0_3 (ix2 0 j) = x2 (ix2 0 j) := fun j => whole2 (a' := 1) x2 _ 0 0 rfl j
  simp only [e0, e1, e2, e3]

/-- One stored piece is the formula's. -/
theorem piece (n : ℕ) (hn : n < 8) (inb : ∀ a, (![0, n, 0, 0] : Fin 4 → ℕ) a + S1x1x256x1024.size a ≤ S1x8x256x1024.size a)
    (w : Vec Ideal S384x768 .bf16) (hw : ∀ (k : Fin 384) (q : Fin 768) (j : Fin 3072), j.val = n / 2 * 768 + q.val → w (ix2 k q) = x4 (ix2 k j))
    (pay : Vec Ideal S1x1x256x1024 .bf16)
    (hpay : ∀ (e : Fin 256) (r : Fin 1024), pay (ix4 0 0 e r)
      = pairAt (fun j => k0_pay13 (rowsOf x0 x1 x2 x3) w (ix2 r j)) (fun d => View.ld x5 r0_4 (ix3 0 r d))
          (fun d => View.ld x6 r0_4 (ix3 0 r d)) ⟨n % 2, Nat.mod_lt _ (by decide)⟩ e)
    (x : (Rect.unit (s := S1x8x256x1024) ![0, n, 0, 0] S1x1x256x1024.size inb).shape.Idx) :
    pay x = blockArr x0 x1 x2 x3 x4 x5 x6
      ((Rect.unit (s := S1x8x256x1024) ![0, n, 0, 0] S1x1x256x1024.size inb).emb x) := by
  have ex : x = ix4 (0 : Fin 1) (0 : Fin 1) (⟨(x 2).val, (x 2).isLt⟩ : Fin 256) (⟨(x 3).val, (x 3).isLt⟩ : Fin 1024) := by
    refine funext fun a => Fin.ext ?_
    fin_cases a
    · exact Nat.lt_one_iff.1 (x 0).isLt
    · exact Nat.lt_one_iff.1 (x 1).isLt
    all_goals rfl
  have ey : (Rect.unit (s := S1x8x256x1024) ![0, n, 0, 0] S1x1x256x1024.size inb).emb x
      = ix4 (0 : Fin 1) (⟨n, hn⟩ : Fin 8) (⟨(x 2).val, (x 2).isLt⟩ : Fin 256) (⟨(x 3).val, (x 3).isLt⟩ : Fin 1024) := by
    refine funext fun a => Fin.ext ((Rect.idx_unit_val _ _ inb x a).trans ?_)
    fin_cases a
    · exact (Nat.zero_add _).trans (Nat.lt_one_iff.1 (x 0).isLt)
    · exact congrArg (n + ·) (Nat.lt_one_iff.1 (x 1).isLt)
    · exact Nat.zero_add _
    · exact Nat.zero_add _
  refine (congrArg pay ex).trans ((hpay _ _).trans (Eq.trans ?_ (congrArg (blockArr x0 x1 x2 x3 x4 x5 x6) ey).symm))
  have e5 : ∀ i j k, View.ld x5 r0_4 (ix3 i j k) = x5 (ix3 i j k) := whole3 x5 _
  have e6 : ∀ i j k, View.ld x6 r0_4 (ix3 i j k) = x6 (ix3 i j k) := whole3 x6 _
  have eT : ∀ (r : Fin 1024) (j : Fin 768), k0_pay13 (rowsOf x0 x1 x2 x3) w (ix2 r j)
      = ∑ k : Fin 384, rowsOf x0 x1 x2 x3 (ix2 r k) * x4 (ix2 k (groupCol ⟨n, hn⟩ j)) := fun r j =>
    (prod_at _ _ r j).trans (Finset.sum_congr rfl fun k _ => congrArg (_ * ·) (hw k j (groupCol ⟨n, hn⟩ j) rfl))
  simp only [e5, e6, eT, rows_at]
  rfl

/-- The output block. -/
theorem out_at (y : S1x8x256x1024.Idx) :
    out0_7 x0 x1 x2 x3 x4 x5 x6 y = blockArr x0 x1 x2 x3 x4 x5 x6 y := by
  unfold out0_7
  refine View.canon_apply_of_pieces (blockArr x0 x1 x2 x3 x4 x5 x6) _ ?_ y (cover0_7 _ _ _ _ _ _ _ _ y)
  refine List.forall_mem_cons.2 ⟨piece x0 x1 x2 x3 x4 x5 x6 7 (by decide) inb_S1x8x256x1024_S1x1x256x1024_0_7_0_0 (View.ld x4 r0_12) (w_at x4 2304 _) _
      (hi_at (View.ld x5 r0_4) (View.ld x6 r0_4) (k0_pay13 (rowsOf x0 x1 x2 x3) (View.ld x4 r0_12))), ?_⟩
  refine List.forall_mem_cons.2 ⟨piece x0 x1 x2 x3 x4 x5 x6 6 (by decide) inb_S1x8x256x1024_S1x1x256x1024_0_6_0_0 (View.ld x4 r0_12) (w_at x4 2304 _) _
      (lo_at (View.ld x5 r0_4) (View.ld x6 r0_4) (k0_pay13 (rowsOf x0 x1 x2 x3) (View.ld x4 r0_12))), ?_⟩
  refine List.forall_mem_cons.2 ⟨piece x0 x1 x2 x3 x4 x5 x6 5 (by decide) inb_S1x8x256x1024_S1x1x256x1024_0_5_0_0 (View.ld x4 r0_9) (w_at x4 1536 _) _
      (hi_at (View.ld x5 r0_4) (View.ld x6 r0_4) (k0_pay13 (rowsOf x0 x1 x2 x3) (View.ld x4 r0_9))), ?_⟩
  refine List.forall_mem_cons.2 ⟨piece x0 x1 x2 x3 x4 x5 x6 4 (by decide) inb_S1x8x256x1024_S1x1x256x1024_0_4_0_0 (View.ld x4 r0_9) (w_at x4 1536 _) _
      (lo_at (View.ld x5 r0_4) (View.ld x6 r0_4) (k0_pay13 (rowsOf x0 x1 x2 x3) (View.ld x4 r0_9))), ?_⟩
  refine List.forall_mem_cons.2 ⟨piece x0 x1 x2 x3 x4 x5 x6 3 (by decide) inb_S1x8x256x1024_S1x1x256x1024_0_3_0_0 (View.ld x4 r0_6) (w_at x4 768 _) _
      (hi_at (View.ld x5 r0_4) (View.ld x6 r0_4) (k0_pay13 (rowsOf x0 x1 x2 x3) (View.ld x4 r0_6))), ?_⟩
  refine List.forall_mem_cons.2 ⟨piece x0 x1 x2 x3 x4 x5 x6 2 (by decide) inb_S1x8x256x1024_S1x1x256x1024_0_2_0_0 (View.ld x4 r0_6) (w_at x4 768 _) _
      (lo_at (View.ld x5 r0_4) (View.ld x6 r0_4) (k0_pay13 (rowsOf x0 x1 x2 x3) (View.ld x4 r0_6))), ?_⟩
  refine List.forall_mem_cons.2 ⟨piece x0 x1 x2 x3 x4 x5 x6 1 (by decide) inb_S1x8x256x1024_S1x1x256x1024_0_1_0_0 (View.ld x4 r0_5) (w_at x4 0 _) _
      (hi_at (View.ld x5 r0_4) (View.ld x6 r0_4) (k0_pay13 (rowsOf x0 x1 x2 x3) (View.ld x4 r0_5))), ?_⟩
  refine List.forall_mem_cons.2 ⟨piece x0 x1 x2 x3 x4 x5 x6 0 (by decide) inb_S1x8x256x1024_S1x1x256x1024_0_0_0_0 (View.ld x4 r0_5) (w_at x4 0 _) _
      (lo_at (View.ld x5 r0_4) (View.ld x6 r0_4) (k0_pay13 (rowsOf x0 x1 x2 x3) (View.ld x4 r0_5))), ?_⟩
  exact fun _ h => absurd h List.not_mem_nil

end Cert.Q
-- ==== Proof.QArray.lean ====
/-
  The array the second layer's queries call leaves is the formula, entry by entry.

  Grid point `t` is batch row `b` and tile `p` of 1024 positions; its blocks are those positions of the input, of the angles
  and of the output, the batch row's vectors and the whole of the weights.
-/
module

public import proofs.«01_k».proof.Proof.QOut
public import Idealize.ShloMosaic.Lib.Pipeline.ValueKit.Point

@[expose] public section

set_option maxRecDepth 16384

noncomputable section

namespace Cert.Q

open Idealize.ShloMosaic Cert.QKernelIdeal Cert.QKernelIdeal.Gen Cert.Ffn

/-- The batch row of a grid point. -/
def bOf (t : Fin cfg0.N) : Fin 2 := ⟨(grid0.coords t 0).val, (grid0.coords t 0).isLt⟩

/-- The tile of a grid point. -/
def pOf (t : Fin cfg0.N) : Fin 8 := ⟨(grid0.coords t 1).val, (grid0.coords t 1).isLt⟩

theorem idx0 : ∀ t : Fin cfg0.N, win0_0.index t = ![(bOf t).val, (pOf t).val, 0] :=
  (by decide +kernel : ∀ t : Fin grid0.N, win0_0.index t = ![(bOf t).val, (pOf t).val, 0])
theorem idx1 : ∀ t : Fin cfg0.N, win0_1.index t = ![(bOf t).val, 0, 0] :=
  (by decide +kernel : ∀ t : Fin grid0.N, win0_1.index t = ![(bOf t).val, 0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![(bOf t).val, (pOf t).val, 0] :=
  (by decide +kernel : ∀ t : Fin grid0.N, win0_5.index t = ![(bOf t).val, (pOf t).val, 0])
theorem idx6 : ∀ t : Fin cfg0.N, win0_6.index t = ![(bOf t).val, (pOf t).val, 0] :=
  (by decide +kernel : ∀ t : Fin grid0.N, win0_6.index t = ![(bOf t).val, (pOf t).val, 0])
theorem idx7 : ∀ t : Fin cfg0.N, win0_7.index t = ![(bOf t).val, 0, 0, (pOf t).val] :=
  (by decide +kernel : ∀ t : Fin grid0.N, win0_7.index t = ![(bOf t).val, 0, 0, (pOf t).val])

variable (m : (ℓ : Loc nD τ sig) → Buf (Elt Ideal) ℓ) (c : Dev nD) (t : Fin cfg0.N)

/-- The arguments, as arrays. -/
abbrev argH : Vec Ideal S2x8192x1024 .f32 := V m c main_arg0
abbrev argV : Vec Ideal S2x8x1024 .f32 := V m c main_arg1
abbrev argG : Vec Ideal S8x384 .f32 := V m c main_arg2
abbrev argWD : Vec Ideal S1024x384 .bf16 := V m c main_arg3
abbrev argWQ : Vec Ideal S384x3072 .bf16 := V m c main_arg4
abbrev argC : Vec Ideal S2x8192x32 .f32 := V m c main_arg5
abbrev argS : Vec Ideal S2x8192x32 .f32 := V m c main_arg6

/-- The blocks, as vectors. -/
abbrev b0 : Vec Ideal S1x1024x1024 .f32 := iblk m c 0 t
abbrev b1 : Vec Ideal S1x8x1024 .f32 := iblk m c 1 t
abbrev b2 : Vec Ideal S8x384 .f32 := iblk m c 2 t
abbrev b3 : Vec Ideal S1024x384 .bf16 := iblk m c 3 t
abbrev b4 : Vec Ideal S384x3072 .bf16 := iblk m c 4 t
abbrev b5 : Vec Ideal S1x1024x32 .f32 := iblk m c 5 t
abbrev b6 : Vec Ideal S1x1024x32 .f32 := iblk m c 6 t

theorem b0_at (r n : Fin 1024) (s : Fin 8192) (hs : s.val = (pOf t).val * 1024 + r.val) :
    b0 m c t (ix3 0 r n) = argH m c (ix3 (bOf t) s n) := by
  blk_simp [iblk]
  blk_ext [idx0 t]

theorem b1_at (j : Fin 8) (n : Fin 1024) : b1 m c t (ix3 0 j n) = argV m c (ix3 (bOf t) j n) := by
  blk_simp [iblk]
  blk_ext [idx1 t]

theorem b2_at (k : Fin 8) (j : Fin 384) : b2 m c t (ix2 k j) = argG m c (ix2 k j) := by
  blk_simp [iblk]
  blk_ext [idx2 t]

theorem b3_at (k : Fin 1024) (j : Fin 384) : b3 m c t (ix2 k j) = argWD m c (ix2 k j) := by
  blk_simp [iblk]
  blk_ext [idx3 t]

theorem b4_at (k : Fin 384) (j : Fin 3072) : b4 m c t (ix2 k j) = argWQ m c (ix2 k j) := by
  blk_simp [iblk]
  blk_ext [idx4 t]

theorem b5_at (r : Fin 1024) (d : Fin 32) (s : Fin 8192) (hs : s.val = (pOf t).val * 1024 + r.val) :
    b5 m c t (ix3 0 r d) = argC m c (ix3 (bOf t) s d) := by
  blk_simp [iblk]
  blk_ext [idx5 t]

theorem b6_at (r : Fin 1024) (d : Fin 32) (s : Fin 8192) (hs : s.val = (pOf t).val * 1024 + r.val) :
    b6 m c t (ix3 0 r d) = argS m c (ix3 (bOf t) s d) := by
  blk_simp [iblk]
  blk_ext [idx6 t]

/-- A block's entry at a row is the formula at the position. -/
theorem block_at (p : Fin 8) (e : Fin 256) (r : Fin 1024) (s : Fin 8192) (hs : s.val = (pOf t).val * 1024 + r.val) :
    blockAt (b0 m c t) (b1 m c t) (b2 m c t) (b3 m c t) (b4 m c t) (b5 m c t) (b6 m c t) p e r
      = qAt (argH m c) (argV m c) (argG m c) (argWD m c) (argWQ m c) (argC m c) (argS m c) (bOf t) p e s := by
  unfold blockAt qAt
  simp only [b0_at m c t r _ s hs, b1_at, b2_at, b3_at, b4_at, b5_at m c t r _ s hs, b6_at m c t r _ s hs]

/-- The result, as an array of the arguments. -/
def qArr (X : Vec Ideal S2x8192x1024 .f32) (W : Vec Ideal S2x8x1024 .f32) (G : Vec Ideal S8x384 .f32)
    (WD : Vec Ideal S1024x384 .bf16) (WQ : Vec Ideal S384x3072 .bf16) (C S : Vec Ideal S2x8192x32 .f32) :
    Vec Ideal S2x8x256x8192 .bf16 := fun i => qAt X W G WD WQ C S (i 0) (i 1) (i 2) (i 3)

/-- The array after the last grid point. -/
theorem final : (dats m 0 c).arrAt 7 cfg0.N
    = qArr (argH m c) (argV m c) (argG m c) (argWD m c) (argWQ m c) (argC m c) (argS m c) := by
  refine (dats m 0 c).arrAt_eq_of_covers 7 _ (by decide +kernel) fun t hf y => ?_
  blk_simp
  rw [after0_7]
  have hp := (pOf t).isLt
  have ht : (y 3).val < 1024 := (y 3).isLt
  have ey : y = ix4 0 ⟨(y 1).val, (y 1).isLt⟩ ⟨(y 2).val, (y 2).isLt⟩ ⟨(y 3).val, ht⟩ := by
    refine funext fun a => Fin.ext ?_
    fin_cases a
    · exact Nat.lt_one_iff.1 (y 0).isLt
    all_goals rfl
  have es : (win0_7.blk t).view.emb y = ix4 (bOf t) ⟨(y 1).val, (y 1).isLt⟩ ⟨(y 2).val, (y 2).isLt⟩ ⟨(pOf t).val * 1024 + (y 3).val, by omega⟩ := by
    blk_ext [idx7 t]
  refine (congrArg (out0_7 (b0 m c t) (b1 m c t) (b2 m c t) (b3 m c t) (b4 m c t) (b5 m c t) (b6 m c t)) ey).trans
    (Eq.trans ?_ (congrArg (qArr (argH m c) (argV m c) (argG m c) (argWD m c) (argWQ m c) (argC m c) (argS m c)) es).symm)
  refine (out_at _ _ _ _ _ _ _ _).trans ?_
  exact block_at m c t _ _ ⟨(y 3).val, ht⟩ ⟨(pOf t).val * 1024 + (y 3).val, by omega⟩ rfl

end Cert.Q
-- ==== Proof.QRef.lean ====
/-
  The reference of the second layer's queries computes the formula.
-/
module

public import proofs.«01_k».proof.Proof.QSpec
public import proofs.«01_k».proof.Proof.Gen.QReferenceIdeal.Read

@[expose] public section

set_option maxRecDepth 16384

noncomputable section

namespace Cert.Q.Ref

open Idealize.ShloMosaic Cert.QReferenceIdeal Cert.QReferenceIdeal.Gen Cert.QReferenceIdeal.Read Cert.Ffn

variable (x0 : (⟨S2x8192x1024, .f32⟩ : BufTy).Contents (Elt Ideal)) (x1 : (⟨S2x8x1024, .f32⟩ : BufTy).Contents (Elt Ideal))
  (x2 : (⟨S8x384, .f32⟩ : BufTy).Contents (Elt Ideal)) (x3 : (⟨S1024x384, .bf16⟩ : BufTy).Contents (Elt Ideal))
  (x4 : (⟨S384x3072, .bf16⟩ : BufTy).Contents (Elt Ideal)) (x5 x6 : (⟨S2x8192x32, .f32⟩ : BufTy).Contents (Elt Ideal))

/-- The normalized and modulated rows. -/
theorem hn_at (b : Fin 2) (t : Fin 8192) (n : Fin 1024) :
    val_main_v26 (F := Ideal) x0 x1 (ix3 b t n)
      = modRow (fun n => x0 (ix3 b t n)) (fun n => x1 (ix3 b 0 n)) (fun n => x1 (ix3 b 2 n)) (fun n => x1 (ix3 b 1 n)) n := by
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
    val_main_cst val_main_cst_0 val_main_cst_1 val_main_cst_2
  pointwise []
  rfl

/-- The first product. -/
theorem down_at (b : Fin 2) (t : Fin 8192) (n : Fin 384) :
    val_main_v28 (F := Ideal) x0 x1 x3 (ix3 b t n)
      = ∑ i : Fin 1024, modRow (fun n => x0 (ix3 b t n)) (fun n => x1 (ix3 b 0 n)) (fun n => x1 (ix3 b 2 n)) (fun n => x1 (ix3 b 1 n)) i * x3 (ix2 i n) := by
  unfold val_main_v28 val_main_v27
  have e : ∀ k, val_main_v26 (F := Ideal) x0 x1 (ix3 b t k) = _ := hn_at x0 x1 b t
  revert e
  generalize val_main_v26 (F := Ideal) x0 x1 = h
  intro e
  pointwise []
  simp only [e]

/-- The twice normalized rows. -/
theorem cq_at (b : Fin 2) (t : Fin 8192) (n : Fin 384) :
    val_main_v43 (F := Ideal) x0 x1 x2 x3 (ix3 b t n)
      = rmsRow384 (fun n => ∑ i : Fin 1024, modRow (fun n => x0 (ix3 b t n)) (fun n => x1 (ix3 b 0 n)) (fun n => x1 (ix3 b 2 n)) (fun n => x1 (ix3 b 1 n)) i * x3 (ix2 i n))
          (fun n => x2 (ix2 0 n)) n := by
  unfold val_main_v43 val_main_v42 val_main_v41 val_main_v40 val_main_v39 val_main_v38 val_main_v37 val_main_v36 val_main_v35 val_main_v34 val_main_v33 val_main_v32 val_main_v31 val_main_v30 val_main_v29
    val_main_cst_3 val_main_cst_4 val_main_cst_5
  have e : ∀ k, val_main_v28 (F := Ideal) x0 x1 x3 (ix3 b t k) = _ := down_at x0 x1 x3 b t
  revert e
  generalize val_main_v28 (F := Ideal) x0 x1 x3 = h
  intro e
  pointwise []
  simp only [e]
  rfl

/-- The second product. -/
theorem prod_at (b : Fin 2) (t : Fin 8192) (j : Fin 3072) :
    val_main_v45 (F := Ideal) x0 x1 x2 x3 x4 (ix3 b t j)
      = prodRow (fun n => x0 (ix3 b t n)) (fun n => x1 (ix3 b 0 n)) (fun n => x1 (ix3 b 2 n)) (fun n => x1 (ix3 b 1 n))
          (fun n => x2 (ix2 0 n)) (fun i n => x3 (ix2 i n)) (fun k j => x4 (ix2 k j)) j := by
  unfold val_main_v45 val_main_v44 prodRow
  have e : ∀ k, val_main_v43 (F := Ideal) x0 x1 x2 x3 (ix3 b t k) = _ := cq_at x0 x1 x2 x3 b t
  revert e
  generalize val_main_v43 (F := Ideal) x0 x1 x2 x3 = h
  intro e
  pointwise []
  simp only [e]

/-- The columns cut into groups. -/
theorem groups_at (h : (⟨3, ![2, 8192, 3072]⟩ : Shape).Idx → EReal) (b : Fin 2) (t : Fin 8192) (q : Fin 4) (j : Fin 768) :
    (shapeCast S2x8192x4x768 (show Vec Ideal S2x8192x3072 .f32 from h) shapeCasts_S2x8192x3072_S2x8192x4x768) (ix4 b t q j)
      = h (ix3 b t ⟨q.val * 768 + j.val, by have := q.isLt; have := j.isLt; omega⟩) := by
  refine shapeCast_apply _ _ _ _ ?_
  rewrite [Shape.rowMajor_val_three, Shape.rowMajor_val_four]
  show (b.val * 8192 + t.val) * 3072 + (q.val * 768 + j.val) = ((b.val * 8192 + t.val) * 4 + q.val) * 768 + j.val
  omega

/-- A third of every group cut into its two pairs. -/
theorem pairs_at (h : (⟨4, ![2, 8192, 4, 256]⟩ : Shape).Idx → EReal) (b : Fin 2) (t : Fin 8192) (p : Fin 8) (d : Fin 128) :
    (shapeCast S2x8192x8x128 (show Vec Ideal S2x8192x4x256 .f32 from h) shapeCasts_S2x8192x4x256_S2x8192x8x128) (ix4 b t p d)
      = h (ix4 b t ⟨p.val / 2, by have := p.isLt; omega⟩ ⟨p.val % 2 * 128 + d.val, by have := d.isLt; omega⟩) := by
  refine shapeCast_apply _ _ _ _ ?_
  rewrite [Shape.rowMajor_val_four, Shape.rowMajor_val_four]
  show ((b.val * 8192 + t.val) * 4 + p.val / 2) * 256 + (p.val % 2 * 128 + d.val) = ((b.val * 8192 + t.val) * 8 + p.val) * 128 + d.val
  omega

/-- The angles laid side by side four times. -/
theorem four_at (b : Fin 2) (t : Fin 8192) (d : Fin 128) :
    val_main_v53 (F := Ideal) x5 (ix3 b t d) = x5 (ix3 b t ⟨d.val % 32, Nat.mod_lt _ (by decide)⟩) := by
  have hd := d.isLt
  unfold val_main_v53
  pointwise []
  split_ifs <;> refine congrArg (fun j => x5 (ix3 b t j)) (Fin.ext ?_) <;> simp only [] <;> omega

/-- The reference's entries. -/
theorem ref_at (b : Fin 2) (p : Fin 8) (e : Fin 256) (t : Fin 8192) :
    val_main_v66 (F := Ideal) x0 x1 x2 x3 x4 x5 x6 (ix4 b p e t) = qAt x0 x1 x2 x3 x4 x5 x6 b p e t := by
  unfold val_main_v66 val_main_v65 val_main_v64 val_main_v63 val_main_v62 val_main_v61 val_main_v60 val_main_v59 val_main_v58 val_main_v57 val_main_v56 val_main_v54 val_main_v52 val_main_v51 val_main_v50 val_main_v49 val_main_v48 val_main_v47 val_main_v46 val_main_cst_6
    qAt pairAt
  have eC : ∀ d, val_main_v53 (F := Ideal) x5 (ix3 b t d) = _ := four_at x5 b t
  have eS : ∀ d, val_main_v55 (F := Ideal) x6 (ix3 b t d) = x6 (ix3 b t ⟨d.val % 32, Nat.mod_lt _ (by decide)⟩) := four_at x6 b t
  have eP : ∀ j, val_main_v45 (F := Ideal) x0 x1 x2 x3 x4 (ix3 b t j) = _ := prod_at x0 x1 x2 x3 x4 b t
  revert eC eS eP
  generalize val_main_v53 (F := Ideal) x5 = C
  generalize val_main_v55 (F := Ideal) x6 = S
  generalize val_main_v45 (F := Ideal) x0 x1 x2 x3 x4 = h
  intro eC eS eP
  pointwise [groups_at, pairs_at]
  simp only [← eP]
  refine congrArg (· * _) ?_
  by_cases hd : e.val < 128
  · rw [dif_pos hd, dif_pos hd]
    rfl
  · rw [dif_neg hd, dif_neg hd, eC, eS]
    refine congrArg₂ (· + ·) (congrArg (· * _) (congrArg (fun j => h (ix3 b t j)) (Fin.ext ?_)))
      (congrArg (· * _) (congrArg (fun j => h (ix3 b t j)) (Fin.ext ?_)))
    · exact congrArg (p.val / 2 * 768 + ·) (Nat.add_assoc 256 _ _).symm
    · exact congrArg (p.val / 2 * 768 + ·) (Nat.add_assoc 512 _ _).symm

end Cert.Q.Ref
-- ==== Proof.KvSpec.lean ====
/-
  The second layer's shared keys and values as formulas of the call's arguments, entry by entry.

  A row of the input is normalized and modulated, and projected to 512 channels: 256 of the latent, 128 of a pair's rotated
  channels, and those 128 with the halves of each head exchanged. The normalized latent is projected to the keys' 1024
  channels and the values'. A pair's key is its 128 channels and the rotated ones; its value is its two heads' 64 channels,
  each followed by 16 ones.
-/
module

public import proofs.«01_k».proof.Proof.FfnMath

@[expose] public section

noncomputable section

namespace Cert.Kv

open Idealize.ShloMosaic Cert.Ffn

/-- The normalization of a row of 256 channels. -/
def rmsRow256 (x g : Fin 256 → EReal) (n : Fin 256) : EReal :=
  x n * Ideal.rsqrt (Ideal.div (∑ k : Fin 256, x k * x k) (Ideal.ofBits FTy.f32 0x43800000#32)
      + Ideal.ofBits FTy.f32 0x358637BD#32) * g n

/-- The first product at a row, from the row, its modulation's vectors and the matrix. -/
def downRow (x g sc sh : Fin 1024 → EReal) (w1 : Fin 1024 → Fin 512 → EReal) (j : Fin 512) : EReal :=
  ∑ i : Fin 1024, modRow x g sc sh i * w1 i j

/-- The second product at a row, from the first. -/
def upRow (t : Fin 512 → EReal) (lg : Fin 256 → EReal) (wu : Fin 256 → Fin 2048 → EReal) (j : Fin 2048) : EReal :=
  ∑ k : Fin 256, rmsRow256 (fun n => t ⟨n.val, by have := n.isLt; omega⟩) lg k * wu k j

/-- The rotated channels at a row, from the first product and the angles' cosines and sines. -/
def rotRow (t : Fin 512 → EReal) (C S : Fin 32 → EReal) (d : Fin 128) : EReal :=
  t ⟨256 + d.val, by have := d.isLt; omega⟩ * C ⟨d.val % 32, Nat.mod_lt _ (by decide)⟩
    + t ⟨384 + d.val, by have := d.isLt; omega⟩ * S ⟨d.val % 32, Nat.mod_lt _ (by decide)⟩

/-- A channel of a pair's key, from the second product and the rotated channels. -/
def keyOf (u : Fin 2048 → EReal) (rot : Fin 128 → EReal) (p : Fin 8) (e : Fin 256) : EReal :=
  if h : e.val < 128 then u ⟨p.val * 128 + e.val, by have := p.isLt; omega⟩
  else rot ⟨e.val - 128, by have := e.isLt; omega⟩

/-- A channel of a pair's value. -/
def valOf (u : Fin 2048 → EReal) (p : Fin 8) (e : Fin 160) : EReal :=
  if h : e.val % 80 < 64 then u ⟨1024 + (p.val * 128 + (e.val / 80 * 64 + e.val % 80)), by have := p.isLt; have := e.isLt; omega⟩
  else 1

section

variable (H : (⟨3, ![2, 8192, 1024]⟩ : Shape).Idx → EReal) (V : (⟨3, ![2, 8, 1024]⟩ : Shape).Idx → EReal)
  (G : (⟨2, ![8, 256]⟩ : Shape).Idx → EReal) (W1 : (⟨2, ![1024, 512]⟩ : Shape).Idx → EReal)
  (WU : (⟨2, ![256, 2048]⟩ : Shape).Idx → EReal) (C S : (⟨3, ![2, 8192, 32]⟩ : Shape).Idx → EReal) (b : Fin 2) (t : Fin 8192)

/-- The first product. -/
def downAt : Fin 512 → EReal :=
  downRow (fun n => H (ix3 b t n)) (fun n => V (ix3 b 0 n)) (fun n => V (ix3 b 2 n)) (fun n => V (ix3 b 1 n)) (fun i j => W1 (ix2 i j))

/-- The second product. -/
def upAt : Fin 2048 → EReal := upRow (downAt H V W1 b t) (fun n => G (ix2 0 n)) (fun k j => WU (ix2 k j))

/-- The keys. -/
def kAt (p : Fin 8) (e : Fin 256) : EReal :=
  keyOf (upAt H V G W1 WU b t) (rotRow (downAt H V W1 b t) (fun d => C (ix3 b t d)) (fun d => S (ix3 b t d))) p e

/-- The values. -/
def vAt (p : Fin 8) (e : Fin 160) : EReal := valOf (upAt H V G W1 WU b t) p e

end

end Cert.Kv
-- ==== Proof.KvBlock.lean ====
/-
  The pieces the call of the shared keys and values stores at a grid point, entry by entry.

  For each pair of heads the body stores its key's channels and the rotated ones, and its value's two heads, each with its
  ones; so one lemma reads each of the four kinds of piece at a pair.
-/
module

public import proofs.«01_k».proof.Proof.KvSpec
public import proofs.«01_k».proof.Proof.Gen.KvKernelIdeal.Value
public import Idealize.ShloMosaic.Lib.Pipeline.ValueKit.Tiles
public import Idealize.ShloMosaic.Lib.WholeRead

@[expose] public section

set_option maxRecDepth 16384

noncomputable section

namespace Cert.Kv

open Idealize.ShloMosaic Cert.KvKernelIdeal Cert.KvKernelIdeal.Gen Cert.Ffn

/-- The keys' block, from the second product and the rotated channels of the block's rows. -/
def kBlk (K : FVec Ideal S1024x2048 .f32) (R : FVec Ideal S1024x128 .bf16) : Vec Ideal S1x8x1024x256 .bf16 :=
  fun y => keyOf (fun j => K (ix2 (y 2) j)) (fun d => R (ix2 (y 2) d)) (y 1) (y 3)

/-- The values' block. -/
def vBlk (K : FVec Ideal S1024x2048 .f32) : Vec Ideal S1x8x160x1024 .bf16 :=
  fun y => valOf (fun j => K (ix2 (y 3) j)) (y 1) (y 2)

/-- A pair's key channels. -/
def keyCut (K : FVec Ideal S1024x2048 .f32) (o : ℕ) (hs : S1024x2048.Slices ![0, o] S1024x128) : FVec Ideal S1x1x1024x128 .bf16 :=
  shapeCast S1x1x1024x128 (truncf .bf16 (extractStridedSlice S1024x128 ![0, o] K hs) bitsLt_bf16_f32) shapeCasts_S1024x128_S1x1x1024x128

/-- One of a pair's two heads of the values. -/
def valCut (K : FVec Ideal S1024x2048 .f32) (o q : ℕ) (hs : S1024x2048.Slices ![0, o] S1024x128) (hq : S128x1024.Slices ![q, 0] S64x1024) :
    FVec Ideal S1x1x64x1024 .bf16 :=
  shapeCast S1x1x64x1024 (extractStridedSlice S64x1024 ![q, 0] (truncf .bf16 (transpose S128x1024 [1, 0]
    (extractStridedSlice S1024x128 ![0, o] K hs) transposes_S1024x128_p1_0_S128x1024) bitsLt_bf16_f32) hq) shapeCasts_S64x1024_S1x1x64x1024

theorem keyCut_at (K : FVec Ideal S1024x2048 .f32) (o : ℕ) (hs : S1024x2048.Slices ![0, o] S1024x128) (r : Fin 1024) (d : Fin 128)
    (j : Fin 2048) (hj : j.val = o + d.val) : keyCut K o hs (ix4 0 0 r d) = K (ix2 r j) := by
  pointwise [keyCut]
  exact congrArg (fun j => K (ix2 r j)) (Fin.ext hj.symm)

theorem valCut_at (K : FVec Ideal S1024x2048 .f32) (o q : ℕ) (hs : S1024x2048.Slices ![0, o] S1024x128) (hq : S128x1024.Slices ![q, 0] S64x1024)
    (d : Fin 64) (r : Fin 1024) (j : Fin 2048) (hj : j.val = o + (q + d.val)) : valCut K o q hs hq (ix4 0 0 d r) = K (ix2 r j) := by
  pointwise [valCut]
  exact congrArg (fun j => K (ix2 r j)) (Fin.ext hj.symm)

/-- The first product of a block's rows. -/
theorem down_at (v0 : Vec Ideal S1x8x1024 .f32) (v2 : Vec Ideal S1x1024x1024 .f32) (v26 : Vec Ideal S1024x512 .bf16) (r : Fin 1024)
    (j : Fin 512) : k0_pay2 v0 v2 v26 (ix2 r j)
      = downRow (fun n => v2 (ix3 0 r n)) (fun n => v0 (ix3 0 0 n)) (fun n => v0 (ix3 0 2 n)) (fun n => v0 (ix3 0 1 n))
          (fun i j => v26 (ix2 i j)) j := by
  pointwise [k0_pay2]
  rfl

/-- The second product. -/
theorem up_at (v0 : Vec Ideal S1x8x1024 .f32) (v2 : Vec Ideal S1x1024x1024 .f32) (v26 : Vec Ideal S1024x512 .bf16)
    (v29 : Vec Ideal S1x256 .f32) (v55 : Vec Ideal S256x2048 .bf16) (r : Fin 1024) (j : Fin 2048) :
    k0_pay5 v29 (k0_pay3 v0 v2 v26) v55 (ix2 r j)
      = upRow (fun j => k0_pay2 v0 v2 v26 (ix2 r j)) (fun n => v29 (ix2 0 n)) (fun k j => v55 (ix2 k j)) j := by
  unfold k0_pay3
  generalize k0_pay2 v0 v2 v26 = T
  pointwise [k0_pay5]
  rfl

/-- The angles' 32 channels, laid side by side four times. -/
theorem four_at (v : Vec Ideal S1x1024x32 .f32) (r : Fin 1024) (d : Fin 128) :
    concatenate S1024x128 1 [⟨S1024x32, shapeCast S1024x32 v shapeCasts_S1x1024x32_S1024x32⟩,
        ⟨S1024x32, shapeCast S1024x32 v shapeCasts_S1x1024x32_S1024x32⟩, ⟨S1024x32, shapeCast S1024x32 v shapeCasts_S1x1024x32_S1024x32⟩,
        ⟨S1024x32, shapeCast S1024x32 v shapeCasts_S1x1024x32_S1024x32⟩]
        concatenates_S1024x32_S1024x32_S1024x32_S1024x32_S1024x128_d1 (ix2 r d)
      = v (ix3 0 r ⟨d.val % 32, Nat.mod_lt _ (by decide)⟩) := by
  have hd := d.isLt
  pointwise []
  split_ifs <;> refine congrArg (fun j => v (ix3 0 r j)) (Fin.ext ?_) <;> simp only [] <;> omega

/-- The rotated channels, from the angles laid side by side. -/
theorem rot_at (T : FVec Ideal S1024x512 .f32) (v5 v6 : Vec Ideal S1x1024x32 .f32) (r : Fin 1024) (d : Fin 128) :
    k0_pay4 T v5 v6 (ix2 r d) = rotRow (fun j => T (ix2 r j)) (fun d => v5 (ix3 0 r d)) (fun d => v6 (ix3 0 r d)) d := by
  have eC := four_at v5 r
  have eS := four_at v6 r
  unfold k0_pay4 rotRow
  revert eC eS
  generalize concatenate S1024x128 1 [⟨S1024x32, shapeCast S1024x32 v5 shapeCasts_S1x1024x32_S1024x32⟩, _, _, _] _ = C
  generalize concatenate S1024x128 1 [⟨S1024x32, shapeCast S1024x32 v6 shapeCasts_S1x1024x32_S1024x32⟩, _, _, _] _ = S
  intro eC eS
  pointwise []
  rw [eC, eS]

section

variable (K : FVec Ideal S1024x2048 .f32) (R : FVec Ideal S1024x128 .bf16) (n : ℕ) (hn : n < 8)

include hn

/-- A pair's own channels among the pieces of the keys. -/
theorem kLo (inb : ∀ a, (![0, n, 0, 0] : Fin 4 → ℕ) a + (![1, 1, 1024, 128] : Fin 4 → ℕ) a ≤ S1x8x1024x256.size a) (o : ℕ) (ho : o = n * 128)
    (hs : S1024x2048.Slices ![0, o] S1024x128)
    (x : (Rect.unit (s := S1x8x1024x256) ![0, n, 0, 0] ![1, 1, 1024, 128] inb).shape.Idx) :
    keyCut K o hs x = kBlk K R ((Rect.unit (s := S1x8x1024x256) ![0, n, 0, 0] ![1, 1, 1024, 128] inb).emb x) := by
  have h3 : (x 3).val < 128 := (x 3).isLt
  have ex : x = ix4 (0 : Fin 1) (0 : Fin 1) (⟨(x 2).val, (x 2).isLt⟩ : Fin 1024) (⟨(x 3).val, h3⟩ : Fin 128) := by
    refine funext fun a => Fin.ext ?_
    fin_cases a
    · exact Nat.lt_one_iff.1 (x 0).isLt
    · exact Nat.lt_one_iff.1 (x 1).isLt
    all_goals rfl
  have ey : (Rect.unit (s := S1x8x1024x256) ![0, n, 0, 0] ![1, 1, 1024, 128] inb).emb x
      = ix4 (0 : Fin 1) (⟨n, hn⟩ : Fin 8) (⟨(x 2).val, (x 2).isLt⟩ : Fin 1024) (⟨(x 3).val, h3.trans (by decide)⟩ : Fin 256) := by
    refine funext fun a => Fin.ext ((Rect.idx_unit_val _ _ inb x a).trans ?_)
    fin_cases a
    · exact (Nat.zero_add _).trans (Nat.lt_one_iff.1 (x 0).isLt)
    · exact congrArg (n + ·) (Nat.lt_one_iff.1 (x 1).isLt)
    · exact Nat.zero_add _
    · exact Nat.zero_add _
  refine (congrArg (keyCut K o hs) ex).trans (Eq.trans ?_ (congrArg (kBlk K R) ey).symm)
  refine Eq.trans ?_ (dif_pos h3).symm
  exact keyCut_at K o hs _ _ _ (congrArg (· + (x 3).val) ho.symm)

/-- The rotated channels among them. -/
theorem kHi (inb : ∀ a, (![0, n, 0, 128] : Fin 4 → ℕ) a + (![1, 1, 1024, 128] : Fin 4 → ℕ) a ≤ S1x8x1024x256.size a)
    (x : (Rect.unit (s := S1x8x1024x256) ![0, n, 0, 128] ![1, 1, 1024, 128] inb).shape.Idx) :
    shapeCast S1x1x1024x128 R shapeCasts_S1024x128_S1x1x1024x128 x
      = kBlk K R ((Rect.unit (s := S1x8x1024x256) ![0, n, 0, 128] ![1, 1, 1024, 128] inb).emb x) := by
  have h3 : (x 3).val < 128 := (x 3).isLt
  have ex : x = ix4 (0 : Fin 1) (0 : Fin 1) (⟨(x 2).val, (x 2).isLt⟩ : Fin 1024) (⟨(x 3).val, h3⟩ : Fin 128) := by
    refine funext fun a => Fin.ext ?_
    fin_cases a
    · exact Nat.lt_one_iff.1 (x 0).isLt
    · exact Nat.lt_one_iff.1 (x 1).isLt
    all_goals rfl
  have ey : (Rect.unit (s := S1x8x1024x256) ![0, n, 0, 128] ![1, 1, 1024, 128] inb).emb x
      = ix4 (0 : Fin 1) (⟨n, hn⟩ : Fin 8) (⟨(x 2).val, (x 2).isLt⟩ : Fin 1024) (⟨128 + (x 3).val, by omega⟩ : Fin 256) := by
    refine funext fun a => Fin.ext ((Rect.idx_unit_val _ _ inb x a).trans ?_)
    fin_cases a
    · exact (Nat.zero_add _).trans (Nat.lt_one_iff.1 (x 0).isLt)
    · exact congrArg (n + ·) (Nat.lt_one_iff.1 (x 1).isLt)
    · exact Nat.zero_add _
    · rfl
  refine (congrArg (shapeCast S1x1x1024x128 R shapeCasts_S1024x128_S1x1x1024x128) ex).trans (Eq.trans ?_ (congrArg (kBlk K R) ey).symm)
  have hc : ¬ 128 + (x 3).val < 128 := by omega
  refine Eq.trans ?_ (dif_neg hc).symm
  pointwise []

/-- A head among the pieces of the values. -/
theorem vHead (u : ℕ) (hu : u < 2) (c : ℕ) (hc : c = u * 80)
    (inb : ∀ a, (![0, n, c, 0] : Fin 4 → ℕ) a + (![1, 1, 64, 1024] : Fin 4 → ℕ) a ≤ S1x8x160x1024.size a) (o q : ℕ)
    (ho : o = 1024 + n * 128) (hq0 : q = u * 64) (hs : S1024x2048.Slices ![0, o] S1024x128) (hq : S128x1024.Slices ![q, 0] S64x1024)
    (x : (Rect.unit (s := S1x8x160x1024) ![0, n, c, 0] ![1, 1, 64, 1024] inb).shape.Idx) :
    valCut K o q hs hq x = vBlk K ((Rect.unit (s := S1x8x160x1024) ![0, n, c, 0] ![1, 1, 64, 1024] inb).emb x) := by
  have h2 : (x 2).val < 64 := (x 2).isLt
  have ex : x = ix4 (0 : Fin 1) (0 : Fin 1) (⟨(x 2).val, h2⟩ : Fin 64) (⟨(x 3).val, (x 3).isLt⟩ : Fin 1024) := by
    refine funext fun a => Fin.ext ?_
    fin_cases a
    · exact Nat.lt_one_iff.1 (x 0).isLt
    · exact Nat.lt_one_iff.1 (x 1).isLt
    all_goals rfl
  have ey : (Rect.unit (s := S1x8x160x1024) ![0, n, c, 0] ![1, 1, 64, 1024] inb).emb x
      = ix4 (0 : Fin 1) (⟨n, hn⟩ : Fin 8) (⟨c + (x 2).val, by omega⟩ : Fin 160) (⟨(x 3).val, (x 3).isLt⟩ : Fin 1024) := by
    refine funext fun a => Fin.ext ((Rect.idx_unit_val _ _ inb x a).trans ?_)
    fin_cases a
    · exact (Nat.zero_add _).trans (Nat.lt_one_iff.1 (x 0).isLt)
    · exact congrArg (n + ·) (Nat.lt_one_iff.1 (x 1).isLt)
    · rfl
    · exact Nat.zero_add _
  refine (congrArg (valCut K o q hs hq) ex).trans (Eq.trans ?_ (congrArg (vBlk K) ey).symm)
  have hm : (c + (x 2).val) % 80 < 64 := by omega
  refine Eq.trans ?_ (dif_pos hm).symm
  refine valCut_at K o q hs hq _ _ _ ?_
  show 1024 + (n * 128 + ((c + (x 2).val) / 80 * 64 + (c + (x 2).val) % 80)) = o + (q + (x 2).val)
  omega

/-- The ones after a head. -/
theorem vOnes (u : ℕ) (hu : u < 2) (c : ℕ) (hc : c = u * 80 + 64)
    (inb : ∀ a, (![0, n, c, 0] : Fin 4 → ℕ) a + (![1, 1, 16, 1024] : Fin 4 → ℕ) a ≤ S1x8x160x1024.size a)
    (x : (Rect.unit (s := S1x8x160x1024) ![0, n, c, 0] ![1, 1, 16, 1024] inb).shape.Idx) :
    k0_pay11 (F := Ideal) k0_pay9 x = vBlk K ((Rect.unit (s := S1x8x160x1024) ![0, n, c, 0] ![1, 1, 16, 1024] inb).emb x) := by
  have h2 : (x 2).val < 16 := (x 2).isLt
  have ex : x = ix4 (0 : Fin 1) (0 : Fin 1) (⟨(x 2).val, h2⟩ : Fin 16) (⟨(x 3).val, (x 3).isLt⟩ : Fin 1024) := by
    refine funext fun a => Fin.ext ?_
    fin_cases a
    · exact Nat.lt_one_iff.1 (x 0).isLt
    · exact Nat.lt_one_iff.1 (x 1).isLt
    all_goals rfl
  have ey : (Rect.unit (s := S1x8x160x1024) ![0, n, c, 0] ![1, 1, 16, 1024] inb).emb x
      = ix4 (0 : Fin 1) (⟨n, hn⟩ : Fin 8) (⟨c + (x 2).val, by omega⟩ : Fin 160) (⟨(x 3).val, (x 3).isLt⟩ : Fin 1024) := by
    refine funext fun a => Fin.ext ((Rect.idx_unit_val _ _ inb x a).trans ?_)
    fin_cases a
    · exact (Nat.zero_add _).trans (Nat.lt_one_iff.1 (x 0).isLt)
    · exact congrArg (n + ·) (Nat.lt_one_iff.1 (x 1).isLt)
    · rfl
    · exact Nat.zero_add _
  refine (congrArg (k0_pay11 (F := Ideal) k0_pay9) ex).trans (Eq.trans ?_ (congrArg (vBlk K) ey).symm)
  have hm : ¬ (c + (x 2).val) % 80 < 64 := by omega
  refine Eq.trans ?_ (dif_neg hm).symm
  pointwise [k0_pay11, k0_pay9]

end

end Cert.Kv
-- ==== Proof.KvOut.lean ====
/-
  What the call of the shared keys and values leaves in its two output blocks at a grid point: the pieces (`KvBlock`) put together.
-/
module

public import proofs.«01_k».proof.Proof.KvBlock

@[expose] public section

set_option maxRecDepth 16384

noncomputable section

namespace Cert.Kv

open Idealize.ShloMosaic Cert.KvKernelIdeal Cert.KvKernelIdeal.Gen Cert.Ffn

variable (c : Dev nD) (i : grid0.Coords) (arg2 : Memref sig .tc .vmem S1x1024x1024 .f32) (harg2 : arg2.IsWhole)
  (arg3 : Memref sig .tc .vmem S1x8x1024 .f32) (harg3 : arg3.IsWhole) (arg4 : Memref sig .tc .vmem S8x256 .f32)
  (harg4 : arg4.IsWhole) (arg5 : Memref sig .tc .vmem S1024x512 .bf16) (harg5 : arg5.IsWhole)
  (arg6 : Memref sig .tc .vmem S256x2048 .bf16) (harg6 : arg6.IsWhole) (arg7 : Memref sig .tc .vmem S1x1024x32 .f32)
  (harg7 : arg7.IsWhole) (arg8 : Memref sig .tc .vmem S1x1024x32 .f32) (harg8 : arg8.IsWhole)
  (arg9 : Memref sig .tc .vmem S1x8x1024x256 .bf16) (harg9 : arg9.IsWhole)
  (arg10 : Memref sig .tc .vmem S1x8x160x1024 .bf16) (harg10 : arg10.IsWhole)
  (x0 : Vec Ideal S1x1024x1024 .f32) (x1 : Vec Ideal S1x8x1024 .f32) (x2 : Vec Ideal S8x256 .f32) (x3 : Vec Ideal S1024x512 .bf16)
  (x4 : Vec Ideal S256x2048 .bf16) (x5 x6 : Vec Ideal S1x1024x32 .f32)

/-- The second product the body computes. -/
abbrev upB : FVec Ideal S1024x2048 .f32 := kernelRun0_A.sl.r_4 (F := Ideal) c arg2 harg2 arg3 harg3 arg4 harg4 arg5 harg5 arg6 harg6 x0 x1 x2 x3 x4

/-- The rotated channels it computes. -/
abbrev rotB : FVec Ideal S1024x128 .bf16 := kernelRun0_A.sl.r_3 (F := Ideal) c arg2 harg2 arg3 harg3 arg5 harg5 arg7 harg7 arg8 harg8 x0 x1 x3 x5 x6

/-- The first product of a block's row. -/
def downB (r : Fin 1024) : Fin 512 → EReal :=
  downRow (fun n => x0 (ix3 0 r n)) (fun n => x1 (ix3 0 0 n)) (fun n => x1 (ix3 0 2 n)) (fun n => x1 (ix3 0 1 n)) (fun i j => x3 (ix2 i j))

/-- The body's second product is the formula's. -/
theorem upB_at (r : Fin 1024) (j : Fin 2048) : upB c arg2 harg2 arg3 harg3 arg4 harg4 arg5 harg5 arg6 harg6 x0 x1 x2 x3 x4 (ix2 r j)
    = upRow (downB x0 x1 x3 r) (fun n => x2 (ix2 0 n)) (fun k j => x4 (ix2 k j)) j := by
  have e1 : View.readAt (Elt Ideal) arg3.view (Rect.unit (s := S1x8x1024) ![0, 0, 0] S1x8x1024.size inb_S1x8x1024_S1x8x1024_0_0_0).toLoadRect (harg3.unread x1) = x1 := by
    funext y
    rw [Memref.IsWhole.readAt_unread]
    refine congrArg x1 (funext fun a => Fin.ext ?_)
    fin_cases a <;> show 0 + 1 * _ = _ <;> omega
  have e0 : View.readAt (Elt Ideal) arg2.view (Rect.unit (s := S1x1024x1024) ![0, 0, 0] S1x1024x1024.size inb_S1x1024x1024_S1x1024x1024_0_0_0).toLoadRect (harg2.unread x0) = x0 := by
    funext y
    rw [Memref.IsWhole.readAt_unread]
    refine congrArg x0 (funext fun a => Fin.ext ?_)
    fin_cases a <;> show 0 + 1 * _ = _ <;> omega
  have e3 : View.readAt (Elt Ideal) arg5.view (Rect.unit (s := S1024x512) ![0, 0] S1024x512.size inb_S1024x512_S1024x512_0_0).toLoadRect (harg5.unread x3) = x3 := by
    funext y
    rw [Memref.IsWhole.readAt_unread]
    refine congrArg x3 (funext fun a => Fin.ext ?_)
    fin_cases a <;> show 0 + 1 * _ = _ <;> omega
  have e4 : View.readAt (Elt Ideal) arg6.view (Rect.unit (s := S256x2048) ![0, 0] S256x2048.size inb_S256x2048_S256x2048_0_0).toLoadRect (harg6.unread x4) = x4 := by
    funext y
    rw [Memref.IsWhole.readAt_unread]
    refine congrArg x4 (funext fun a => Fin.ext ?_)
    fin_cases a <;> show 0 + 1 * _ = _ <;> omega
  have e2 : ∀ n : Fin 256, (View.readAt (Elt Ideal) arg4.view (Rect.unit (s := S8x256) ![0, 0] S1x256.size inb_S8x256_S1x256_0_0).toLoadRect (harg4.unread x2) : Vec Ideal S1x256 .f32) (ix2 0 n) = x2 (ix2 0 n) := fun n => by
    rw [Memref.IsWhole.readAt_unread]
    refine congrArg x2 (funext fun a => Fin.ext ?_)
    fin_cases a <;> show 0 + 1 * _ = _ <;> simp
  have e : upB c arg2 harg2 arg3 harg3 arg4 harg4 arg5 harg5 arg6 harg6 x0 x1 x2 x3 x4 = k0_pay5 (View.readAt (Elt Ideal) arg4.view (Rect.unit (s := S8x256) ![0, 0] S1x256.size inb_S8x256_S1x256_0_0).toLoadRect (harg4.unread x2))
      (k0_pay3 (View.readAt (Elt Ideal) arg3.view (Rect.unit (s := S1x8x1024) ![0, 0, 0] S1x8x1024.size inb_S1x8x1024_S1x8x1024_0_0_0).toLoadRect (harg3.unread x1))
        (View.readAt (Elt Ideal) arg2.view (Rect.unit (s := S1x1024x1024) ![0, 0, 0] S1x1024x1024.size inb_S1x1024x1024_S1x1024x1024_0_0_0).toLoadRect (harg2.unread x0))
        (View.readAt (Elt Ideal) arg5.view (Rect.unit (s := S1024x512) ![0, 0] S1024x512.size inb_S1024x512_S1024x512_0_0).toLoadRect (harg5.unread x3)))
      (View.readAt (Elt Ideal) arg6.view (Rect.unit (s := S256x2048) ![0, 0] S256x2048.size inb_S256x2048_S256x2048_0_0).toLoadRect (harg6.unread x4)) := rfl
  rw [e, e0, e1, e3, e4, up_at]
  simp only [e2, down_at]
  rfl

/-- … the rotated channels. -/
theorem rotB_at (r : Fin 1024) (d : Fin 128) : rotB c arg2 harg2 arg3 harg3 arg5 harg5 arg7 harg7 arg8 harg8 x0 x1 x3 x5 x6 (ix2 r d)
    = rotRow (downB x0 x1 x3 r) (fun d => x5 (ix3 0 r d)) (fun d => x6 (ix3 0 r d)) d := by
  have e1 : View.readAt (Elt Ideal) arg3.view (Rect.unit (s := S1x8x1024) ![0, 0, 0] S1x8x1024.size inb_S1x8x1024_S1x8x1024_0_0_0).toLoadRect (harg3.unread x1) = x1 := by
    funext y
    rw [Memref.IsWhole.readAt_unread]
    refine congrArg x1 (funext fun a => Fin.ext ?_)
    fin_cases a <;> show 0 + 1 * _ = _ <;> omega
  have e0 : View.readAt (Elt Ideal) arg2.view (Rect.unit (s := S1x1024x1024) ![0, 0, 0] S1x1024x1024.size inb_S1x1024x1024_S1x1024x1024_0_0_0).toLoadRect (harg2.unread x0) = x0 := by
    funext y
    rw [Memref.IsWhole.readAt_unread]
    refine congrArg x0 (funext fun a => Fin.ext ?_)
    fin_cases a <;> show 0 + 1 * _ = _ <;> omega
  have e3 : View.readAt (Elt Ideal) arg5.view (Rect.unit (s := S1024x512) ![0, 0] S1024x512.size inb_S1024x512_S1024x512_0_0).toLoadRect (harg5.unread x3) = x3 := by
    funext y
    rw [Memref.IsWhole.readAt_unread]
    refine congrArg x3 (funext fun a => Fin.ext ?_)
    fin_cases a <;> show 0 + 1 * _ = _ <;> omega
  have e5 : View.readAt (Elt Ideal) arg7.view (Rect.unit (s := S1x1024x32) ![0, 0, 0] S1x1024x32.size inb_S1x1024x32_S1x1024x32_0_0_0).toLoadRect (harg7.unread x5) = x5 := by
    funext y
    rw [Memref.IsWhole.readAt_unread]
    refine congrArg x5 (funext fun a => Fin.ext ?_)
    fin_cases a <;> show 0 + 1 * _ = _ <;> omega
  have e6 : View.readAt (Elt Ideal) arg8.view (Rect.unit (s := S1x1024x32) ![0, 0, 0] S1x1024x32.size inb_S1x1024x32_S1x1024x32_0_0_0).toLoadRect (harg8.unread x6) = x6 := by
    funext y
    rw [Memref.IsWhole.readAt_unread]
    refine congrArg x6 (funext fun a => Fin.ext ?_)
    fin_cases a <;> show 0 + 1 * _ = _ <;> omega
  have e : rotB c arg2 harg2 arg3 harg3 arg5 harg5 arg7 harg7 arg8 harg8 x0 x1 x3 x5 x6 = k0_pay4
      (k0_pay2 (View.readAt (Elt Ideal) arg3.view (Rect.unit (s := S1x8x1024) ![0, 0, 0] S1x8x1024.size inb_S1x8x1024_S1x8x1024_0_0_0).toLoadRect (harg3.unread x1))
        (View.readAt (Elt Ideal) arg2.view (Rect.unit (s := S1x1024x1024) ![0, 0, 0] S1x1024x1024.size inb_S1x1024x1024_S1x1024x1024_0_0_0).toLoadRect (harg2.unread x0))
        (View.readAt (Elt Ideal) arg5.view (Rect.unit (s := S1024x512) ![0, 0] S1024x512.size inb_S1024x512_S1024x512_0_0).toLoadRect (harg5.unread x3)))
      (View.readAt (Elt Ideal) arg7.view (Rect.unit (s := S1x1024x32) ![0, 0, 0] S1x1024x32.size inb_S1x1024x32_S1x1024x32_0_0_0).toLoadRect (harg7.unread x5))
      (View.readAt (Elt Ideal) arg8.view (Rect.unit (s := S1x1024x32) ![0, 0, 0] S1x1024x32.size inb_S1x1024x32_S1x1024x32_0_0_0).toLoadRect (harg8.unread x6)) := rfl
  rw [e, e0, e1, e3, e5, e6, rot_at]
  simp only [down_at]
  rfl

/-- The block of the keys. -/
theorem keys_at (y : S1x8x1024x256.Idx) :
    out0_A_7 (F := Ideal) c i arg2 harg2 arg3 harg3 arg4 harg4 arg5 harg5 arg6 harg6 arg7 harg7 arg8 harg8 arg9 harg9 arg10 harg10 x0 x1 x2 x3 x4 x5 x6 y
      = kBlk (upB c arg2 harg2 arg3 harg3 arg4 harg4 arg5 harg5 arg6 harg6 x0 x1 x2 x3 x4) (rotB c arg2 harg2 arg3 harg3 arg5 harg5 arg7 harg7 arg8 harg8 x0 x1 x3 x5 x6) y := by
  unfold out0_A_7
  rw [View.read_writes_junk_eq_canon]
  refine View.canon_apply_of_pieces (kBlk (upB c arg2 harg2 arg3 harg3 arg4 harg4 arg5 harg5 arg6 harg6 x0 x1 x2 x3 x4) (rotB c arg2 harg2 arg3 harg3 arg5 harg5 arg7 harg7 arg8 harg8 x0 x1 x3 x5 x6)) _ ?_ y
    (cover0_A_7 c i arg2 harg2 arg3 harg3 arg4 harg4 arg5 harg5 arg6 harg6 arg7 harg7 arg8 harg8 arg9 harg9 arg10 harg10 x0 x1 x2 x3 x4 x5 x6 y)
  refine List.forall_mem_cons.2 ⟨kHi (upB c arg2 harg2 arg3 harg3 arg4 harg4 arg5 harg5 arg6 harg6 x0 x1 x2 x3 x4) (rotB c arg2 harg2 arg3 harg3 arg5 harg5 arg7 harg7 arg8 harg8 x0 x1 x3 x5 x6) 7 (by decide) inb_S1x8x1024x256_S1x1x1024x128_0_7_0_128, ?_⟩
  refine List.forall_mem_cons.2 ⟨kLo (upB c arg2 harg2 arg3 harg3 arg4 harg4 arg5 harg5 arg6 harg6 x0 x1 x2 x3 x4) (rotB c arg2 harg2 arg3 harg3 arg5 harg5 arg7 harg7 arg8 harg8 x0 x1 x3 x5 x6) 7 (by decide) inb_S1x8x1024x256_S1x1x1024x128_0_7_0_0 896 rfl slices_S1024x2048_o0_896_S1024x128, ?_⟩
  refine List.forall_mem_cons.2 ⟨kHi (upB c arg2 harg2 arg3 harg3 arg4 harg4 arg5 harg5 arg6 harg6 x0 x1 x2 x3 x4) (rotB c arg2 harg2 arg3 harg3 arg5 harg5 arg7 harg7 arg8 harg8 x0 x1 x3 x5 x6) 6 (by decide) inb_S1x8x1024x256_S1x1x1024x128_0_6_0_128, ?_⟩
  refine List.forall_mem_cons.2 ⟨kLo (upB c arg2 harg2 arg3 harg3 arg4 harg4 arg5 harg5 arg6 harg6 x0 x1 x2 x3 x4) (rotB c arg2 harg2 arg3 harg3 arg5 harg5 arg7 harg7 arg8 harg8 x0 x1 x3 x5 x6) 6 (by decide) inb_S1x8x1024x256_S1x1x1024x128_0_6_0_0 768 rfl slices_S1024x2048_o0_768_S1024x128, ?_⟩
  refine List.forall_mem_cons.2 ⟨kHi (upB c arg2 harg2 arg3 harg3 arg4 harg4 arg5 harg5 arg6 harg6 x0 x1 x2 x3 x4) (rotB c arg2 harg2 arg3 harg3 arg5 harg5 arg7 harg7 arg8 harg8 x0 x1 x3 x5 x6) 5 (by decide) inb_S1x8x1024x256_S1x1x1024x128_0_5_0_128, ?_⟩
  refine List.forall_mem_cons.2 ⟨kLo (upB c arg2 harg2 arg3 harg3 arg4 harg4 arg5 harg5 arg6 harg6 x0 x1 x2 x3 x4) (rotB c arg2 harg2 arg3 harg3 arg5 harg5 arg7 harg7 arg8 harg8 x0 x1 x3 x5 x6) 5 (by decide) inb_S1x8x1024x256_S1x1x1024x128_0_5_0_0 640 rfl slices_S1024x2048_o0_640_S1024x128, ?_⟩
  refine List.forall_mem_cons.2 ⟨kHi (upB c arg2 harg2 arg3 harg3 arg4 harg4 arg5 harg5 arg6 harg6 x0 x1 x2 x3 x4) (rotB c arg2 harg2 arg3 harg3 arg5 harg5 arg7 harg7 arg8 harg8 x0 x1 x3 x5 x6) 4 (by decide) inb_S1x8x1024x256_S1x1x1024x128_0_4_0_128, ?_⟩
  refine List.forall_mem_cons.2 ⟨kLo (upB c arg2 harg2 arg3 harg3 arg4 harg4 arg5 harg5 arg6 harg6 x0 x1 x2 x3 x4) (rotB c arg2 harg2 arg3 harg3 arg5 harg5 arg7 harg7 arg8 harg8 x0 x1 x3 x5 x6) 4 (by decide) inb_S1x8x1024x256_S1x1x1024x128_0_4_0_0 512 rfl slices_S1024x2048_o0_512_S1024x128, ?_⟩
  refine List.forall_mem_cons.2 ⟨kHi (upB c arg2 harg2 arg3 harg3 arg4 harg4 arg5 harg5 arg6 harg6 x0 x1 x2 x3 x4) (rotB c arg2 harg2 arg3 harg3 arg5 harg5 arg7 harg7 arg8 harg8 x0 x1 x3 x5 x6) 3 (by decide) inb_S1x8x1024x256_S1x1x1024x128_0_3_0_128, ?_⟩
  refine List.forall_mem_cons.2 ⟨kLo (upB c arg2 harg2 arg3 harg3 arg4 harg4 arg5 harg5 arg6 harg6 x0 x1 x2 x3 x4) (rotB c arg2 harg2 arg3 harg3 arg5 harg5 arg7 harg7 arg8 harg8 x0 x1 x3 x5 x6) 3 (by decide) inb_S1x8x1024x256_S1x1x1024x128_0_3_0_0 384 rfl slices_S1024x2048_o0_384_S1024x128, ?_⟩
  refine List.forall_mem_cons.2 ⟨kHi (upB c arg2 harg2 arg3 harg3 arg4 harg4 arg5 harg5 arg6 harg6 x0 x1 x2 x3 x4) (rotB c arg2 harg2 arg3 harg3 arg5 harg5 arg7 harg7 arg8 harg8 x0 x1 x3 x5 x6) 2 (by decide) inb_S1x8x1024x256_S1x1x1024x128_0_2_0_128, ?_⟩
  refine List.forall_mem_cons.2 ⟨kLo (upB c arg2 harg2 arg3 harg3 arg4 harg4 arg5 harg5 arg6 harg6 x0 x1 x2 x3 x4) (rotB c arg2 harg2 arg3 harg3 arg5 harg5 arg7 harg7 arg8 harg8 x0 x1 x3 x5 x6) 2 (by decide) inb_S1x8x1024x256_S1x1x1024x128_0_2_0_0 256 rfl slices_S1024x2048_o0_256_S1024x128, ?_⟩
  refine List.forall_mem_cons.2 ⟨kHi (upB c arg2 harg2 arg3 harg3 arg4 harg4 arg5 harg5 arg6 harg6 x0 x1 x2 x3 x4) (rotB c arg2 harg2 arg3 harg3 arg5 harg5 arg7 harg7 arg8 harg8 x0 x1 x3 x5 x6) 1 (by decide) inb_S1x8x1024x256_S1x1x1024x128_0_1_0_128, ?_⟩
  refine List.forall_mem_cons.2 ⟨kLo (upB c arg2 harg2 arg3 harg3 arg4 harg4 arg5 harg5 arg6 harg6 x0 x1 x2 x3 x4) (rotB c arg2 harg2 arg3 harg3 arg5 harg5 arg7 harg7 arg8 harg8 x0 x1 x3 x5 x6) 1 (by decide) inb_S1x8x1024x256_S1x1x1024x128_0_1_0_0 128 rfl slices_S1024x2048_o0_128_S1024x128, ?_⟩
  refine List.forall_mem_cons.2 ⟨kHi (upB c arg2 harg2 arg3 harg3 arg4 harg4 arg5 harg5 arg6 harg6 x0 x1 x2 x3 x4) (rotB c arg2 harg2 arg3 harg3 arg5 harg5 arg7 harg7 arg8 harg8 x0 x1 x3 x5 x6) 0 (by decide) inb_S1x8x1024x256_S1x1x1024x128_0_0_0_128, ?_⟩
  refine List.forall_mem_cons.2 ⟨kLo (upB c arg2 harg2 arg3 harg3 arg4 harg4 arg5 harg5 arg6 harg6 x0 x1 x2 x3 x4) (rotB c arg2 harg2 arg3 harg3 arg5 harg5 arg7 harg7 arg8 harg8 x0 x1 x3 x5 x6) 0 (by decide) inb_S1x8x1024x256_S1x1x1024x128_0_0_0_0 0 rfl slices_S1024x2048_o0_0_S1024x128, ?_⟩
  exact fun _ h => absurd h List.not_mem_nil

/-- The block of the values. -/
theorem vals_at (y : S1x8x160x1024.Idx) :
    out0_A_8 (F := Ideal) c i arg2 harg2 arg3 harg3 arg4 harg4 arg5 harg5 arg6 harg6 arg7 harg7 arg8 harg8 arg9 harg9 arg10 harg10 x0 x1 x2 x3 x4 x5 x6 y = vBlk (upB c arg2 harg2 arg3 harg3 arg4 harg4 arg5 harg5 arg6 harg6 x0 x1 x2 x3 x4) y := by
  unfold out0_A_8
  rw [View.read_writes_junk_eq_canon]
  refine View.canon_apply_of_pieces (vBlk (upB c arg2 harg2 arg3 harg3 arg4 harg4 arg5 harg5 arg6 harg6 x0 x1 x2 x3 x4)) _ ?_ y
    (cover0_A_8 c i arg2 harg2 arg3 harg3 arg4 harg4 arg5 harg5 arg6 harg6 arg7 harg7 arg8 harg8 arg9 harg9 arg10 harg10 x0 x1 x2 x3 x4 x5 x6 y)
  refine List.forall_mem_cons.2 ⟨vOnes (upB c arg2 harg2 arg3 harg3 arg4 harg4 arg5 harg5 arg6 harg6 x0 x1 x2 x3 x4) 7 (by decide) 1 (by decide) 144 rfl inb_S1x8x160x1024_S1x1x16x1024_0_7_144_0, ?_⟩
  refine List.forall_mem_cons.2 ⟨vHead (upB c arg2 harg2 arg3 harg3 arg4 harg4 arg5 harg5 arg6 harg6 x0 x1 x2 x3 x4) 7 (by decide) 1 (by decide) 80 rfl inb_S1x8x160x1024_S1x1x64x1024_0_7_80_0 1920 64 rfl rfl
      slices_S1024x2048_o0_1920_S1024x128 slices_S128x1024_o64_0_S64x1024, ?_⟩
  refine List.forall_mem_cons.2 ⟨vOnes (upB c arg2 harg2 arg3 harg3 arg4 harg4 arg5 harg5 arg6 harg6 x0 x1 x2 x3 x4) 7 (by decide) 0 (by decide) 64 rfl inb_S1x8x160x1024_S1x1x16x1024_0_7_64_0, ?_⟩
  refine List.forall_mem_cons.2 ⟨vHead (upB c arg2 harg2 arg3 harg3 arg4 harg4 arg5 harg5 arg6 harg6 x0 x1 x2 x3 x4) 7 (by decide) 0 (by decide) 0 rfl inb_S1x8x160x1024_S1x1x64x1024_0_7_0_0 1920 0 rfl rfl
      slices_S1024x2048_o0_1920_S1024x128 slices_S128x1024_o0_0_S64x1024, ?_⟩
  refine List.forall_mem_cons.2 ⟨vOnes (upB c arg2 harg2 arg3 harg3 arg4 harg4 arg5 harg5 arg6 harg6 x0 x1 x2 x3 x4) 6 (by decide) 1 (by decide) 144 rfl inb_S1x8x160x1024_S1x1x16x1024_0_6_144_0, ?_⟩
  refine List.forall_mem_cons.2 ⟨vHead (upB c arg2 harg2 arg3 harg3 arg4 harg4 arg5 harg5 arg6 harg6 x0 x1 x2 x3 x4) 6 (by decide) 1 (by decide) 80 rfl inb_S1x8x160x1024_S1x1x64x1024_0_6_80_0 1792 64 rfl rfl
      slices_S1024x2048_o0_1792_S1024x128 slices_S128x1024_o64_0_S64x1024, ?_⟩
  refine List.forall_mem_cons.2 ⟨vOnes (upB c arg2 harg2 arg3 harg3 arg4 harg4 arg5 harg5 arg6 harg6 x0 x1 x2 x3 x4) 6 (by decide) 0 (by decide) 64 rfl inb_S1x8x160x1024_S1x1x16x1024_0_6_64_0, ?_⟩
  refine List.forall_mem_cons.2 ⟨vHead (upB c arg2 harg2 arg3 harg3 arg4 harg4 arg5 harg5 arg6 harg6 x0 x1 x2 x3 x4) 6 (by decide) 0 (by decide) 0 rfl inb_S1x8x160x1024_S1x1x64x1024_0_6_0_0 1792 0 rfl rfl
      slices_S1024x2048_o0_1792_S1024x128 slices_S128x1024_o0_0_S64x1024, ?_⟩
  refine List.forall_mem_cons.2 ⟨vOnes (upB c arg2 harg2 arg3 harg3 arg4 harg4 arg5 harg5 arg6 harg6 x0 x1 x2 x3 x4) 5 (by decide) 1 (by decide) 144 rfl inb_S1x8x160x1024_S1x1x16x1024_0_5_144_0, ?_⟩
  refine List.forall_mem_cons.2 ⟨vHead (upB c arg2 harg2 arg3 harg3 arg4 harg4 arg5 harg5 arg6 harg6 x0 x1 x2 x3 x4) 5 (by decide) 1 (by decide) 80 rfl inb_S1x8x160x1024_S1x1x64x1024_0_5_80_0 1664 64 rfl rfl
      slices_S1024x2048_o0_1664_S1024x128 slices_S128x1024_o64_0_S64x1024, ?_⟩
  refine List.forall_mem_cons.2 ⟨vOnes (upB c arg2 harg2 arg3 harg3 arg4 harg4 arg5 harg5 arg6 harg6 x0 x1 x2 x3 x4) 5 (by decide) 0 (by decide) 64 rfl inb_S1x8x160x1024_S1x1x16x1024_0_5_64_0, ?_⟩
  refine List.forall_mem_cons.2 ⟨vHead (upB c arg2 harg2 arg3 harg3 arg4 harg4 arg5 harg5 arg6 harg6 x0 x1 x2 x3 x4) 5 (by decide) 0 (by decide) 0 rfl inb_S1x8x160x1024_S1x1x64x1024_0_5_0_0 1664 0 rfl rfl
      slices_S1024x2048_o0_1664_S1024x128 slices_S128x1024_o0_0_S64x1024, ?_⟩
  refine List.forall_mem_cons.2 ⟨vOnes (upB c arg2 harg2 arg3 harg3 arg4 harg4 arg5 harg5 arg6 harg6 x0 x1 x2 x3 x4) 4 (by decide) 1 (by decide) 144 rfl inb_S1x8x160x1024_S1x1x16x1024_0_4_144_0, ?_⟩
  refine List.forall_mem_cons.2 ⟨vHead (upB c arg2 harg2 arg3 harg3 arg4 harg4 arg5 harg5 arg6 harg6 x0 x1 x2 x3 x4) 4 (by decide) 1 (by decide) 80 rfl inb_S1x8x160x1024_S1x1x64x1024_0_4_80_0 1536 64 rfl rfl
      slices_S1024x2048_o0_1536_S1024x128 slices_S128x1024_o64_0_S64x1024, ?_⟩
  refine List.forall_mem_cons.2 ⟨vOnes (upB c arg2 harg2 arg3 harg3 arg4 harg4 arg5 harg5 arg6 harg6 x0 x1 x2 x3 x4) 4 (by decide) 0 (by decide) 64 rfl inb_S1x8x160x1024_S1x1x16x1024_0_4_64_0, ?_⟩
  refine List.forall_mem_cons.2 ⟨vHead (upB c arg2 harg2 arg3 harg3 arg4 harg4 arg5 harg5 arg6 harg6 x0 x1 x2 x3 x4) 4 (by decide) 0 (by decide) 0 rfl inb_S1x8x160x1024_S1x1x64x1024_0_4_0_0 1536 0 rfl rfl
      slices_S1024x2048_o0_1536_S1024x128 slices_S128x1024_o0_0_S64x1024, ?_⟩
  refine List.forall_mem_cons.2 ⟨vOnes (upB c arg2 harg2 arg3 harg3 arg4 harg4 arg5 harg5 arg6 harg6 x0 x1 x2 x3 x4) 3 (by decide) 1 (by decide) 144 rfl inb_S1x8x160x1024_S1x1x16x1024_0_3_144_0, ?_⟩
  refine List.forall_mem_cons.2 ⟨vHead (upB c arg2 harg2 arg3 harg3 arg4 harg4 arg5 harg5 arg6 harg6 x0 x1 x2 x3 x4) 3 (by decide) 1 (by decide) 80 rfl inb_S1x8x160x1024_S1x1x64x1024_0_3_80_0 1408 64 rfl rfl
      slices_S1024x2048_o0_1408_S1024x128 slices_S128x1024_o64_0_S64x1024, ?_⟩
  refine List.forall_mem_cons.2 ⟨vOnes (upB c arg2 harg2 arg3 harg3 arg4 harg4 arg5 harg5 arg6 harg6 x0 x1 x2 x3 x4) 3 (by decide) 0 (by decide) 64 rfl inb_S1x8x160x1024_S1x1x16x1024_0_3_64_0, ?_⟩
  refine List.forall_mem_cons.2 ⟨vHead (upB c arg2 harg2 arg3 harg3 arg4 harg4 arg5 harg5 arg6 harg6 x0 x1 x2 x3 x4) 3 (by decide) 0 (by decide) 0 rfl inb_S1x8x160x1024_S1x1x64x1024_0_3_0_0 1408 0 rfl rfl
      slices_S1024x2048_o0_1408_S1024x128 slices_S128x1024_o0_0_S64x1024, ?_⟩
  refine List.forall_mem_cons.2 ⟨vOnes (upB c arg2 harg2 arg3 harg3 arg4 harg4 arg5 harg5 arg6 harg6 x0 x1 x2 x3 x4) 2 (by decide) 1 (by decide) 144 rfl inb_S1x8x160x1024_S1x1x16x1024_0_2_144_0, ?_⟩
  refine List.forall_mem_cons.2 ⟨vHead (upB c arg2 harg2 arg3 harg3 arg4 harg4 arg5 harg5 arg6 harg6 x0 x1 x2 x3 x4) 2 (by decide) 1 (by decide) 80 rfl inb_S1x8x160x1024_S1x1x64x1024_0_2_80_0 1280 64 rfl rfl
      slices_S1024x2048_o0_1280_S1024x128 slices_S128x1024_o64_0_S64x1024, ?_⟩
  refine List.forall_mem_cons.2 ⟨vOnes (upB c arg2 harg2 arg3 harg3 arg4 harg4 arg5 harg5 arg6 harg6 x0 x1 x2 x3 x4) 2 (by decide) 0 (by decide) 64 rfl inb_S1x8x160x1024_S1x1x16x1024_0_2_64_0, ?_⟩
  refine List.forall_mem_cons.2 ⟨vHead (upB c arg2 harg2 arg3 harg3 arg4 harg4 arg5 harg5 arg6 harg6 x0 x1 x2 x3 x4) 2 (by decide) 0 (by decide) 0 rfl inb_S1x8x160x1024_S1x1x64x1024_0_2_0_0 1280 0 rfl rfl
      slices_S1024x2048_o0_1280_S1024x128 slices_S128x1024_o0_0_S64x1024, ?_⟩
  refine List.forall_mem_cons.2 ⟨vOnes (upB c arg2 harg2 arg3 harg3 arg4 harg4 arg5 harg5 arg6 harg6 x0 x1 x2 x3 x4) 1 (by decide) 1 (by decide) 144 rfl inb_S1x8x160x1024_S1x1x16x1024_0_1_144_0, ?_⟩
  refine List.forall_mem_cons.2 ⟨vHead (upB c arg2 harg2 arg3 harg3 arg4 harg4 arg5 harg5 arg6 harg6 x0 x1 x2 x3 x4) 1 (by decide) 1 (by decide) 80 rfl inb_S1x8x160x1024_S1x1x64x1024_0_1_80_0 1152 64 rfl rfl
      slices_S1024x2048_o0_1152_S1024x128 slices_S128x1024_o64_0_S64x1024, ?_⟩
  refine List.forall_mem_cons.2 ⟨vOnes (upB c arg2 harg2 arg3 harg3 arg4 harg4 arg5 harg5 arg6 harg6 x0 x1 x2 x3 x4) 1 (by decide) 0 (by decide) 64 rfl inb_S1x8x160x1024_S1x1x16x1024_0_1_64_0, ?_⟩
  refine List.forall_mem_cons.2 ⟨vHead (upB c arg2 harg2 arg3 harg3 arg4 harg4 arg5 harg5 arg6 harg6 x0 x1 x2 x3 x4) 1 (by decide) 0 (by decide) 0 rfl inb_S1x8x160x1024_S1x1x64x1024_0_1_0_0 1152 0 rfl rfl
      slices_S1024x2048_o0_1152_S1024x128 slices_S128x1024_o0_0_S64x1024, ?_⟩
  refine List.forall_mem_cons.2 ⟨vOnes (upB c arg2 harg2 arg3 harg3 arg4 harg4 arg5 harg5 arg6 harg6 x0 x1 x2 x3 x4) 0 (by decide) 1 (by decide) 144 rfl inb_S1x8x160x1024_S1x1x16x1024_0_0_144_0, ?_⟩
  refine List.forall_mem_cons.2 ⟨vHead (upB c arg2 harg2 arg3 harg3 arg4 harg4 arg5 harg5 arg6 harg6 x0 x1 x2 x3 x4) 0 (by decide) 1 (by decide) 80 rfl inb_S1x8x160x1024_S1x1x64x1024_0_0_80_0 1024 64 rfl rfl
      slices_S1024x2048_o0_1024_S1024x128 slices_S128x1024_o64_0_S64x1024, ?_⟩
  refine List.forall_mem_cons.2 ⟨vOnes (upB c arg2 harg2 arg3 harg3 arg4 harg4 arg5 harg5 arg6 harg6 x0 x1 x2 x3 x4) 0 (by decide) 0 (by decide) 64 rfl inb_S1x8x160x1024_S1x1x16x1024_0_0_64_0, ?_⟩
  refine List.forall_mem_cons.2 ⟨vHead (upB c arg2 harg2 arg3 harg3 arg4 harg4 arg5 harg5 arg6 harg6 x0 x1 x2 x3 x4) 0 (by decide) 0 (by decide) 0 rfl inb_S1x8x160x1024_S1x1x64x1024_0_0_0_0 1024 0 rfl rfl
      slices_S1024x2048_o0_1024_S1024x128 slices_S128x1024_o0_0_S64x1024, ?_⟩
  exact fun _ h => absurd h List.not_mem_nil

end Cert.Kv
-- ==== Proof.KvArray.lean ====
/-
  The arrays the call of the shared keys and values leaves are the formulas, entry by entry.

  Grid point `t` is batch row `b` and tile `p` of 1024 positions; its blocks are those positions of the input, of the angles
  and of the two outputs, the batch row's vectors and the whole of the weights.
-/
module

public import proofs.«01_k».proof.Proof.KvOut
public import Idealize.ShloMosaic.Lib.Pipeline.ValueKit.Point

@[expose] public section

set_option maxRecDepth 16384

noncomputable section

namespace Cert.Kv

open Idealize.ShloMosaic Cert.KvKernelIdeal Cert.KvKernelIdeal.Gen Cert.Ffn

/-- The batch row of a grid point. -/
def bOf (t : Fin cfg0.N) : Fin 2 := ⟨(grid0.coords t 0).val, (grid0.coords t 0).isLt⟩

/-- The tile of a grid point. -/
def pOf (t : Fin cfg0.N) : Fin 8 := ⟨(grid0.coords t 1).val, (grid0.coords t 1).isLt⟩

theorem idx0 : ∀ t : Fin cfg0.N, win0_0.index t = ![(bOf t).val, (pOf t).val, 0] :=
  (by decide +kernel : ∀ t : Fin grid0.N, win0_0.index t = ![(bOf t).val, (pOf t).val, 0])
theorem idx1 : ∀ t : Fin cfg0.N, win0_1.index t = ![(bOf t).val, 0, 0] :=
  (by decide +kernel : ∀ t : Fin grid0.N, win0_1.index t = ![(bOf t).val, 0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![(bOf t).val, (pOf t).val, 0] :=
  (by decide +kernel : ∀ t : Fin grid0.N, win0_5.index t = ![(bOf t).val, (pOf t).val, 0])
theorem idx6 : ∀ t : Fin cfg0.N, win0_6.index t = ![(bOf t).val, (pOf t).val, 0] :=
  (by decide +kernel : ∀ t : Fin grid0.N, win0_6.index t = ![(bOf t).val, (pOf t).val, 0])
theorem idx7 : ∀ t : Fin cfg0.N, win0_7.index t = ![(bOf t).val, 0, (pOf t).val, 0] :=
  (by decide +kernel : ∀ t : Fin grid0.N, win0_7.index t = ![(bOf t).val, 0, (pOf t).val, 0])
theorem idx8 : ∀ t : Fin cfg0.N, win0_8.index t = ![(bOf t).val, 0, 0, (pOf t).val] :=
  (by decide +kernel : ∀ t : Fin grid0.N, win0_8.index t = ![(bOf t).val, 0, 0, (pOf t).val])

variable (m : (ℓ : Loc nD τ sig) → Buf (Elt Ideal) ℓ) (c : Dev nD) (t : Fin cfg0.N)

/-- The arguments, as arrays. -/
abbrev argH : Vec Ideal S2x8192x1024 .f32 := V m c main_arg0
abbrev argV : Vec Ideal S2x8x1024 .f32 := V m c main_arg1
abbrev argG : Vec Ideal S8x256 .f32 := V m c main_arg2
abbrev argW1 : Vec Ideal S1024x512 .bf16 := V m c main_arg3
abbrev argWU : Vec Ideal S256x2048 .bf16 := V m c main_arg4
abbrev argC : Vec Ideal S2x8192x32 .f32 := V m c main_arg5
abbrev argS : Vec Ideal S2x8192x32 .f32 := V m c main_arg6

/-- The blocks, as vectors. -/
abbrev b0 : Vec Ideal S1x1024x1024 .f32 := iblk m c 0 t
abbrev b1 : Vec Ideal S1x8x1024 .f32 := iblk m c 1 t
abbrev b2 : Vec Ideal S8x256 .f32 := iblk m c 2 t
abbrev b3 : Vec Ideal S1024x512 .bf16 := iblk m c 3 t
abbrev b4 : Vec Ideal S256x2048 .bf16 := iblk m c 4 t
abbrev b5 : Vec Ideal S1x1024x32 .f32 := iblk m c 5 t
abbrev b6 : Vec Ideal S1x1024x32 .f32 := iblk m c 6 t

theorem b0_at (r n : Fin 1024) (s : Fin 8192) (hs : s.val = (pOf t).val * 1024 + r.val) :
    b0 m c t (ix3 0 r n) = argH m c (ix3 (bOf t) s n) := by
  blk_simp [iblk]
  blk_ext [idx0 t]

theorem b1_at (j : Fin 8) (n : Fin 1024) : b1 m c t (ix3 0 j n) = argV m c (ix3 (bOf t) j n) := by
  blk_simp [iblk]
  blk_ext [idx1 t]

theorem b2_at (k : Fin 8) (j : Fin 256) : b2 m c t (ix2 k j) = argG m c (ix2 k j) := by
  blk_simp [iblk]
  blk_ext [idx2 t]

theorem b3_at (k : Fin 1024) (j : Fin 512) : b3 m c t (ix2 k j) = argW1 m c (ix2 k j) := by
  blk_simp [iblk]
  blk_ext [idx3 t]

theorem b4_at (k : Fin 256) (j : Fin 2048) : b4 m c t (ix2 k j) = argWU m c (ix2 k j) := by
  blk_simp [iblk]
  blk_ext [idx4 t]

theorem b5_at (r : Fin 1024) (d : Fin 32) (s : Fin 8192) (hs : s.val = (pOf t).val * 1024 + r.val) :
    b5 m c t (ix3 0 r d) = argC m c (ix3 (bOf t) s d) := by
  blk_simp [iblk]
  blk_ext [idx5 t]

theorem b6_at (r : Fin 1024) (d : Fin 32) (s : Fin 8192) (hs : s.val = (pOf t).val * 1024 + r.val) :
    b6 m c t (ix3 0 r d) = argS m c (ix3 (bOf t) s d) := by
  blk_simp [iblk]
  blk_ext [idx6 t]

/-- The first product at a row of point `t` is the formula at the position. -/
theorem downT (r : Fin 1024) (s : Fin 8192) (hs : s.val = (pOf t).val * 1024 + r.val) :
    downB (b0 m c t) (b1 m c t) (b3 m c t) r = downAt (argH m c) (argV m c) (argW1 m c) (bOf t) s := by
  unfold downB downAt
  simp only [b0_at m c t r _ s hs, b1_at, b3_at]

/-- The second product of point `t`. -/
abbrev upT : FVec Ideal S1024x2048 .f32 := upB c (ms0_0 t) (hs0_0 t) (ms0_1 t) (hs0_1 t) (ms0_2 t) (hs0_2 t) (ms0_3 t) (hs0_3 t) (ms0_4 t) (hs0_4 t)
  (b0 m c t) (b1 m c t) (b2 m c t) (b3 m c t) (b4 m c t)

theorem upT_at (r : Fin 1024) (s : Fin 8192) (hs : s.val = (pOf t).val * 1024 + r.val) (j : Fin 2048) :
    upT m c t (ix2 r j) = upAt (argH m c) (argV m c) (argG m c) (argW1 m c) (argWU m c) (bOf t) s j := by
  refine (upB_at _ _ _ _ _ _ _ _ _ _ _ _ _ _ _ _ _ _).trans ?_
  rw [downT m c t r s hs]
  unfold upAt
  simp only [b2_at, b4_at]

/-- The rotated channels of point `t`. -/
abbrev rotT : FVec Ideal S1024x128 .bf16 := rotB c (ms0_0 t) (hs0_0 t) (ms0_1 t) (hs0_1 t) (ms0_3 t) (hs0_3 t) (ms0_5 t) (hs0_5 t)
  (ms0_6 t) (hs0_6 t) (b0 m c t) (b1 m c t) (b3 m c t) (b5 m c t) (b6 m c t)

theorem rotT_at (r : Fin 1024) (s : Fin 8192) (hs : s.val = (pOf t).val * 1024 + r.val) (d : Fin 128) :
    rotT m c t (ix2 r d) = rotRow (downAt (argH m c) (argV m c) (argW1 m c) (bOf t) s) (fun d => argC m c (ix3 (bOf t) s d))
      (fun d => argS m c (ix3 (bOf t) s d)) d := by
  refine (rotB_at _ _ _ _ _ _ _ _ _ _ _ _ _ _ _ _ _ _).trans ?_
  rw [downT m c t r s hs]
  simp only [b5_at m c t r _ s hs, b6_at m c t r _ s hs]

/-- The two results, as arrays of the arguments. -/
def kArr (X : Vec Ideal S2x8192x1024 .f32) (W : Vec Ideal S2x8x1024 .f32) (G : Vec Ideal S8x256 .f32)
    (W1 : Vec Ideal S1024x512 .bf16) (WU : Vec Ideal S256x2048 .bf16) (C S : Vec Ideal S2x8192x32 .f32) :
    Vec Ideal S2x8x8192x256 .bf16 := fun i => kAt X W G W1 WU C S (i 0) (i 2) (i 1) (i 3)
def vArr (X : Vec Ideal S2x8192x1024 .f32) (W : Vec Ideal S2x8x1024 .f32) (G : Vec Ideal S8x256 .f32)
    (W1 : Vec Ideal S1024x512 .bf16) (WU : Vec Ideal S256x2048 .bf16) :
    Vec Ideal S2x8x160x8192 .bf16 := fun i => vAt X W G W1 WU (i 0) (i 3) (i 1) (i 2)

/-- The array of the keys after the last grid point. -/
theorem kFinal : (dats m 0 c).arrAt 7 cfg0.N = kArr (argH m c) (argV m c) (argG m c) (argW1 m c) (argWU m c) (argC m c) (argS m c) := by
  refine (dats m 0 c).arrAt_eq_of_covers 7 _ (by decide +kernel) fun t hf y => ?_
  blk_simp
  rw [after0_7]
  have hp := (pOf t).isLt
  have ht : (y 2).val < 1024 := (y 2).isLt
  have ey : y = ix4 0 ⟨(y 1).val, (y 1).isLt⟩ ⟨(y 2).val, ht⟩ ⟨(y 3).val, (y 3).isLt⟩ := by
    refine funext fun a => Fin.ext ?_
    fin_cases a
    · exact Nat.lt_one_iff.1 (y 0).isLt
    all_goals rfl
  have es : (win0_7.blk t).view.emb y = ix4 (bOf t) ⟨(y 1).val, (y 1).isLt⟩ ⟨(pOf t).val * 1024 + (y 2).val, by omega⟩ ⟨(y 3).val, (y 3).isLt⟩ := by
    blk_ext [idx7 t]
  refine (congrArg (outsAt0 m c t).1 ey).trans (Eq.trans ?_ (congrArg (kArr (argH m c) (argV m c) (argG m c) (argW1 m c) (argWU m c) (argC m c) (argS m c)) es).symm)
  simp only [outsAt0]
  refine (keys_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (b0 m c t) (b1 m c t) (b2 m c t) (b3 m c t) (b4 m c t) (b5 m c t) (b6 m c t) _).trans ?_
  have eU := upT_at m c t ⟨(y 2).val, ht⟩ ⟨(pOf t).val * 1024 + (y 2).val, by omega⟩ rfl
  have eR := rotT_at m c t ⟨(y 2).val, ht⟩ ⟨(pOf t).val * 1024 + (y 2).val, by omega⟩ rfl
  exact congrArg₂ (fun U R => keyOf U R _ _) (funext eU) (funext eR)

/-- The array of the values after the last grid point. -/
theorem vFinal : (dats m 0 c).arrAt 8 cfg0.N = vArr (argH m c) (argV m c) (argG m c) (argW1 m c) (argWU m c) := by
  refine (dats m 0 c).arrAt_eq_of_covers 8 _ (by decide +kernel) fun t hf y => ?_
  blk_simp
  rw [after0_8]
  have hp := (pOf t).isLt
  have ht : (y 3).val < 1024 := (y 3).isLt
  have ey : y = ix4 0 ⟨(y 1).val, (y 1).isLt⟩ ⟨(y 2).val, (y 2).isLt⟩ ⟨(y 3).val, ht⟩ := by
    refine funext fun a => Fin.ext ?_
    fin_cases a
    · exact Nat.lt_one_iff.1 (y 0).isLt
    all_goals rfl
  have es : (win0_8.blk t).view.emb y = ix4 (bOf t) ⟨(y 1).val, (y 1).isLt⟩ ⟨(y 2).val, (y 2).isLt⟩ ⟨(pOf t).val * 1024 + (y 3).val, by omega⟩ := by
    blk_ext [idx8 t]
  refine (congrArg (outsAt0 m c t).2 ey).trans (Eq.trans ?_ (congrArg (vArr (argH m c) (argV m c) (argG m c) (argW1 m c) (argWU m c)) es).symm)
  simp only [outsAt0]
  refine (vals_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (b0 m c t) (b1 m c t) (b2 m c t) (b3 m c t) (b4 m c t) (b5 m c t) (b6 m c t) _).trans ?_
  have eU := upT_at m c t ⟨(y 3).val, ht⟩ ⟨(pOf t).val * 1024 + (y 3).val, by omega⟩ rfl
  exact congrArg (fun U => valOf U _ _) (funext eU)

end Cert.Kv
-- ==== Proof.KvRef.lean ====
/-
  The reference of the second layer's shared keys and values computes the formulas.
-/
module

public import proofs.«01_k».proof.Proof.KvSpec
public import proofs.«01_k».proof.Proof.Gen.KvReferenceIdeal.Read

@[expose] public section

set_option maxRecDepth 16384

noncomputable section

namespace Cert.Kv.Ref

open Idealize.ShloMosaic Cert.KvReferenceIdeal Cert.KvReferenceIdeal.Gen Cert.KvReferenceIdeal.Read Cert.Ffn

variable (x0 : (⟨S2x8192x1024, .f32⟩ : BufTy).Contents (Elt Ideal)) (x1 : (⟨S2x8x1024, .f32⟩ : BufTy).Contents (Elt Ideal))
  (x2 : (⟨S8x256, .f32⟩ : BufTy).Contents (Elt Ideal)) (x3 : (⟨S1024x512, .bf16⟩ : BufTy).Contents (Elt Ideal))
  (x4 : (⟨S256x2048, .bf16⟩ : BufTy).Contents (Elt Ideal)) (x5 x6 : (⟨S2x8192x32, .f32⟩ : BufTy).Contents (Elt Ideal))

/-- The normalized and modulated rows. -/
theorem hn_at (b : Fin 2) (t : Fin 8192) (n : Fin 1024) :
    val_main_v26 (F := Ideal) x0 x1 (ix3 b t n)
      = modRow (fun n => x0 (ix3 b t n)) (fun n => x1 (ix3 b 0 n)) (fun n => x1 (ix3 b 2 n)) (fun n => x1 (ix3 b 1 n)) n := by
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0
    val_main_cst val_main_cst_0 val_main_cst_1 val_main_cst_2
  pointwise []
  rfl

/-- The first product. -/
theorem down_at (b : Fin 2) (t : Fin 8192) (n : Fin 512) :
    val_main_v28 (F := Ideal) x0 x1 x3 (ix3 b t n) = downAt x0 x1 x3 b t n := by
  unfold val_main_v28 val_main_v27 downAt downRow
  have e : ∀ k, val_main_v26 (F := Ideal) x0 x1 (ix3 b t k) = _ := hn_at x0 x1 b t
  revert e
  generalize val_main_v26 (F := Ideal) x0 x1 = h
  intro e
  pointwise []
  simp only [e]

/-- The normalized latent. -/
theorem lat_at (b : Fin 2) (t : Fin 8192) (n : Fin 256) :
    val_main_v44 (F := Ideal) x0 x1 x2 x3 (ix3 b t n)
      = rmsRow256 (fun n => downAt x0 x1 x3 b t ⟨n.val, by have := n.isLt; omega⟩) (fun n => x2 (ix2 0 n)) n := by
  unfold val_main_v44 val_main_v43 val_main_v42 val_main_v41 val_main_v40 val_main_v39 val_main_v38 val_main_v37 val_main_v36 val_main_v35 val_main_v34 val_main_v33 val_main_v32 val_main_v31 val_main_v30 val_main_v29
    val_main_cst_3 val_main_cst_4 val_main_cst_5
  have e : ∀ k, val_main_v28 (F := Ideal) x0 x1 x3 (ix3 b t k) = _ := down_at x0 x1 x3 b t
  revert e
  generalize val_main_v28 (F := Ideal) x0 x1 x3 = h
  intro e
  pointwise []
  simp only [e]
  rfl

/-- The second product. -/
theorem up_at (b : Fin 2) (t : Fin 8192) (j : Fin 2048) :
    val_main_v53 (F := Ideal) x0 x1 x2 x3 x4 (ix3 b t j) = upAt x0 x1 x2 x3 x4 b t j := by
  unfold val_main_v53 val_main_v52 upAt upRow
  have e : ∀ k, val_main_v44 (F := Ideal) x0 x1 x2 x3 (ix3 b t k) = _ := lat_at x0 x1 x2 x3 b t
  revert e
  generalize val_main_v44 (F := Ideal) x0 x1 x2 x3 = h
  intro e
  pointwise []
  simp only [e]

/-- The angles laid side by side four times. -/
theorem four_at (b : Fin 2) (t : Fin 8192) (d : Fin 128) :
    val_main_v45 (F := Ideal) x5 (ix3 b t d) = x5 (ix3 b t ⟨d.val % 32, Nat.mod_lt _ (by decide)⟩) := by
  have hd := d.isLt
  unfold val_main_v45
  pointwise []
  split_ifs <;> refine congrArg (fun j => x5 (ix3 b t j)) (Fin.ext ?_) <;> simp only [] <;> omega

/-- The rotated channels. -/
theorem rot_at (b : Fin 2) (t : Fin 8192) (d : Fin 128) :
    val_main_v51 (F := Ideal) x0 x1 x3 x5 x6 (ix3 b t d)
      = rotRow (downAt x0 x1 x3 b t) (fun d => x5 (ix3 b t d)) (fun d => x6 (ix3 b t d)) d := by
  unfold val_main_v51 val_main_v50 val_main_v49 val_main_v48 val_main_v47 rotRow
  have e : ∀ k, val_main_v28 (F := Ideal) x0 x1 x3 (ix3 b t k) = _ := down_at x0 x1 x3 b t
  have eC : ∀ d, val_main_v45 (F := Ideal) x5 (ix3 b t d) = _ := four_at x5 b t
  have eS : ∀ d, val_main_v46 (F := Ideal) x6 (ix3 b t d) = x6 (ix3 b t ⟨d.val % 32, Nat.mod_lt _ (by decide)⟩) := four_at x6 b t
  revert e eC eS
  generalize val_main_v28 (F := Ideal) x0 x1 x3 = h
  generalize val_main_v45 (F := Ideal) x5 = C
  generalize val_main_v46 (F := Ideal) x6 = S
  intro e eC eS
  pointwise []
  simp only [e, eC, eS]

/-- The keys' channels, cut into pairs of heads. -/
theorem pairs_at (h : (⟨3, ![2, 8192, 1024]⟩ : Shape).Idx → EReal) (b : Fin 2) (t : Fin 8192) (p : Fin 8) (d : Fin 128) :
    (shapeCast S2x8192x8x128 (show Vec Ideal S2x8192x1024 .f32 from h) shapeCasts_S2x8192x1024_S2x8192x8x128) (ix4 b t p d)
      = h (ix3 b t ⟨p.val * 128 + d.val, by have := p.isLt; have := d.isLt; omega⟩) := by
  refine shapeCast_apply _ _ _ _ ?_
  rewrite [Shape.rowMajor_val_three, Shape.rowMajor_val_four]
  show (b.val * 8192 + t.val) * 1024 + (p.val * 128 + d.val) = ((b.val * 8192 + t.val) * 8 + p.val) * 128 + d.val
  omega

/-- The values' channels, cut into heads. -/
theorem heads_at (h : (⟨3, ![2, 8192, 1024]⟩ : Shape).Idx → EReal) (b : Fin 2) (t : Fin 8192) (p : Fin 8) (u : Fin 2) (d : Fin 64) :
    (shapeCast S2x8192x8x2x64 (show Vec Ideal S2x8192x1024 .f32 from h) shapeCasts_S2x8192x1024_S2x8192x8x2x64) (ix5 b t p u d)
      = h (ix3 b t ⟨p.val * 128 + (u.val * 64 + d.val), by have := p.isLt; have := u.isLt; have := d.isLt; omega⟩) := by
  refine shapeCast_apply _ _ _ _ ?_
  rewrite [Shape.rowMajor_val_three, Shape.rowMajor_val_five]
  show (b.val * 8192 + t.val) * 1024 + (p.val * 128 + (u.val * 64 + d.val)) = (((b.val * 8192 + t.val) * 8 + p.val) * 2 + u.val) * 64 + d.val
  omega

/-- A pair's two heads with their ones, laid side by side. -/
theorem join_at (h : (⟨5, ![2, 8192, 8, 2, 80]⟩ : Shape).Idx → EReal) (b : Fin 2) (t : Fin 8192) (p : Fin 8) (e : Fin 160) :
    (shapeCast S2x8192x8x160 (show Vec Ideal S2x8192x8x2x80 .bf16 from h) shapeCasts_S2x8192x8x2x80_S2x8192x8x160) (ix4 b t p e)
      = h (ix5 b t p ⟨e.val / 80, by have := e.isLt; omega⟩ ⟨e.val % 80, Nat.mod_lt _ (by decide)⟩) := by
  refine shapeCast_apply _ _ _ _ ?_
  rewrite [Shape.rowMajor_val_four, Shape.rowMajor_val_five]
  show (((b.val * 8192 + t.val) * 8 + p.val) * 2 + e.val / 80) * 80 + e.val % 80 = ((b.val * 8192 + t.val) * 8 + p.val) * 160 + e.val
  omega

/-- The keys, as the reference's entries. -/
theorem k_at (b : Fin 2) (p : Fin 8) (t : Fin 8192) (e : Fin 256) :
    val_main_v66 (F := Ideal) x0 x1 x2 x3 x4 x5 x6 (ix4 b p t e) = kAt x0 x1 x2 x3 x4 x5 x6 b t p e := by
  unfold val_main_v66 val_main_v65 val_main_v58 val_main_v57 val_main_v56 val_main_v55 val_main_v54 kAt keyOf
  have eU : ∀ j, val_main_v53 (F := Ideal) x0 x1 x2 x3 x4 (ix3 b t j) = _ := up_at x0 x1 x2 x3 x4 b t
  have eR : ∀ d, val_main_v51 (F := Ideal) x0 x1 x3 x5 x6 (ix3 b t d) = _ := rot_at x0 x1 x3 x5 x6 b t
  revert eU eR
  generalize val_main_v53 (F := Ideal) x0 x1 x2 x3 x4 = h
  generalize val_main_v51 (F := Ideal) x0 x1 x3 x5 x6 = R
  intro eU eR
  pointwise [pairs_at]
  simp only [eU, eR]

/-- The values' heads with their ones, before they are laid side by side. -/
theorem ones_at (b : Fin 2) (t : Fin 8192) (p : Fin 8) (u : Fin 2) (d : Fin 80) :
    val_main_v63 (F := Ideal) x0 x1 x2 x3 x4 (ix5 b t p u d)
      = if h : d.val < 64 then upAt x0 x1 x2 x3 x4 b t ⟨1024 + (p.val * 128 + (u.val * 64 + d.val)), by have := p.isLt; have := u.isLt; omega⟩
        else 1 := by
  unfold val_main_v63 val_main_v62 val_main_v61 val_main_v60 val_main_v59 val_main_cst_6
  have eU : ∀ j, val_main_v53 (F := Ideal) x0 x1 x2 x3 x4 (ix3 b t j) = _ := up_at x0 x1 x2 x3 x4 b t
  revert eU
  generalize val_main_v53 (F := Ideal) x0 x1 x2 x3 x4 = h
  intro eU
  pointwise [heads_at]
  simp only [eU, Nat.add_assoc]

/-- The heads and their ones laid side by side. -/
theorem side_at (b : Fin 2) (t : Fin 8192) (p : Fin 8) (e : Fin 160) :
    val_main_v64 (F := Ideal) x0 x1 x2 x3 x4 (ix4 b t p e) = vAt x0 x1 x2 x3 x4 b t p e :=
  (join_at (val_main_v63 (F := Ideal) x0 x1 x2 x3 x4) b t p e).trans (ones_at x0 x1 x2 x3 x4 b t p _ _)

/-- … the values. -/
theorem v_at (b : Fin 2) (p : Fin 8) (e : Fin 160) (t : Fin 8192) :
    val_main_v67 (F := Ideal) x0 x1 x2 x3 x4 (ix4 b p e t) = vAt x0 x1 x2 x3 x4 b t p e := by
  have ei : idx_main_v67 (ix4 b p e t) = ix4 b t p e := by
    refine funext fun a => ?_
    fin_cases a <;> rfl
  exact (val_main_v67_apply _ _ _ _ _ _).trans
    ((congrArg (val_main_v64 (F := Ideal) x0 x1 x2 x3 x4) ei).trans (side_at x0 x1 x2 x3 x4 b t p e))

end Cert.Kv.Ref
-- ==== Proof.lean ====
module

public import proofs.«01_k».proof.Defs
public import proofs.«01_k».proof.Proof.BitsFrame
public import proofs.«01_k».proof.Proof.IdealFrame
public import proofs.«01_k».proof.Proof.FfnArray
public import proofs.«01_k».proof.Proof.FfnRef
public import proofs.«01_k».proof.Proof.Ffn0Array
public import proofs.«01_k».proof.Proof.Ffn0Ref
public import proofs.«01_k».proof.Proof.QkvArray
public import proofs.«01_k».proof.Proof.QkvRef
public import proofs.«01_k».proof.Proof.QArray
public import proofs.«01_k».proof.Proof.QRef
public import proofs.«01_k».proof.Proof.KvArray
public import proofs.«01_k».proof.Proof.KvRef
public import proofs.«01_k».proof.Proof.Gen.FfnKernel.Frame
public import proofs.«01_k».proof.Proof.Gen.FfnReferenceIdeal.Run
public import proofs.«01_k».proof.Proof.Gen.FfnReferenceIdeal.Read
public import proofs.«01_k».proof.Proof.Gen.Ffn0Kernel.Frame
public import proofs.«01_k».proof.Proof.Gen.Ffn0KernelIdeal.Value
public import proofs.«01_k».proof.Proof.Gen.Ffn0ReferenceIdeal.Run
public import proofs.«01_k».proof.Proof.Gen.Ffn0ReferenceIdeal.Read
public import proofs.«01_k».proof.Proof.Gen.QkvKernel.Frame
public import proofs.«01_k».proof.Proof.Gen.QkvKernelIdeal.Value
public import proofs.«01_k».proof.Proof.Gen.QkvReferenceIdeal.Run
public import proofs.«01_k».proof.Proof.Gen.QkvReferenceIdeal.Read
public import proofs.«01_k».proof.Proof.Gen.QKernel.Frame
public import proofs.«01_k».proof.Proof.Gen.QKernelIdeal.Value
public import proofs.«01_k».proof.Proof.Gen.QReferenceIdeal.Run
public import proofs.«01_k».proof.Proof.Gen.QReferenceIdeal.Read
public import proofs.«01_k».proof.Proof.Gen.KvKernel.Frame
public import proofs.«01_k».proof.Proof.Gen.KvKernelIdeal.Value
public import proofs.«01_k».proof.Proof.Gen.KvReferenceIdeal.Run
public import proofs.«01_k».proof.Proof.Gen.KvReferenceIdeal.Read
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem

/-- The kernel's frame. -/
theorem frame_p : Cert.quiescent_Kernel := fun m ρ _ => Cert.Kernel.Run.frame_run m ρ

/-- The idealized kernel's frame. -/
theorem frame_pi : Cert.quiescent_KernelIdeal := fun m ρ _ => Cert.KernelIdeal.Run.frame_run m ρ

/-- The reference's frame: its run, read at its arguments; it declares no semaphore. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The idealization names the running maximum's starting value minus infinity. -/
theorem preserves : Cert.preserves_Kernel_KernelIdeal :=
  IdealRules.named_const.statement Cert.KernelIdeal.κ "neg_inf" .f32 0xF149F2CA#32 _ rfl

/-- The last call's frame. -/
theorem frame_p2 : Cert.quiescent_FfnKernel := fun m ρ _ => Cert.FfnKernel.Gen.frame m ρ

/-- … of its idealized kernel. -/
theorem frame_pi2 : Cert.quiescent_FfnKernelIdeal := fun m ρ _ => Cert.FfnKernelIdeal.Gen.frame m ρ

/-- … of its reference. -/
theorem frame_ri2 : Cert.quiescent_FfnReferenceIdeal := fun m ρ _ =>
  (θ_run Cert.FfnReferenceIdeal.defs _ _).mono (fun r h => ⟨fun c => (h c).2,
      Idealize.ShloMosaic.sem_eq_zero_of_no_sems (by decide) r.2⟩)
    (Cert.FfnReferenceIdeal.Value.run (F := Ideal) m ρ)

/-- The last call's kernel and its reference leave the same array: both are the layer's result of the arguments. -/
theorem algebraic2 : Cert.algebraic_FfnKernelIdeal_FfnReferenceIdeal := by
  intro m g m' g' _ hargs
  refine ⟨fun c => Cert.Ffn.outArr (Cert.Ffn.argO m c) (Cert.Ffn.argH m c) (Cert.Ffn.argV m c) (Cert.Ffn.argWO m c)
    (Cert.Ffn.argWI m c) (Cert.Ffn.argC m c) (Cert.Ffn.argWD m c), ?_, ?_⟩
  · exact (θ_run _ _ _).mono (fun r h c => ⟨(h c).1.trans (Cert.Ffn.final m c), (h c).2⟩)
      (Cert.FfnKernelIdeal.Value.run_blocks (F := Ideal) m g)
  · refine (θ_run _ _ _).mono (fun r h c => ⟨(h c).1.trans ?_, (h c).2⟩)
      (Cert.FfnReferenceIdeal.Value.run (F := Ideal) m' g')
    obtain ⟨h0, h1, h2, h3, h4, h5, h6⟩ := hargs c
    refine (Cert.FfnReferenceIdeal.Read.val_main_v103_eq (StableHlo.launchContents m' c)).trans ?_
    change Cert.FfnReferenceIdeal.Read.val_main_v103 (F := Ideal)
      (m' (c.tc.loc Cert.FfnReferenceIdeal.main_arg0)) (m' (c.tc.loc Cert.FfnReferenceIdeal.main_arg1))
      (m' (c.tc.loc Cert.FfnReferenceIdeal.main_arg2)) (m' (c.tc.loc Cert.FfnReferenceIdeal.main_arg3))
      (m' (c.tc.loc Cert.FfnReferenceIdeal.main_arg4)) (m' (c.tc.loc Cert.FfnReferenceIdeal.main_arg5))
      (m' (c.tc.loc Cert.FfnReferenceIdeal.main_arg6)) = _
    rw [h0, h1, h2, h3, h4, h5, h6]
    funext i
    have ei : i = ix3 (i 0) (i 1) (i 2) := by
      refine funext fun a => ?_
      fin_cases a <;> rfl
    rw [ei]
    exact Cert.Ffn.Ref.out_at _ _ _ _ _ _ _ (i 0) (i 1) (i 2)

/-- The frame of the first layer's call. -/
theorem frame_p3 : Cert.quiescent_Ffn0Kernel := fun m ρ _ => Cert.Ffn0Kernel.Gen.frame m ρ

/-- … of its idealized kernel. -/
theorem frame_pi3 : Cert.quiescent_Ffn0KernelIdeal := fun m ρ _ => Cert.Ffn0KernelIdeal.Gen.frame m ρ

/-- … of its reference. -/
theorem frame_ri3 : Cert.quiescent_Ffn0ReferenceIdeal := fun m ρ _ =>
  (θ_run Cert.Ffn0ReferenceIdeal.defs _ _).mono (fun r h => ⟨fun c => (h c).2,
      Idealize.ShloMosaic.sem_eq_zero_of_no_sems (by decide) r.2⟩)
    (Cert.Ffn0ReferenceIdeal.Value.run (F := Ideal) m ρ)

/-- The first layer's call and its reference leave the same array: both are that layer's result of the arguments. -/
theorem algebraic3 : Cert.algebraic_Ffn0KernelIdeal_Ffn0ReferenceIdeal := by
  intro m g m' g' _ hargs
  refine ⟨fun c => Cert.Ffn0.outArr (Cert.Ffn.argO m c) (Cert.Ffn.argH m c) (Cert.Ffn.argV m c) (Cert.Ffn.argWO m c)
    (Cert.Ffn.argWI m c) (Cert.Ffn.argC m c) (Cert.Ffn.argWD m c), ?_, ?_⟩
  · exact (θ_run _ _ _).mono (fun r h c => ⟨(h c).1.trans (Cert.Ffn0.final m c), (h c).2⟩)
      (Cert.Ffn0KernelIdeal.Value.run_blocks (F := Ideal) m g)
  · refine (θ_run _ _ _).mono (fun r h c => ⟨(h c).1.trans ?_, (h c).2⟩)
      (Cert.Ffn0ReferenceIdeal.Value.run (F := Ideal) m' g')
    obtain ⟨h0, h1, h2, h3, h4, h5, h6⟩ := hargs c
    refine (Cert.Ffn0ReferenceIdeal.Read.val_main_v88_eq m' c).trans ?_
    change Cert.Ffn0ReferenceIdeal.Read.val_main_v88 (F := Ideal)
      (m' (c.tc.loc Cert.Ffn0ReferenceIdeal.main_arg0)) (m' (c.tc.loc Cert.Ffn0ReferenceIdeal.main_arg1))
      (m' (c.tc.loc Cert.Ffn0ReferenceIdeal.main_arg2)) (m' (c.tc.loc Cert.Ffn0ReferenceIdeal.main_arg3))
      (m' (c.tc.loc Cert.Ffn0ReferenceIdeal.main_arg4)) (m' (c.tc.loc Cert.Ffn0ReferenceIdeal.main_arg5))
      (m' (c.tc.loc Cert.Ffn0ReferenceIdeal.main_arg6)) = _
    rw [h0, h1, h2, h3, h4, h5, h6]
    funext i
    have ei : i = ix3 (i 0) (i 1) (i 2) := by
      refine funext fun a => ?_
      fin_cases a <;> rfl
    rw [ei]
    exact Cert.Ffn0.Ref.out_at _ _ _ _ _ _ _ (i 0) (i 1) (i 2)

/-- The frame of the first layer's projections. -/
theorem frame_p4 : Cert.quiescent_QkvKernel := fun m ρ _ => Cert.QkvKernel.Gen.frame m ρ

/-- … of its idealized kernel. -/
theorem frame_pi4 : Cert.quiescent_QkvKernelIdeal := fun m ρ _ => Cert.QkvKernelIdeal.Gen.frame m ρ

/-- … of its reference. -/
theorem frame_ri4 : Cert.quiescent_QkvReferenceIdeal := fun m ρ _ =>
  (θ_run Cert.QkvReferenceIdeal.defs _ _).mono (fun r h => ⟨fun c => (h c).2.2.2,
      Idealize.ShloMosaic.sem_eq_zero_of_no_sems (by decide) r.2⟩)
    (Cert.QkvReferenceIdeal.Value.run (F := Ideal) m ρ)

/-- The reference's queries are the formula's. -/
theorem q_ref (x0 : Vec Ideal Cert.QkvKernelIdeal.S2x8192x1024 .f32) (x1 : Vec Ideal Cert.QkvKernelIdeal.S2x8x1024 .f32)
    (x2 : Vec Ideal Cert.QkvKernelIdeal.S1024x3072 .bf16) :
    Cert.QkvReferenceIdeal.Read.val_main_v38 (F := Ideal) x0 x1 x2 = Cert.Qkv.qArr x0 x1 x2 := by
  funext i
  have ei : i = ix4 (i 0) (i 1) (i 2) (i 3) := by
    refine funext fun a => ?_
    fin_cases a <;> rfl
  rw [ei]
  exact Cert.Qkv.Ref.q_at _ _ _ (i 0) (i 1) (i 2) (i 3)

/-- The reference's keys are the formula's. -/
theorem k_ref (x0 : Vec Ideal Cert.QkvKernelIdeal.S2x8192x1024 .f32) (x1 : Vec Ideal Cert.QkvKernelIdeal.S2x8x1024 .f32)
    (x2 : Vec Ideal Cert.QkvKernelIdeal.S1024x3072 .bf16) :
    Cert.QkvReferenceIdeal.Read.val_main_v40 (F := Ideal) x0 x1 x2 = Cert.Qkv.kArr x0 x1 x2 := by
  funext i
  have ei : i = ix4 (i 0) (i 1) (i 2) (i 3) := by
    refine funext fun a => ?_
    fin_cases a <;> rfl
  rw [ei]
  exact Cert.Qkv.Ref.k_at _ _ _ (i 0) (i 1) (i 2) (i 3)

/-- The reference's values are the formula's. -/
theorem v_ref (x0 : Vec Ideal Cert.QkvKernelIdeal.S2x8192x1024 .f32) (x1 : Vec Ideal Cert.QkvKernelIdeal.S2x8x1024 .f32)
    (x2 : Vec Ideal Cert.QkvKernelIdeal.S1024x3072 .bf16) :
    Cert.QkvReferenceIdeal.Read.val_main_v42 (F := Ideal) x0 x1 x2 = Cert.Qkv.vArr x0 x1 x2 := by
  funext i
  have ei : i = ix4 (i 0) (i 1) (i 2) (i 3) := by
    refine funext fun a => ?_
    fin_cases a <;> rfl
  rw [ei]
  exact Cert.Qkv.Ref.v_at _ _ _ (i 0) (i 1) (i 2) (i 3)

/-- The first layer's projections and their reference leave the same three arrays. -/
theorem algebraic4 : Cert.algebraic_QkvKernelIdeal_QkvReferenceIdeal := by
  intro m g m' g' _ hargs
  refine ⟨fun c => Cert.Qkv.qArr (Cert.Qkv.argX m c) (Cert.Qkv.argV m c) (Cert.Qkv.argW m c),
    fun c => Cert.Qkv.kArr (Cert.Qkv.argX m c) (Cert.Qkv.argV m c) (Cert.Qkv.argW m c),
    fun c => Cert.Qkv.vArr (Cert.Qkv.argX m c) (Cert.Qkv.argV m c) (Cert.Qkv.argW m c), ?_, ?_⟩
  · exact (θ_run _ _ _).mono (fun r h c => ⟨(h c).1.trans (Cert.Qkv.qFinal m c), (h c).2.1.trans (Cert.Qkv.kFinal m c),
        (h c).2.2.1.trans (Cert.Qkv.vFinal m c), (h c).2.2.2⟩)
      (Cert.QkvKernelIdeal.Value.run_blocks (F := Ideal) m g)
  · refine (θ_run _ _ _).mono (fun r h c => ⟨(h c).1.trans ?_, (h c).2.1.trans ?_, (h c).2.2.1.trans ?_, (h c).2.2.2⟩)
      (Cert.QkvReferenceIdeal.Value.run (F := Ideal) m' g')
    all_goals obtain ⟨h0, h1, h2⟩ := hargs c
    · refine (Cert.QkvReferenceIdeal.Read.val_main_v38_eq _ _ _).trans ?_
      change Cert.QkvReferenceIdeal.Read.val_main_v38 (F := Ideal) (m' (c.tc.loc Cert.QkvReferenceIdeal.main_arg0))
        (m' (c.tc.loc Cert.QkvReferenceIdeal.main_arg1)) (m' (c.tc.loc Cert.QkvReferenceIdeal.main_arg2)) = _
      rw [h0, h1, h2]
      exact q_ref _ _ _
    · refine (Cert.QkvReferenceIdeal.Read.val_main_v40_eq _ _ _).trans ?_
      change Cert.QkvReferenceIdeal.Read.val_main_v40 (F := Ideal) (m' (c.tc.loc Cert.QkvReferenceIdeal.main_arg0))
        (m' (c.tc.loc Cert.QkvReferenceIdeal.main_arg1)) (m' (c.tc.loc Cert.QkvReferenceIdeal.main_arg2)) = _
      rw [h0, h1, h2]
      exact k_ref _ _ _
    · refine (Cert.QkvReferenceIdeal.Read.val_main_v42_eq _ _ _).trans ?_
      change Cert.QkvReferenceIdeal.Read.val_main_v42 (F := Ideal) (m' (c.tc.loc Cert.QkvReferenceIdeal.main_arg0))
        (m' (c.tc.loc Cert.QkvReferenceIdeal.main_arg1)) (m' (c.tc.loc Cert.QkvReferenceIdeal.main_arg2)) = _
      rw [h0, h1, h2]
      exact v_ref _ _ _

/-- The frame of the second layer's queries. -/
theorem frame_p5 : Cert.quiescent_QKernel := fun m ρ _ => Cert.QKernel.Gen.frame m ρ

/-- … of its idealized kernel. -/
theorem frame_pi5 : Cert.quiescent_QKernelIdeal := fun m ρ _ => Cert.QKernelIdeal.Gen.frame m ρ

/-- … of its reference. -/
theorem frame_ri5 : Cert.quiescent_QReferenceIdeal := fun m ρ _ =>
  (θ_run Cert.QReferenceIdeal.defs _ _).mono (fun r h => ⟨fun c => (h c).2,
      Idealize.ShloMosaic.sem_eq_zero_of_no_sems (by decide) r.2⟩)
    (Cert.QReferenceIdeal.Value.run (F := Ideal) m ρ)

/-- The second layer's queries and their reference leave the same array. -/
theorem algebraic5 : Cert.algebraic_QKernelIdeal_QReferenceIdeal := by
  intro m g m' g' _ hargs
  refine ⟨fun c => Cert.Q.qArr (Cert.Q.argH m c) (Cert.Q.argV m c) (Cert.Q.argG m c) (Cert.Q.argWD m c) (Cert.Q.argWQ m c)
    (Cert.Q.argC m c) (Cert.Q.argS m c), ?_, ?_⟩
  · exact (θ_run _ _ _).mono (fun r h c => ⟨(h c).1.trans (Cert.Q.final m c), (h c).2⟩)
      (Cert.QKernelIdeal.Value.run_blocks (F := Ideal) m g)
  · refine (θ_run _ _ _).mono (fun r h c => ⟨(h c).1.trans ?_, (h c).2⟩)
      (Cert.QReferenceIdeal.Value.run (F := Ideal) m' g')
    obtain ⟨h0, h1, h2, h3, h4, h5, h6⟩ := hargs c
    refine (Cert.QReferenceIdeal.Read.val_main_v66_eq m' c).trans ?_
    change Cert.QReferenceIdeal.Read.val_main_v66 (F := Ideal)
      (m' (c.tc.loc Cert.QReferenceIdeal.main_arg0)) (m' (c.tc.loc Cert.QReferenceIdeal.main_arg1))
      (m' (c.tc.loc Cert.QReferenceIdeal.main_arg2)) (m' (c.tc.loc Cert.QReferenceIdeal.main_arg3))
      (m' (c.tc.loc Cert.QReferenceIdeal.main_arg4)) (m' (c.tc.loc Cert.QReferenceIdeal.main_arg5))
      (m' (c.tc.loc Cert.QReferenceIdeal.main_arg6)) = _
    rw [h0, h1, h2, h3, h4, h5, h6]
    funext i
    have ei : i = ix4 (i 0) (i 1) (i 2) (i 3) := by
      refine funext fun a => ?_
      fin_cases a <;> rfl
    rw [ei]
    exact Cert.Q.Ref.ref_at _ _ _ _ _ _ _ (i 0) (i 1) (i 2) (i 3)

/-- The frame of the second layer's shared keys and values. -/
theorem frame_p6 : Cert.quiescent_KvKernel := fun m ρ _ => Cert.KvKernel.Gen.frame m ρ

/-- … of its idealized kernel. -/
theorem frame_pi6 : Cert.quiescent_KvKernelIdeal := fun m ρ _ => Cert.KvKernelIdeal.Gen.frame m ρ

/-- … of its reference. -/
theorem frame_ri6 : Cert.quiescent_KvReferenceIdeal := fun m ρ _ =>
  (θ_run Cert.KvReferenceIdeal.defs _ _).mono (fun r h => ⟨fun c => (h c).2.2,
      Idealize.ShloMosaic.sem_eq_zero_of_no_sems (by decide) r.2⟩)
    (Cert.KvReferenceIdeal.Value.run (F := Ideal) m ρ)

section

variable (x0 : Vec Ideal Cert.KvKernelIdeal.S2x8192x1024 .f32) (x1 : Vec Ideal Cert.KvKernelIdeal.S2x8x1024 .f32)
  (x2 : Vec Ideal Cert.KvKernelIdeal.S8x256 .f32) (x3 : Vec Ideal Cert.KvKernelIdeal.S1024x512 .bf16)
  (x4 : Vec Ideal Cert.KvKernelIdeal.S256x2048 .bf16) (x5 x6 : Vec Ideal Cert.KvKernelIdeal.S2x8192x32 .f32)

/-- The reference's shared keys are the formula's. -/
theorem sharedK_ref : Cert.KvReferenceIdeal.Read.val_main_v66 (F := Ideal) x0 x1 x2 x3 x4 x5 x6 = Cert.Kv.kArr x0 x1 x2 x3 x4 x5 x6 := by
  funext i
  have ei : i = ix4 (i 0) (i 1) (i 2) (i 3) := by
    refine funext fun a => ?_
    fin_cases a <;> rfl
  rw [ei]
  exact Cert.Kv.Ref.k_at _ _ _ _ _ _ _ (i 0) (i 1) (i 2) (i 3)

/-- The reference's shared values are the formula's. -/
theorem sharedV_ref : Cert.KvReferenceIdeal.Read.val_main_v67 (F := Ideal) x0 x1 x2 x3 x4 = Cert.Kv.vArr x0 x1 x2 x3 x4 := by
  funext i
  have ei : i = ix4 (i 0) (i 1) (i 2) (i 3) := by
    refine funext fun a => ?_
    fin_cases a <;> rfl
  rw [ei]
  exact Cert.Kv.Ref.v_at _ _ _ _ _ (i 0) (i 1) (i 2) (i 3)

end

/-- The second layer's shared keys and values and their reference leave the same two arrays. -/
theorem algebraic6 : Cert.algebraic_KvKernelIdeal_KvReferenceIdeal := by
  intro m g m' g' _ hargs
  refine ⟨fun c => Cert.Kv.kArr (Cert.Kv.argH m c) (Cert.Kv.argV m c) (Cert.Kv.argG m c) (Cert.Kv.argW1 m c) (Cert.Kv.argWU m c)
      (Cert.Kv.argC m c) (Cert.Kv.argS m c),
    fun c => Cert.Kv.vArr (Cert.Kv.argH m c) (Cert.Kv.argV m c) (Cert.Kv.argG m c) (Cert.Kv.argW1 m c) (Cert.Kv.argWU m c), ?_, ?_⟩
  · exact (θ_run _ _ _).mono (fun r h c => ⟨(h c).1.trans (Cert.Kv.kFinal m c), (h c).2.1.trans (Cert.Kv.vFinal m c), (h c).2.2⟩)
      (Cert.KvKernelIdeal.Value.run_blocks (F := Ideal) m g)
  · refine (θ_run _ _ _).mono (fun r h c => ⟨(h c).1.trans ?_, (h c).2.1.trans ?_, (h c).2.2⟩)
      (Cert.KvReferenceIdeal.Value.run (F := Ideal) m' g')
    all_goals obtain ⟨h0, h1, h2, h3, h4, h5, h6⟩ := hargs c
    · refine (Cert.KvReferenceIdeal.Read.val_main_v66_eq m' c).trans ?_
      change Cert.KvReferenceIdeal.Read.val_main_v66 (F := Ideal)
        (m' (c.tc.loc Cert.KvReferenceIdeal.main_arg0)) (m' (c.tc.loc Cert.KvReferenceIdeal.main_arg1))
        (m' (c.tc.loc Cert.KvReferenceIdeal.main_arg2)) (m' (c.tc.loc Cert.KvReferenceIdeal.main_arg3))
        (m' (c.tc.loc Cert.KvReferenceIdeal.main_arg4)) (m' (c.tc.loc Cert.KvReferenceIdeal.main_arg5))
        (m' (c.tc.loc Cert.KvReferenceIdeal.main_arg6)) = _
      rw [h0, h1, h2, h3, h4, h5, h6]
      exact sharedK_ref _ _ _ _ _ _ _
    · refine (Cert.KvReferenceIdeal.Read.val_main_v67_eq m' c).trans ?_
      change Cert.KvReferenceIdeal.Read.val_main_v67 (F := Ideal)
        (m' (c.tc.loc Cert.KvReferenceIdeal.main_arg0)) (m' (c.tc.loc Cert.KvReferenceIdeal.main_arg1))
        (m' (c.tc.loc Cert.KvReferenceIdeal.main_arg2)) (m' (c.tc.loc Cert.KvReferenceIdeal.main_arg3))
        (m' (c.tc.loc Cert.KvReferenceIdeal.main_arg4)) = _
      rw [h0, h1, h2, h3, h4]
      exact sharedV_ref _ _ _ _ _

theorem claim : Cert.Claim :=
  ⟨inferInstance, inferInstance, inferInstance, inferInstance, inferInstance, inferInstance, inferInstance, inferInstance,
    inferInstance, inferInstance, inferInstance, inferInstance, inferInstance, inferInstance, inferInstance, inferInstance,
    inferInstance, inferInstance, frame_p, frame_pi, frame_ri, frame_p2, frame_pi2, frame_ri2, frame_p3, frame_pi3, frame_ri3,
    frame_p4, frame_pi4, frame_ri4, frame_p5, frame_pi5, frame_ri5, frame_p6, frame_pi6, frame_ri6, preserves, trivial,
    algebraic2, trivial, algebraic3, trivial, algebraic4, trivial, algebraic5, trivial, algebraic6⟩

end Cert.Proof

end
